-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.sign_bit.Statement Cert.KernelIdeal.S64x256 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v74_1)) (v2 : (c : Dev Cert.KernelIdeal.nD) → Buf (Elt Ideal) ((c.tc : Thread Cert.KernelIdeal.nD Cert.KernelIdeal.τ).loc Cert.KernelIdeal.main_v74_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_v74_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v69) = v2 c
          ∧ r.2.mem ((c.tc : Thread Cert.Reference6Ideal.nD Cert.Reference6Ideal.τ).loc Cert.Reference6Ideal.main_v70) = v3 c
          ∧ r.2.mem ((c.tc : Thread Cert.Reference6Ideal.nD Cert.Reference6Ideal.τ).loc Cert.Reference6Ideal.main_v71) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4096x512 : Shape := ⟨2, ![4096, 512]⟩
abbrev S4096x12288 : Shape := ⟨2, ![4096, 12288]⟩
abbrev S4096x4096 : Shape := ⟨2, ![4096, 4096]⟩
abbrev S4096x32 : Shape := ⟨2, ![4096, 32]⟩
abbrev S32 : Shape := ⟨1, ![32]⟩
abbrev S64x512x256 : Shape := ⟨3, ![64, 512, 256]⟩
abbrev S64x128x2048 : Shape := ⟨3, ![64, 128, 2048]⟩
abbrev S4096x1024 : Shape := ⟨2, ![4096, 1024]⟩
abbrev S4096x2048 : Shape := ⟨2, ![4096, 2048]⟩
abbrev S64 : Shape := ⟨1, ![64]⟩
abbrev S4 : Shape := ⟨1, ![4]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x128 : Shape := ⟨3, ![64, 4, 128]⟩
abbrev S64x512 : Shape := ⟨2, ![64, 512]⟩
abbrev S4x128 : Shape := ⟨2, ![4, 128]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S1x64x1x64 : Shape := ⟨4, ![1, 64, 1, 64]⟩
abbrev S1x64x4x64 : Shape := ⟨4, ![1, 64, 4, 64]⟩
abbrev S64x256 : Shape := ⟨2, ![64, 256]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S4096x32x64 : Shape := ⟨3, ![4096, 32, 64]⟩
abbrev S32x64 : Shape := ⟨2, ![32, 64]⟩
abbrev S2048 : Shape := ⟨1, ![2048]⟩
abbrev S1x2048 : Shape := ⟨2, ![1, 2048]⟩
abbrev S64x1024 : Shape := ⟨2, ![64, 1024]⟩
abbrev S64x4096 : Shape := ⟨2, ![64, 4096]⟩
abbrev S64x2048 : Shape := ⟨2, ![64, 2048]⟩
abbrev S1x512x256 : Shape := ⟨3, ![1, 512, 256]⟩
abbrev S1x128x2048 : Shape := ⟨3, ![1, 128, 2048]⟩
abbrev S128x2048 : Shape := ⟨2, ![128, 2048]⟩
abbrev S64x128 : Shape := ⟨2, ![64, 128]⟩
abbrev S1x128x256 : Shape := ⟨3, ![1, 128, 256]⟩
abbrev S128x256 : Shape := ⟨2, ![128, 256]⟩
abbrev S256 : Shape := ⟨1, ![256]⟩
abbrev S256x128 : Shape := ⟨2, ![256, 128]⟩

abbrev nBuf : Space → Nat
  | .hbm => 105
  | .vmem => 38
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x12288, .f32⟩
  | .hbm, ⟨3, _⟩ => ⟨S4096x4096, .f32⟩
  | .hbm, ⟨4, _⟩ => ⟨S4096x32, .f32⟩
  | .hbm, ⟨5, _⟩ => ⟨S32, .f32⟩
  | .hbm, ⟨6, _⟩ => ⟨S64x512x256, .f32⟩
  | .hbm, ⟨7, _⟩ => ⟨S64x128x2048, .f32⟩
  | .hbm, ⟨8, _⟩ => ⟨S4096x1024, .f32⟩
  | .hbm, ⟨9, _⟩ => ⟨S4096x2048, .f32⟩
  | .hbm, ⟨10, _⟩ => ⟨S4096x12288, .bf16⟩
  | .hbm, ⟨11, _⟩ => ⟨S64, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S64x1, .f32⟩
  | .hbm, ⟨22, _⟩ => ⟨S1x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S4x1x1, .f32⟩
  | .hbm, ⟨28, _⟩ => ⟨S1x64x64, .f32⟩
  | .hbm, ⟨29, _⟩ => ⟨S4x64x64, .f32⟩
  | .hbm, ⟨30, _⟩ => ⟨S4x64x64, .f32⟩
  | .hbm, ⟨31, _⟩ => ⟨S4x64x64, .f32⟩
  | .hbm, ⟨32, _⟩ => ⟨S4x64x64, .f32⟩
  | .hbm, ⟨33, _⟩ => ⟨S1x4, .f32⟩
  | .hbm, ⟨34, _⟩ => ⟨S64x1, .f32⟩
  | .hbm, ⟨35, _⟩ => ⟨S_, .f32⟩
  | .hbm, ⟨36, _⟩ => ⟨S64x1, .f32⟩
  | .hbm, ⟨37, _⟩ => ⟨S64x1, .f32⟩
  | .hbm, ⟨38, _⟩ => ⟨S64x4, .f32⟩
  | .hbm, ⟨39, _⟩ => ⟨S64x4, .f32⟩
  | .hbm, ⟨40, _⟩ => ⟨S64x4, .f32⟩
  | .hbm, ⟨41, _⟩ => ⟨S64x4, .f32⟩
  | .hbm, ⟨42, _⟩ => ⟨S1x4, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .hbm, ⟨47, _⟩ => ⟨S64x4, .f32⟩
  | .hbm, ⟨48, _⟩ => ⟨S64x4, .f32⟩
  | .hbm, ⟨49, _⟩ => ⟨S64x4, .f32⟩
  | .hbm, ⟨50, _⟩ => ⟨S64x4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S64x4x128, .f32⟩
  | .hbm, ⟨56, _⟩ => ⟨S64x512, .f32⟩
  | .hbm, ⟨57, _⟩ => ⟨S64x4x128, .f32⟩
  | .hbm, ⟨58, _⟩ => ⟨S64x512, .f32⟩
  | .hbm, ⟨59, _⟩ => ⟨S4x128, .f32⟩
  | .hbm, ⟨60, _⟩ => ⟨S512, .f32⟩
  | .hbm, ⟨61, _⟩ => ⟨S512x1, .f32⟩
  | .hbm, ⟨62, _⟩ => ⟨S_, .f32⟩
  | .hbm, ⟨63, _⟩ => ⟨S1x256, .f32⟩
  | .hbm, ⟨64, _⟩ => ⟨S512x256, .f32⟩
  | .hbm, ⟨65, _⟩ => ⟨S512x256, .f32⟩
  | .hbm, ⟨66, _⟩ => ⟨S512x256, .f32⟩
  | .hbm, ⟨67, _⟩ => ⟨S64x64, .i32⟩
  | .hbm, ⟨68, _⟩ => ⟨S64x64, .i32⟩
  | .hbm, ⟨69, _⟩ => ⟨S_, .i32⟩
  | .hbm, ⟨70, _⟩ => ⟨S64x64, .i32⟩
  | .hbm, ⟨71, _⟩ => ⟨S64x64, .i32⟩
  | .hbm, ⟨72, _⟩ => ⟨S64x64, .i1⟩
  | .hbm, ⟨73, _⟩ => ⟨S64x64, .f32⟩
  | .hbm, ⟨74, _⟩ => ⟨S1x64x1x64, .f32⟩
  | .hbm, ⟨75, _⟩ => ⟨S1x64x4x64, .f32⟩
  | .hbm, ⟨76, _⟩ => ⟨S64x256, .f32⟩
  | .hbm, ⟨77, _⟩ => ⟨S4x4, .i32⟩
  | .hbm, ⟨78, _⟩ => ⟨S4x4, .i32⟩
  | .hbm, ⟨79, _⟩ => ⟨S_, .i32⟩
  | .hbm, ⟨80, _⟩ => ⟨S4x4, .i32⟩
  | .hbm, ⟨81, _⟩ => ⟨S4x4, .i32⟩
  | .hbm, ⟨82, _⟩ => ⟨S4x4, .i1⟩
  | .hbm, ⟨83, _⟩ => ⟨S4x4, .f32⟩
  | .hbm, ⟨84, _⟩ => ⟨S_, .f32⟩
  | .hbm, ⟨85, _⟩ => ⟨S64x64, .f32⟩
  | .hbm, ⟨86, _⟩ => ⟨S4x1x4x1, .f32⟩
  | .hbm, ⟨87, _⟩ => ⟨S1x64x1x64, .f32⟩
  | .hbm, ⟨88, _⟩ => ⟨S4x64x4x64, .f32⟩
  | .hbm, ⟨89, _⟩ => ⟨S4x64x4x64, .f32⟩
  | .hbm, ⟨90, _⟩ => ⟨S4x64x4x64, .f32⟩
  | .hbm, ⟨91, _⟩ => ⟨S256x256, .f32⟩
  | .hbm, ⟨92, _⟩ => ⟨S4096x32x64, .f32⟩
  | .hbm, ⟨93, _⟩ => ⟨S4096x2048, .f32⟩
  | .hbm, ⟨94, _⟩ => ⟨S32, .f32⟩
  | .hbm, ⟨95, _⟩ => ⟨S32, .f32⟩
  | .hbm, ⟨96, _⟩ => ⟨S32x64, .f32⟩
  | .hbm, ⟨97, _⟩ => ⟨S2048, .f32⟩
  | .hbm, ⟨98, _⟩ => ⟨S1x2048, .f32⟩
  | .hbm, ⟨99, _⟩ => ⟨S4096x512, .f32⟩
  | .hbm, ⟨100, _⟩ => ⟨S4096x512, .f32⟩
  | .hbm, ⟨101, _⟩ => ⟨S4096x12288, .bf16⟩
  | .hbm, ⟨102, _⟩ => ⟨S4096x4096, .f32⟩
  | .hbm, ⟨103, _⟩ => ⟨S4096x2048, .f32⟩
  | .hbm, ⟨104, _⟩ => ⟨S1x2048, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x4096, .f32⟩
  | .local _ .vmem, ⟨7, _⟩ => ⟨S64x4096, .f32⟩
  | .local _ .vmem, ⟨8, _⟩ => ⟨S64x2048, .f32⟩
  | .local _ .vmem, ⟨9, _⟩ => ⟨S64x2048, .f32⟩
  | .local _ .vmem, ⟨10, _⟩ => ⟨S1x2048, .f32⟩
  | .local _ .vmem, ⟨11, _⟩ => ⟨S4x64x64, .f32⟩
  | .local _ .vmem, ⟨12, _⟩ => ⟨S64x512, .f32⟩
  | .local _ .vmem, ⟨13, _⟩ => ⟨S64x512, .f32⟩
  | .local _ .vmem, ⟨14, _⟩ => ⟨S512x256, .f32⟩
  | .local _ .vmem, ⟨15, _⟩ => ⟨S64x256, .f32⟩
  | .local _ .vmem, ⟨16, _⟩ => ⟨S256x256, .f32⟩
  | .local _ .vmem, ⟨17, _⟩ => ⟨S1x512x256, .f32⟩
  | .local _ .vmem, ⟨18, _⟩ => ⟨S1x512x256, .f32⟩
  | .local _ .vmem, ⟨19, _⟩ => ⟨S1x128x2048, .f32⟩
  | .local _ .vmem, ⟨20, _⟩ => ⟨S1x128x2048, .f32⟩
  | .local _ .vmem, ⟨21, _⟩ => ⟨S64x1024, .f32⟩
  | .local _ .vmem, ⟨22, _⟩ => ⟨S64x1024, .f32⟩
  | .local _ .vmem, ⟨23, _⟩ => ⟨S64x2048, .f32⟩
  | .local _ .vmem, ⟨24, _⟩ => ⟨S64x2048, .f32⟩
  | .local _ .vmem, ⟨25, _⟩ => ⟨S64x512, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S64x1024, .bf16⟩
  | .local _ .vmem, ⟨30, _⟩ => ⟨S64x1024, .bf16⟩
  | .local _ .vmem, ⟨31, _⟩ => ⟨S64x4096, .f32⟩
  | .local _ .vmem, ⟨32, _⟩ => ⟨S64x4096, .f32⟩
  | .local _ .vmem, ⟨33, _⟩ => ⟨S64x2048, .f32⟩
  | .local _ .vmem, ⟨34, _⟩ => ⟨S64x2048, .f32⟩
  | .local _ .vmem, ⟨35, _⟩ => ⟨S1x2048, .f32⟩
  | .local _ .vmem, ⟨36, _⟩ => ⟨S512x256, .f32⟩
  | .local _ .vmem, ⟨37, _⟩ => ⟨S128x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_6 : Ref sig .tc := ⟨.hbm, 84, rfl⟩
abbrev main_v65 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74_0 : Ref sig .tc := ⟨.hbm, 99, rfl⟩
abbrev main_v74_1 : Ref sig .tc := ⟨.hbm, 100, rfl⟩
abbrev main_v74_2 : Ref sig .tc := ⟨.hbm, 101, rfl⟩
abbrev main_v74_3 : Ref sig .tc := ⟨.hbm, 102, rfl⟩
abbrev main_v74_4 : Ref sig .tc := ⟨.hbm, 103, rfl⟩
abbrev main_v74_5 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c10_i32 : BitVec 32 := 10#32
  let c0_i32 : BitVec 32 := 0#32
  ![v0.toNat, c10_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c63_i32 : BitVec 32 := 63#32
  let v0 : BitVec 32 := Scalar.subi c63_i32 arg0
  let c10_i32 : BitVec 32 := 10#32
  let c0_i32 : BitVec 32 := 0#32
  ![v0.toNat, c10_i32.toNat]

def cc0_transform_20 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x4096 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F]
-- ==== ReferenceIdeal.lean ====
abbrev S4096x512 : Shape := ⟨2, ![4096, 512]⟩
abbrev S4096x12288 : Shape := ⟨2, ![4096, 12288]⟩
abbrev S4096x4096 : Shape := ⟨2, ![4096, 4096]⟩
abbrev S4096x32 : Shape := ⟨2, ![4096, 32]⟩
abbrev S32 : Shape := ⟨1, ![32]⟩
abbrev S64x512x256 : Shape := ⟨3, ![64, 512, 256]⟩
abbrev S64x128x2048 : Shape := ⟨3, ![64, 128, 2048]⟩
abbrev S4096x1024 : Shape := ⟨2, ![4096, 1024]⟩
abbrev S4096x2048 : Shape := ⟨2, ![4096, 2048]⟩
abbrev S64 : Shape := ⟨1, ![64]⟩
abbrev S4 : Shape := ⟨1, ![4]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S64x4x1 : Shape := ⟨3, ![64, 4, 1]⟩
abbrev S8x4 : Shape := ⟨2, ![8, 4]⟩
abbrev S64x64x4x128 : Shape := ⟨4, ![64, 64, 4, 128]⟩
abbrev S64x64x4x256 : Shape := ⟨4, ![64, 64, 4, 256]⟩
abbrev S64x64x8x4x64 : Shape := ⟨5, ![64, 64, 8, 4, 64]⟩
abbrev S64x64x8x4 : Shape := ⟨4, ![64, 64, 8, 4]⟩
abbrev S64x64x8x128 : Shape := ⟨4, ![64, 64, 8, 128]⟩
abbrev S64x4x128x256 : Shape := ⟨4, ![64, 4, 128, 256]⟩
abbrev S64x128x8x4x64 : Shape := ⟨5, ![64, 128, 8, 4, 64]⟩
abbrev S64x8x4x64x128 : Shape := ⟨5, ![64, 8, 4, 64, 128]⟩
abbrev S4x128x256 : Shape := ⟨3, ![4, 128, 256]⟩
abbrev S8x4x64x128 : Shape := ⟨4, ![8, 4, 64, 128]⟩
abbrev S1x4x128x256 : Shape := ⟨4, ![1, 4, 128, 256]⟩
abbrev S1x8x4x64x128 : Shape := ⟨5, ![1, 8, 4, 64, 128]⟩
abbrev S1x64x4x128 : Shape := ⟨4, ![1, 64, 4, 128]⟩
abbrev S64x4x128 : Shape := ⟨3, ![64, 4, 128]⟩
abbrev S1x64x4x256 : Shape := ⟨4, ![1, 64, 4, 256]⟩
abbrev S64x4x256 : Shape := ⟨3, ![64, 4, 256]⟩
abbrev S1x64x8x4x64 : Shape := ⟨5, ![1, 64, 8, 4, 64]⟩
abbrev S64x8x4x64 : Shape := ⟨4, ![64, 8, 4, 64]⟩
abbrev S1x64x8x4 : Shape := ⟨4, ![1, 64, 8, 4]⟩
abbrev S64x8x4 : Shape := ⟨3, ![64, 8, 4]⟩
abbrev S1x64x8x128 : Shape := ⟨4, ![1, 64, 8, 128]⟩
abbrev S64x8x128 : Shape := ⟨3, ![64, 8, 128]⟩
abbrev S4x256x64 : Shape := ⟨3, ![4, 256, 64]⟩
abbrev S1x8x4 : Shape := ⟨3, ![1, 8, 4]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x64x64 : Shape := ⟨3, ![8, 64, 64]⟩
abbrev S64x8x4x1 : Shape := ⟨4, ![64, 8, 4, 1]⟩
abbrev S8x1x64x64 : Shape := ⟨4, ![8, 1, 64, 64]⟩
abbrev S8x4x1x1 : Shape := ⟨4, ![8, 4, 1, 1]⟩
abbrev S8x128x64 : Shape := ⟨3, ![8, 128, 64]⟩
abbrev S8x64x128 : Shape := ⟨3, ![8, 64, 128]⟩
abbrev S4x128x64 : Shape := ⟨3, ![4, 128, 64]⟩
abbrev S4x64x128 : Shape := ⟨3, ![4, 64, 128]⟩
abbrev S4x256x128 : Shape := ⟨3, ![4, 256, 128]⟩
abbrev S1 : Shape := ⟨1, ![1]⟩

abbrev nBuf : Space → Nat
  | .hbm => 436
  | .vmem => 0
  | .smem => 0
  | _ => 0

abbrev hbmTy0_0 (i : Nat) : BufTy := match i % 128 with
  | 0 => ⟨S4096x512, .f32⟩
  | 1 => ⟨S4096x512, .f32⟩
  | 2 => ⟨S4096x12288, .f32⟩
  | 3 => ⟨S4096x4096, .f32⟩
  | 4 => ⟨S4096x32, .f32⟩
  | 5 => ⟨S32, .f32⟩
  | 6 => ⟨S64x512x256, .f32⟩
  | 7 => ⟨S64x128x2048, .f32⟩
  | 8 => ⟨S4096x1024, .f32⟩
  | 9 => ⟨S4096x2048, .f32⟩
  | 10 => ⟨S4096x12288, .bf16⟩
  | 11 => ⟨S64, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S4, .f32⟩
  | 21 => ⟨S64x1, .f32⟩
  | 22 => ⟨S1x64, .f32⟩
  | 23 => ⟨S64x64, .f32⟩
  | 24 => ⟨S64x64, .f32⟩
  | 25 => ⟨S64x64, .f32⟩
  | 26 => ⟨S64x64, .f32⟩
  | 27 => ⟨S4x1x1, .f32⟩
  | 28 => ⟨S1x64x64, .f32⟩
  | 29 => ⟨S4x64x64, .f32⟩
  | 30 => ⟨S4x64x64, .f32⟩
  | 31 => ⟨S4x64x64, .f32⟩
  | 32 => ⟨S4x64x64, .f32⟩
  | 33 => ⟨S1x4, .f32⟩
  | 34 => ⟨S64x1, .f32⟩
  | 35 => ⟨S_, .f32⟩
  | 36 => ⟨S64x1, .f32⟩
  | 37 => ⟨S64x1, .f32⟩
  | 38 => ⟨S64x4, .f32⟩
  | 39 => ⟨S64x4, .f32⟩
  | 40 => ⟨S64x4, .f32⟩
  | 41 => ⟨S64x4, .f32⟩
  | 42 => ⟨S64x4x1, .f32⟩
  | 43 => ⟨S1x4, .f32⟩
  | 44 => ⟨S64x1, .f32⟩
  | 45 => ⟨S_, .f32⟩
  | 46 => ⟨S64x1, .f32⟩
  | 47 => ⟨S64x1, .f32⟩
  | 48 => ⟨S64x4, .f32⟩
  | 49 => ⟨S64x4, .f32⟩
  | 50 => ⟨S64x4, .f32⟩
  | 51 => ⟨S64x4, .f32⟩
  | 52 => ⟨S64x4x1, .f32⟩
  | 53 => ⟨S_, .f32⟩
  | 54 => ⟨S4, .f32⟩
  | 55 => ⟨S4, .f32⟩
  | 56 => ⟨S4, .f32⟩
  | 57 => ⟨S4096x2048, .f32⟩
  | 58 => ⟨S4096x1024, .f32⟩
  | 59 => ⟨S4096x1024, .f32⟩
  | 60 => ⟨S32, .f32⟩
  | 61 => ⟨S8x4, .f32⟩
  | 62 => ⟨S8x4, .f32⟩
  | 63 => ⟨S64x64x4x128, .f32⟩
  | 64 => ⟨S64x64x4x128, .f32⟩
  | 65 => ⟨S4096x1024, .f32⟩
  | 66 => ⟨S64x64x4x256, .f32⟩
  | 67 => ⟨S64x64x8x4x64, .f32⟩
  | 68 => ⟨S64x64x8x4, .f32⟩
  | 69 => ⟨S64x64x8x128, .f32⟩
  | 70 => ⟨S64x64x8x128, .f32⟩
  | 71 => ⟨S64x4x128x256, .f32⟩
  | 72 => ⟨S64x128x8x4x64, .f32⟩
  | 73 => ⟨S64x8x4x64x128, .f32⟩
  | 74 => ⟨S64x64x4x256, .f32⟩
  | 75 => ⟨S64x64x8x4x64, .f32⟩
  | 76 => ⟨S_, .f32⟩
  | 77 => ⟨S4x128x256, .f32⟩
  | 78 => ⟨S_, .f32⟩
  | 79 => ⟨S8x4x64x128, .f32⟩
  | 80 => ⟨S_, .f32⟩
  | 81 => ⟨S8x4, .f32⟩
  | 82 => ⟨S_, .f32⟩
  | 83 => ⟨S64x64x4x128, .f32⟩
  | 84 => ⟨S_, .f32⟩
  | 85 => ⟨S64x64x4x128, .f32⟩
  | 86 => ⟨S_, .f32⟩
  | 87 => ⟨S64x64x4x256, .f32⟩
  | 88 => ⟨S_, .f32⟩
  | 89 => ⟨S64x64x8x4x64, .f32⟩
  | 90 => ⟨S_, .f32⟩
  | 91 => ⟨S64x64x8x4, .f32⟩
  | 92 => ⟨S_, .f32⟩
  | 93 => ⟨S64x64x8x128, .f32⟩
  | 94 => ⟨S_, .f32⟩
  | 95 => ⟨S64x64x8x128, .f32⟩
  | 96 => ⟨S_, .i32⟩
  | 97 => ⟨S64x4x128x256, .f32⟩
  | 98 => ⟨S64x8x4x64x128, .f32⟩
  | 99 => ⟨S64x64x4x128, .f32⟩
  | 100 => ⟨S64x64x4x128, .f32⟩
  | 101 => ⟨S64x64x4x256, .f32⟩
  | 102 => ⟨S64x64x8x4x64, .f32⟩
  | 103 => ⟨S64x64x8x4, .f32⟩
  | 104 => ⟨S64x64x8x128, .f32⟩
  | 105 => ⟨S64x64x8x128, .f32⟩
  | 106 => ⟨S64x64x4x256, .f32⟩
  | 107 => ⟨S64x64x8x4x64, .f32⟩
  | 108 => ⟨S4x64x64, .f32⟩
  | 109 => ⟨S64x4x1, .f32⟩
  | 110 => ⟨S4, .f32⟩
  | 111 => ⟨S64x4x1, .f32⟩
  | 112 => ⟨S8x4, .f32⟩
  | 113 => ⟨S_, .i32⟩
  | 114 => ⟨S4x128x256, .f32⟩
  | 115 => ⟨S8x4x64x128, .f32⟩
  | 116 => ⟨S8x4, .f32⟩
  | 117 => ⟨S64x64x4x128, .f32⟩
  | 118 => ⟨S64x64x4x128, .f32⟩
  | 119 => ⟨S64x64x4x256, .f32⟩
  | 120 => ⟨S64x64x8x4x64, .f32⟩
  | 121 => ⟨S64x64x8x4, .f32⟩
  | 122 => ⟨S64x64x8x128, .f32⟩
  | 123 => ⟨S64x64x8x128, .f32⟩
  | 124 => ⟨S_, .i32⟩
  | 125 => ⟨S_, .i1⟩
  | 126 => ⟨S_, .i32⟩
  | 127 => ⟨S_, .i32⟩
  | _ => ⟨S4096x512, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x4x128x256, .f32⟩
  | 6 => ⟨S4x128x256, .f32⟩
  | 7 => ⟨S_, .i32⟩
  | 8 => ⟨S_, .i32⟩
  | 9 => ⟨S_, .i32⟩
  | 10 => ⟨S_, .i32⟩
  | 11 => ⟨S1x8x4x64x128, .f32⟩
  | 12 => ⟨S8x4x64x128, .f32⟩
  | 13 => ⟨S_, .i32⟩
  | 14 => ⟨S_, .i32⟩
  | 15 => ⟨S_, .i32⟩
  | 16 => ⟨S1x64x4x128, .f32⟩
  | 17 => ⟨S64x4x128, .f32⟩
  | 18 => ⟨S_, .i32⟩
  | 19 => ⟨S_, .i32⟩
  | 20 => ⟨S_, .i32⟩
  | 21 => ⟨S1x64x4x128, .f32⟩
  | 22 => ⟨S64x4x128, .f32⟩
  | 23 => ⟨S_, .i32⟩
  | 24 => ⟨S_, .i32⟩
  | 25 => ⟨S_, .i32⟩
  | 26 => ⟨S1x64x4x256, .f32⟩
  | 27 => ⟨S64x4x256, .f32⟩
  | 28 => ⟨S_, .i32⟩
  | 29 => ⟨S_, .i32⟩
  | 30 => ⟨S_, .i32⟩
  | 31 => ⟨S_, .i32⟩
  | 32 => ⟨S1x64x8x4x64, .f32⟩
  | 33 => ⟨S64x8x4x64, .f32⟩
  | 34 => ⟨S_, .i32⟩
  | 35 => ⟨S_, .i32⟩
  | 36 => ⟨S_, .i32⟩
  | 37 => ⟨S1x64x8x4, .f32⟩
  | 38 => ⟨S64x8x4, .f32⟩
  | 39 => ⟨S_, .i32⟩
  | 40 => ⟨S_, .i32⟩
  | 41 => ⟨S_, .i32⟩
  | 42 => ⟨S1x64x8x128, .f32⟩
  | 43 => ⟨S64x8x128, .f32⟩
  | 44 => ⟨S_, .i32⟩
  | 45 => ⟨S_, .i32⟩
  | 46 => ⟨S_, .i32⟩
  | 47 => ⟨S1x64x8x128, .f32⟩
  | 48 => ⟨S64x8x128, .f32⟩
  | 49 => ⟨S_, .i32⟩
  | 50 => ⟨S_, .i32⟩
  | 51 => ⟨S_, .i32⟩
  | 52 => ⟨S1x64x4x256, .f32⟩
  | 53 => ⟨S64x4x256, .f32⟩
  | 54 => ⟨S_, .i32⟩
  | 55 => ⟨S_, .i32⟩
  | 56 => ⟨S_, .i32⟩
  | 57 => ⟨S_, .i32⟩
  | 58 => ⟨S1x64x8x4x64, .f32⟩
  | 59 => ⟨S64x8x4x64, .f32⟩
  | 60 => ⟨S4x64x64, .f32⟩
  | 61 => ⟨S4x64x64, .f32⟩
  | 62 => ⟨S4x256x64, .f32⟩
  | 63 => ⟨S64x4x256, .f32⟩
  | 64 => ⟨S64x4x128, .f32⟩
  | 65 => ⟨S64x4x128, .f32⟩
  | 66 => ⟨S4x256x64, .f32⟩
  | 67 => ⟨S64x4x256, .f32⟩
  | 68 => ⟨S64x4x256, .f32⟩
  | 69 => ⟨S4x1x1, .f32⟩
  | 70 => ⟨S4x128x256, .f32⟩
  | 71 => ⟨S4x128x256, .f32⟩
  | 72 => ⟨S64x4x128, .f32⟩
  | 73 => ⟨S64x4x128, .f32⟩
  | 74 => ⟨S4x128x256, .f32⟩
  | 75 => ⟨S4x128x256, .f32⟩
  | 76 => ⟨S1x8x4, .f32⟩
  | 77 => ⟨S64x8x4, .f32⟩
  | 78 => ⟨S64x8x4, .f32⟩
  | 79 => ⟨S_, .f32⟩
  | 80 => ⟨S_, .f32⟩
  | 81 => ⟨S64x8x4, .f32⟩
  | 82 => ⟨S8x4x64, .f32⟩
  | 83 => ⟨S8x4x64x1, .f32⟩
  | 84 => ⟨S8x4x1x64, .f32⟩
  | 85 => ⟨S8x4x64x64, .f32⟩
  | 86 => ⟨S8x4x64x64, .f32⟩
  | 87 => ⟨S8x4x64x64, .f32⟩
  | 88 => ⟨S8x4x64x64, .f32⟩
  | 89 => ⟨S_, .f32⟩
  | 90 => ⟨S8x4x64x64, .f32⟩
  | 91 => ⟨S8x4x64x64, .i1⟩
  | 92 => ⟨S8x4x64x64, .f32⟩
  | 93 => ⟨S8x4x64x64, .f32⟩
  | 94 => ⟨S8x64x64, .f32⟩
  | 95 => ⟨S64x8x4x1, .f32⟩
  | 96 => ⟨S64x8x4x64, .f32⟩
  | 97 => ⟨S64x8x4x64, .f32⟩
  | 98 => ⟨S8x1x64x64, .f32⟩
  | 99 => ⟨S8x4x64x64, .f32⟩
  | 100 => ⟨S8x4x64x64, .f32⟩
  | 101 => ⟨S8x4x64x64, .f32⟩
  | 102 => ⟨S64x8x4x64, .f32⟩
  | 103 => ⟨S8x4x64x64, .f32⟩
  | 104 => ⟨S64x8x4x64, .f32⟩
  | 105 => ⟨S64x8x4, .f32⟩
  | 106 => ⟨S64x8x4x1, .f32⟩
  | 107 => ⟨S64x8x4x64, .f32⟩
  | 108 => ⟨S64x8x4x64, .f32⟩
  | 109 => ⟨S64x8x4x64, .f32⟩
  | 110 => ⟨S1x8x4, .f32⟩
  | 111 => ⟨S8x4, .f32⟩
  | 112 => ⟨S8x4, .f32⟩
  | 113 => ⟨S8x4x1x1, .f32⟩
  | 114 => ⟨S8x4x64x128, .f32⟩
  | 115 => ⟨S8x4x64x128, .f32⟩
  | 116 => ⟨S1x8x4, .f32⟩
  | 117 => ⟨S64x8x4, .f32⟩
  | 118 => ⟨S64x8x4, .f32⟩
  | 119 => ⟨S64x8x4, .f32⟩
  | 120 => ⟨S64x8x4x1, .f32⟩
  | 121 => ⟨S64x8x4x64, .f32⟩
  | 122 => ⟨S64x8x4x64, .f32⟩
  | 123 => ⟨S8x4x64x128, .f32⟩
  | 124 => ⟨S8x4x64x128, .f32⟩
  | 125 => ⟨S8x128x64, .f32⟩
  | 126 => ⟨S64x8x128, .f32⟩
  | 127 => ⟨S8x4x64x64, .f32⟩
  | _ => ⟨S4096x512, .f32⟩

abbrev hbmTy0_2 (i : Nat) : BufTy := match i % 128 with
  | 0 => ⟨S64x8x4x64, .f32⟩
  | 1 => ⟨S64x8x4x64, .f32⟩
  | 2 => ⟨S_, .f32⟩
  | 3 => ⟨S64x8x4, .f32⟩
  | 4 => ⟨S64x8x4x1, .f32⟩
  | 5 => ⟨S64x8x4x64, .f32⟩
  | 6 => ⟨S64x8x4x64, .f32⟩
  | 7 => ⟨S_, .f32⟩
  | 8 => ⟨S64x8x4, .f32⟩
  | 9 => ⟨S64x8x4, .f32⟩
  | 10 => ⟨S_, .f32⟩
  | 11 => ⟨S8x4, .f32⟩
  | 12 => ⟨S1x8x4, .f32⟩
  | 13 => ⟨S64x8x4, .f32⟩
  | 14 => ⟨S_, .f32⟩
  | 15 => ⟨S8x4, .f32⟩
  | 16 => ⟨S8x4x64x128, .f32⟩
  | 17 => ⟨S_, .f32⟩
  | 18 => ⟨S8x4, .f32⟩
  | 19 => ⟨S8x4x1x1, .f32⟩
  | 20 => ⟨S8x4x64x128, .f32⟩
  | 21 => ⟨S8x4x64x128, .f32⟩
  | 22 => ⟨S_, .f32⟩
  | 23 => ⟨S8x4, .f32⟩
  | 24 => ⟨S8x4, .f32⟩
  | 25 => ⟨S8x4, .f32⟩
  | 26 => ⟨S1x8x4, .f32⟩
  | 27 => ⟨S_, .f32⟩
  | 28 => ⟨S64x8x4, .f32⟩
  | 29 => ⟨S64x8x4, .f32⟩
  | 30 => ⟨S64x8x4x64, .f32⟩
  | 31 => ⟨S_, .f32⟩
  | 32 => ⟨S64x8x4, .f32⟩
  | 33 => ⟨S64x8x4x1, .f32⟩
  | 34 => ⟨S64x8x4x64, .f32⟩
  | 35 => ⟨S64x8x4x64, .f32⟩
  | 36 => ⟨S_, .f32⟩
  | 37 => ⟨S64x8x4, .f32⟩
  | 38 => ⟨S64x8x4, .f32⟩
  | 39 => ⟨S64x8x4, .f32⟩
  | 40 => ⟨S8x4x64x64, .f32⟩
  | 41 => ⟨S8x64x128, .f32⟩
  | 42 => ⟨S64x8x128, .f32⟩
  | 43 => ⟨S8x4x64x128, .f32⟩
  | 44 => ⟨S8x4x64x128, .f32⟩
  | 45 => ⟨S8x4x64x64, .f32⟩
  | 46 => ⟨S8x4x64x64, .f32⟩
  | 47 => ⟨S8x4x64x64, .f32⟩
  | 48 => ⟨S64x8x4x64, .f32⟩
  | 49 => ⟨S64x8x4x64, .f32⟩
  | 50 => ⟨S8x4x64x64, .f32⟩
  | 51 => ⟨S8x4x64x64, .f32⟩
  | 52 => ⟨S8x4x64x64, .f32⟩
  | 53 => ⟨S_, .f32⟩
  | 54 => ⟨S8x64x64, .f32⟩
  | 55 => ⟨S8x1x64x64, .f32⟩
  | 56 => ⟨S_, .f32⟩
  | 57 => ⟨S8x64x64, .f32⟩
  | 58 => ⟨S64x8x4x64, .f32⟩
  | 59 => ⟨S_, .f32⟩
  | 60 => ⟨S64x8x4, .f32⟩
  | 61 => ⟨S64x8x4x1, .f32⟩
  | 62 => ⟨S64x8x4x64, .f32⟩
  | 63 => ⟨S64x8x4x64, .f32⟩
  | 64 => ⟨S_, .f32⟩
  | 65 => ⟨S64x8x4, .f32⟩
  | 66 => ⟨S8x64x128, .f32⟩
  | 67 => ⟨S64x8x128, .f32⟩
  | 68 => ⟨S64x8x128, .f32⟩
  | 69 => ⟨S8x64x128, .f32⟩
  | 70 => ⟨S64x8x128, .f32⟩
  | 71 => ⟨S64x8x128, .f32⟩
  | 72 => ⟨S8x4x64x64, .f32⟩
  | 73 => ⟨S8x4x64x64, .f32⟩
  | 74 => ⟨S_, .f32⟩
  | 75 => ⟨S8x4x64x64, .f32⟩
  | 76 => ⟨S8x4x64x64, .f32⟩
  | 77 => ⟨S8x4x64x64, .f32⟩
  | 78 => ⟨S8x4x64x64, .f32⟩
  | 79 => ⟨S8x4x64x64, .f32⟩
  | 80 => ⟨S_, .f32⟩
  | 81 => ⟨S8x4x64, .f32⟩
  | 82 => ⟨S8x4x64x1, .f32⟩
  | 83 => ⟨S8x4x64x64, .f32⟩
  | 84 => ⟨S_, .f32⟩
  | 85 => ⟨S8x4x64, .f32⟩
  | 86 => ⟨S8x4x1x64, .f32⟩
  | 87 => ⟨S_, .f32⟩
  | 88 => ⟨S8x4x64, .f32⟩
  | 89 => ⟨S_, .f32⟩
  | 90 => ⟨S8x4x64, .f32⟩
  | 91 => ⟨S8x4x64, .f32⟩
  | 92 => ⟨S64x8x4, .f32⟩
  | 93 => ⟨S64x8x4, .f32⟩
  | 94 => ⟨S_, .f32⟩
  | 95 => ⟨S_, .f32⟩
  | 96 => ⟨S64x8x4, .f32⟩
  | 97 => ⟨S64x8x4, .f32⟩
  | 98 => ⟨S_, .f32⟩
  | 99 => ⟨S8x4, .f32⟩
  | 100 => ⟨S1x8x4, .f32⟩
  | 101 => ⟨S64x8x4, .f32⟩
  | 102 => ⟨S64x8x4, .f32⟩
  | 103 => ⟨S64x8x4, .f32⟩
  | 104 => ⟨S_, .f32⟩
  | 105 => ⟨S8x4, .f32⟩
  | 106 => ⟨S4x256x64, .f32⟩
  | 107 => ⟨S64x4x256, .f32⟩
  | 108 => ⟨S4x128x64, .f32⟩
  | 109 => ⟨S64x4x128, .f32⟩
  | 110 => ⟨S64x4x128, .f32⟩
  | 111 => ⟨S64x4x128, .f32⟩
  | 112 => ⟨S4x128x256, .f32⟩
  | 113 => ⟨S4x128x256, .f32⟩
  | 114 => ⟨S4x256x64, .f32⟩
  | 115 => ⟨S4x64x128, .f32⟩
  | 116 => ⟨S64x4x128, .f32⟩
  | 117 => ⟨S4x256x128, .f32⟩
  | 118 => ⟨S4x128x256, .f32⟩
  | 119 => ⟨S4x128x256, .f32⟩
  | 120 => ⟨S64x4x128, .f32⟩
  | 121 => ⟨S64x4x128, .f32⟩
  | 122 => ⟨S4x256x64, .f32⟩
  | 123 => ⟨S4x64x64, .f32⟩
  | 124 => ⟨S4x256x64, .f32⟩
  | 125 => ⟨S64x4x256, .f32⟩
  | 126 => ⟨S64x4x256, .f32⟩
  | 127 => ⟨S4x64x64, .f32⟩
  | _ => ⟨S4096x512, .f32⟩

abbrev hbmTy0_3 (i : Nat) : BufTy := match i % 128 with
  | 0 => ⟨S4x64x128, .f32⟩
  | 1 => ⟨S64x4x128, .f32⟩
  | 2 => ⟨S64x4x128, .f32⟩
  | 3 => ⟨S4x64x128, .f32⟩
  | 4 => ⟨S64x4x128, .f32⟩
  | 5 => ⟨S64x4x128, .f32⟩
  | 6 => ⟨S8x4, .f32⟩
  | 7 => ⟨S1x64x4x128, .f32⟩
  | 8 => ⟨S_, .i32⟩
  | 9 => ⟨S_, .i32⟩
  | 10 => ⟨S_, .i32⟩
  | 11 => ⟨S64x64x4x128, .f32⟩
  | 12 => ⟨S1x64x4x128, .f32⟩
  | 13 => ⟨S_, .i32⟩
  | 14 => ⟨S_, .i32⟩
  | 15 => ⟨S_, .i32⟩
  | 16 => ⟨S64x64x4x128, .f32⟩
  | 17 => ⟨S1x64x4x256, .f32⟩
  | 18 => ⟨S_, .i32⟩
  | 19 => ⟨S_, .i32⟩
  | 20 => ⟨S_, .i32⟩
  | 21 => ⟨S64x64x4x256, .f32⟩
  | 22 => ⟨S1x64x8x4x64, .f32⟩
  | 23 => ⟨S_, .i32⟩
  | 24 => ⟨S_, .i32⟩
  | 25 => ⟨S_, .i32⟩
  | 26 => ⟨S_, .i32⟩
  | 27 => ⟨S64x64x8x4x64, .f32⟩
  | 28 => ⟨S1x64x8x4, .f32⟩
  | 29 => ⟨S_, .i32⟩
  | 30 => ⟨S_, .i32⟩
  | 31 => ⟨S_, .i32⟩
  | 32 => ⟨S64x64x8x4, .f32⟩
  | 33 => ⟨S1x64x8x128, .f32⟩
  | 34 => ⟨S_, .i32⟩
  | 35 => ⟨S_, .i32⟩
  | 36 => ⟨S_, .i32⟩
  | 37 => ⟨S64x64x8x128, .f32⟩
  | 38 => ⟨S1x64x8x128, .f32⟩
  | 39 => ⟨S_, .i32⟩
  | 40 => ⟨S_, .i32⟩
  | 41 => ⟨S_, .i32⟩
  | 42 => ⟨S64x64x8x128, .f32⟩
  | 43 => ⟨S_, .i32⟩
  | 44 => ⟨S_, .i32⟩
  | 45 => ⟨S4096x512, .f32⟩
  | 46 => ⟨S4096x512, .f32⟩
  | 47 => ⟨S4096x1024, .f32⟩
  | 48 => ⟨S4096x1024, .bf16⟩
  | 49 => ⟨S_, .i32⟩
  | 50 => ⟨S1, .i32⟩
  | 51 => ⟨S4096x12288, .bf16⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_c : Ref sig .tc := ⟨.hbm, 96, rfl⟩
abbrev main_v70_0 : Ref sig .tc := ⟨.hbm, 97, rfl⟩
abbrev main_v70_1 : Ref sig .tc := ⟨.hbm, 98, rfl⟩
abbrev main_v70_2 : Ref sig .tc := ⟨.hbm, 99, rfl⟩
abbrev main_v70_3 : Ref sig .tc := ⟨.hbm, 100, rfl⟩
abbrev main_v70_4 : Ref sig .tc := ⟨.hbm, 101, rfl⟩
abbrev main_v70_5 : Ref sig .tc := ⟨.hbm, 102, rfl⟩
abbrev main_v70_6 : Ref sig .tc := ⟨.hbm, 103, rfl⟩
abbrev main_v70_7 : Ref sig .tc := ⟨.hbm, 104, rfl⟩
abbrev main_v70_8 : Ref sig .tc := ⟨.hbm, 105, rfl⟩
abbrev main_v70_9 : Ref sig .tc := ⟨.hbm, 106, rfl⟩
abbrev main_v70_10 : Ref sig .tc := ⟨.hbm, 107, rfl⟩
abbrev main_v70_11 : Ref sig .tc := ⟨.hbm, 108, rfl⟩
abbrev main_v70_12 : Ref sig .tc := ⟨.hbm, 109, rfl⟩
abbrev main_v70_13 : Ref sig .tc := ⟨.hbm, 110, rfl⟩
abbrev main_v70_14 : Ref sig .tc := ⟨.hbm, 111, rfl⟩
abbrev main_v70_15 : Ref sig .tc := ⟨.hbm, 112, rfl⟩
abbrev main_v70_16 : Ref sig .tc := ⟨.hbm, 113, rfl⟩
abbrev main_v70_17 : Ref sig .tc := ⟨.hbm, 114, rfl⟩
abbrev main_v70_18 : Ref sig .tc := ⟨.hbm, 115, rfl⟩
abbrev main_v70_19 : Ref sig .tc := ⟨.hbm, 116, rfl⟩
abbrev main_v70_20 : Ref sig .tc := ⟨.hbm, 117, rfl⟩
abbrev main_v70_21 : Ref sig .tc := ⟨.hbm, 118, rfl⟩
abbrev main_v70_22 : Ref sig .tc := ⟨.hbm, 119, rfl⟩
abbrev main_v70_23 : Ref sig .tc := ⟨.hbm, 120, rfl⟩
abbrev main_v70_24 : Ref sig .tc := ⟨.hbm, 121, rfl⟩
abbrev main_v70_25 : Ref sig .tc := ⟨.hbm, 122, rfl⟩
abbrev main_v70_26 : Ref sig .tc := ⟨.hbm, 123, rfl⟩
abbrev main_while0c_c_41 : Ref sig .tc := ⟨.hbm, 124, rfl⟩
abbrev main_while0c_v77 : Ref sig .tc := ⟨.hbm, 125, rfl⟩
abbrev main_while0b_c_41 : Ref sig .tc := ⟨.hbm, 126, rfl⟩
abbrev main_while0b_v77 : Ref sig .tc := ⟨.hbm, 127, rfl⟩
abbrev main_while0b_c_42 : Ref sig .tc := ⟨.hbm, 128, rfl⟩
abbrev main_while0b_v78 : Ref sig .tc := ⟨.hbm, 129, rfl⟩
abbrev main_while0b_call0_c : Ref sig .tc := ⟨.hbm, 130, rfl⟩
abbrev main_while0b_call0_c_0 : Ref sig .tc := ⟨.hbm, 131, rfl⟩
abbrev main_while0b_call0_c_1 : Ref sig .tc := ⟨.hbm, 132, rfl⟩
abbrev main_while0b_call0_v0 : Ref sig .tc := ⟨.hbm, 133, rfl⟩
abbrev main_while0b_v79 : Ref sig .tc := ⟨.hbm, 134, rfl⟩
abbrev main_while0b_call1_c : Ref sig .tc := ⟨.hbm, 135, rfl⟩
abbrev main_while0b_call1_c_0 : Ref sig .tc := ⟨.hbm, 136, rfl⟩
abbrev main_while0b_call1_c_1 : Ref sig .tc := ⟨.hbm, 137, rfl⟩
abbrev main_while0b_call1_c_2 : Ref sig .tc := ⟨.hbm, 138, rfl⟩
abbrev main_while0b_call1_v0 : Ref sig .tc := ⟨.hbm, 139, rfl⟩
abbrev main_while0b_v80 : Ref sig .tc := ⟨.hbm, 140, rfl⟩
abbrev main_while0b_call2_c : Ref sig .tc := ⟨.hbm, 141, rfl⟩
abbrev main_while0b_call2_c_0 : Ref sig .tc := ⟨.hbm, 142, rfl⟩
abbrev main_while0b_call2_c_1 : Ref sig .tc := ⟨.hbm, 143, rfl⟩
abbrev main_while0b_call2_v0 : Ref sig .tc := ⟨.hbm, 144, rfl⟩
abbrev main_while0b_v81 : Ref sig .tc := ⟨.hbm, 145, rfl⟩
abbrev main_while0b_call3_c : Ref sig .tc := ⟨.hbm, 146, rfl⟩
abbrev main_while0b_call3_c_0 : Ref sig .tc := ⟨.hbm, 147, rfl⟩
abbrev main_while0b_call3_c_1 : Ref sig .tc := ⟨.hbm, 148, rfl⟩
abbrev main_while0b_call3_v0 : Ref sig .tc := ⟨.hbm, 149, rfl⟩
abbrev main_while0b_v82 : Ref sig .tc := ⟨.hbm, 150, rfl⟩
abbrev main_while0b_call4_c : Ref sig .tc := ⟨.hbm, 151, rfl⟩
abbrev main_while0b_call4_c_0 : Ref sig .tc := ⟨.hbm, 152, rfl⟩
abbrev main_while0b_call4_c_1 : Ref sig .tc := ⟨.hbm, 153, rfl⟩
abbrev main_while0b_call4_v0 : Ref sig .tc := ⟨.hbm, 154, rfl⟩
abbrev main_while0b_v83 : Ref sig .tc := ⟨.hbm, 155, rfl⟩
abbrev main_while0b_call5_c : Ref sig .tc := ⟨.hbm, 156, rfl⟩
abbrev main_while0b_call5_c_0 : Ref sig .tc := ⟨.hbm, 157, rfl⟩
abbrev main_while0b_call5_c_1 : Ref sig .tc := ⟨.hbm, 158, rfl⟩
abbrev main_while0b_call5_c_2 : Ref sig .tc := ⟨.hbm, 159, rfl⟩
abbrev main_while0b_call5_v0 : Ref sig .tc := ⟨.hbm, 160, rfl⟩
abbrev main_while0b_v84 : Ref sig .tc := ⟨.hbm, 161, rfl⟩
abbrev main_while0b_call6_c : Ref sig .tc := ⟨.hbm, 162, rfl⟩
abbrev main_while0b_call6_c_0 : Ref sig .tc := ⟨.hbm, 163, rfl⟩
abbrev main_while0b_call6_c_1 : Ref sig .tc := ⟨.hbm, 164, rfl⟩
abbrev main_while0b_call6_v0 : Ref sig .tc := ⟨.hbm, 165, rfl⟩
abbrev main_while0b_v85 : Ref sig .tc := ⟨.hbm, 166, rfl⟩
abbrev main_while0b_call7_c : Ref sig .tc := ⟨.hbm, 167, rfl⟩
abbrev main_while0b_call7_c_0 : Ref sig .tc := ⟨.hbm, 168, rfl⟩
abbrev main_while0b_call7_c_1 : Ref sig .tc := ⟨.hbm, 169, rfl⟩
abbrev main_while0b_call7_v0 : Ref sig .tc := ⟨.hbm, 170, rfl⟩
abbrev main_while0b_v86 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_call8_v0 : Ref sig .tc := ⟨.hbm, 175, rfl⟩
abbrev main_while0b_v87 : Ref sig .tc := ⟨.hbm, 176, rfl⟩
abbrev main_while0b_call9_c : Ref sig .tc := ⟨.hbm, 177, rfl⟩
abbrev main_while0b_call9_c_0 : Ref sig .tc := ⟨.hbm, 178, rfl⟩
abbrev main_while0b_call9_c_1 : Ref sig .tc := ⟨.hbm, 179, rfl⟩
abbrev main_while0b_call9_v0 : Ref sig .tc := ⟨.hbm, 180, rfl⟩
abbrev main_while0b_v88 : Ref sig .tc := ⟨.hbm, 181, rfl⟩
abbrev main_while0b_call10_c : Ref sig .tc := ⟨.hbm, 182, rfl⟩
abbrev main_while0b_call10_c_0 : Ref sig .tc := ⟨.hbm, 183, rfl⟩
abbrev main_while0b_call10_c_1 : Ref sig .tc := ⟨.hbm, 184, rfl⟩
abbrev main_while0b_call10_c_2 : Ref sig .tc := ⟨.hbm, 185, rfl⟩
abbrev main_while0b_call10_v0 : Ref sig .tc := ⟨.hbm, 186, rfl⟩
abbrev main_while0b_v89 : Ref sig .tc := ⟨.hbm, 187, rfl⟩
abbrev main_while0b_v90 : Ref sig .tc := ⟨.hbm, 188, rfl⟩
abbrev main_while0b_v91 : Ref sig .tc := ⟨.hbm, 189, rfl⟩
abbrev main_while0b_v92 : Ref sig .tc := ⟨.hbm, 190, rfl⟩
abbrev main_while0b_v93 : Ref sig .tc := ⟨.hbm, 191, rfl⟩
abbrev main_while0b_v94 : Ref sig .tc := ⟨.hbm, 192, rfl⟩
abbrev main_while0b_v95 : Ref sig .tc := ⟨.hbm, 193, rfl⟩
abbrev main_while0b_v96 : Ref sig .tc := ⟨.hbm, 194, rfl⟩
abbrev main_while0b_v97 : Ref sig .tc := ⟨.hbm, 195, rfl⟩
abbrev main_while0b_v98 : Ref sig .tc := ⟨.hbm, 196, rfl⟩
abbrev main_while0b_v99 : Ref sig .tc := ⟨.hbm, 197, rfl⟩
abbrev main_while0b_v100 : Ref sig .tc := ⟨.hbm, 198, rfl⟩
abbrev main_while0b_v101 : Ref sig .tc := ⟨.hbm, 199, rfl⟩
abbrev main_while0b_v102 : Ref sig .tc := ⟨.hbm, 200, rfl⟩
abbrev main_while0b_v103 : Ref sig .tc := ⟨.hbm, 201, rfl⟩
abbrev main_while0b_v104 : Ref sig .tc := ⟨.hbm, 202, rfl⟩
abbrev main_while0b_v105 : Ref sig .tc := ⟨.hbm, 203, rfl⟩
abbrev main_while0b_v106 : Ref sig .tc := ⟨.hbm, 204, rfl⟩
abbrev main_while0b_v107 : Ref sig .tc := ⟨.hbm, 205, rfl⟩
abbrev main_while0b_v108 : Ref sig .tc := ⟨.hbm, 206, rfl⟩
abbrev main_while0b_call11_call0_cst : Ref sig .tc := ⟨.hbm, 207, rfl⟩
abbrev main_while0b_call11_call0_v0 : Ref sig .tc := ⟨.hbm, 208, rfl⟩
abbrev main_while0b_v109 : Ref sig .tc := ⟨.hbm, 209, rfl⟩
abbrev main_while0b_v110 : Ref sig .tc := ⟨.hbm, 210, rfl⟩
abbrev main_while0b_v111 : Ref sig .tc := ⟨.hbm, 211, rfl⟩
abbrev main_while0b_v112 : Ref sig .tc := ⟨.hbm, 212, rfl⟩
abbrev main_while0b_v113 : Ref sig .tc := ⟨.hbm, 213, rfl⟩
abbrev main_while0b_v114 : Ref sig .tc := ⟨.hbm, 214, rfl⟩
abbrev main_while0b_v115 : Ref sig .tc := ⟨.hbm, 215, rfl⟩
abbrev main_while0b_v116 : Ref sig .tc := ⟨.hbm, 216, rfl⟩
abbrev main_while0b_cst_43 : Ref sig .tc := ⟨.hbm, 217, rfl⟩
abbrev main_while0b_v117 : Ref sig .tc := ⟨.hbm, 218, rfl⟩
abbrev main_while0b_v118 : Ref sig .tc := ⟨.hbm, 219, rfl⟩
abbrev main_while0b_v119 : Ref sig .tc := ⟨.hbm, 220, rfl⟩
abbrev main_while0b_v120 : Ref sig .tc := ⟨.hbm, 221, rfl⟩
abbrev main_while0b_v121 : Ref sig .tc := ⟨.hbm, 222, rfl⟩
abbrev main_while0b_v122 : Ref sig .tc := ⟨.hbm, 223, rfl⟩
abbrev main_while0b_v123 : Ref sig .tc := ⟨.hbm, 224, rfl⟩
abbrev main_while0b_v124 : Ref sig .tc := ⟨.hbm, 225, rfl⟩
abbrev main_while0b_v125 : Ref sig .tc := ⟨.hbm, 226, rfl⟩
abbrev main_while0b_v126 : Ref sig .tc := ⟨.hbm, 227, rfl⟩
abbrev main_while0b_v127 : Ref sig .tc := ⟨.hbm, 228, rfl⟩
abbrev main_while0b_v128 : Ref sig .tc := ⟨.hbm, 229, rfl⟩
abbrev main_while0b_v129 : Ref sig .tc := ⟨.hbm, 230, rfl⟩
abbrev main_while0b_v130 : Ref sig .tc := ⟨.hbm, 231, rfl⟩
abbrev main_while0b_v131 : Ref sig .tc := ⟨.hbm, 232, rfl⟩
abbrev main_while0b_v132 : Ref sig .tc := ⟨.hbm, 233, rfl⟩
abbrev main_while0b_v133 : Ref sig .tc := ⟨.hbm, 234, rfl⟩
abbrev main_while0b_v134 : Ref sig .tc := ⟨.hbm, 235, rfl⟩
abbrev main_while0b_v135 : Ref sig .tc := ⟨.hbm, 236, rfl⟩
abbrev main_while0b_v136 : Ref sig .tc := ⟨.hbm, 237, rfl⟩
abbrev main_while0b_v137 : Ref sig .tc := ⟨.hbm, 238, rfl⟩
abbrev main_while0b_v138 : Ref sig .tc := ⟨.hbm, 239, rfl⟩
abbrev main_while0b_v139 : Ref sig .tc := ⟨.hbm, 240, rfl⟩
abbrev main_while0b_v140 : Ref sig .tc := ⟨.hbm, 241, rfl⟩
abbrev main_while0b_v141 : Ref sig .tc := ⟨.hbm, 242, rfl⟩
abbrev main_while0b_v142 : Ref sig .tc := ⟨.hbm, 243, rfl⟩
abbrev main_while0b_v143 : Ref sig .tc := ⟨.hbm, 244, rfl⟩
abbrev main_while0b_v144 : Ref sig .tc := ⟨.hbm, 245, rfl⟩
abbrev main_while0b_v145 : Ref sig .tc := ⟨.hbm, 246, rfl⟩
abbrev main_while0b_v146 : Ref sig .tc := ⟨.hbm, 247, rfl⟩
abbrev main_while0b_v147 : Ref sig .tc := ⟨.hbm, 248, rfl⟩
abbrev main_while0b_v148 : Ref sig .tc := ⟨.hbm, 249, rfl⟩
abbrev main_while0b_v149 : Ref sig .tc := ⟨.hbm, 250, rfl⟩
abbrev main_while0b_v150 : Ref sig .tc := ⟨.hbm, 251, rfl⟩
abbrev main_while0b_v151 : Ref sig .tc := ⟨.hbm, 252, rfl⟩
abbrev main_while0b_v152 : Ref sig .tc := ⟨.hbm, 253, rfl⟩
abbrev main_while0b_v153 : Ref sig .tc := ⟨.hbm, 254, rfl⟩
abbrev main_while0b_v154 : Ref sig .tc := ⟨.hbm, 255, rfl⟩
abbrev main_while0b_v155 : Ref sig .tc := ⟨.hbm, 256, rfl⟩
abbrev main_while0b_v156 : Ref sig .tc := ⟨.hbm, 257, rfl⟩
abbrev main_while0b_cst_44 : Ref sig .tc := ⟨.hbm, 258, rfl⟩
abbrev main_while0b_v157 : Ref sig .tc := ⟨.hbm, 259, rfl⟩
abbrev main_while0b_v158 : Ref sig .tc := ⟨.hbm, 260, rfl⟩
abbrev main_while0b_v159 : Ref sig .tc := ⟨.hbm, 261, rfl⟩
abbrev main_while0b_v160 : Ref sig .tc := ⟨.hbm, 262, rfl⟩
abbrev main_while0b_cst_45 : Ref sig .tc := ⟨.hbm, 263, rfl⟩
abbrev main_while0b_v161 : Ref sig .tc := ⟨.hbm, 264, rfl⟩
abbrev main_while0b_v162 : Ref sig .tc := ⟨.hbm, 265, rfl⟩
abbrev main_while0b_cst_46 : Ref sig .tc := ⟨.hbm, 266, rfl⟩
abbrev main_while0b_v163 : Ref sig .tc := ⟨.hbm, 267, rfl⟩
abbrev main_while0b_v164 : Ref sig .tc := ⟨.hbm, 268, rfl⟩
abbrev main_while0b_v165 : Ref sig .tc := ⟨.hbm, 269, rfl⟩
abbrev main_while0b_cst_47 : Ref sig .tc := ⟨.hbm, 270, rfl⟩
abbrev main_while0b_v166 : Ref sig .tc := ⟨.hbm, 271, rfl⟩
abbrev main_while0b_v167 : Ref sig .tc := ⟨.hbm, 272, rfl⟩
abbrev main_while0b_cst_48 : Ref sig .tc := ⟨.hbm, 273, rfl⟩
abbrev main_while0b_v168 : Ref sig .tc := ⟨.hbm, 274, rfl⟩
abbrev main_while0b_v169 : Ref sig .tc := ⟨.hbm, 275, rfl⟩
abbrev main_while0b_v170 : Ref sig .tc := ⟨.hbm, 276, rfl⟩
abbrev main_while0b_v171 : Ref sig .tc := ⟨.hbm, 277, rfl⟩
abbrev main_while0b_cst_49 : Ref sig .tc := ⟨.hbm, 278, rfl⟩
abbrev main_while0b_v172 : Ref sig .tc := ⟨.hbm, 279, rfl⟩
abbrev main_while0b_v173 : Ref sig .tc := ⟨.hbm, 280, rfl⟩
abbrev main_while0b_v174 : Ref sig .tc := ⟨.hbm, 281, rfl⟩
abbrev main_while0b_v175 : Ref sig .tc := ⟨.hbm, 282, rfl⟩
abbrev main_while0b_cst_50 : Ref sig .tc := ⟨.hbm, 283, rfl⟩
abbrev main_while0b_v176 : Ref sig .tc := ⟨.hbm, 284, rfl⟩
abbrev main_while0b_v177 : Ref sig .tc := ⟨.hbm, 285, rfl⟩
abbrev main_while0b_v178 : Ref sig .tc := ⟨.hbm, 286, rfl⟩
abbrev main_while0b_cst_51 : Ref sig .tc := ⟨.hbm, 287, rfl⟩
abbrev main_while0b_v179 : Ref sig .tc := ⟨.hbm, 288, rfl⟩
abbrev main_while0b_v180 : Ref sig .tc := ⟨.hbm, 289, rfl⟩
abbrev main_while0b_v181 : Ref sig .tc := ⟨.hbm, 290, rfl⟩
abbrev main_while0b_v182 : Ref sig .tc := ⟨.hbm, 291, rfl⟩
abbrev main_while0b_cst_52 : Ref sig .tc := ⟨.hbm, 292, rfl⟩
abbrev main_while0b_v183 : Ref sig .tc := ⟨.hbm, 293, rfl⟩
abbrev main_while0b_v184 : Ref sig .tc := ⟨.hbm, 294, rfl⟩
abbrev main_while0b_v185 : Ref sig .tc := ⟨.hbm, 295, rfl⟩
abbrev main_while0b_v186 : Ref sig .tc := ⟨.hbm, 296, rfl⟩
abbrev main_while0b_v187 : Ref sig .tc := ⟨.hbm, 297, rfl⟩
abbrev main_while0b_v188 : Ref sig .tc := ⟨.hbm, 298, rfl⟩
abbrev main_while0b_v189 : Ref sig .tc := ⟨.hbm, 299, rfl⟩
abbrev main_while0b_v190 : Ref sig .tc := ⟨.hbm, 300, rfl⟩
abbrev main_while0b_v191 : Ref sig .tc := ⟨.hbm, 301, rfl⟩
abbrev main_while0b_v192 : Ref sig .tc := ⟨.hbm, 302, rfl⟩
abbrev main_while0b_v193 : Ref sig .tc := ⟨.hbm, 303, rfl⟩
abbrev main_while0b_v194 : Ref sig .tc := ⟨.hbm, 304, rfl⟩
abbrev main_while0b_v195 : Ref sig .tc := ⟨.hbm, 305, rfl⟩
abbrev main_while0b_v196 : Ref sig .tc := ⟨.hbm, 306, rfl⟩
abbrev main_while0b_v197 : Ref sig .tc := ⟨.hbm, 307, rfl⟩
abbrev main_while0b_v198 : Ref sig .tc := ⟨.hbm, 308, rfl⟩
abbrev main_while0b_cst_53 : Ref sig .tc := ⟨.hbm, 309, rfl⟩
abbrev main_while0b_v199 : Ref sig .tc := ⟨.hbm, 310, rfl⟩
abbrev main_while0b_v200 : Ref sig .tc := ⟨.hbm, 311, rfl⟩
abbrev main_while0b_cst_54 : Ref sig .tc := ⟨.hbm, 312, rfl⟩
abbrev main_while0b_v201 : Ref sig .tc := ⟨.hbm, 313, rfl⟩
abbrev main_while0b_v202 : Ref sig .tc := ⟨.hbm, 314, rfl⟩
abbrev main_while0b_cst_55 : Ref sig .tc := ⟨.hbm, 315, rfl⟩
abbrev main_while0b_v203 : Ref sig .tc := ⟨.hbm, 316, rfl⟩
abbrev main_while0b_v204 : Ref sig .tc := ⟨.hbm, 317, rfl⟩
abbrev main_while0b_v205 : Ref sig .tc := ⟨.hbm, 318, rfl⟩
abbrev main_while0b_v206 : Ref sig .tc := ⟨.hbm, 319, rfl⟩
abbrev main_while0b_cst_56 : Ref sig .tc := ⟨.hbm, 320, rfl⟩
abbrev main_while0b_v207 : Ref sig .tc := ⟨.hbm, 321, rfl⟩
abbrev main_while0b_v208 : Ref sig .tc := ⟨.hbm, 322, rfl⟩
abbrev main_while0b_v209 : Ref sig .tc := ⟨.hbm, 323, rfl⟩
abbrev main_while0b_v210 : Ref sig .tc := ⟨.hbm, 324, rfl⟩
abbrev main_while0b_v211 : Ref sig .tc := ⟨.hbm, 325, rfl⟩
abbrev main_while0b_v212 : Ref sig .tc := ⟨.hbm, 326, rfl⟩
abbrev main_while0b_v213 : Ref sig .tc := ⟨.hbm, 327, rfl⟩
abbrev main_while0b_v214 : Ref sig .tc := ⟨.hbm, 328, rfl⟩
abbrev main_while0b_v215 : Ref sig .tc := ⟨.hbm, 329, rfl⟩
abbrev main_while0b_cst_57 : Ref sig .tc := ⟨.hbm, 330, rfl⟩
abbrev main_while0b_v216 : Ref sig .tc := ⟨.hbm, 331, rfl⟩
abbrev main_while0b_v217 : Ref sig .tc := ⟨.hbm, 332, rfl⟩
abbrev main_while0b_v218 : Ref sig .tc := ⟨.hbm, 333, rfl⟩
abbrev main_while0b_v219 : Ref sig .tc := ⟨.hbm, 334, rfl⟩
abbrev main_while0b_v220 : Ref sig .tc := ⟨.hbm, 335, rfl⟩
abbrev main_while0b_cst_58 : Ref sig .tc := ⟨.hbm, 336, rfl⟩
abbrev main_while0b_v221 : Ref sig .tc := ⟨.hbm, 337, rfl⟩
abbrev main_while0b_v222 : Ref sig .tc := ⟨.hbm, 338, rfl⟩
abbrev main_while0b_v223 : Ref sig .tc := ⟨.hbm, 339, rfl⟩
abbrev main_while0b_cst_59 : Ref sig .tc := ⟨.hbm, 340, rfl⟩
abbrev main_while0b_v224 : Ref sig .tc := ⟨.hbm, 341, rfl⟩
abbrev main_while0b_v225 : Ref sig .tc := ⟨.hbm, 342, rfl⟩
abbrev main_while0b_cst_60 : Ref sig .tc := ⟨.hbm, 343, rfl⟩
abbrev main_while0b_v226 : Ref sig .tc := ⟨.hbm, 344, rfl⟩
abbrev main_while0b_cst_61 : Ref sig .tc := ⟨.hbm, 345, rfl⟩
abbrev main_while0b_v227 : Ref sig .tc := ⟨.hbm, 346, rfl⟩
abbrev main_while0b_v228 : Ref sig .tc := ⟨.hbm, 347, rfl⟩
abbrev main_while0b_v229 : Ref sig .tc := ⟨.hbm, 348, rfl⟩
abbrev main_while0b_v230 : Ref sig .tc := ⟨.hbm, 349, rfl⟩
abbrev main_while0b_call12_call0_cst : Ref sig .tc := ⟨.hbm, 350, rfl⟩
abbrev main_while0b_call12_call0_v0 : Ref sig .tc := ⟨.hbm, 351, rfl⟩
abbrev main_while0b_v231 : Ref sig .tc := ⟨.hbm, 352, rfl⟩
abbrev main_while0b_v232 : Ref sig .tc := ⟨.hbm, 353, rfl⟩
abbrev main_while0b_cst_62 : Ref sig .tc := ⟨.hbm, 354, rfl⟩
abbrev main_while0b_v233 : Ref sig .tc := ⟨.hbm, 355, rfl⟩
abbrev main_while0b_v234 : Ref sig .tc := ⟨.hbm, 356, rfl⟩
abbrev main_while0b_v235 : Ref sig .tc := ⟨.hbm, 357, rfl⟩
abbrev main_while0b_v236 : Ref sig .tc := ⟨.hbm, 358, rfl⟩
abbrev main_while0b_v237 : Ref sig .tc := ⟨.hbm, 359, rfl⟩
abbrev main_while0b_cst_63 : Ref sig .tc := ⟨.hbm, 360, rfl⟩
abbrev main_while0b_v238 : Ref sig .tc := ⟨.hbm, 361, rfl⟩
abbrev main_while0b_v239 : Ref sig .tc := ⟨.hbm, 362, rfl⟩
abbrev main_while0b_v240 : Ref sig .tc := ⟨.hbm, 363, rfl⟩
abbrev main_while0b_v241 : Ref sig .tc := ⟨.hbm, 364, rfl⟩
abbrev main_while0b_v242 : Ref sig .tc := ⟨.hbm, 365, rfl⟩
abbrev main_while0b_v243 : Ref sig .tc := ⟨.hbm, 366, rfl⟩
abbrev main_while0b_v244 : Ref sig .tc := ⟨.hbm, 367, rfl⟩
abbrev main_while0b_v245 : Ref sig .tc := ⟨.hbm, 368, rfl⟩
abbrev main_while0b_v246 : Ref sig .tc := ⟨.hbm, 369, rfl⟩
abbrev main_while0b_v247 : Ref sig .tc := ⟨.hbm, 370, rfl⟩
abbrev main_while0b_v248 : Ref sig .tc := ⟨.hbm, 371, rfl⟩
abbrev main_while0b_v249 : Ref sig .tc := ⟨.hbm, 372, rfl⟩
abbrev main_while0b_v250 : Ref sig .tc := ⟨.hbm, 373, rfl⟩
abbrev main_while0b_v251 : Ref sig .tc := ⟨.hbm, 374, rfl⟩
abbrev main_while0b_v252 : Ref sig .tc := ⟨.hbm, 375, rfl⟩
abbrev main_while0b_v253 : Ref sig .tc := ⟨.hbm, 376, rfl⟩
abbrev main_while0b_v254 : Ref sig .tc := ⟨.hbm, 377, rfl⟩
abbrev main_while0b_v255 : Ref sig .tc := ⟨.hbm, 378, rfl⟩
abbrev main_while0b_v256 : Ref sig .tc := ⟨.hbm, 379, rfl⟩
abbrev main_while0b_v257 : Ref sig .tc := ⟨.hbm, 380, rfl⟩
abbrev main_while0b_v258 : Ref sig .tc := ⟨.hbm, 381, rfl⟩
abbrev main_while0b_v259 : Ref sig .tc := ⟨.hbm, 382, rfl⟩
abbrev main_while0b_v260 : Ref sig .tc := ⟨.hbm, 383, rfl⟩
abbrev main_while0b_v261 : Ref sig .tc := ⟨.hbm, 384, rfl⟩
abbrev main_while0b_v262 : Ref sig .tc := ⟨.hbm, 385, rfl⟩
abbrev main_while0b_v263 : Ref sig .tc := ⟨.hbm, 386, rfl⟩
abbrev main_while0b_v264 : Ref sig .tc := ⟨.hbm, 387, rfl⟩
abbrev main_while0b_v265 : Ref sig .tc := ⟨.hbm, 388, rfl⟩
abbrev main_while0b_v266 : Ref sig .tc := ⟨.hbm, 389, rfl⟩
abbrev main_while0b_v267 : Ref sig .tc := ⟨.hbm, 390, rfl⟩
abbrev main_while0b_call13_v0 : Ref sig .tc := ⟨.hbm, 391, rfl⟩
abbrev main_while0b_call13_c : Ref sig .tc := ⟨.hbm, 392, rfl⟩
abbrev main_while0b_call13_c_0 : Ref sig .tc := ⟨.hbm, 393, rfl⟩
abbrev main_while0b_call13_c_1 : Ref sig .tc := ⟨.hbm, 394, rfl⟩
abbrev main_while0b_v268 : Ref sig .tc := ⟨.hbm, 395, rfl⟩
abbrev main_while0b_call14_v0 : Ref sig .tc := ⟨.hbm, 396, rfl⟩
abbrev main_while0b_call14_c : Ref sig .tc := ⟨.hbm, 397, rfl⟩
abbrev main_while0b_call14_c_0 : Ref sig .tc := ⟨.hbm, 398, rfl⟩
abbrev main_while0b_call14_c_1 : Ref sig .tc := ⟨.hbm, 399, rfl⟩
abbrev main_while0b_v269 : Ref sig .tc := ⟨.hbm, 400, rfl⟩
abbrev main_while0b_call15_v0 : Ref sig .tc := ⟨.hbm, 401, rfl⟩
abbrev main_while0b_call15_c : Ref sig .tc := ⟨.hbm, 402, rfl⟩
abbrev main_while0b_call15_c_0 : Ref sig .tc := ⟨.hbm, 403, rfl⟩
abbrev main_while0b_call15_c_1 : Ref sig .tc := ⟨.hbm, 404, rfl⟩
abbrev main_while0b_v270 : Ref sig .tc := ⟨.hbm, 405, rfl⟩
abbrev main_while0b_call16_v0 : Ref sig .tc := ⟨.hbm, 406, rfl⟩
abbrev main_while0b_call16_c : Ref sig .tc := ⟨.hbm, 407, rfl⟩
abbrev main_while0b_call16_c_0 : Ref sig .tc := ⟨.hbm, 408, rfl⟩
abbrev main_while0b_call16_c_1 : Ref sig .tc := ⟨.hbm, 409, rfl⟩
abbrev main_while0b_call16_c_2 : Ref sig .tc := ⟨.hbm, 410, rfl⟩
abbrev main_while0b_v271 : Ref sig .tc := ⟨.hbm, 411, rfl⟩
abbrev main_while0b_call17_v0 : Ref sig .tc := ⟨.hbm, 412, rfl⟩
abbrev main_while0b_call17_c : Ref sig .tc := ⟨.hbm, 413, rfl⟩
abbrev main_while0b_call17_c_0 : Ref sig .tc := ⟨.hbm, 414, rfl⟩
abbrev main_while0b_call17_c_1 : Ref sig .tc := ⟨.hbm, 415, rfl⟩
abbrev main_while0b_v272 : Ref sig .tc := ⟨.hbm, 416, rfl⟩
abbrev main_while0b_call18_v0 : Ref sig .tc := ⟨.hbm, 417, rfl⟩
abbrev main_while0b_call18_c : Ref sig .tc := ⟨.hbm, 418, rfl⟩
abbrev main_while0b_call18_c_0 : Ref sig .tc := ⟨.hbm, 419, rfl⟩
abbrev main_while0b_call18_c_1 : Ref sig .tc := ⟨.hbm, 420, rfl⟩
abbrev main_while0b_v273 : Ref sig .tc := ⟨.hbm, 421, rfl⟩
abbrev main_while0b_call19_v0 : Ref sig .tc := ⟨.hbm, 422, rfl⟩
abbrev main_while0b_call19_c : Ref sig .tc := ⟨.hbm, 423, rfl⟩
abbrev main_while0b_call19_c_0 : Ref sig .tc := ⟨.hbm, 424, rfl⟩
abbrev main_while0b_call19_c_1 : Ref sig .tc := ⟨.hbm, 425, rfl⟩
abbrev main_while0b_v274 : Ref sig .tc := ⟨.hbm, 426, rfl⟩
abbrev main_while0b_c_64 : Ref sig .tc := ⟨.hbm, 427, rfl⟩
abbrev main_while0b_v275 : Ref sig .tc := ⟨.hbm, 428, rfl⟩
abbrev main_v71 : Ref sig .tc := ⟨.hbm, 429, rfl⟩
abbrev main_v72 : Ref sig .tc := ⟨.hbm, 430, rfl⟩
abbrev main_v73 : Ref sig .tc := ⟨.hbm, 431, rfl⟩
abbrev main_v74 : Ref sig .tc := ⟨.hbm, 432, rfl⟩
abbrev main_c_14 : Ref sig .tc := ⟨.hbm, 433, rfl⟩
abbrev main_v75 : Ref sig .tc := ⟨.hbm, 434, rfl⟩
abbrev main_v76 : Ref sig .tc := ⟨.hbm, 435, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x12288 : Shape := ⟨2, ![4096, 12288]⟩
abbrev S4096x1024 : Shape := ⟨2, ![4096, 1024]⟩
abbrev S12288x1024 : Shape := ⟨2, ![12288, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S12288x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x12288 : Shape := ⟨2, ![4096, 12288]⟩
abbrev S4096x1024 : Shape := ⟨2, ![4096, 1024]⟩
abbrev S_ : Shape := ⟨0, ![]⟩
abbrev S12288x1024 : Shape := ⟨2, ![12288, 1024]⟩
abbrev S1024x12288 : Shape := ⟨2, ![1024, 12288]⟩

abbrev nBuf : Space → Nat
  | .hbm => 11
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S_, .f32⟩
  | .hbm, ⟨3, _⟩ => ⟨S12288x1024, .f32⟩
  | .hbm, ⟨4, _⟩ => ⟨S4096x1024, .f32⟩
  | .hbm, ⟨5, _⟩ => ⟨S1024x12288, .f32⟩
  | .hbm, ⟨6, _⟩ => ⟨S4096x12288, .f32⟩
  | .hbm, ⟨7, _⟩ => ⟨S4096x12288, .f32⟩
  | .hbm, ⟨8, _⟩ => ⟨S12288x1024, .f32⟩
  | .hbm, ⟨9, _⟩ => ⟨S1024x12288, .f32⟩
  | .hbm, ⟨10, _⟩ => ⟨S12288x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x12288 : Shape := ⟨2, ![4096, 12288]⟩
abbrev S12288x1024 : Shape := ⟨2, ![12288, 1024]⟩
abbrev S4096x1024 : Shape := ⟨2, ![4096, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x12288, .bf16⟩
  | .hbm, ⟨1, _⟩ => ⟨S12288x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 12], ![false, false]⟩

def k0_cond3 (i : grid0.Coords) : BitVec 1 :=
  let arg1 : BitVec 32 := BitVec.ofNat 32 (i 1).val
  let c11_i32 : BitVec 32 := 11#32
  let v16 : BitVec 1 := Scalar.cmpi .eq arg1 c11_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S4096x12288 : Shape := ⟨2, ![4096, 12288]⟩
abbrev S12288x1024 : Shape := ⟨2, ![12288, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x12288 : Shape := ⟨2, ![1024, 12288]⟩
abbrev S1024 : Shape := ⟨1, ![1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S12288x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S12288x1024, .f32⟩
  | .hbm, ⟨25, _⟩ => ⟨S1024x12288, .f32⟩
  | .hbm, ⟨26, _⟩ => ⟨S4096x12288, .f32⟩
  | .hbm, ⟨27, _⟩ => ⟨S4096x12288, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S8x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4096x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4096x1024 : Shape := ⟨2, ![4096, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4096x1024, .bf16⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S12288x1024 : Shape := ⟨2, ![12288, 1024]⟩
abbrev S4096x12288 : Shape := ⟨2, ![4096, 12288]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S12288x1024, .bf16⟩
  | .hbm, ⟨3, _⟩ => ⟨S4096x12288, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S4096x1024 : Shape := ⟨2, ![4096, 1024]⟩
abbrev S1x1024 : Shape := ⟨2, ![1, 1024]⟩
abbrev S12288x1024 : Shape := ⟨2, ![12288, 1024]⟩
abbrev S_ : Shape := ⟨0, ![]⟩
abbrev S4096 : Shape := ⟨1, ![4096]⟩
abbrev S4096x1 : Shape := ⟨2, ![4096, 1]⟩
abbrev S1024x12288 : Shape := ⟨2, ![1024, 12288]⟩
abbrev S4096x12288 : Shape := ⟨2, ![4096, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S12288x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S12288x1024, .f32⟩
  | .hbm, ⟨19, _⟩ => ⟨S1024x12288, .f32⟩
  | .hbm, ⟨20, _⟩ => ⟨S4096x12288, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4x1024x1024 : Shape := ⟨3, ![4, 1024, 1024]⟩
abbrev S4096x4096 : Shape := ⟨2, ![4096, 4096]⟩
abbrev S8x1024 : Shape := ⟨2, ![8, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4x1024x1024, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x4096, .bf16⟩
  | .hbm, ⟨8, _⟩ => ⟨S4096x4096, .bf16⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_27 : BitVec 32 := 0#32
  let v35 : BitVec 1 := Scalar.cmpi .ne v34 c0_i32_27
  v35

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference6Ideal.lean ====
abbrev S4096x1024 : Shape := ⟨2, ![4096, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4x1024x1024, .bf16⟩
  | .hbm, ⟨4, _⟩ => ⟨S4096x1024, .bf16⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x4096, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S4096x4096, .bf16⟩
  | .hbm, ⟨94, _⟩ => ⟨S4096x4096, .bf16⟩
  | .hbm, ⟨95, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S4x3584x1024 : Shape := ⟨3, ![4, 3584, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x3584x1024, .f32⟩
  | .hbm, ⟨3, _⟩ => ⟨S4x3584x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S4096x4096 : Shape := ⟨2, ![4096, 4096]⟩
abbrev S4096x1024 : Shape := ⟨2, ![4096, 1024]⟩
abbrev S4x3584x1024 : Shape := ⟨3, ![4, 3584, 1024]⟩
abbrev S_ : Shape := ⟨0, ![]⟩
abbrev S1024x4096 : Shape := ⟨2, ![1024, 4096]⟩
abbrev S4x1024x1024 : Shape := ⟨3, ![4, 1024, 1024]⟩
abbrev S4x1536x1024 : Shape := ⟨3, ![4, 1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x3584x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .f32⟩
  | .hbm, ⟨11, _⟩ => ⟨S4x1536x1024, .f32⟩
  | .hbm, ⟨12, _⟩ => ⟨S4x3584x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S4096x1024 : Shape := ⟨2, ![4096, 1024]⟩
abbrev S4096x4096 : Shape := ⟨2, ![4096, 4096]⟩
abbrev S4x3584x1024 : Shape := ⟨3, ![4, 3584, 1024]⟩
abbrev S2048x1024 : Shape := ⟨2, ![2048, 1024]⟩
abbrev S1x1024x1024 : Shape := ⟨3, ![1, 1024, 1024]⟩
abbrev S1024x1024 : Shape := ⟨2, ![1024, 1024]⟩
abbrev S4x1024x1024 : Shape := ⟨3, ![4, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3584x1024, .f32⟩
  | .hbm, ⟨3, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference8Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelOuts.lean ====
/-
  What the kernel's outputs and scratches hold after one point: for each of the two cases of its conditional (the first point, which
  zeroes the carried gradients, and the others) the pieces that the body's run stores tile every output block.
  The text follows the frame module generated for this program.
-/
module

public import proofs.«01_k».proof.Proof.Gen.KernelIdeal.Frame.RunB
public import Idealize.ShloMosaic.Lib.Claim

@[expose] public section

-- membership in a rectangle with long axes (`View.cover_of_tiled`) unfolds once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg1 : Memref sig .tc .vmem S64x512 .f32) (harg1 : arg1.IsWhole) (arg2 : Memref sig .tc .vmem S64x512 .f32) (harg2 : arg2.IsWhole) (arg3 : Memref sig .tc .vmem S64x1024 .f32) (harg3 : arg3.IsWhole) (arg4 : Memref sig .tc .vmem S64x4096 .f32) (harg4 : arg4.IsWhole) (arg5 : Memref sig .tc .vmem S64x2048 .f32) (harg5 : arg5.IsWhole) (arg6 : Memref sig .tc .vmem S1x2048 .f32) (harg6 : arg6.IsWhole) (arg7 : Memref sig .tc .vmem S4x64x64 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S512x256 .f32) (harg10 : arg10.IsWhole) (arg11 : Memref sig .tc .vmem S64x256 .f32) (harg11 : arg11.IsWhole) (arg12 : Memref sig .tc .vmem S256x256 .f32) (harg12 : arg12.IsWhole) (arg13 : Memref sig .tc .vmem S1x512x256 .f32) (harg13 : arg13.IsWhole) (arg14 : Memref sig .tc .vmem S1x128x2048 .f32) (harg14 : arg14.IsWhole) (arg15 : Memref sig .tc .vmem S64x1024 .f32) (harg15 : arg15.IsWhole) (arg16 : Memref sig .tc .vmem S64x2048 .f32) (harg16 : arg16.IsWhole) (arg18 : Memref sig .tc .vmem S64x512 .f32) (harg18 : arg18.IsWhole) (arg19 : Memref sig .tc .vmem S64x512 .f32) (harg19 : arg19.IsWhole) (arg20 : Memref sig .tc .vmem S64x1024 .bf16) (harg20 : arg20.IsWhole) (arg21 : Memref sig .tc .vmem S64x4096 .f32) (harg21 : arg21.IsWhole) (arg22 : Memref sig .tc .vmem S64x2048 .f32) (harg22 : arg22.IsWhole) (arg23 : Memref sig .tc .vmem S1x2048 .f32) (harg23 : arg23.IsWhole) (arg24 : Memref sig .tc .vmem S512x256 .f32) (harg24 : arg24.IsWhole) (arg25 : Memref sig .tc .vmem S128x2048 .f32) (harg25 : arg25.IsWhole) (hc0 : cond0_0 i)
  (x0 : Vec F S64x512 .f32) (x1 : Vec F S64x512 .f32) (x2 : Vec F S64x1024 .f32) (x3 : Vec F S64x4096 .f32) (x4 : Vec F S64x2048 .f32) (x5 : Vec F S1x2048 .f32) (x6 : Vec F S4x64x64 .f32) (x7 : Vec F S64x512 .f32) (x8 : Vec F S64x512 .f32) (x9 : Vec F S512x256 .f32) (x10 : Vec F S64x256 .f32) (x11 : Vec F S256x256 .f32) (x12 : Vec F S1x512x256 .f32) (x13 : Vec F S1x128x2048 .f32) (x14 : Vec F S64x1024 .f32) (x15 : Vec F S64x2048 .f32)

/-- Case A's stores cover the block of output 16. -/
theorem cover0_A_16 (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).1 S64x128.size (by sl_kernel_rfl) y

/-- What case A leaves in output 16's staging buffer: its pieces read back over junk. -/
def out0_A_16 : Vec F S64x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).1)

/-- Case A's stores cover the block of output 17. -/
theorem cover0_A_17 (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.1 S64x128.size (by sl_kernel_rfl) y

/-- What case A leaves in output 17's staging buffer: its pieces read back over junk. -/
def out0_A_17 : Vec F S64x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.1)

/-- Case A's stores cover the block of output 18. -/
theorem cover0_A_18 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.1 S64x256.size (by sl_kernel_rfl) y

/-- What case A leaves in output 18's staging buffer: its pieces read back over junk. -/
def out0_A_18 : Vec F S64x1024 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.1)

/-- Case A's stores cover the block of output 19. -/
theorem cover0_A_19 (y : S64x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.1 ![64, 128] (by sl_kernel_rfl) y

/-- What case A leaves in output 19's staging buffer: its pieces read back over junk. -/
def out0_A_19 : Vec F S64x4096 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.1)

/-- Case A's stores cover the block of output 20. -/
theorem cover0_A_20 (y : S64x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.1 S64x256.size (by sl_kernel_rfl) y

/-- What case A leaves in output 20's staging buffer: its pieces read back over junk. -/
def out0_A_20 : Vec F S64x2048 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.1)

/-- Case A's stores cover the block of output 21. -/
theorem cover0_A_21 (y : S1x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.1 ![1, 256] (by sl_kernel_rfl) y

/-- What case A leaves in output 21's staging buffer: its pieces read back over junk. -/
def out0_A_21 : Vec F S1x2048 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.1)

/-- Case A's pieces for scratch `arg24`, which the kernel carries between points, cover it: one of them a store of the WHOLE buffer (Lib/Ring.lean `sl_whole_mem`). -/
theorem scover0_A_0 (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.2.1 (by sl_whole_mem) y

/-- What case A leaves in scratch `arg24`: its pieces read back over junk. -/
def sout0_A_0 : Vec F S512x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.2.1)

/-- Case A's pieces for scratch `arg25`, which the kernel carries between points, cover it: one of them a store of the WHOLE buffer (Lib/Ring.lean `sl_whole_mem`). -/
theorem scover0_A_1 (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.2.2.1 (by sl_whole_mem) y

/-- What case A leaves in scratch `arg25`: its pieces read back over junk. -/
def sout0_A_1 : Vec F S128x2048 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15).2.2.2.2.2.2.2.1)

end

section
variable (c : Dev nD) (i : grid0.Coords) (arg1 : Memref sig .tc .vmem S64x512 .f32) (harg1 : arg1.IsWhole) (arg2 : Memref sig .tc .vmem S64x512 .f32) (harg2 : arg2.IsWhole) (arg3 : Memref sig .tc .vmem S64x1024 .f32) (harg3 : arg3.IsWhole) (arg4 : Memref sig .tc .vmem S64x4096 .f32) (harg4 : arg4.IsWhole) (arg5 : Memref sig .tc .vmem S64x2048 .f32) (harg5 : arg5.IsWhole) (arg6 : Memref sig .tc .vmem S1x2048 .f32) (harg6 : arg6.IsWhole) (arg7 : Memref sig .tc .vmem S4x64x64 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S512x256 .f32) (harg10 : arg10.IsWhole) (arg11 : Memref sig .tc .vmem S64x256 .f32) (harg11 : arg11.IsWhole) (arg12 : Memref sig .tc .vmem S256x256 .f32) (harg12 : arg12.IsWhole) (arg13 : Memref sig .tc .vmem S1x512x256 .f32) (harg13 : arg13.IsWhole) (arg14 : Memref sig .tc .vmem S1x128x2048 .f32) (harg14 : arg14.IsWhole) (arg15 : Memref sig .tc .vmem S64x1024 .f32) (harg15 : arg15.IsWhole) (arg16 : Memref sig .tc .vmem S64x2048 .f32) (harg16 : arg16.IsWhole) (arg18 : Memref sig .tc .vmem S64x512 .f32) (harg18 : arg18.IsWhole) (arg19 : Memref sig .tc .vmem S64x512 .f32) (harg19 : arg19.IsWhole) (arg20 : Memref sig .tc .vmem S64x1024 .bf16) (harg20 : arg20.IsWhole) (arg21 : Memref sig .tc .vmem S64x4096 .f32) (harg21 : arg21.IsWhole) (arg22 : Memref sig .tc .vmem S64x2048 .f32) (harg22 : arg22.IsWhole) (arg23 : Memref sig .tc .vmem S1x2048 .f32) (harg23 : arg23.IsWhole) (arg24 : Memref sig .tc .vmem S512x256 .f32) (harg24 : arg24.IsWhole) (arg25 : Memref sig .tc .vmem S128x2048 .f32) (harg25 : arg25.IsWhole) (hc0 : ¬cond0_0 i)
  (x0 : Vec F S64x512 .f32) (x1 : Vec F S64x512 .f32) (x2 : Vec F S64x1024 .f32) (x3 : Vec F S64x4096 .f32) (x4 : Vec F S64x2048 .f32) (x5 : Vec F S1x2048 .f32) (x6 : Vec F S4x64x64 .f32) (x7 : Vec F S64x512 .f32) (x8 : Vec F S64x512 .f32) (x9 : Vec F S512x256 .f32) (x10 : Vec F S64x256 .f32) (x11 : Vec F S256x256 .f32) (x12 : Vec F S1x512x256 .f32) (x13 : Vec F S1x128x2048 .f32) (x14 : Vec F S64x1024 .f32) (x15 : Vec F S64x2048 .f32) (xo21 : Vec F S1x2048 .f32) (xs0 : Vec F S512x256 .f32) (xs1 : Vec F S128x2048 .f32)

/-- Case B's stores cover the block of output 16. -/
theorem cover0_B_16 (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).1 S64x128.size (by sl_kernel_rfl) y

/-- What case B leaves in output 16's staging buffer: its pieces read back over junk. -/
def out0_B_16 : Vec F S64x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).1)

/-- Case B's stores cover the block of output 17. -/
theorem cover0_B_17 (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.1 S64x128.size (by sl_kernel_rfl) y

/-- What case B leaves in output 17's staging buffer: its pieces read back over junk. -/
def out0_B_17 : Vec F S64x512 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.1)

/-- Case B's stores cover the block of output 18. -/
theorem cover0_B_18 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.1 S64x256.size (by sl_kernel_rfl) y

/-- What case B leaves in output 18's staging buffer: its pieces read back over junk. -/
def out0_B_18 : Vec F S64x1024 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.1)

/-- Case B's stores cover the block of output 19. -/
theorem cover0_B_19 (y : S64x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.1 ![64, 128] (by sl_kernel_rfl) y

/-- What case B leaves in output 19's staging buffer: its pieces read back over junk. -/
def out0_B_19 : Vec F S64x4096 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.1)

/-- Case B's stores cover the block of output 20. -/
theorem cover0_B_20 (y : S64x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.1 S64x256.size (by sl_kernel_rfl) y

/-- What case B leaves in output 20's staging buffer: its pieces read back over junk. -/
def out0_B_20 : Vec F S64x2048 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.1)

/-- Case B's stores cover the block of output 21. -/
theorem cover0_B_21 (y : S1x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.1 S1x256.size (by sl_kernel_rfl) y

/-- What case B leaves in output 21's staging buffer: its pieces read back over junk. -/
def out0_B_21 : Vec F S1x2048 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.1)

/-- Case B's pieces for scratch `arg24`, which the kernel carries between points, cover it: 4 pieces of `S128x256` tiling it (Lib/Ring.lean `Piece.tiledL`). -/
theorem scover0_B_0 (y : S512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.2.1 S128x256.size (by sl_kernel_rfl) y

/-- What case B leaves in scratch `arg24`: its pieces read back over junk. -/
def sout0_B_0 : Vec F S512x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.2.1)

/-- Case B's pieces for scratch `arg25`, which the kernel carries between points, cover it: 8 pieces of `S128x256` tiling it (Lib/Ring.lean `Piece.tiledL`). -/
theorem scover0_B_1 (y : S128x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.2.2.1 S128x256.size (by sl_kernel_rfl) y

/-- What case B leaves in scratch `arg25`: its pieces read back over junk. -/
def sout0_B_1 : Vec F S128x2048 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 harg18 arg19 harg19 arg20 harg20 arg21 harg21 arg22 harg22 arg23 harg23 arg24 harg24 arg25 harg25 hc0 x0 x1 x2 x3 x4 x5 x6 x7 x8 x9 x10 x11 x12 x13 x14 x15 xo21 xs0 xs1).2.2.2.2.2.2.2.1)

/-! ## What the outputs hold after each point -/

end

end Cert.KernelIdeal.Gen

end
-- ==== Proof.KernelFrame.lean ====
/-
  The run of the idealized kernel, with the contents of every output and carried scratch point by point: the proof data, the body's
  obligation at every point, the run of the whole program, and its frame. The text follows the frame module generated for
  this program.
-/
module

public import proofs.«01_k».proof.Proof.KernelOuts
public import Idealize.ShloMosaic.Lib.Claim

@[expose] public section

-- membership in a rectangle with long axes (`View.cover_of_tiled`) unfolds once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs and the carried scratches hold after a point, the outputs in window order, then the scratches. -/
abbrev Left (F : FTy → Type) : Type := Vec F S64x512 .f32 × Vec F S64x512 .f32 × Vec F S64x1024 .bf16 × Vec F S64x4096 .f32 × Vec F S64x2048 .f32 × Vec F S1x2048 .f32 × Vec F S512x256 .f32 × Vec F S128x2048 .f32

/-- A point of case A leaves that case's contents, at the point's memrefs and input blocks, -/
def leftA (c : Dev nD) (t : Fin cfg0.N) (h0 : t.val % 64 = 0) : Left F :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-- and a point of case B that case's, over what the point before left. -/
def leftB (c : Dev nD) (t : Fin cfg0.N) (h0 : ¬t.val % 64 = 0) (p : Left F) : Left F :=
  (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.2.2.2.2.2.1 p.2.2.2.2.2.2.1 p.2.2.2.2.2.2.2)

/-- What the outputs' staging buffers and the carried scratches hold after the body at position `n`: the case the closed forms select. -/
def outsAt0 (c : Dev nD) : (n : ℕ) → n < cfg0.N → Left F
  | 0, hn => leftA m c ⟨0, hn⟩ (Nat.zero_mod _)
  | n + 1, hn => if h0 : (n + 1) % 64 = 0 then leftA m c ⟨n + 1, hn⟩ h0 else leftB m c ⟨n + 1, hn⟩ h0 (outsAt0 c n (Nat.lt_of_succ_lt hn))

/-- `outsAt0` at a point of case A: that case's contents. -/
theorem outsAt0_A (c : Dev nD) (t : Fin cfg0.N) (h0 : t.val % 64 = 0) :
    outsAt0 m c t.val t.isLt = leftA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = leftB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨_ + 22, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 64 = 0) (d) :
    (dats m 0 c).before 21 t d = (outsAt0 m c (t.val - 1) (Nat.lt_of_le_of_lt (Nat.sub_le _ _) t.isLt)).2.2.2.2.2.1 := by
  have hN : t.val < 64 := lt_of_lt_of_eq t.isLt (show cfg0.N = 64 from N_0)
  rw [Dat.before_out_kept _ 21 rfl t (by omega) (Bool.eq_false_iff.mpr fun h => by have := (flush0_21 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0, leftA]
      unfold out0_A_16 out0_A_17 out0_A_18 out0_A_19 out0_A_20 out0_A_21 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H21
      ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0, leftB]
      simp only [before0_21_B m c t h0]
      unfold out0_B_16 out0_B_17 out0_B_18 out0_B_19 out0_B_20 out0_B_21 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexact H21
      isplitl [HS0]; · iexact HS0
      isplitl [HS1]; · iexact HS1
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H21
      ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in  -- 22 windows and two scratches: the body's triple is a long term
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.ReferenceRun.lean ====
/-
  The reference's run over the step of Gen/ReferenceIdeal/Step.lean. At a valuation that holds a state, every value of one trip is
  that module's, one lemma each, so one trip applies `step`; what comes before the loop holds `init`; and the results are the fields
  of `step` iterated from `init`. The text follows the module generated for this program; the seven lemmas on the fields that a trip
  writes end with `exact` here.
-/
module

public import proofs.«01_k».proof.Proof.Gen.ReferenceIdeal.Run
public import proofs.«01_k».proof.Proof.Gen.ReferenceIdeal.Step

@[expose] public section

set_option maxRecDepth 8192

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The contents of one buffer of the core. -/
abbrev At (F : FTy → Type) (v : Ref sig .tc) : Type := (Proc.devRef .tc v : DevRef τ sig).ty.Contents (Elt F)

variable {F : FTy → Type} [FloatOps F]

variable (V0 : Valuation τ sig (Elt F)) (s : State F) (j : ℕ)

/-- The valuation holds the state, the set-up values and the trip's number. -/
structure Holds : Prop where
  f_17 : V0 (Proc.devRef .tc main_v70_17) = s.main_v70_17
  f_18 : V0 (Proc.devRef .tc main_v70_18) = s.main_v70_18
  f_19 : V0 (Proc.devRef .tc main_v70_19) = s.main_v70_19
  f_20 : V0 (Proc.devRef .tc main_v70_20) = s.main_v70_20
  f_21 : V0 (Proc.devRef .tc main_v70_21) = s.main_v70_21
  f_22 : V0 (Proc.devRef .tc main_v70_22) = s.main_v70_22
  f_23 : V0 (Proc.devRef .tc main_v70_23) = s.main_v70_23
  f_24 : V0 (Proc.devRef .tc main_v70_24) = s.main_v70_24
  f_25 : V0 (Proc.devRef .tc main_v70_25) = s.main_v70_25
  f_26 : V0 (Proc.devRef .tc main_v70_26) = s.main_v70_26
  f_0 : V0 (Proc.devRef .tc main_v70_0) = s.main_v70_0
  f_1 : V0 (Proc.devRef .tc main_v70_1) = s.main_v70_1
  f_2 : V0 (Proc.devRef .tc main_v70_2) = s.main_v70_2
  f_3 : V0 (Proc.devRef .tc main_v70_3) = s.main_v70_3
  f_4 : V0 (Proc.devRef .tc main_v70_4) = s.main_v70_4
  f_5 : V0 (Proc.devRef .tc main_v70_5) = s.main_v70_5
  f_6 : V0 (Proc.devRef .tc main_v70_6) = s.main_v70_6
  f_7 : V0 (Proc.devRef .tc main_v70_7) = s.main_v70_7
  f_8 : V0 (Proc.devRef .tc main_v70_8) = s.main_v70_8
  f_9 : V0 (Proc.devRef .tc main_v70_9) = s.main_v70_9
  f_10 : V0 (Proc.devRef .tc main_v70_10) = s.main_v70_10
  f_15 : V0 (Proc.devRef .tc main_v70_15) = s.main_v70_15
  n_16 : V0 (Proc.devRef .tc main_v70_16) = constantI S_ 32 (BitVec.ofNat 32 j)
  k_11 : V0 (Proc.devRef .tc main_v70_11) = Step.K_main_v19 (F := F)
  k_12 : V0 (Proc.devRef .tc main_v70_12) = Step.K_main_v28 (F := F)
  k_13 : V0 (Proc.devRef .tc main_v70_13) = Step.K_main_v40 (F := F)
  k_14 : V0 (Proc.devRef .tc main_v70_14) = Step.K_main_v37 (F := F)

variable {V0 s j}

theorem al_0 (h : Holds V0 s j) : (constantI S_ 32 64#32 : At F main_while0b_c_41) = Step.b0 j s := by
  unfold Step.b0
  rfl
theorem al_1 (h : Holds V0 s j) : (subi (constantI S_ 32 64#32) (V0 (Proc.devRef .tc main_v70_16)) : At F main_while0b_v77) = Step.b1 j s := by
  unfold Step.b1
  rw [← al_0 h, h.n_16]
  try rfl
theorem al_2 (h : Holds V0 s j) : (constantI S_ 32 1#32 : At F main_while0b_c_42) = Step.b2 j s := by
  unfold Step.b2
  rfl
theorem al_3 (h : Holds V0 s j) : (res_main_while0b_v78 V0 : At F main_while0b_v78) = Step.b3 j s := by
  unfold res_main_while0b_v78 Step.b3
  rw [← al_1 h, ← al_2 h]
  try rfl
theorem al_4 (h : Holds V0 s j) : (constantI S_ 32 0#32 : At F main_while0b_call0_c) = Step.b4 j s := by
  unfold Step.b4
  rfl
theorem al_5 (h : Holds V0 s j) : (constantI S_ 32 0#32 : At F main_while0b_call0_c_0) = Step.b5 j s := by
  unfold Step.b5
  rfl
theorem al_6 (h : Holds V0 s j) : (constantI S_ 32 0#32 : At F main_while0b_call0_c_1) = Step.b6 j s := by
  unfold Step.b6
  rfl
theorem al_7 (h : Holds V0 s j) : (Host.dynamicSlice S1x4x128x256 (V0 (Proc.devRef .tc main_v70_0)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x4x128x256_S1x4x128x256 : At F main_while0b_call0_v0) = Step.b7 j s := by
  unfold Step.b7
  rw [← al_3 h, ← al_4 h, ← al_5 h, ← al_6 h, h.f_0]
  try rfl
theorem al_8 (h : Holds V0 s j) : (res_main_while0b_v79 V0 : At F main_while0b_v79) = Step.b8 j s := by
  unfold res_main_while0b_v79 Step.b8
  rw [← al_7 h]
  try rfl
theorem al_9 (h : Holds V0 s j) : (constantI S_ 32 0#32 : At F main_while0b_call1_c) = Step.b9 j s := by
  unfold Step.b9
  rfl
theorem al_10 (h : Holds V0 s j) : (constantI S_ 32 0#32 : At F main_while0b_call1_c_0) = Step.b10 j s := by
  unfold Step.b10
  rfl
theorem al_11 (h : Holds V0 s j) : (constantI S_ 32 0#32 : At F main_while0b_call1_c_1) = Step.b11 j s := by
  unfold Step.b11
  rfl
theorem al_12 (h : Holds V0 s j) : (constantI S_ 32 0#32 : At F main_while0b_call1_c_2) = Step.b12 j s := by
  unfold Step.b12
  rfl
theorem al_13 (h : Holds V0 s j) : (Host.dynamicSlice S1x8x4x64x128 (V0 (Proc.devRef .tc main_v70_1)) (fun k => (((![res_main_while0b_v78 V0, constantI S_ 32 0#32, constantI S_ 32 0#32, constantI S_ 32 0#32, constantI S_ 32 0#32] : Fin 5 → (⟨S_, .i32⟩ : BufTy).Contents (Elt F))) k (Shape.Idx.first h_S_)).toInt) sliceFits_S64x8x4x64x128_S1x8x4x64x128 : At F main_while0b_call1_v0) = Step.b13 j s := by
  unfold Step.b13
  rw [← al_3 h, ← al_9 h, ← al_10 h, ← al_11 h, ← al_12 h, h.f_1]
  try rfl
theorem al_14 (h : Holds V0 s j) : (res_main_while0b_v80 V0 : At F main_while0b_v80) = Step.b14 j s := by
  unfold res_main_while0b_v80 Step.b14
  rw [← al_13 h]
  try rfl
theorem al_15 (h : Holds V0 s j) : (constantI S_ 32 0#32 : At F main_while0b_call2_c) = Step.b15 j s := by
  unfold Step.b15
  rfl
theorem al_16 (h : Holds V0 s j) : (constantI S_ 32 0#32 : At F main_while0b_call2_c_0) = Step.b16 j s := by
  unfold Step.b16
  rfl
theorem al_17 (h : Holds V0 s j) : (constantI S_ 32 0#32 : At F main_while0b_call2_c_1) = Step.b17 j s := by
  unfold Step.b17
  rfl
theorem al_18 (h : Holds V0 s j) : (Host.dynamicSlice S1x64x4x128 (V0 (Proc.devRef .tc main_v70_2)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x4x128_S1x64x4x128 : At F main_while0b_call2_v0) = Step.b18 j s := by
  unfold Step.b18
  rw [← al_3 h, ← al_15 h, ← al_16 h, ← al_17 h, h.f_2]
  try rfl
theorem al_19 (h : Holds V0 s j) : (res_main_while0b_v81 V0 : At F main_while0b_v81) = Step.b19 j s := by
  unfold res_main_while0b_v81 Step.b19
  rw [← al_18 h]
  try rfl
theorem al_20 (h : Holds V0 s j) : (constantI S_ 32 0#32 : At F main_while0b_call3_c) = Step.b20 j s := by
  unfold Step.b20
  rfl
theorem al_21 (h : Holds V0 s j) : (constantI S_ 32 0#32 : At F main_while0b_call3_c_0) = Step.b21 j s := by
  unfold Step.b21
  rfl
theorem al_22 (h : Holds V0 s j) : (constantI S_ 32 0#32 : At F main_while0b_call3_c_1) = Step.b22 j s := by
  unfold Step.b22
  rfl
theorem al_23 (h : Holds V0 s j) : (Host.dynamicSlice S1x64x4x128 (V0 (Proc.devRef .tc main_v70_3)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x4x128_S1x64x4x128 : At F main_while0b_call3_v0) = Step.b23 j s := by
  unfold Step.b23
  rw [← al_3 h, ← al_20 h, ← al_21 h, ← al_22 h, h.f_3]
  try rfl
theorem al_24 (h : Holds V0 s j) : (res_main_while0b_v82 V0 : At F main_while0b_v82) = Step.b24 j s := by
  unfold res_main_while0b_v82 Step.b24
  rw [← al_23 h]
  try rfl
theorem al_25 (h : Holds V0 s j) : (constantI S_ 32 0#32 : At F main_while0b_call4_c) = Step.b25 j s := by
  unfold Step.b25
  rfl
theorem al_26 (h : Holds V0 s j) : (constantI S_ 32 0#32 : At F main_while0b_call4_c_0) = Step.b26 j s := by
  unfold Step.b26
  rfl
theorem al_27 (h : Holds V0 s j) : (constantI S_ 32 0#32 : At F main_while0b_call4_c_1) = Step.b27 j s := by
  unfold Step.b27
  rfl
theorem al_28 (h : Holds V0 s j) : (Host.dynamicSlice S1x64x4x256 (V0 (Proc.devRef .tc main_v70_4)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x4x256_S1x64x4x256 : At F main_while0b_call4_v0) = Step.b28 j s := by
  unfold Step.b28
  rw [← al_3 h, ← al_25 h, ← al_26 h, ← al_27 h, h.f_4]
  try rfl
theorem al_29 (h : Holds V0 s j) : (res_main_while0b_v83 V0 : At F main_while0b_v83) = Step.b29 j s := by
  unfold res_main_while0b_v83 Step.b29
  rw [← al_28 h]
  try rfl
theorem al_30 (h : Holds V0 s j) : (constantI S_ 32 0#32 : At F main_while0b_call5_c) = Step.b30 j s := by
  unfold Step.b30
  rfl
theorem al_31 (h : Holds V0 s j) : (constantI S_ 32 0#32 : At F main_while0b_call5_c_0) = Step.b31 j s := by
  unfold Step.b31
  rfl
theorem al_32 (h : Holds V0 s j) : (constantI S_ 32 0#32 : At F main_while0b_call5_c_1) = Step.b32 j s := by
  unfold Step.b32
  rfl
theorem al_33 (h : Holds V0 s j) : (constantI S_ 32 0#32 : At F main_while0b_call5_c_2) = Step.b33 j s := by
  unfold Step.b33
  rfl
theorem al_34 (h : Holds V0 s j) : (Host.dynamicSlice S1x64x8x4x64 (V0 (Proc.devRef .tc main_v70_5)) (fun k => (((![res_main_while0b_v78 V0, constantI S_ 32 0#32, constantI S_ 32 0#32, constantI S_ 32 0#32, constantI S_ 32 0#32] : Fin 5 → (⟨S_, .i32⟩ : BufTy).Contents (Elt F))) k (Shape.Idx.first h_S_)).toInt) sliceFits_S64x64x8x4x64_S1x64x8x4x64 : At F main_while0b_call5_v0) = Step.b34 j s := by
  unfold Step.b34
  rw [← al_3 h, ← al_30 h, ← al_31 h, ← al_32 h, ← al_33 h, h.f_5]
  try rfl
theorem al_35 (h : Holds V0 s j) : (res_main_while0b_v84 V0 : At F main_while0b_v84) = Step.b35 j s := by
  unfold res_main_while0b_v84 Step.b35
  rw [← al_34 h]
  try rfl
theorem al_36 (h : Holds V0 s j) : (constantI S_ 32 0#32 : At F main_while0b_call6_c) = Step.b36 j s := by
  unfold Step.b36
  rfl
theorem al_37 (h : Holds V0 s j) : (constantI S_ 32 0#32 : At F main_while0b_call6_c_0) = Step.b37 j s := by
  unfold Step.b37
  rfl
theorem al_38 (h : Holds V0 s j) : (constantI S_ 32 0#32 : At F main_while0b_call6_c_1) = Step.b38 j s := by
  unfold Step.b38
  rfl
theorem al_39 (h : Holds V0 s j) : (Host.dynamicSlice S1x64x8x4 (V0 (Proc.devRef .tc main_v70_6)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x8x4_S1x64x8x4 : At F main_while0b_call6_v0) = Step.b39 j s := by
  unfold Step.b39
  rw [← al_3 h, ← al_36 h, ← al_37 h, ← al_38 h, h.f_6]
  try rfl
theorem al_40 (h : Holds V0 s j) : (res_main_while0b_v85 V0 : At F main_while0b_v85) = Step.b40 j s := by
  unfold res_main_while0b_v85 Step.b40
  rw [← al_39 h]
  try rfl
theorem al_41 (h : Holds V0 s j) : (constantI S_ 32 0#32 : At F main_while0b_call7_c) = Step.b41 j s := by
  unfold Step.b41
  rfl
theorem al_42 (h : Holds V0 s j) : (constantI S_ 32 0#32 : At F main_while0b_call7_c_0) = Step.b42 j s := by
  unfold Step.b42
  rfl
theorem al_43 (h : Holds V0 s j) : (constantI S_ 32 0#32 : At F main_while0b_call7_c_1) = Step.b43 j s := by
  unfold Step.b43
  rfl
theorem al_44 (h : Holds V0 s j) : (Host.dynamicSlice S1x64x8x128 (V0 (Proc.devRef .tc main_v70_7)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x8x128_S1x64x8x128 : At F main_while0b_call7_v0) = Step.b44 j s := by
  unfold Step.b44
  rw [← al_3 h, ← al_41 h, ← al_42 h, ← al_43 h, h.f_7]
  try rfl
theorem al_45 (h : Holds V0 s j) : (res_main_while0b_v86 V0 : At F main_while0b_v86) = Step.b45 j s := by
  unfold res_main_while0b_v86 Step.b45
  rw [← al_44 h]
  try rfl
theorem al_46 (h : Holds V0 s j) : (constantI S_ 32 0#32 : At F main_while0b_call8_c) = Step.b46 j s := by
  unfold Step.b46
  rfl
theorem al_47 (h : Holds V0 s j) : (constantI S_ 32 0#32 : At F main_while0b_call8_c_0) = Step.b47 j s := by
  unfold Step.b47
  rfl
theorem al_48 (h : Holds V0 s j) : (constantI S_ 32 0#32 : At F main_while0b_call8_c_1) = Step.b48 j s := by
  unfold Step.b48
  rfl
theorem al_49 (h : Holds V0 s j) : (Host.dynamicSlice S1x64x8x128 (V0 (Proc.devRef .tc main_v70_8)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x8x128_S1x64x8x128 : At F main_while0b_call8_v0) = Step.b49 j s := by
  unfold Step.b49
  rw [← al_3 h, ← al_46 h, ← al_47 h, ← al_48 h, h.f_8]
  try rfl
theorem al_50 (h : Holds V0 s j) : (res_main_while0b_v87 V0 : At F main_while0b_v87) = Step.b50 j s := by
  unfold res_main_while0b_v87 Step.b50
  rw [← al_49 h]
  try rfl
theorem al_51 (h : Holds V0 s j) : (constantI S_ 32 0#32 : At F main_while0b_call9_c) = Step.b51 j s := by
  unfold Step.b51
  rfl
theorem al_52 (h : Holds V0 s j) : (constantI S_ 32 0#32 : At F main_while0b_call9_c_0) = Step.b52 j s := by
  unfold Step.b52
  rfl
theorem al_53 (h : Holds V0 s j) : (constantI S_ 32 0#32 : At F main_while0b_call9_c_1) = Step.b53 j s := by
  unfold Step.b53
  rfl
theorem al_54 (h : Holds V0 s j) : (Host.dynamicSlice S1x64x4x256 (V0 (Proc.devRef .tc main_v70_9)) (fun k => (((![res_main_while0b_v78 V0, constantI S_ 32 0#32, constantI S_ 32 0#32, constantI S_ 32 0#32] : Fin 4 → (⟨S_, .i32⟩ : BufTy).Contents (Elt F))) k (Shape.Idx.first h_S_)).toInt) sliceFits_S64x64x4x256_S1x64x4x256 : At F main_while0b_call9_v0) = Step.b54 j s := by
  unfold Step.b54
  rw [← al_3 h, ← al_51 h, ← al_52 h, ← al_53 h, h.f_9]
  try rfl
theorem al_55 (h : Holds V0 s j) : (res_main_while0b_v88 V0 : At F main_while0b_v88) = Step.b55 j s := by
  unfold res_main_while0b_v88 Step.b55
  rw [← al_54 h]
  try rfl
theorem al_56 (h : Holds V0 s j) : (constantI S_ 32 0#32 : At F main_while0b_call10_c) = Step.b56 j s := by
  unfold Step.b56
  rfl
theorem al_57 (h : Holds V0 s j) : (constantI S_ 32 0#32 : At F main_while0b_call10_c_0) = Step.b57 j s := by
  unfold Step.b57
  rfl
theorem al_58 (h : Holds V0 s j) : (constantI S_ 32 0#32 : At F main_while0b_call10_c_1) = Step.b58 j s := by
  unfold Step.b58
  rfl
theorem al_59 (h : Holds V0 s j) : (constantI S_ 32 0#32 : At F main_while0b_call10_c_2) = Step.b59 j s := by
  unfold Step.b59
  rfl
theorem al_60 (h : Holds V0 s j) : (Host.dynamicSlice S1x64x8x4x64 (V0 (Proc.devRef .tc main_v70_10)) (fun k => (((![res_main_while0b_v78 V0, constantI S_ 32 0#32, constantI S_ 32 0#32, constantI S_ 32 0#32, constantI S_ 32 0#32] : Fin 5 → (⟨S_, .i32⟩ : BufTy).Contents (Elt F))) k (Shape.Idx.first h_S_)).toInt) sliceFits_S64x64x8x4x64_S1x64x8x4x64 : At F main_while0b_call10_v0) = Step.b60 j s := by
  unfold Step.b60
  rw [← al_3 h, ← al_56 h, ← al_57 h, ← al_58 h, ← al_59 h, h.f_10]
  try rfl
theorem al_61 (h : Holds V0 s j) : (res_main_while0b_v89 V0 : At F main_while0b_v89) = Step.b61 j s := by
  unfold res_main_while0b_v89 Step.b61
  rw [← al_60 h]
  try rfl
theorem al_62 (h : Holds V0 s j) : (Host.dotGeneral dot_S64x4x128_S64x4x128_S4x64x64_2_2_0_0_1_1 none (res_main_while0b_v81 V0) (res_main_while0b_v82 V0) : At F main_while0b_v90) = Step.b62 j s := by
  unfold Step.b62
  rw [← al_19 h, ← al_24 h]
  try rfl
theorem al_63 (h : Holds V0 s j) : (res_main_while0b_v91 V0 : At F main_while0b_v91) = Step.b63 j s := by
  unfold res_main_while0b_v91 Step.b63
  rw [← al_62 h, h.k_11]
  try rfl
theorem al_64 (h : Holds V0 s j) : (Host.dotGeneral dot_S64x4x256_S4x64x64_S4x256x64_0_2_2_1_1_0 none (res_main_while0b_v83 V0) (res_main_while0b_v91 V0) : At F main_while0b_v92) = Step.b64 j s := by
  unfold Step.b64
  rw [← al_29 h, ← al_63 h]
  try rfl
theorem al_65 (h : Holds V0 s j) : (transpose S64x4x256 [2, 0, 1] (Host.dotGeneral dot_S64x4x256_S4x64x64_S4x256x64_0_2_2_1_1_0 none (res_main_while0b_v83 V0) (res_main_while0b_v91 V0)) transposes_S4x256x64_S64x4x256_2_0_1 : At F main_while0b_v93) = Step.b65 j s := by
  unfold Step.b65
  rw [← al_64 h]
  try rfl
theorem al_66 (h : Holds V0 s j) : (broadcastInDim S64x4x128 ![0, 1, 2] bcast_S64x4x1_S64x4x128_0_1_2 (V0 (Proc.devRef .tc main_v70_12)) : At F main_while0b_v94) = Step.b66 j s := by
  unfold Step.b66
  rw [h.k_12]
  try rfl
theorem al_67 (h : Holds V0 s j) : (res_main_while0b_v95 V0 : At F main_while0b_v95) = Step.b67 j s := by
  unfold res_main_while0b_v95 Step.b67
  rw [← al_19 h, ← al_66 h]
  try rfl
theorem al_68 (h : Holds V0 s j) : (Host.dotGeneral dot_S4x128x256_S64x4x128_S4x256x64_1_2_2_0_0_1 none (res_main_while0b_v79 V0) (res_main_while0b_v95 V0) : At F main_while0b_v96) = Step.b68 j s := by
  unfold Step.b68
  rw [← al_8 h, ← al_67 h]
  try rfl
theorem al_69 (h : Holds V0 s j) : (transpose S64x4x256 [2, 0, 1] (Host.dotGeneral dot_S4x128x256_S64x4x128_S4x256x64_1_2_2_0_0_1 none (res_main_while0b_v79 V0) (res_main_while0b_v95 V0)) transposes_S4x256x64_S64x4x256_2_0_1 : At F main_while0b_v97) = Step.b69 j s := by
  unfold Step.b69
  rw [← al_68 h]
  try rfl
theorem al_70 (h : Holds V0 s j) : (addf (transpose S64x4x256 [2, 0, 1] (Host.dotGeneral dot_S64x4x256_S4x64x64_S4x256x64_0_2_2_1_1_0 none (res_main_while0b_v83 V0) (res_main_while0b_v91 V0)) transposes_S4x256x64_S64x4x256_2_0_1) (transpose S64x4x256 [2, 0, 1] (Host.dotGeneral dot_S4x128x256_S64x4x128_S4x256x64_1_2_2_0_0_1 none (res_main_while0b_v79 V0) (res_main_while0b_v95 V0)) transposes_S4x256x64_S64x4x256_2_0_1) : At F main_while0b_v98) = Step.b70 j s := by
  unfold Step.b70
  rw [← al_65 h, ← al_69 h]
  try rfl
theorem al_71 (h : Holds V0 s j) : (res_main_while0b_v99 V0 : At F main_while0b_v99) = Step.b71 j s := by
  unfold res_main_while0b_v99 Step.b71
  rw [h.k_13]
  try rfl
theorem al_72 (h : Holds V0 s j) : (broadcastInDim S4x128x256 ![0, 1, 2] bcast_S4x1x1_S4x128x256_0_1_2 (res_main_while0b_v99 V0) : At F main_while0b_v100) = Step.b72 j s := by
  unfold Step.b72
  rw [← al_71 h]
  try rfl
theorem al_73 (h : Holds V0 s j) : (mulf (res_main_while0b_v79 V0) (broadcastInDim S4x128x256 ![0, 1, 2] bcast_S4x1x1_S4x128x256_0_1_2 (res_main_while0b_v99 V0)) : At F main_while0b_v101) = Step.b73 j s := by
  unfold Step.b73
  rw [← al_8 h, ← al_72 h]
  try rfl
theorem al_74 (h : Holds V0 s j) : (broadcastInDim S64x4x128 ![0, 1, 2] bcast_S64x4x1_S64x4x128_0_1_2 (V0 (Proc.devRef .tc main_v70_14)) : At F main_while0b_v102) = Step.b74 j s := by
  unfold Step.b74
  rw [h.k_14]
  try rfl
theorem al_75 (h : Holds V0 s j) : (res_main_while0b_v103 V0 : At F main_while0b_v103) = Step.b75 j s := by
  unfold res_main_while0b_v103 Step.b75
  rw [← al_24 h, ← al_74 h]
  try rfl
theorem al_76 (h : Holds V0 s j) : (Host.dotGeneral dot_S64x4x128_S64x4x256_S4x128x256_0_0_2_2_1_1 none (res_main_while0b_v103 V0) (res_main_while0b_v83 V0) : At F main_while0b_v104) = Step.b76 j s := by
  unfold Step.b76
  rw [← al_75 h, ← al_29 h]
  try rfl
theorem al_77 (h : Holds V0 s j) : (addf (mulf (res_main_while0b_v79 V0) (broadcastInDim S4x128x256 ![0, 1, 2] bcast_S4x1x1_S4x128x256_0_1_2 (res_main_while0b_v99 V0))) (Host.dotGeneral dot_S64x4x128_S64x4x256_S4x128x256_0_0_2_2_1_1 none (res_main_while0b_v103 V0) (res_main_while0b_v83 V0)) : At F main_while0b_v105) = Step.b77 j s := by
  unfold Step.b77
  rw [← al_73 h, ← al_76 h]
  try rfl
theorem al_78 (h : Holds V0 s j) : (res_main_while0b_v106 V0 : At F main_while0b_v106) = Step.b78 j s := by
  unfold res_main_while0b_v106 Step.b78
  rw [h.f_15]
  try rfl
theorem al_79 (h : Holds V0 s j) : (broadcastInDim S64x8x4 ![0, 1, 2] bcast_S1x8x4_S64x8x4_0_1_2 (res_main_while0b_v106 V0) : At F main_while0b_v107) = Step.b79 j s := by
  unfold Step.b79
  rw [← al_78 h]
  try rfl
theorem al_80 (h : Holds V0 s j) : (mulf (res_main_while0b_v85 V0) (broadcastInDim S64x8x4 ![0, 1, 2] bcast_S1x8x4_S64x8x4_0_1_2 (res_main_while0b_v106 V0)) : At F main_while0b_v108) = Step.b80 j s := by
  unfold Step.b80
  rw [← al_40 h, ← al_79 h]
  try rfl
theorem al_81 (h : Holds V0 s j) : (constant S_ .f32 0x00000000#32 : At F main_while0b_call11_call0_cst) = Step.b81 j s := by
  unfold Step.b81
  rfl
theorem al_82 (h : Holds V0 s j) : (broadcastInDim S_ ![] bcast_S_S_ (constant S_ .f32 0x00000000#32) : At F main_while0b_call11_call0_v0) = Step.b82 j s := by
  unfold Step.b82
  rw [← al_81 h]
  try rfl
theorem al_83 (h : Holds V0 s j) : (res_main_while0b_v109 V0 : At F main_while0b_v109) = Step.b83 j s := by
  unfold res_main_while0b_v109 Step.b83
  rw [← al_80 h, ← al_82 h]
  try rfl
theorem al_84 (h : Holds V0 s j) : (res_main_while0b_v110 V0 : At F main_while0b_v110) = Step.b84 j s := by
  unfold res_main_while0b_v110 Step.b84
  rw [← al_83 h]
  try rfl
theorem al_85 (h : Holds V0 s j) : (broadcastInDim S8x4x64x1 ![0, 1, 2] bcast_S8x4x64_S8x4x64x1_0_1_2 (res_main_while0b_v110 V0) : At F main_while0b_v111) = Step.b85 j s := by
  unfold Step.b85
  rw [← al_84 h]
  try rfl
theorem al_86 (h : Holds V0 s j) : (broadcastInDim S8x4x1x64 ![0, 1, 3] bcast_S8x4x64_S8x4x1x64_0_1_3 (res_main_while0b_v110 V0) : At F main_while0b_v112) = Step.b86 j s := by
  unfold Step.b86
  rw [← al_84 h]
  try rfl
theorem al_87 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (res_main_while0b_v110 V0)) : At F main_while0b_v113) = Step.b87 j s := by
  unfold Step.b87
  rw [← al_85 h]
  try rfl
theorem al_88 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (res_main_while0b_v110 V0)) : At F main_while0b_v114) = Step.b88 j s := by
  unfold Step.b88
  rw [← al_86 h]
  try rfl
theorem al_89 (h : Holds V0 s j) : (res_main_while0b_v115 V0 : At F main_while0b_v115) = Step.b89 j s := by
  unfold res_main_while0b_v115 Step.b89
  rw [← al_87 h, ← al_88 h]
  try rfl
theorem al_90 (h : Holds V0 s j) : (Host.absf (res_main_while0b_v115 V0) : At F main_while0b_v116) = Step.b90 j s := by
  unfold Step.b90
  rw [← al_89 h]
  try rfl
theorem al_91 (h : Holds V0 s j) : (constant S_ .f32 0x00000000#32 : At F main_while0b_cst_43) = Step.b91 j s := by
  unfold Step.b91
  rfl
theorem al_92 (h : Holds V0 s j) : (broadcastInDim S8x4x64x64 ![] bcast_S_S8x4x64x64 (constant S_ .f32 0x00000000#32) : At F main_while0b_v117) = Step.b92 j s := by
  unfold Step.b92
  rw [← al_91 h]
  try rfl
theorem al_93 (h : Holds V0 s j) : (res_main_while0b_v118 V0 : At F main_while0b_v118) = Step.b93 j s := by
  unfold res_main_while0b_v118 Step.b93
  rw [← al_89 h, ← al_92 h]
  try rfl
theorem al_94 (h : Holds V0 s j) : (Host.negf (Host.absf (res_main_while0b_v115 V0)) : At F main_while0b_v119) = Step.b94 j s := by
  unfold Step.b94
  rw [← al_90 h]
  try rfl
theorem al_95 (h : Holds V0 s j) : (res_main_while0b_v120 V0 : At F main_while0b_v120) = Step.b95 j s := by
  unfold res_main_while0b_v120 Step.b95
  rw [← al_94 h]
  try rfl
theorem al_96 (h : Holds V0 s j) : (Host.dotGeneral dot_S64x8x128_S64x8x128_S8x64x64_2_2_0_0_1_1 none (res_main_while0b_v87 V0) (res_main_while0b_v86 V0) : At F main_while0b_v121) = Step.b96 j s := by
  unfold Step.b96
  rw [← al_50 h, ← al_45 h]
  try rfl
theorem al_97 (h : Holds V0 s j) : (res_main_while0b_v122 V0 : At F main_while0b_v122) = Step.b97 j s := by
  unfold res_main_while0b_v122 Step.b97
  rw [← al_40 h]
  try rfl
theorem al_98 (h : Holds V0 s j) : (broadcastInDim S64x8x4x64 ![0, 1, 2, 3] bcast_S64x8x4x1_S64x8x4x64_0_1_2_3 (res_main_while0b_v122 V0) : At F main_while0b_v123) = Step.b98 j s := by
  unfold Step.b98
  rw [← al_97 h]
  try rfl
theorem al_99 (h : Holds V0 s j) : (res_main_while0b_v124 V0 : At F main_while0b_v124) = Step.b99 j s := by
  unfold res_main_while0b_v124 Step.b99
  rw [← al_35 h, ← al_98 h]
  try rfl
theorem al_100 (h : Holds V0 s j) : (res_main_while0b_v125 V0 : At F main_while0b_v125) = Step.b100 j s := by
  unfold res_main_while0b_v125 Step.b100
  rw [← al_96 h]
  try rfl
theorem al_101 (h : Holds V0 s j) : (broadcastInDim S8x4x64x64 ![0, 1, 2, 3] bcast_S8x1x64x64_S8x4x64x64_0_1_2_3 (res_main_while0b_v125 V0) : At F main_while0b_v126) = Step.b101 j s := by
  unfold Step.b101
  rw [← al_100 h]
  try rfl
theorem al_102 (h : Holds V0 s j) : (res_main_while0b_v127 V0 : At F main_while0b_v127) = Step.b102 j s := by
  unfold res_main_while0b_v127 Step.b102
  rw [← al_101 h, ← al_95 h]
  try rfl
theorem al_103 (h : Holds V0 s j) : (Host.dotGeneral dot_S64x8x4x64_S8x4x64x64_S8x4x64x64_0_3_3_2_12_01 none (res_main_while0b_v124 V0) (res_main_while0b_v127 V0) : At F main_while0b_v128) = Step.b103 j s := by
  unfold Step.b103
  rw [← al_99 h, ← al_102 h]
  try rfl
theorem al_104 (h : Holds V0 s j) : (transpose S64x8x4x64 [3, 0, 1, 2] (Host.dotGeneral dot_S64x8x4x64_S8x4x64x64_S8x4x64x64_0_3_3_2_12_01 none (res_main_while0b_v124 V0) (res_main_while0b_v127 V0)) transposes_S8x4x64x64_S64x8x4x64_3_0_1_2 : At F main_while0b_v129) = Step.b104 j s := by
  unfold Step.b104
  rw [← al_103 h]
  try rfl
theorem al_105 (h : Holds V0 s j) : (Host.dotGeneral dot_S8x4x64x128_S64x8x128_S8x4x64x64_3_2_12_0_0_1 none (res_main_while0b_v80 V0) (res_main_while0b_v87 V0) : At F main_while0b_v130) = Step.b105 j s := by
  unfold Step.b105
  rw [← al_14 h, ← al_50 h]
  try rfl
theorem al_106 (h : Holds V0 s j) : (res_main_while0b_v131 V0 : At F main_while0b_v131) = Step.b106 j s := by
  unfold res_main_while0b_v131 Step.b106
  rw [← al_105 h]
  try rfl
theorem al_107 (h : Holds V0 s j) : (res_main_while0b_v132 V0 : At F main_while0b_v132) = Step.b107 j s := by
  unfold res_main_while0b_v132 Step.b107
  rw [← al_83 h]
  try rfl
theorem al_108 (h : Holds V0 s j) : (res_main_while0b_v133 V0 : At F main_while0b_v133) = Step.b108 j s := by
  unfold res_main_while0b_v133 Step.b108
  rw [← al_107 h]
  try rfl
theorem al_109 (h : Holds V0 s j) : (broadcastInDim S64x8x4x64 ![0, 1, 2, 3] bcast_S64x8x4x1_S64x8x4x64_0_1_2_3 (res_main_while0b_v133 V0) : At F main_while0b_v134) = Step.b109 j s := by
  unfold Step.b109
  rw [← al_108 h]
  try rfl
theorem al_110 (h : Holds V0 s j) : (mulf (res_main_while0b_v131 V0) (broadcastInDim S64x8x4x64 ![0, 1, 2, 3] bcast_S64x8x4x1_S64x8x4x64_0_1_2_3 (res_main_while0b_v133 V0)) : At F main_while0b_v135) = Step.b110 j s := by
  unfold Step.b110
  rw [← al_106 h, ← al_109 h]
  try rfl
theorem al_111 (h : Holds V0 s j) : (addf (transpose S64x8x4x64 [3, 0, 1, 2] (Host.dotGeneral dot_S64x8x4x64_S8x4x64x64_S8x4x64x64_0_3_3_2_12_01 none (res_main_while0b_v124 V0) (res_main_while0b_v127 V0)) transposes_S8x4x64x64_S64x8x4x64_3_0_1_2) (mulf (res_main_while0b_v131 V0) (broadcastInDim S64x8x4x64 ![0, 1, 2, 3] bcast_S64x8x4x1_S64x8x4x64_0_1_2_3 (res_main_while0b_v133 V0))) : At F main_while0b_v136) = Step.b111 j s := by
  unfold Step.b111
  rw [← al_104 h, ← al_110 h]
  try rfl
theorem al_112 (h : Holds V0 s j) : (extractStridedSlice S1x8x4 ![63, 0, 0] (res_main_while0b_v109 V0) slices_S64x8x4_S1x8x4_63_0_0 : At F main_while0b_v137) = Step.b112 j s := by
  unfold Step.b112
  rw [← al_83 h]
  try rfl
theorem al_113 (h : Holds V0 s j) : (res_main_while0b_v138 V0 : At F main_while0b_v138) = Step.b113 j s := by
  unfold res_main_while0b_v138 Step.b113
  rw [← al_112 h]
  try rfl
theorem al_114 (h : Holds V0 s j) : (res_main_while0b_v139 V0 : At F main_while0b_v139) = Step.b114 j s := by
  unfold res_main_while0b_v139 Step.b114
  rw [← al_113 h]
  try rfl
theorem al_115 (h : Holds V0 s j) : (res_main_while0b_v140 V0 : At F main_while0b_v140) = Step.b115 j s := by
  unfold res_main_while0b_v140 Step.b115
  rw [← al_114 h]
  try rfl
theorem al_116 (h : Holds V0 s j) : (broadcastInDim S8x4x64x128 ![0, 1, 2, 3] bcast_S8x4x1x1_S8x4x64x128_0_1_2_3 (res_main_while0b_v140 V0) : At F main_while0b_v141) = Step.b116 j s := by
  unfold Step.b116
  rw [← al_115 h]
  try rfl
theorem al_117 (h : Holds V0 s j) : (mulf (res_main_while0b_v80 V0) (broadcastInDim S8x4x64x128 ![0, 1, 2, 3] bcast_S8x4x1x1_S8x4x64x128_0_1_2_3 (res_main_while0b_v140 V0)) : At F main_while0b_v142) = Step.b117 j s := by
  unfold Step.b117
  rw [← al_14 h, ← al_116 h]
  try rfl
theorem al_118 (h : Holds V0 s j) : (broadcastInDim S1x8x4 ![1, 2] bcast_S8x4_S1x8x4_1_2 (res_main_while0b_v138 V0) : At F main_while0b_v143) = Step.b118 j s := by
  unfold Step.b118
  rw [← al_113 h]
  try rfl
theorem al_119 (h : Holds V0 s j) : (broadcastInDim S64x8x4 ![0, 1, 2] bcast_S1x8x4_S64x8x4_0_1_2 (broadcastInDim S1x8x4 ![1, 2] bcast_S8x4_S1x8x4_1_2 (res_main_while0b_v138 V0)) : At F main_while0b_v144) = Step.b119 j s := by
  unfold Step.b119
  rw [← al_118 h]
  try rfl
theorem al_120 (h : Holds V0 s j) : (subf (broadcastInDim S64x8x4 ![0, 1, 2] bcast_S1x8x4_S64x8x4_0_1_2 (broadcastInDim S1x8x4 ![1, 2] bcast_S8x4_S1x8x4_1_2 (res_main_while0b_v138 V0))) (res_main_while0b_v109 V0) : At F main_while0b_v145) = Step.b120 j s := by
  unfold Step.b120
  rw [← al_119 h, ← al_83 h]
  try rfl
theorem al_121 (h : Holds V0 s j) : (res_main_while0b_v146 V0 : At F main_while0b_v146) = Step.b121 j s := by
  unfold res_main_while0b_v146 Step.b121
  rw [← al_120 h]
  try rfl
theorem al_122 (h : Holds V0 s j) : (res_main_while0b_v147 V0 : At F main_while0b_v147) = Step.b122 j s := by
  unfold res_main_while0b_v147 Step.b122
  rw [← al_121 h]
  try rfl
theorem al_123 (h : Holds V0 s j) : (broadcastInDim S64x8x4x64 ![0, 1, 2, 3] bcast_S64x8x4x1_S64x8x4x64_0_1_2_3 (res_main_while0b_v147 V0) : At F main_while0b_v148) = Step.b123 j s := by
  unfold Step.b123
  rw [← al_122 h]
  try rfl
theorem al_124 (h : Holds V0 s j) : (res_main_while0b_v149 V0 : At F main_while0b_v149) = Step.b124 j s := by
  unfold res_main_while0b_v149 Step.b124
  rw [← al_99 h, ← al_123 h]
  try rfl
theorem al_125 (h : Holds V0 s j) : (Host.dotGeneral dot_S64x8x4x64_S64x8x128_S8x4x64x128_0_0_23_2_1_1 none (res_main_while0b_v149 V0) (res_main_while0b_v86 V0) : At F main_while0b_v150) = Step.b125 j s := by
  unfold Step.b125
  rw [← al_124 h, ← al_45 h]
  try rfl
theorem al_126 (h : Holds V0 s j) : (addf (mulf (res_main_while0b_v80 V0) (broadcastInDim S8x4x64x128 ![0, 1, 2, 3] bcast_S8x4x1x1_S8x4x64x128_0_1_2_3 (res_main_while0b_v140 V0))) (Host.dotGeneral dot_S64x8x4x64_S64x8x128_S8x4x64x128_0_0_23_2_1_1 none (res_main_while0b_v149 V0) (res_main_while0b_v86 V0)) : At F main_while0b_v151) = Step.b126 j s := by
  unfold Step.b126
  rw [← al_117 h, ← al_125 h]
  try rfl
theorem al_127 (h : Holds V0 s j) : (Host.dotGeneral dot_S8x4x64x128_S64x8x4x64_S8x128x64_12_23_3_0_0_1 none (V0 (Proc.devRef .tc main_v70_18)) (res_main_while0b_v149 V0) : At F main_while0b_v152) = Step.b127 j s := by
  unfold Step.b127
  rw [← al_124 h, h.f_18]
  try rfl
theorem al_128 (h : Holds V0 s j) : (transpose S64x8x128 [2, 0, 1] (Host.dotGeneral dot_S8x4x64x128_S64x8x4x64_S8x128x64_12_23_3_0_0_1 none (V0 (Proc.devRef .tc main_v70_18)) (res_main_while0b_v149 V0)) transposes_S8x128x64_S64x8x128_2_0_1 : At F main_while0b_v153) = Step.b128 j s := by
  unfold Step.b128
  rw [← al_127 h]
  try rfl
theorem al_129 (h : Holds V0 s j) : (Host.dotGeneral dot_S8x4x64x128_S64x8x128_S8x4x64x64_3_2_12_0_0_1 none (V0 (Proc.devRef .tc main_v70_18)) (res_main_while0b_v86 V0) : At F main_while0b_v154) = Step.b129 j s := by
  unfold Step.b129
  rw [← al_45 h, h.f_18]
  try rfl
theorem al_130 (h : Holds V0 s j) : (res_main_while0b_v155 V0 : At F main_while0b_v155) = Step.b130 j s := by
  unfold res_main_while0b_v155 Step.b130
  rw [← al_129 h]
  try rfl
theorem al_131 (h : Holds V0 s j) : (mulf (res_main_while0b_v124 V0) (res_main_while0b_v155 V0) : At F main_while0b_v156) = Step.b131 j s := by
  unfold Step.b131
  rw [← al_99 h, ← al_130 h]
  try rfl
theorem al_132 (h : Holds V0 s j) : (constant S_ .f32 0x00000000#32 : At F main_while0b_cst_44) = Step.b132 j s := by
  unfold Step.b132
  rfl
theorem al_133 (h : Holds V0 s j) : (Host.reduceAdd (mulf (res_main_while0b_v124 V0) (res_main_while0b_v155 V0)) (constant S_ .f32 0x00000000#32) reducesTo_S64x8x4x64_S64x8x4_d3 h_S_ : At F main_while0b_v157) = Step.b133 j s := by
  unfold Step.b133
  rw [← al_131 h, ← al_132 h]
  try rfl
theorem al_134 (h : Holds V0 s j) : (shapeCast S64x8x4x1 (Host.reduceAdd (mulf (res_main_while0b_v124 V0) (res_main_while0b_v155 V0)) (constant S_ .f32 0x00000000#32) reducesTo_S64x8x4x64_S64x8x4_d3 h_S_) shapeCasts_S64x8x4_S64x8x4x1 : At F main_while0b_v158) = Step.b134 j s := by
  unfold Step.b134
  rw [← al_133 h]
  try rfl
theorem al_135 (h : Holds V0 s j) : (broadcastInDim S64x8x4x64 ![0, 1, 2, 3] bcast_S64x8x4x1_S64x8x4x64_0_1_2_3 (res_main_while0b_v147 V0) : At F main_while0b_v159) = Step.b135 j s := by
  unfold Step.b135
  rw [← al_122 h]
  try rfl
theorem al_136 (h : Holds V0 s j) : (mulf (res_main_while0b_v155 V0) (broadcastInDim S64x8x4x64 ![0, 1, 2, 3] bcast_S64x8x4x1_S64x8x4x64_0_1_2_3 (res_main_while0b_v147 V0)) : At F main_while0b_v160) = Step.b136 j s := by
  unfold Step.b136
  rw [← al_130 h, ← al_135 h]
  try rfl
theorem al_137 (h : Holds V0 s j) : (constant S_ .f32 0x00000000#32 : At F main_while0b_cst_45) = Step.b137 j s := by
  unfold Step.b137
  rfl
theorem al_138 (h : Holds V0 s j) : (Host.reduceAdd (shapeCast S64x8x4x1 (Host.reduceAdd (mulf (res_main_while0b_v124 V0) (res_main_while0b_v155 V0)) (constant S_ .f32 0x00000000#32) reducesTo_S64x8x4x64_S64x8x4_d3 h_S_) shapeCasts_S64x8x4_S64x8x4x1) (constant S_ .f32 0x00000000#32) reducesTo_S64x8x4x1_S64x8x4_d3 h_S_ : At F main_while0b_v161) = Step.b138 j s := by
  unfold Step.b138
  rw [← al_134 h, ← al_137 h]
  try rfl
theorem al_139 (h : Holds V0 s j) : (res_main_while0b_v162 V0 : At F main_while0b_v162) = Step.b139 j s := by
  unfold res_main_while0b_v162 Step.b139
  rw [← al_138 h, ← al_121 h]
  try rfl
theorem al_140 (h : Holds V0 s j) : (constant S_ .f32 0x00000000#32 : At F main_while0b_cst_46) = Step.b140 j s := by
  unfold Step.b140
  rfl
theorem al_141 (h : Holds V0 s j) : (Host.reduceAdd (res_main_while0b_v162 V0) (constant S_ .f32 0x00000000#32) reducesTo_S64x8x4_S8x4_d0 h_S_ : At F main_while0b_v163) = Step.b141 j s := by
  unfold Step.b141
  rw [← al_139 h, ← al_140 h]
  try rfl
theorem al_142 (h : Holds V0 s j) : (shapeCast S1x8x4 (Host.reduceAdd (res_main_while0b_v162 V0) (constant S_ .f32 0x00000000#32) reducesTo_S64x8x4_S8x4_d0 h_S_) shapeCasts_S8x4_S1x8x4 : At F main_while0b_v164) = Step.b142 j s := by
  unfold Step.b142
  rw [← al_141 h]
  try rfl
theorem al_143 (h : Holds V0 s j) : (Host.negf (res_main_while0b_v162 V0) : At F main_while0b_v165) = Step.b143 j s := by
  unfold Step.b143
  rw [← al_139 h]
  try rfl
theorem al_144 (h : Holds V0 s j) : (constant S_ .f32 0x00000000#32 : At F main_while0b_cst_47) = Step.b144 j s := by
  unfold Step.b144
  rfl
theorem al_145 (h : Holds V0 s j) : (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_ : At F main_while0b_v166) = Step.b145 j s := by
  unfold Step.b145
  rw [← al_142 h, ← al_144 h]
  try rfl
theorem al_146 (h : Holds V0 s j) : (mulf (res_main_while0b_v80 V0) (V0 (Proc.devRef .tc main_v70_18)) : At F main_while0b_v167) = Step.b146 j s := by
  unfold Step.b146
  rw [← al_14 h, h.f_18]
  try rfl
theorem al_147 (h : Holds V0 s j) : (constant S_ .f32 0x00000000#32 : At F main_while0b_cst_48) = Step.b147 j s := by
  unfold Step.b147
  rfl
theorem al_148 (h : Holds V0 s j) : (Host.reduceAdd (mulf (res_main_while0b_v80 V0) (V0 (Proc.devRef .tc main_v70_18))) (constant S_ .f32 0x00000000#32) reducesTo_S8x4x64x128_S8x4_d2_3 h_S_ : At F main_while0b_v168) = Step.b148 j s := by
  unfold Step.b148
  rw [← al_146 h, ← al_147 h]
  try rfl
theorem al_149 (h : Holds V0 s j) : (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1 : At F main_while0b_v169) = Step.b149 j s := by
  unfold Step.b149
  rw [← al_148 h]
  try rfl
theorem al_150 (h : Holds V0 s j) : (broadcastInDim S8x4x64x128 ![0, 1, 2, 3] bcast_S8x4x1x1_S8x4x64x128_0_1_2_3 (res_main_while0b_v140 V0) : At F main_while0b_v170) = Step.b150 j s := by
  unfold Step.b150
  rw [← al_115 h]
  try rfl
theorem al_151 (h : Holds V0 s j) : (mulf (V0 (Proc.devRef .tc main_v70_18)) (broadcastInDim S8x4x64x128 ![0, 1, 2, 3] bcast_S8x4x1x1_S8x4x64x128_0_1_2_3 (res_main_while0b_v140 V0)) : At F main_while0b_v171) = Step.b151 j s := by
  unfold Step.b151
  rw [← al_150 h, h.f_18]
  try rfl
theorem al_152 (h : Holds V0 s j) : (constant S_ .f32 0x00000000#32 : At F main_while0b_cst_49) = Step.b152 j s := by
  unfold Step.b152
  rfl
theorem al_153 (h : Holds V0 s j) : (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_ : At F main_while0b_v172) = Step.b153 j s := by
  unfold Step.b153
  rw [← al_149 h, ← al_152 h]
  try rfl
theorem al_154 (h : Holds V0 s j) : (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0) : At F main_while0b_v173) = Step.b154 j s := by
  unfold Step.b154
  rw [← al_153 h, ← al_114 h]
  try rfl
theorem al_155 (h : Holds V0 s j) : (addf (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_) (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0)) : At F main_while0b_v174) = Step.b155 j s := by
  unfold Step.b155
  rw [← al_145 h, ← al_154 h]
  try rfl
theorem al_156 (h : Holds V0 s j) : (broadcastInDim S1x8x4 ![1, 2] bcast_S8x4_S1x8x4_1_2 (addf (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_) (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0))) : At F main_while0b_v175) = Step.b156 j s := by
  unfold Step.b156
  rw [← al_155 h]
  try rfl
theorem al_157 (h : Holds V0 s j) : (constant S_ .f32 0x00000000#32 : At F main_while0b_cst_50) = Step.b157 j s := by
  unfold Step.b157
  rfl
theorem al_158 (h : Holds V0 s j) : (pad S64x8x4 ![63, 0, 0] ![0, 0, 0] ![0, 0, 0] (broadcastInDim S1x8x4 ![1, 2] bcast_S8x4_S1x8x4_1_2 (addf (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_) (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0)))) (constant S_ .f32 0x00000000#32) pads_S1x8x4_S64x8x4_6300_000_000 h_S_ : At F main_while0b_v176) = Step.b158 j s := by
  unfold Step.b158
  rw [← al_156 h, ← al_157 h]
  try rfl
theorem al_159 (h : Holds V0 s j) : (addf (Host.negf (res_main_while0b_v162 V0)) (pad S64x8x4 ![63, 0, 0] ![0, 0, 0] ![0, 0, 0] (broadcastInDim S1x8x4 ![1, 2] bcast_S8x4_S1x8x4_1_2 (addf (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_) (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0)))) (constant S_ .f32 0x00000000#32) pads_S1x8x4_S64x8x4_6300_000_000 h_S_) : At F main_while0b_v177) = Step.b159 j s := by
  unfold Step.b159
  rw [← al_143 h, ← al_158 h]
  try rfl
theorem al_160 (h : Holds V0 s j) : (mulf (res_main_while0b_v131 V0) (res_main_while0b_v89 V0) : At F main_while0b_v178) = Step.b160 j s := by
  unfold Step.b160
  rw [← al_106 h, ← al_61 h]
  try rfl
theorem al_161 (h : Holds V0 s j) : (constant S_ .f32 0x00000000#32 : At F main_while0b_cst_51) = Step.b161 j s := by
  unfold Step.b161
  rfl
theorem al_162 (h : Holds V0 s j) : (Host.reduceAdd (mulf (res_main_while0b_v131 V0) (res_main_while0b_v89 V0)) (constant S_ .f32 0x00000000#32) reducesTo_S64x8x4x64_S64x8x4_d3 h_S_ : At F main_while0b_v179) = Step.b162 j s := by
  unfold Step.b162
  rw [← al_160 h, ← al_161 h]
  try rfl
theorem al_163 (h : Holds V0 s j) : (shapeCast S64x8x4x1 (Host.reduceAdd (mulf (res_main_while0b_v131 V0) (res_main_while0b_v89 V0)) (constant S_ .f32 0x00000000#32) reducesTo_S64x8x4x64_S64x8x4_d3 h_S_) shapeCasts_S64x8x4_S64x8x4x1 : At F main_while0b_v180) = Step.b163 j s := by
  unfold Step.b163
  rw [← al_162 h]
  try rfl
theorem al_164 (h : Holds V0 s j) : (broadcastInDim S64x8x4x64 ![0, 1, 2, 3] bcast_S64x8x4x1_S64x8x4x64_0_1_2_3 (res_main_while0b_v133 V0) : At F main_while0b_v181) = Step.b164 j s := by
  unfold Step.b164
  rw [← al_108 h]
  try rfl
theorem al_165 (h : Holds V0 s j) : (mulf (res_main_while0b_v89 V0) (broadcastInDim S64x8x4x64 ![0, 1, 2, 3] bcast_S64x8x4x1_S64x8x4x64_0_1_2_3 (res_main_while0b_v133 V0)) : At F main_while0b_v182) = Step.b165 j s := by
  unfold Step.b165
  rw [← al_61 h, ← al_164 h]
  try rfl
theorem al_166 (h : Holds V0 s j) : (constant S_ .f32 0x00000000#32 : At F main_while0b_cst_52) = Step.b166 j s := by
  unfold Step.b166
  rfl
theorem al_167 (h : Holds V0 s j) : (Host.reduceAdd (shapeCast S64x8x4x1 (Host.reduceAdd (mulf (res_main_while0b_v131 V0) (res_main_while0b_v89 V0)) (constant S_ .f32 0x00000000#32) reducesTo_S64x8x4x64_S64x8x4_d3 h_S_) shapeCasts_S64x8x4_S64x8x4x1) (constant S_ .f32 0x00000000#32) reducesTo_S64x8x4x1_S64x8x4_d3 h_S_ : At F main_while0b_v183) = Step.b167 j s := by
  unfold Step.b167
  rw [← al_163 h, ← al_166 h]
  try rfl
theorem al_168 (h : Holds V0 s j) : (mulf (Host.reduceAdd (shapeCast S64x8x4x1 (Host.reduceAdd (mulf (res_main_while0b_v131 V0) (res_main_while0b_v89 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (res_main_while0b_v132 V0) : At F main_while0b_v184) = Step.b168 j s := by
  unfold Step.b168
  rw [← al_167 h, ← al_107 h]
  try rfl
theorem al_169 (h : Holds V0 s j) : (addf (addf (Host.negf (res_main_while0b_v162 V0)) (pad S64x8x4 ![63, 0, 0] ![0, 0, 0] ![0, 0, 0] (broadcastInDim S1x8x4 ![1, 2] bcast_S8x4_S1x8x4_1_2 (addf (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_) (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0)))) (constant S_ .f32 0x00000000#32) pads_S1x8x4_S64x8x4_6300_000_000 h_S_)) (mulf (Host.reduceAdd (shapeCast S64x8x4x1 (Host.reduceAdd (mulf (res_main_while0b_v131 V0) (res_main_while0b_v89 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (res_main_while0b_v132 V0)) : At F main_while0b_v185) = Step.b169 j s := by
  unfold Step.b169
  rw [← al_159 h, ← al_168 h]
  try rfl
theorem al_170 (h : Holds V0 s j) : (res_main_while0b_v186 V0 : At F main_while0b_v186) = Step.b170 j s := by
  unfold res_main_while0b_v186 Step.b170
  rw [← al_165 h]
  try rfl
theorem al_171 (h : Holds V0 s j) : (Host.dotGeneral dot_S8x4x64x64_S8x4x64x128_S8x64x128_12_12_3_3_0_0 none (res_main_while0b_v186 V0) (res_main_while0b_v80 V0) : At F main_while0b_v187) = Step.b171 j s := by
  unfold Step.b171
  rw [← al_170 h, ← al_14 h]
  try rfl
theorem al_172 (h : Holds V0 s j) : (transpose S64x8x128 [1, 0, 2] (Host.dotGeneral dot_S8x4x64x64_S8x4x64x128_S8x64x128_12_12_3_3_0_0 none (res_main_while0b_v186 V0) (res_main_while0b_v80 V0)) transposes_S8x64x128_S64x8x128_1_0_2 : At F main_while0b_v188) = Step.b172 j s := by
  unfold Step.b172
  rw [← al_171 h]
  try rfl
theorem al_173 (h : Holds V0 s j) : (Host.dotGeneral dot_S8x4x64x64_S64x8x128_S8x4x64x128_3_0_12_2_0_1 none (res_main_while0b_v186 V0) (res_main_while0b_v87 V0) : At F main_while0b_v189) = Step.b173 j s := by
  unfold Step.b173
  rw [← al_170 h, ← al_50 h]
  try rfl
theorem al_174 (h : Holds V0 s j) : (addf (mulf (V0 (Proc.devRef .tc main_v70_18)) (broadcastInDim S8x4x64x128 ![0, 1, 2, 3] bcast_S8x4x1x1_S8x4x64x128_0_1_2_3 (res_main_while0b_v140 V0))) (Host.dotGeneral dot_S8x4x64x64_S64x8x128_S8x4x64x128_3_0_12_2_0_1 none (res_main_while0b_v186 V0) (res_main_while0b_v87 V0)) : At F main_while0b_v190) = Step.b174 j s := by
  unfold Step.b174
  rw [← al_151 h, ← al_173 h]
  try rfl
theorem al_175 (h : Holds V0 s j) : (res_main_while0b_v191 V0 : At F main_while0b_v191) = Step.b175 j s := by
  unfold res_main_while0b_v191 Step.b175
  rw [← al_61 h]
  try rfl
theorem al_176 (h : Holds V0 s j) : (res_main_while0b_v192 V0 : At F main_while0b_v192) = Step.b176 j s := by
  unfold res_main_while0b_v192 Step.b176
  rw [← al_175 h, ← al_99 h]
  try rfl
theorem al_177 (h : Holds V0 s j) : (Host.dotGeneral dot_S8x4x64x64_S8x4x64x64_S8x4x64x64_3_2_2_3_01_01 none (res_main_while0b_v191 V0) (res_main_while0b_v127 V0) : At F main_while0b_v193) = Step.b177 j s := by
  unfold Step.b177
  rw [← al_175 h, ← al_102 h]
  try rfl
theorem al_178 (h : Holds V0 s j) : (transpose S64x8x4x64 [3, 0, 1, 2] (Host.dotGeneral dot_S8x4x64x64_S8x4x64x64_S8x4x64x64_3_2_2_3_01_01 none (res_main_while0b_v191 V0) (res_main_while0b_v127 V0)) transposes_S8x4x64x64_S64x8x4x64_3_0_1_2 : At F main_while0b_v194) = Step.b178 j s := by
  unfold Step.b178
  rw [← al_177 h]
  try rfl
theorem al_179 (h : Holds V0 s j) : (res_main_while0b_v195 V0 : At F main_while0b_v195) = Step.b179 j s := by
  unfold res_main_while0b_v195 Step.b179
  rw [← al_136 h, ← al_178 h]
  try rfl
theorem al_180 (h : Holds V0 s j) : (broadcastInDim S8x4x64x64 ![0, 1, 2, 3] bcast_S8x1x64x64_S8x4x64x64_0_1_2_3 (res_main_while0b_v125 V0) : At F main_while0b_v196) = Step.b180 j s := by
  unfold Step.b180
  rw [← al_100 h]
  try rfl
theorem al_181 (h : Holds V0 s j) : (mulf (broadcastInDim S8x4x64x64 ![0, 1, 2, 3] bcast_S8x1x64x64_S8x4x64x64_0_1_2_3 (res_main_while0b_v125 V0)) (res_main_while0b_v192 V0) : At F main_while0b_v197) = Step.b181 j s := by
  unfold Step.b181
  rw [← al_180 h, ← al_176 h]
  try rfl
theorem al_182 (h : Holds V0 s j) : (mulf (res_main_while0b_v192 V0) (res_main_while0b_v120 V0) : At F main_while0b_v198) = Step.b182 j s := by
  unfold Step.b182
  rw [← al_176 h, ← al_95 h]
  try rfl
theorem al_183 (h : Holds V0 s j) : (constant S_ .f32 0x00000000#32 : At F main_while0b_cst_53) = Step.b183 j s := by
  unfold Step.b183
  rfl
theorem al_184 (h : Holds V0 s j) : (Host.reduceAdd (mulf (res_main_while0b_v192 V0) (res_main_while0b_v120 V0)) (constant S_ .f32 0x00000000#32) reducesTo_S8x4x64x64_S8x64x64_d1 h_S_ : At F main_while0b_v199) = Step.b184 j s := by
  unfold Step.b184
  rw [← al_182 h, ← al_183 h]
  try rfl
theorem al_185 (h : Holds V0 s j) : (shapeCast S8x1x64x64 (Host.reduceAdd (mulf (res_main_while0b_v192 V0) (res_main_while0b_v120 V0)) (constant S_ .f32 0x00000000#32) reducesTo_S8x4x64x64_S8x64x64_d1 h_S_) shapeCasts_S8x64x64_S8x1x64x64 : At F main_while0b_v200) = Step.b185 j s := by
  unfold Step.b185
  rw [← al_184 h]
  try rfl
theorem al_186 (h : Holds V0 s j) : (constant S_ .f32 0x00000000#32 : At F main_while0b_cst_54) = Step.b186 j s := by
  unfold Step.b186
  rfl
theorem al_187 (h : Holds V0 s j) : (res_main_while0b_v201 V0 : At F main_while0b_v201) = Step.b187 j s := by
  unfold res_main_while0b_v201 Step.b187
  rw [← al_185 h, ← al_186 h]
  try rfl
theorem al_188 (h : Holds V0 s j) : (mulf (res_main_while0b_v84 V0) (res_main_while0b_v195 V0) : At F main_while0b_v202) = Step.b188 j s := by
  unfold Step.b188
  rw [← al_35 h, ← al_179 h]
  try rfl
theorem al_189 (h : Holds V0 s j) : (constant S_ .f32 0x00000000#32 : At F main_while0b_cst_55) = Step.b189 j s := by
  unfold Step.b189
  rfl
theorem al_190 (h : Holds V0 s j) : (Host.reduceAdd (mulf (res_main_while0b_v84 V0) (res_main_while0b_v195 V0)) (constant S_ .f32 0x00000000#32) reducesTo_S64x8x4x64_S64x8x4_d3 h_S_ : At F main_while0b_v203) = Step.b190 j s := by
  unfold Step.b190
  rw [← al_188 h, ← al_189 h]
  try rfl
theorem al_191 (h : Holds V0 s j) : (shapeCast S64x8x4x1 (Host.reduceAdd (mulf (res_main_while0b_v84 V0) (res_main_while0b_v195 V0)) (constant S_ .f32 0x00000000#32) reducesTo_S64x8x4x64_S64x8x4_d3 h_S_) shapeCasts_S64x8x4_S64x8x4x1 : At F main_while0b_v204) = Step.b191 j s := by
  unfold Step.b191
  rw [← al_190 h]
  try rfl
theorem al_192 (h : Holds V0 s j) : (broadcastInDim S64x8x4x64 ![0, 1, 2, 3] bcast_S64x8x4x1_S64x8x4x64_0_1_2_3 (res_main_while0b_v122 V0) : At F main_while0b_v205) = Step.b192 j s := by
  unfold Step.b192
  rw [← al_97 h]
  try rfl
theorem al_193 (h : Holds V0 s j) : (mulf (res_main_while0b_v195 V0) (broadcastInDim S64x8x4x64 ![0, 1, 2, 3] bcast_S64x8x4x1_S64x8x4x64_0_1_2_3 (res_main_while0b_v122 V0)) : At F main_while0b_v206) = Step.b193 j s := by
  unfold Step.b193
  rw [← al_179 h, ← al_192 h]
  try rfl
theorem al_194 (h : Holds V0 s j) : (constant S_ .f32 0x00000000#32 : At F main_while0b_cst_56) = Step.b194 j s := by
  unfold Step.b194
  rfl
theorem al_195 (h : Holds V0 s j) : (Host.reduceAdd (shapeCast S64x8x4x1 (Host.reduceAdd (mulf (res_main_while0b_v84 V0) (res_main_while0b_v195 V0)) (constant S_ .f32 0x00000000#32) reducesTo_S64x8x4x64_S64x8x4_d3 h_S_) shapeCasts_S64x8x4_S64x8x4x1) (constant S_ .f32 0x00000000#32) reducesTo_S64x8x4x1_S64x8x4_d3 h_S_ : At F main_while0b_v207) = Step.b195 j s := by
  unfold Step.b195
  rw [← al_191 h, ← al_194 h]
  try rfl
theorem al_196 (h : Holds V0 s j) : (Host.dotGeneral dot_S8x64x64_S64x8x128_S8x64x128_1_0_2_2_0_1 none (res_main_while0b_v201 V0) (res_main_while0b_v87 V0) : At F main_while0b_v208) = Step.b196 j s := by
  unfold Step.b196
  rw [← al_187 h, ← al_50 h]
  try rfl
theorem al_197 (h : Holds V0 s j) : (transpose S64x8x128 [1, 0, 2] (Host.dotGeneral dot_S8x64x64_S64x8x128_S8x64x128_1_0_2_2_0_1 none (res_main_while0b_v201 V0) (res_main_while0b_v87 V0)) transposes_S8x64x128_S64x8x128_1_0_2 : At F main_while0b_v209) = Step.b197 j s := by
  unfold Step.b197
  rw [← al_196 h]
  try rfl
theorem al_198 (h : Holds V0 s j) : (addf (transpose S64x8x128 [2, 0, 1] (Host.dotGeneral dot_S8x4x64x128_S64x8x4x64_S8x128x64_12_23_3_0_0_1 none (V0 (Proc.devRef .tc main_v70_18)) (res_main_while0b_v149 V0)) transposes_S8x128x64_S64x8x128_2_0_1) (transpose S64x8x128 [1, 0, 2] (Host.dotGeneral dot_S8x64x64_S64x8x128_S8x64x128_1_0_2_2_0_1 none (res_main_while0b_v201 V0) (res_main_while0b_v87 V0)) transposes_S8x64x128_S64x8x128_1_0_2) : At F main_while0b_v210) = Step.b198 j s := by
  unfold Step.b198
  rw [← al_128 h, ← al_197 h]
  try rfl
theorem al_199 (h : Holds V0 s j) : (Host.dotGeneral dot_S8x64x64_S64x8x128_S8x64x128_2_0_1_2_0_1 none (res_main_while0b_v201 V0) (res_main_while0b_v86 V0) : At F main_while0b_v211) = Step.b199 j s := by
  unfold Step.b199
  rw [← al_187 h, ← al_45 h]
  try rfl
theorem al_200 (h : Holds V0 s j) : (transpose S64x8x128 [1, 0, 2] (Host.dotGeneral dot_S8x64x64_S64x8x128_S8x64x128_2_0_1_2_0_1 none (res_main_while0b_v201 V0) (res_main_while0b_v86 V0)) transposes_S8x64x128_S64x8x128_1_0_2 : At F main_while0b_v212) = Step.b200 j s := by
  unfold Step.b200
  rw [← al_199 h]
  try rfl
theorem al_201 (h : Holds V0 s j) : (addf (transpose S64x8x128 [1, 0, 2] (Host.dotGeneral dot_S8x4x64x64_S8x4x64x128_S8x64x128_12_12_3_3_0_0 none (res_main_while0b_v186 V0) (res_main_while0b_v80 V0)) transposes_S8x64x128_S64x8x128_1_0_2) (transpose S64x8x128 [1, 0, 2] (Host.dotGeneral dot_S8x64x64_S64x8x128_S8x64x128_2_0_1_2_0_1 none (res_main_while0b_v201 V0) (res_main_while0b_v86 V0)) transposes_S8x64x128_S64x8x128_1_0_2) : At F main_while0b_v213) = Step.b201 j s := by
  unfold Step.b201
  rw [← al_172 h, ← al_200 h]
  try rfl
theorem al_202 (h : Holds V0 s j) : (mulf (mulf (broadcastInDim S8x4x64x64 ![0, 1, 2, 3] bcast_S8x1x64x64_S8x4x64x64_0_1_2_3 (res_main_while0b_v125 V0)) (res_main_while0b_v192 V0)) (res_main_while0b_v120 V0) : At F main_while0b_v214) = Step.b202 j s := by
  unfold Step.b202
  rw [← al_181 h, ← al_95 h]
  try rfl
theorem al_203 (h : Holds V0 s j) : (res_main_while0b_v215 V0 : At F main_while0b_v215) = Step.b203 j s := by
  unfold res_main_while0b_v215 Step.b203
  rw [← al_202 h]
  try rfl
theorem al_204 (h : Holds V0 s j) : (constant S_ .f32 0x00000000#32 : At F main_while0b_cst_57) = Step.b204 j s := by
  unfold Step.b204
  rfl
theorem al_205 (h : Holds V0 s j) : (res_main_while0b_v216 V0 : At F main_while0b_v216) = Step.b205 j s := by
  unfold res_main_while0b_v216 Step.b205
  rw [← al_204 h]
  try rfl
theorem al_206 (h : Holds V0 s j) : (select (res_main_while0b_v118 V0) (res_main_while0b_v216 V0) (res_main_while0b_v215 V0) : At F main_while0b_v217) = Step.b206 j s := by
  unfold Step.b206
  rw [← al_93 h, ← al_205 h, ← al_203 h]
  try rfl
theorem al_207 (h : Holds V0 s j) : (select (res_main_while0b_v118 V0) (res_main_while0b_v215 V0) (res_main_while0b_v216 V0) : At F main_while0b_v218) = Step.b207 j s := by
  unfold Step.b207
  rw [← al_93 h, ← al_203 h, ← al_205 h]
  try rfl
theorem al_208 (h : Holds V0 s j) : (Host.negf (select (res_main_while0b_v118 V0) (res_main_while0b_v216 V0) (res_main_while0b_v215 V0)) : At F main_while0b_v219) = Step.b208 j s := by
  unfold Step.b208
  rw [← al_206 h]
  try rfl
theorem al_209 (h : Holds V0 s j) : (res_main_while0b_v220 V0 : At F main_while0b_v220) = Step.b209 j s := by
  unfold res_main_while0b_v220 Step.b209
  rw [← al_207 h, ← al_208 h]
  try rfl
theorem al_210 (h : Holds V0 s j) : (constant S_ .f32 0x00000000#32 : At F main_while0b_cst_58) = Step.b210 j s := by
  unfold Step.b210
  rfl
theorem al_211 (h : Holds V0 s j) : (Host.reduceAdd (res_main_while0b_v220 V0) (constant S_ .f32 0x00000000#32) reducesTo_S8x4x64x64_S8x4x64_d3 h_S_ : At F main_while0b_v221) = Step.b211 j s := by
  unfold Step.b211
  rw [← al_209 h, ← al_210 h]
  try rfl
theorem al_212 (h : Holds V0 s j) : (shapeCast S8x4x64x1 (Host.reduceAdd (res_main_while0b_v220 V0) (constant S_ .f32 0x00000000#32) reducesTo_S8x4x64x64_S8x4x64_d3 h_S_) shapeCasts_S8x4x64_S8x4x64x1 : At F main_while0b_v222) = Step.b212 j s := by
  unfold Step.b212
  rw [← al_211 h]
  try rfl
theorem al_213 (h : Holds V0 s j) : (Host.negf (res_main_while0b_v220 V0) : At F main_while0b_v223) = Step.b213 j s := by
  unfold Step.b213
  rw [← al_209 h]
  try rfl
theorem al_214 (h : Holds V0 s j) : (constant S_ .f32 0x00000000#32 : At F main_while0b_cst_59) = Step.b214 j s := by
  unfold Step.b214
  rfl
theorem al_215 (h : Holds V0 s j) : (Host.reduceAdd (Host.negf (res_main_while0b_v220 V0)) (constant S_ .f32 0x00000000#32) reducesTo_S8x4x64x64_S8x4x64_d2 h_S_ : At F main_while0b_v224) = Step.b215 j s := by
  unfold Step.b215
  rw [← al_213 h, ← al_214 h]
  try rfl
theorem al_216 (h : Holds V0 s j) : (shapeCast S8x4x1x64 (Host.reduceAdd (Host.negf (res_main_while0b_v220 V0)) (constant S_ .f32 0x00000000#32) reducesTo_S8x4x64x64_S8x4x64_d2 h_S_) shapeCasts_S8x4x64_S8x4x1x64 : At F main_while0b_v225) = Step.b216 j s := by
  unfold Step.b216
  rw [← al_215 h]
  try rfl
theorem al_217 (h : Holds V0 s j) : (constant S_ .f32 0x00000000#32 : At F main_while0b_cst_60) = Step.b217 j s := by
  unfold Step.b217
  rfl
theorem al_218 (h : Holds V0 s j) : (Host.reduceAdd (shapeCast S8x4x1x64 (Host.reduceAdd (Host.negf (res_main_while0b_v220 V0)) (constant S_ .f32 0x00000000#32) reducesTo_S8x4x64x64_S8x4x64_d2 h_S_) shapeCasts_S8x4x64_S8x4x1x64) (constant S_ .f32 0x00000000#32) reducesTo_S8x4x1x64_S8x4x64_d2 h_S_ : At F main_while0b_v226) = Step.b218 j s := by
  unfold Step.b218
  rw [← al_216 h, ← al_217 h]
  try rfl
theorem al_219 (h : Holds V0 s j) : (constant S_ .f32 0x00000000#32 : At F main_while0b_cst_61) = Step.b219 j s := by
  unfold Step.b219
  rfl
theorem al_220 (h : Holds V0 s j) : (Host.reduceAdd (shapeCast S8x4x64x1 (Host.reduceAdd (res_main_while0b_v220 V0) (constant S_ .f32 0x00000000#32) reducesTo_S8x4x64x64_S8x4x64_d3 h_S_) shapeCasts_S8x4x64_S8x4x64x1) (constant S_ .f32 0x00000000#32) reducesTo_S8x4x64x1_S8x4x64_d3 h_S_ : At F main_while0b_v227) = Step.b220 j s := by
  unfold Step.b220
  rw [← al_212 h, ← al_219 h]
  try rfl
theorem al_221 (h : Holds V0 s j) : (addf (Host.reduceAdd (shapeCast S8x4x1x64 (Host.reduceAdd (Host.negf (res_main_while0b_v220 V0)) (constant S_ .f32 0x00000000#32) reducesTo_S8x4x64x64_S8x4x64_d2 h_S_) shapeCasts_S8x4x64_S8x4x1x64) (constant S_ .f32 0x00000000#32) reducesTo_S8x4x1x64_S8x4x64_d2 h_S_) (Host.reduceAdd (shapeCast S8x4x64x1 (Host.reduceAdd (res_main_while0b_v220 V0) (constant S_ .f32 0x00000000#32) reducesTo_S8x4x64x64_S8x4x64_d3 h_S_) shapeCasts_S8x4x64_S8x4x64x1) (constant S_ .f32 0x00000000#32) reducesTo_S8x4x64x1_S8x4x64_d3 h_S_) : At F main_while0b_v228) = Step.b221 j s := by
  unfold Step.b221
  rw [← al_218 h, ← al_220 h]
  try rfl
theorem al_222 (h : Holds V0 s j) : (transpose S64x8x4 [2, 0, 1] (addf (Host.reduceAdd (shapeCast S8x4x1x64 (Host.reduceAdd (Host.negf (res_main_while0b_v220 V0)) (constant S_ .f32 0x00000000#32) reducesTo_S8x4x64x64_S8x4x64_d2 h_S_) shapeCasts_S8x4x64_S8x4x1x64) (constant S_ .f32 0x00000000#32) reducesTo_S8x4x1x64_S8x4x64_d2 h_S_) (Host.reduceAdd (shapeCast S8x4x64x1 (Host.reduceAdd (res_main_while0b_v220 V0) (constant S_ .f32 0x00000000#32) reducesTo_S8x4x64x64_S8x4x64_d3 h_S_) shapeCasts_S8x4x64_S8x4x64x1) (constant S_ .f32 0x00000000#32) reducesTo_S8x4x64x1_S8x4x64_d3 h_S_)) transposes_S8x4x64_S64x8x4_2_0_1 : At F main_while0b_v229) = Step.b222 j s := by
  unfold Step.b222
  rw [← al_221 h]
  try rfl
theorem al_223 (h : Holds V0 s j) : (addf (addf (addf (Host.negf (res_main_while0b_v162 V0)) (pad S64x8x4 ![63, 0, 0] ![0, 0, 0] ![0, 0, 0] (broadcastInDim S1x8x4 ![1, 2] bcast_S8x4_S1x8x4_1_2 (addf (Host.reduceAdd (shapeCast S1x8x4 (Host.reduceAdd (res_main_while0b_v162 V0) (constant S_ .f32 0x00000000#32) reducesTo_S64x8x4_S8x4_d0 h_S_) shapeCasts_S8x4_S1x8x4) (constant S_ .f32 0x00000000#32) reducesTo_S1x8x4_S8x4_d0 h_S_) (mulf (Host.reduceAdd (shapeCast S8x4x1x1 (Host.reduceAdd (mulf (res_main_while0b_v80 V0) (V0 (Proc.devRef .tc main_v70_18))) (constant S_ .f32 0x00000000#32) reducesTo_S8x4x64x128_S8x4_d2_3 h_S_) shapeCasts_S8x4_S8x4x1x1) (constant S_ .f32 0x00000000#32) reducesTo_S8x4x1x1_S8x4_d2_3 h_S_) (res_main_while0b_v139 V0)))) (constant S_ .f32 0x00000000#32) pads_S1x8x4_S64x8x4_6300_000_000 h_S_)) (mulf (Host.reduceAdd (shapeCast S64x8x4x1 (Host.reduceAdd (mulf (res_main_while0b_v131 V0) (res_main_while0b_v89 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (res_main_while0b_v132 V0))) (transpose S64x8x4 [2, 0, 1] (addf (Host.reduceAdd (shapeCast S8x4x1x64 (Host.reduceAdd (Host.negf (res_main_while0b_v220 V0)) (constant S_ .f32 0x00000000#32) reducesTo_S8x4x64x64_S8x4x64_d2 h_S_) shapeCasts_S8x4x64_S8x4x1x64) (constant S_ .f32 0x00000000#32) reducesTo_S8x4x1x64_S8x4x64_d2 h_S_) (Host.reduceAdd (shapeCast S8x4x64x1 (Host.reduceAdd (res_main_while0b_v220 V0) (constant S_ .f32 0x00000000#32) reducesTo_S8x4x64x64_S8x4x64_d3 h_S_) shapeCasts_S8x4x64_S8x4x64x1) (constant S_ .f32 0x00000000#32) reducesTo_S8x4x64x1_S8x4x64_d3 h_S_)) transposes_S8x4x64_S64x8x4_2_0_1) : At F main_while0b_v230) = Step.b223 j s := by
  unfold Step.b223
  rw [← al_169 h, ← al_222 h]
  try rfl
theorem al_224 (h : Holds V0 s j) : (constant S_ .f32 0x00000000#32 : At F main_while0b_call12_call0_cst) = Step.b224 j s := by
  unfold Step.b224
  rfl
theorem al_225 (h : Holds V0 s j) : (broadcastInDim S_ ![] bcast_S_S_ (constant S_ .f32 0x00000000#32) : At F main_while0b_call12_call0_v0) = Step.b225 j s := by
  unfold Step.b225
  rw [← al_224 h]
  try rfl
theorem al_226 (h : Holds V0 s j) : (res_main_while0b_v231 V0 : At F main_while0b_v231) = Step.b226 j s := by
  unfold res_main_while0b_v231 Step.b226
  rw [← al_223 h, ← al_225 h]
  try rfl
theorem al_227 (h : Holds V0 s j) : (mulf (res_main_while0b_v85 V0) (res_main_while0b_v231 V0) : At F main_while0b_v232) = Step.b227 j s := by
  unfold Step.b227
  rw [← al_40 h, ← al_226 h]
  try rfl
theorem al_228 (h : Holds V0 s j) : (constant S_ .f32 0x00000000#32 : At F main_while0b_cst_62) = Step.b228 j s := by
  unfold Step.b228
  rfl
theorem al_229 (h : Holds V0 s j) : (Host.reduceAdd (mulf (res_main_while0b_v85 V0) (res_main_while0b_v231 V0)) (constant S_ .f32 0x00000000#32) reducesTo_S64x8x4_S8x4_d0 h_S_ : At F main_while0b_v233) = Step.b229 j s := by
  unfold Step.b229
  rw [← al_227 h, ← al_228 h]
  try rfl
theorem al_230 (h : Holds V0 s j) : (shapeCast S1x8x4 (Host.reduceAdd (mulf (res_main_while0b_v85 V0) (res_main_while0b_v231 V0)) (constant S_ .f32 0x00000000#32) reducesTo_S64x8x4_S8x4_d0 h_S_) shapeCasts_S8x4_S1x8x4 : At F main_while0b_v234) = Step.b230 j s := by
  unfold Step.b230
  rw [← al_229 h]
  try rfl
theorem al_231 (h : Holds V0 s j) : (broadcastInDim S64x8x4 ![0, 1, 2] bcast_S1x8x4_S64x8x4_0_1_2 (res_main_while0b_v106 V0) : At F main_while0b_v235) = Step.b231 j s := by
  unfold Step.b231
  rw [← al_78 h]
  try rfl
theorem al_232 (h : Holds V0 s j) : (mulf (res_main_while0b_v231 V0) (broadcastInDim S64x8x4 ![0, 1, 2] bcast_S1x8x4_S64x8x4_0_1_2 (res_main_while0b_v106 V0)) : At F main_while0b_v236) = Step.b232 j s := by
  unfold Step.b232
  rw [← al_226 h, ← al_231 h]
  try rfl
theorem al_233 (h : Holds V0 s j) : (addf (Host.reduceAdd (shapeCast S64x8x4x1 (Host.reduceAdd (mulf (res_main_while0b_v84 V0) (res_main_while0b_v195 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (mulf (res_main_while0b_v231 V0) (broadcastInDim S64x8x4 ![0, 1, 2] bcast_S1x8x4_S64x8x4_0_1_2 (res_main_while0b_v106 V0))) : At F main_while0b_v237) = Step.b233 j s := by
  unfold Step.b233
  rw [← al_195 h, ← al_232 h]
  try rfl
theorem al_234 (h : Holds V0 s j) : (constant S_ .f32 0x00000000#32 : At F main_while0b_cst_63) = Step.b234 j s := by
  unfold Step.b234
  rfl
theorem al_235 (h : Holds V0 s j) : (Host.reduceAdd (shapeCast S1x8x4 (Host.reduceAdd (mulf (res_main_while0b_v85 V0) (res_main_while0b_v231 V0)) (constant S_ .f32 0x00000000#32) reducesTo_S64x8x4_S8x4_d0 h_S_) shapeCasts_S8x4_S1x8x4) (constant S_ .f32 0x00000000#32) reducesTo_S1x8x4_S8x4_d0 h_S_ : At F main_while0b_v238) = Step.b235 j s := by
  unfold Step.b235
  rw [← al_230 h, ← al_234 h]
  try rfl
theorem al_236 (h : Holds V0 s j) : (Host.dotGeneral dot_S4x128x256_S64x4x128_S4x256x64_1_2_2_0_0_1 none (V0 (Proc.devRef .tc main_v70_17)) (res_main_while0b_v103 V0) : At F main_while0b_v239) = Step.b236 j s := by
  unfold Step.b236
  rw [← al_75 h, h.f_17]
  try rfl
theorem al_237 (h : Holds V0 s j) : (transpose S64x4x256 [2, 0, 1] (Host.dotGeneral dot_S4x128x256_S64x4x128_S4x256x64_1_2_2_0_0_1 none (V0 (Proc.devRef .tc main_v70_17)) (res_main_while0b_v103 V0)) transposes_S4x256x64_S64x4x256_2_0_1 : At F main_while0b_v240) = Step.b237 j s := by
  unfold Step.b237
  rw [← al_236 h]
  try rfl
theorem al_238 (h : Holds V0 s j) : (Host.dotGeneral dot_S4x128x256_S64x4x256_S4x128x64_2_2_1_0_0_1 none (V0 (Proc.devRef .tc main_v70_17)) (res_main_while0b_v83 V0) : At F main_while0b_v241) = Step.b238 j s := by
  unfold Step.b238
  rw [← al_29 h, h.f_17]
  try rfl
theorem al_239 (h : Holds V0 s j) : (transpose S64x4x128 [2, 0, 1] (Host.dotGeneral dot_S4x128x256_S64x4x256_S4x128x64_2_2_1_0_0_1 none (V0 (Proc.devRef .tc main_v70_17)) (res_main_while0b_v83 V0)) transposes_S4x128x64_S64x4x128_2_0_1 : At F main_while0b_v242) = Step.b239 j s := by
  unfold Step.b239
  rw [← al_238 h]
  try rfl
theorem al_240 (h : Holds V0 s j) : (broadcastInDim S64x4x128 ![0, 1, 2] bcast_S64x4x1_S64x4x128_0_1_2 (V0 (Proc.devRef .tc main_v70_14)) : At F main_while0b_v243) = Step.b240 j s := by
  unfold Step.b240
  rw [h.k_14]
  try rfl
theorem al_241 (h : Holds V0 s j) : (mulf (transpose S64x4x128 [2, 0, 1] (Host.dotGeneral dot_S4x128x256_S64x4x256_S4x128x64_2_2_1_0_0_1 none (V0 (Proc.devRef .tc main_v70_17)) (res_main_while0b_v83 V0)) transposes_S4x128x64_S64x4x128_2_0_1) (broadcastInDim S64x4x128 ![0, 1, 2] bcast_S64x4x1_S64x4x128_0_1_2 (V0 (Proc.devRef .tc main_v70_14))) : At F main_while0b_v244) = Step.b241 j s := by
  unfold Step.b241
  rw [← al_239 h, ← al_240 h]
  try rfl
theorem al_242 (h : Holds V0 s j) : (broadcastInDim S4x128x256 ![0, 1, 2] bcast_S4x1x1_S4x128x256_0_1_2 (res_main_while0b_v99 V0) : At F main_while0b_v245) = Step.b242 j s := by
  unfold Step.b242
  rw [← al_71 h]
  try rfl
theorem al_243 (h : Holds V0 s j) : (mulf (V0 (Proc.devRef .tc main_v70_17)) (broadcastInDim S4x128x256 ![0, 1, 2] bcast_S4x1x1_S4x128x256_0_1_2 (res_main_while0b_v99 V0)) : At F main_while0b_v246) = Step.b243 j s := by
  unfold Step.b243
  rw [← al_242 h, h.f_17]
  try rfl
theorem al_244 (h : Holds V0 s j) : (res_main_while0b_v247 V0 : At F main_while0b_v247) = Step.b244 j s := by
  unfold res_main_while0b_v247 Step.b244
  rw [← al_55 h]
  try rfl
theorem al_245 (h : Holds V0 s j) : (Host.dotGeneral dot_S4x256x64_S4x128x256_S4x64x128_1_2_2_1_0_0 none (res_main_while0b_v247 V0) (res_main_while0b_v79 V0) : At F main_while0b_v248) = Step.b245 j s := by
  unfold Step.b245
  rw [← al_244 h, ← al_8 h]
  try rfl
theorem al_246 (h : Holds V0 s j) : (transpose S64x4x128 [1, 0, 2] (Host.dotGeneral dot_S4x256x64_S4x128x256_S4x64x128_1_2_2_1_0_0 none (res_main_while0b_v247 V0) (res_main_while0b_v79 V0)) transposes_S4x64x128_S64x4x128_1_0_2 : At F main_while0b_v249) = Step.b246 j s := by
  unfold Step.b246
  rw [← al_245 h]
  try rfl
theorem al_247 (h : Holds V0 s j) : (Host.dotGeneral dot_S4x256x64_S64x4x128_S4x256x128_2_0_1_2_0_1 none (res_main_while0b_v247 V0) (res_main_while0b_v95 V0) : At F main_while0b_v250) = Step.b247 j s := by
  unfold Step.b247
  rw [← al_244 h, ← al_67 h]
  try rfl
theorem al_248 (h : Holds V0 s j) : (transpose S4x128x256 [0, 2, 1] (Host.dotGeneral dot_S4x256x64_S64x4x128_S4x256x128_2_0_1_2_0_1 none (res_main_while0b_v247 V0) (res_main_while0b_v95 V0)) transposes_S4x256x128_S4x128x256_0_2_1 : At F main_while0b_v251) = Step.b248 j s := by
  unfold Step.b248
  rw [← al_247 h]
  try rfl
theorem al_249 (h : Holds V0 s j) : (addf (mulf (V0 (Proc.devRef .tc main_v70_17)) (broadcastInDim S4x128x256 ![0, 1, 2] bcast_S4x1x1_S4x128x256_0_1_2 (res_main_while0b_v99 V0))) (transpose S4x128x256 [0, 2, 1] (Host.dotGeneral dot_S4x256x64_S64x4x128_S4x256x128_2_0_1_2_0_1 none (res_main_while0b_v247 V0) (res_main_while0b_v95 V0)) transposes_S4x256x128_S4x128x256_0_2_1) : At F main_while0b_v252) = Step.b249 j s := by
  unfold Step.b249
  rw [← al_243 h, ← al_248 h]
  try rfl
theorem al_250 (h : Holds V0 s j) : (broadcastInDim S64x4x128 ![0, 1, 2] bcast_S64x4x1_S64x4x128_0_1_2 (V0 (Proc.devRef .tc main_v70_12)) : At F main_while0b_v253) = Step.b250 j s := by
  unfold Step.b250
  rw [h.k_12]
  try rfl
theorem al_251 (h : Holds V0 s j) : (mulf (transpose S64x4x128 [1, 0, 2] (Host.dotGeneral dot_S4x256x64_S4x128x256_S4x64x128_1_2_2_1_0_0 none (res_main_while0b_v247 V0) (res_main_while0b_v79 V0)) transposes_S4x64x128_S64x4x128_1_0_2) (broadcastInDim S64x4x128 ![0, 1, 2] bcast_S64x4x1_S64x4x128_0_1_2 (V0 (Proc.devRef .tc main_v70_12))) : At F main_while0b_v254) = Step.b251 j s := by
  unfold Step.b251
  rw [← al_246 h, ← al_250 h]
  try rfl
theorem al_252 (h : Holds V0 s j) : (res_main_while0b_v255 V0 : At F main_while0b_v255) = Step.b252 j s := by
  unfold res_main_while0b_v255 Step.b252
  rw [← al_55 h]
  try rfl
theorem al_253 (h : Holds V0 s j) : (Host.dotGeneral dot_S4x256x64_S64x4x256_S4x64x64_1_2_2_0_0_1 none (res_main_while0b_v255 V0) (res_main_while0b_v83 V0) : At F main_while0b_v256) = Step.b253 j s := by
  unfold Step.b253
  rw [← al_252 h, ← al_29 h]
  try rfl
theorem al_254 (h : Holds V0 s j) : (Host.dotGeneral dot_S4x256x64_S4x64x64_S4x256x64_2_1_1_2_0_0 none (res_main_while0b_v255 V0) (res_main_while0b_v91 V0) : At F main_while0b_v257) = Step.b254 j s := by
  unfold Step.b254
  rw [← al_252 h, ← al_63 h]
  try rfl
theorem al_255 (h : Holds V0 s j) : (transpose S64x4x256 [2, 0, 1] (Host.dotGeneral dot_S4x256x64_S4x64x64_S4x256x64_2_1_1_2_0_0 none (res_main_while0b_v255 V0) (res_main_while0b_v91 V0)) transposes_S4x256x64_S64x4x256_2_0_1 : At F main_while0b_v258) = Step.b255 j s := by
  unfold Step.b255
  rw [← al_254 h]
  try rfl
theorem al_256 (h : Holds V0 s j) : (addf (transpose S64x4x256 [2, 0, 1] (Host.dotGeneral dot_S4x128x256_S64x4x128_S4x256x64_1_2_2_0_0_1 none (V0 (Proc.devRef .tc main_v70_17)) (res_main_while0b_v103 V0)) transposes_S4x256x64_S64x4x256_2_0_1) (transpose S64x4x256 [2, 0, 1] (Host.dotGeneral dot_S4x256x64_S4x64x64_S4x256x64_2_1_1_2_0_0 none (res_main_while0b_v255 V0) (res_main_while0b_v91 V0)) transposes_S4x256x64_S64x4x256_2_0_1) : At F main_while0b_v259) = Step.b256 j s := by
  unfold Step.b256
  rw [← al_237 h, ← al_255 h]
  try rfl
theorem al_257 (h : Holds V0 s j) : (res_main_while0b_v260 V0 : At F main_while0b_v260) = Step.b257 j s := by
  unfold res_main_while0b_v260 Step.b257
  rw [← al_253 h, h.k_11]
  try rfl
theorem al_258 (h : Holds V0 s j) : (Host.dotGeneral dot_S4x64x64_S64x4x128_S4x64x128_1_0_2_2_0_1 none (res_main_while0b_v260 V0) (res_main_while0b_v81 V0) : At F main_while0b_v261) = Step.b258 j s := by
  unfold Step.b258
  rw [← al_257 h, ← al_19 h]
  try rfl
theorem al_259 (h : Holds V0 s j) : (transpose S64x4x128 [1, 0, 2] (Host.dotGeneral dot_S4x64x64_S64x4x128_S4x64x128_1_0_2_2_0_1 none (res_main_while0b_v260 V0) (res_main_while0b_v81 V0)) transposes_S4x64x128_S64x4x128_1_0_2 : At F main_while0b_v262) = Step.b259 j s := by
  unfold Step.b259
  rw [← al_258 h]
  try rfl
theorem al_260 (h : Holds V0 s j) : (addf (mulf (transpose S64x4x128 [2, 0, 1] (Host.dotGeneral dot_S4x128x256_S64x4x256_S4x128x64_2_2_1_0_0_1 none (V0 (Proc.devRef .tc main_v70_17)) (res_main_while0b_v83 V0)) transposes_S4x128x64_S64x4x128_2_0_1) (broadcastInDim S64x4x128 ![0, 1, 2] bcast_S64x4x1_S64x4x128_0_1_2 (V0 (Proc.devRef .tc main_v70_14)))) (transpose S64x4x128 [1, 0, 2] (Host.dotGeneral dot_S4x64x64_S64x4x128_S4x64x128_1_0_2_2_0_1 none (res_main_while0b_v260 V0) (res_main_while0b_v81 V0)) transposes_S4x64x128_S64x4x128_1_0_2) : At F main_while0b_v263) = Step.b260 j s := by
  unfold Step.b260
  rw [← al_241 h, ← al_259 h]
  try rfl
theorem al_261 (h : Holds V0 s j) : (Host.dotGeneral dot_S4x64x64_S64x4x128_S4x64x128_2_0_1_2_0_1 none (res_main_while0b_v260 V0) (res_main_while0b_v82 V0) : At F main_while0b_v264) = Step.b261 j s := by
  unfold Step.b261
  rw [← al_257 h, ← al_24 h]
  try rfl
theorem al_262 (h : Holds V0 s j) : (transpose S64x4x128 [1, 0, 2] (Host.dotGeneral dot_S4x64x64_S64x4x128_S4x64x128_2_0_1_2_0_1 none (res_main_while0b_v260 V0) (res_main_while0b_v82 V0)) transposes_S4x64x128_S64x4x128_1_0_2 : At F main_while0b_v265) = Step.b262 j s := by
  unfold Step.b262
  rw [← al_261 h]
  try rfl
theorem al_263 (h : Holds V0 s j) : (addf (mulf (transpose S64x4x128 [1, 0, 2] (Host.dotGeneral dot_S4x256x64_S4x128x256_S4x64x128_1_2_2_1_0_0 none (res_main_while0b_v247 V0) (res_main_while0b_v79 V0)) transposes_S4x64x128_S64x4x128_1_0_2) (broadcastInDim S64x4x128 ![0, 1, 2] bcast_S64x4x1_S64x4x128_0_1_2 (V0 (Proc.devRef .tc main_v70_12)))) (transpose S64x4x128 [1, 0, 2] (Host.dotGeneral dot_S4x64x64_S64x4x128_S4x64x128_2_0_1_2_0_1 none (res_main_while0b_v260 V0) (res_main_while0b_v82 V0)) transposes_S4x64x128_S64x4x128_1_0_2) : At F main_while0b_v266) = Step.b263 j s := by
  unfold Step.b263
  rw [← al_251 h, ← al_262 h]
  try rfl
theorem al_264 (h : Holds V0 s j) : (addf (V0 (Proc.devRef .tc main_v70_19)) (Host.reduceAdd (shapeCast S1x8x4 (Host.reduceAdd (mulf (res_main_while0b_v85 V0) (res_main_while0b_v231 V0)) (constant S_ .f32 0x00000000#32) reducesTo_S64x8x4_S8x4_d0 h_S_) shapeCasts_S8x4_S1x8x4) (constant S_ .f32 0x00000000#32) reducesTo_S1x8x4_S8x4_d0 h_S_) : At F main_while0b_v267) = Step.b264 j s := by
  unfold Step.b264
  rw [← al_235 h, h.f_19]
  try rfl
theorem al_265 (h : Holds V0 s j) : (broadcastInDim S1x64x4x128 ![1, 2, 3] bcast_S64x4x128_S1x64x4x128_1_2_3 (addf (mulf (transpose S64x4x128 [1, 0, 2] (Host.dotGeneral dot_S4x256x64_S4x128x256_S4x64x128_1_2_2_1_0_0 none (res_main_while0b_v247 V0) (res_main_while0b_v79 V0)) transposes_S4x64x128_S64x4x128_1_0_2) (broadcastInDim S64x4x128 ![0, 1, 2] bcast_S64x4x1_S64x4x128_0_1_2 (V0 (Proc.devRef .tc main_v70_12)))) (transpose S64x4x128 [1, 0, 2] (Host.dotGeneral dot_S4x64x64_S64x4x128_S4x64x128_2_0_1_2_0_1 none (res_main_while0b_v260 V0) (res_main_while0b_v82 V0)) transposes_S4x64x128_S64x4x128_1_0_2)) : At F main_while0b_call13_v0) = Step.b265 j s := by
  unfold Step.b265
  rw [← al_263 h]
  try rfl
theorem al_266 (h : Holds V0 s j) : (constantI S_ 32 0#32 : At F main_while0b_call13_c) = Step.b266 j s := by
  unfold Step.b266
  rfl
theorem al_267 (h : Holds V0 s j) : (constantI S_ 32 0#32 : At F main_while0b_call13_c_0) = Step.b267 j s := by
  unfold Step.b267
  rfl
theorem al_268 (h : Holds V0 s j) : (constantI S_ 32 0#32 : At F main_while0b_call13_c_1) = Step.b268 j s := by
  unfold Step.b268
  rfl
theorem al_269 (h : Holds V0 s j) : (Host.dynamicUpdateSlice (V0 (Proc.devRef .tc main_v70_20)) (broadcastInDim S1x64x4x128 ![1, 2, 3] bcast_S64x4x128_S1x64x4x128_1_2_3 (addf (mulf (transpose S64x4x128 [1, 0, 2] (Host.dotGeneral dot_S4x256x64_S4x128x256_S4x64x128_1_2_2_1_0_0 none (res_main_while0b_v247 V0) (res_main_while0b_v79 V0)) transposes_S4x64x128_S64x4x128_1_0_2) (broadcastInDim S64x4x128 ![0, 1, 2] bcast_S64x4x1_S64x4x128_0_1_2 (V0 (Proc.devRef .tc main_v70_12)))) (transpose S64x4x128 [1, 0, 2] (Host.dotGeneral dot_S4x64x64_S64x4x128_S4x64x128_2_0_1_2_0_1 none (res_main_while0b_v260 V0) (res_main_while0b_v82 V0)) transposes_S4x64x128_S64x4x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x4x128_S1x64x4x128 : At F main_while0b_v268) = Step.b269 j s := by
  unfold Step.b269
  rw [← al_265 h, ← al_3 h, ← al_266 h, ← al_267 h, ← al_268 h, h.f_20]
  try rfl
theorem al_270 (h : Holds V0 s j) : (broadcastInDim S1x64x4x128 ![1, 2, 3] bcast_S64x4x128_S1x64x4x128_1_2_3 (addf (mulf (transpose S64x4x128 [2, 0, 1] (Host.dotGeneral dot_S4x128x256_S64x4x256_S4x128x64_2_2_1_0_0_1 none (V0 (Proc.devRef .tc main_v70_17)) (res_main_while0b_v83 V0)) transposes_S4x128x64_S64x4x128_2_0_1) (broadcastInDim S64x4x128 ![0, 1, 2] bcast_S64x4x1_S64x4x128_0_1_2 (V0 (Proc.devRef .tc main_v70_14)))) (transpose S64x4x128 [1, 0, 2] (Host.dotGeneral dot_S4x64x64_S64x4x128_S4x64x128_1_0_2_2_0_1 none (res_main_while0b_v260 V0) (res_main_while0b_v81 V0)) transposes_S4x64x128_S64x4x128_1_0_2)) : At F main_while0b_call14_v0) = Step.b270 j s := by
  unfold Step.b270
  rw [← al_260 h]
  try rfl
theorem al_271 (h : Holds V0 s j) : (constantI S_ 32 0#32 : At F main_while0b_call14_c) = Step.b271 j s := by
  unfold Step.b271
  rfl
theorem al_272 (h : Holds V0 s j) : (constantI S_ 32 0#32 : At F main_while0b_call14_c_0) = Step.b272 j s := by
  unfold Step.b272
  rfl
theorem al_273 (h : Holds V0 s j) : (constantI S_ 32 0#32 : At F main_while0b_call14_c_1) = Step.b273 j s := by
  unfold Step.b273
  rfl
theorem al_274 (h : Holds V0 s j) : (Host.dynamicUpdateSlice (V0 (Proc.devRef .tc main_v70_21)) (broadcastInDim S1x64x4x128 ![1, 2, 3] bcast_S64x4x128_S1x64x4x128_1_2_3 (addf (mulf (transpose S64x4x128 [2, 0, 1] (Host.dotGeneral dot_S4x128x256_S64x4x256_S4x128x64_2_2_1_0_0_1 none (V0 (Proc.devRef .tc main_v70_17)) (res_main_while0b_v83 V0)) transposes_S4x128x64_S64x4x128_2_0_1) (broadcastInDim S64x4x128 ![0, 1, 2] bcast_S64x4x1_S64x4x128_0_1_2 (V0 (Proc.devRef .tc main_v70_14)))) (transpose S64x4x128 [1, 0, 2] (Host.dotGeneral dot_S4x64x64_S64x4x128_S4x64x128_1_0_2_2_0_1 none (res_main_while0b_v260 V0) (res_main_while0b_v81 V0)) transposes_S4x64x128_S64x4x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x4x128_S1x64x4x128 : At F main_while0b_v269) = Step.b274 j s := by
  unfold Step.b274
  rw [← al_270 h, ← al_3 h, ← al_271 h, ← al_272 h, ← al_273 h, h.f_21]
  try rfl
theorem al_275 (h : Holds V0 s j) : (broadcastInDim S1x64x4x256 ![1, 2, 3] bcast_S64x4x256_S1x64x4x256_1_2_3 (addf (transpose S64x4x256 [2, 0, 1] (Host.dotGeneral dot_S4x128x256_S64x4x128_S4x256x64_1_2_2_0_0_1 none (V0 (Proc.devRef .tc main_v70_17)) (res_main_while0b_v103 V0)) transposes_S4x256x64_S64x4x256_2_0_1) (transpose S64x4x256 [2, 0, 1] (Host.dotGeneral dot_S4x256x64_S4x64x64_S4x256x64_2_1_1_2_0_0 none (res_main_while0b_v255 V0) (res_main_while0b_v91 V0)) transposes_S4x256x64_S64x4x256_2_0_1)) : At F main_while0b_call15_v0) = Step.b275 j s := by
  unfold Step.b275
  rw [← al_256 h]
  try rfl
theorem al_276 (h : Holds V0 s j) : (constantI S_ 32 0#32 : At F main_while0b_call15_c) = Step.b276 j s := by
  unfold Step.b276
  rfl
theorem al_277 (h : Holds V0 s j) : (constantI S_ 32 0#32 : At F main_while0b_call15_c_0) = Step.b277 j s := by
  unfold Step.b277
  rfl
theorem al_278 (h : Holds V0 s j) : (constantI S_ 32 0#32 : At F main_while0b_call15_c_1) = Step.b278 j s := by
  unfold Step.b278
  rfl
theorem al_279 (h : Holds V0 s j) : (Host.dynamicUpdateSlice (V0 (Proc.devRef .tc main_v70_22)) (broadcastInDim S1x64x4x256 ![1, 2, 3] bcast_S64x4x256_S1x64x4x256_1_2_3 (addf (transpose S64x4x256 [2, 0, 1] (Host.dotGeneral dot_S4x128x256_S64x4x128_S4x256x64_1_2_2_0_0_1 none (V0 (Proc.devRef .tc main_v70_17)) (res_main_while0b_v103 V0)) transposes_S4x256x64_S64x4x256_2_0_1) (transpose S64x4x256 [2, 0, 1] (Host.dotGeneral dot_S4x256x64_S4x64x64_S4x256x64_2_1_1_2_0_0 none (res_main_while0b_v255 V0) (res_main_while0b_v91 V0)) transposes_S4x256x64_S64x4x256_2_0_1))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x4x256_S1x64x4x256 : At F main_while0b_v270) = Step.b279 j s := by
  unfold Step.b279
  rw [← al_275 h, ← al_3 h, ← al_276 h, ← al_277 h, ← al_278 h, h.f_22]
  try rfl
theorem al_280 (h : Holds V0 s j) : (broadcastInDim S1x64x8x4x64 ![1, 2, 3, 4] bcast_S64x8x4x64_S1x64x8x4x64_1_2_3_4 (mulf (res_main_while0b_v195 V0) (broadcastInDim S64x8x4x64 ![0, 1, 2, 3] bcast_S64x8x4x1_S64x8x4x64_0_1_2_3 (res_main_while0b_v122 V0))) : At F main_while0b_call16_v0) = Step.b280 j s := by
  unfold Step.b280
  rw [← al_193 h]
  try rfl
theorem al_281 (h : Holds V0 s j) : (constantI S_ 32 0#32 : At F main_while0b_call16_c) = Step.b281 j s := by
  unfold Step.b281
  rfl
theorem al_282 (h : Holds V0 s j) : (constantI S_ 32 0#32 : At F main_while0b_call16_c_0) = Step.b282 j s := by
  unfold Step.b282
  rfl
theorem al_283 (h : Holds V0 s j) : (constantI S_ 32 0#32 : At F main_while0b_call16_c_1) = Step.b283 j s := by
  unfold Step.b283
  rfl
theorem al_284 (h : Holds V0 s j) : (constantI S_ 32 0#32 : At F main_while0b_call16_c_2) = Step.b284 j s := by
  unfold Step.b284
  rfl
theorem al_285 (h : Holds V0 s j) : (Host.dynamicUpdateSlice (V0 (Proc.devRef .tc main_v70_23)) (broadcastInDim S1x64x8x4x64 ![1, 2, 3, 4] bcast_S64x8x4x64_S1x64x8x4x64_1_2_3_4 (mulf (res_main_while0b_v195 V0) (broadcastInDim S64x8x4x64 ![0, 1, 2, 3] bcast_S64x8x4x1_S64x8x4x64_0_1_2_3 (res_main_while0b_v122 V0)))) (fun k => (((![res_main_while0b_v78 V0, constantI S_ 32 0#32, constantI S_ 32 0#32, constantI S_ 32 0#32, constantI S_ 32 0#32] : Fin 5 → (⟨S_, .i32⟩ : BufTy).Contents (Elt F))) k (Shape.Idx.first h_S_)).toInt) updateFits_S64x64x8x4x64_S1x64x8x4x64 : At F main_while0b_v271) = Step.b285 j s := by
  unfold Step.b285
  rw [← al_280 h, ← al_3 h, ← al_281 h, ← al_282 h, ← al_283 h, ← al_284 h, h.f_23]
  try rfl
theorem al_286 (h : Holds V0 s j) : (broadcastInDim S1x64x8x4 ![1, 2, 3] bcast_S64x8x4_S1x64x8x4_1_2_3 (addf (Host.reduceAdd (shapeCast S64x8x4x1 (Host.reduceAdd (mulf (res_main_while0b_v84 V0) (res_main_while0b_v195 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (mulf (res_main_while0b_v231 V0) (broadcastInDim S64x8x4 ![0, 1, 2] bcast_S1x8x4_S64x8x4_0_1_2 (res_main_while0b_v106 V0)))) : At F main_while0b_call17_v0) = Step.b286 j s := by
  unfold Step.b286
  rw [← al_233 h]
  try rfl
theorem al_287 (h : Holds V0 s j) : (constantI S_ 32 0#32 : At F main_while0b_call17_c) = Step.b287 j s := by
  unfold Step.b287
  rfl
theorem al_288 (h : Holds V0 s j) : (constantI S_ 32 0#32 : At F main_while0b_call17_c_0) = Step.b288 j s := by
  unfold Step.b288
  rfl
theorem al_289 (h : Holds V0 s j) : (constantI S_ 32 0#32 : At F main_while0b_call17_c_1) = Step.b289 j s := by
  unfold Step.b289
  rfl
theorem al_290 (h : Holds V0 s j) : (Host.dynamicUpdateSlice (V0 (Proc.devRef .tc main_v70_24)) (broadcastInDim S1x64x8x4 ![1, 2, 3] bcast_S64x8x4_S1x64x8x4_1_2_3 (addf (Host.reduceAdd (shapeCast S64x8x4x1 (Host.reduceAdd (mulf (res_main_while0b_v84 V0) (res_main_while0b_v195 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (mulf (res_main_while0b_v231 V0) (broadcastInDim S64x8x4 ![0, 1, 2] bcast_S1x8x4_S64x8x4_0_1_2 (res_main_while0b_v106 V0))))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x8x4_S1x64x8x4 : At F main_while0b_v272) = Step.b290 j s := by
  unfold Step.b290
  rw [← al_286 h, ← al_3 h, ← al_287 h, ← al_288 h, ← al_289 h, h.f_24]
  try rfl
theorem al_291 (h : Holds V0 s j) : (broadcastInDim S1x64x8x128 ![1, 2, 3] bcast_S64x8x128_S1x64x8x128_1_2_3 (addf (transpose S64x8x128 [2, 0, 1] (Host.dotGeneral dot_S8x4x64x128_S64x8x4x64_S8x128x64_12_23_3_0_0_1 none (V0 (Proc.devRef .tc main_v70_18)) (res_main_while0b_v149 V0)) transposes_S8x128x64_S64x8x128_2_0_1) (transpose S64x8x128 [1, 0, 2] (Host.dotGeneral dot_S8x64x64_S64x8x128_S8x64x128_1_0_2_2_0_1 none (res_main_while0b_v201 V0) (res_main_while0b_v87 V0)) transposes_S8x64x128_S64x8x128_1_0_2)) : At F main_while0b_call18_v0) = Step.b291 j s := by
  unfold Step.b291
  rw [← al_198 h]
  try rfl
theorem al_292 (h : Holds V0 s j) : (constantI S_ 32 0#32 : At F main_while0b_call18_c) = Step.b292 j s := by
  unfold Step.b292
  rfl
theorem al_293 (h : Holds V0 s j) : (constantI S_ 32 0#32 : At F main_while0b_call18_c_0) = Step.b293 j s := by
  unfold Step.b293
  rfl
theorem al_294 (h : Holds V0 s j) : (constantI S_ 32 0#32 : At F main_while0b_call18_c_1) = Step.b294 j s := by
  unfold Step.b294
  rfl
theorem al_295 (h : Holds V0 s j) : (Host.dynamicUpdateSlice (V0 (Proc.devRef .tc main_v70_25)) (broadcastInDim S1x64x8x128 ![1, 2, 3] bcast_S64x8x128_S1x64x8x128_1_2_3 (addf (transpose S64x8x128 [2, 0, 1] (Host.dotGeneral dot_S8x4x64x128_S64x8x4x64_S8x128x64_12_23_3_0_0_1 none (V0 (Proc.devRef .tc main_v70_18)) (res_main_while0b_v149 V0)) transposes_S8x128x64_S64x8x128_2_0_1) (transpose S64x8x128 [1, 0, 2] (Host.dotGeneral dot_S8x64x64_S64x8x128_S8x64x128_1_0_2_2_0_1 none (res_main_while0b_v201 V0) (res_main_while0b_v87 V0)) transposes_S8x64x128_S64x8x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x8x128_S1x64x8x128 : At F main_while0b_v273) = Step.b295 j s := by
  unfold Step.b295
  rw [← al_291 h, ← al_3 h, ← al_292 h, ← al_293 h, ← al_294 h, h.f_25]
  try rfl
theorem al_296 (h : Holds V0 s j) : (broadcastInDim S1x64x8x128 ![1, 2, 3] bcast_S64x8x128_S1x64x8x128_1_2_3 (addf (transpose S64x8x128 [1, 0, 2] (Host.dotGeneral dot_S8x4x64x64_S8x4x64x128_S8x64x128_12_12_3_3_0_0 none (res_main_while0b_v186 V0) (res_main_while0b_v80 V0)) transposes_S8x64x128_S64x8x128_1_0_2) (transpose S64x8x128 [1, 0, 2] (Host.dotGeneral dot_S8x64x64_S64x8x128_S8x64x128_2_0_1_2_0_1 none (res_main_while0b_v201 V0) (res_main_while0b_v86 V0)) transposes_S8x64x128_S64x8x128_1_0_2)) : At F main_while0b_call19_v0) = Step.b296 j s := by
  unfold Step.b296
  rw [← al_201 h]
  try rfl
theorem al_297 (h : Holds V0 s j) : (constantI S_ 32 0#32 : At F main_while0b_call19_c) = Step.b297 j s := by
  unfold Step.b297
  rfl
theorem al_298 (h : Holds V0 s j) : (constantI S_ 32 0#32 : At F main_while0b_call19_c_0) = Step.b298 j s := by
  unfold Step.b298
  rfl
theorem al_299 (h : Holds V0 s j) : (constantI S_ 32 0#32 : At F main_while0b_call19_c_1) = Step.b299 j s := by
  unfold Step.b299
  rfl
theorem al_300 (h : Holds V0 s j) : (Host.dynamicUpdateSlice (V0 (Proc.devRef .tc main_v70_26)) (broadcastInDim S1x64x8x128 ![1, 2, 3] bcast_S64x8x128_S1x64x8x128_1_2_3 (addf (transpose S64x8x128 [1, 0, 2] (Host.dotGeneral dot_S8x4x64x64_S8x4x64x128_S8x64x128_12_12_3_3_0_0 none (res_main_while0b_v186 V0) (res_main_while0b_v80 V0)) transposes_S8x64x128_S64x8x128_1_0_2) (transpose S64x8x128 [1, 0, 2] (Host.dotGeneral dot_S8x64x64_S64x8x128_S8x64x128_2_0_1_2_0_1 none (res_main_while0b_v201 V0) (res_main_while0b_v86 V0)) transposes_S8x64x128_S64x8x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x8x128_S1x64x8x128 : At F main_while0b_v274) = Step.b300 j s := by
  unfold Step.b300
  rw [← al_296 h, ← al_3 h, ← al_297 h, ← al_298 h, ← al_299 h, h.f_26]
  try rfl

/-! One trip's step of the carried values is `step`, field by field; a counter steps to the next number. -/

theorem step_17 (h : Holds V0 s j) : step_main_v70_17 V0 = (step j s).main_v70_17 := by
  unfold step_main_v70_17 Step.step
  show id (addf (mulf (V0 (Proc.devRef .tc main_v70_17)) (broadcastInDim S4x128x256 ![0, 1, 2] bcast_S4x1x1_S4x128x256_0_1_2 (res_main_while0b_v99 V0))) (transpose S4x128x256 [0, 2, 1] (Host.dotGeneral dot_S4x256x64_S64x4x128_S4x256x128_2_0_1_2_0_1 none (res_main_while0b_v247 V0) (res_main_while0b_v95 V0)) transposes_S4x256x128_S4x128x256_0_2_1)) = _
  rw [al_249 h]
  try rfl
theorem step_18 (h : Holds V0 s j) : step_main_v70_18 V0 = (step j s).main_v70_18 := by
  unfold step_main_v70_18 Step.step
  show id (addf (mulf (V0 (Proc.devRef .tc main_v70_18)) (broadcastInDim S8x4x64x128 ![0, 1, 2, 3] bcast_S8x4x1x1_S8x4x64x128_0_1_2_3 (res_main_while0b_v140 V0))) (Host.dotGeneral dot_S8x4x64x64_S64x8x128_S8x4x64x128_3_0_12_2_0_1 none (res_main_while0b_v186 V0) (res_main_while0b_v87 V0))) = _
  rw [al_174 h]
  try rfl
theorem step_19 (h : Holds V0 s j) : step_main_v70_19 V0 = (step j s).main_v70_19 := by
  unfold step_main_v70_19 Step.step
  show id (addf (V0 (Proc.devRef .tc main_v70_19)) (Host.reduceAdd (shapeCast S1x8x4 (Host.reduceAdd (mulf (res_main_while0b_v85 V0) (res_main_while0b_v231 V0)) (constant S_ .f32 0x00000000#32) reducesTo_S64x8x4_S8x4_d0 h_S_) shapeCasts_S8x4_S1x8x4) (constant S_ .f32 0x00000000#32) reducesTo_S1x8x4_S8x4_d0 h_S_)) = _
  rw [al_264 h]
  try rfl
theorem step_20 (h : Holds V0 s j) : step_main_v70_20 V0 = (step j s).main_v70_20 := by
  unfold step_main_v70_20 Step.step
  show id (Host.dynamicUpdateSlice (V0 (Proc.devRef .tc main_v70_20)) (broadcastInDim S1x64x4x128 ![1, 2, 3] bcast_S64x4x128_S1x64x4x128_1_2_3 (addf (mulf (transpose S64x4x128 [1, 0, 2] (Host.dotGeneral dot_S4x256x64_S4x128x256_S4x64x128_1_2_2_1_0_0 none (res_main_while0b_v247 V0) (res_main_while0b_v79 V0)) transposes_S4x64x128_S64x4x128_1_0_2) (broadcastInDim S64x4x128 ![0, 1, 2] bcast_S64x4x1_S64x4x128_0_1_2 (V0 (Proc.devRef .tc main_v70_12)))) (transpose S64x4x128 [1, 0, 2] (Host.dotGeneral dot_S4x64x64_S64x4x128_S4x64x128_2_0_1_2_0_1 none (res_main_while0b_v260 V0) (res_main_while0b_v82 V0)) transposes_S4x64x128_S64x4x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x4x128_S1x64x4x128) = _
  exact al_269 h
theorem step_21 (h : Holds V0 s j) : step_main_v70_21 V0 = (step j s).main_v70_21 := by
  unfold step_main_v70_21 Step.step
  show id (Host.dynamicUpdateSlice (V0 (Proc.devRef .tc main_v70_21)) (broadcastInDim S1x64x4x128 ![1, 2, 3] bcast_S64x4x128_S1x64x4x128_1_2_3 (addf (mulf (transpose S64x4x128 [2, 0, 1] (Host.dotGeneral dot_S4x128x256_S64x4x256_S4x128x64_2_2_1_0_0_1 none (V0 (Proc.devRef .tc main_v70_17)) (res_main_while0b_v83 V0)) transposes_S4x128x64_S64x4x128_2_0_1) (broadcastInDim S64x4x128 ![0, 1, 2] bcast_S64x4x1_S64x4x128_0_1_2 (V0 (Proc.devRef .tc main_v70_14)))) (transpose S64x4x128 [1, 0, 2] (Host.dotGeneral dot_S4x64x64_S64x4x128_S4x64x128_1_0_2_2_0_1 none (res_main_while0b_v260 V0) (res_main_while0b_v81 V0)) transposes_S4x64x128_S64x4x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x4x128_S1x64x4x128) = _
  exact al_274 h
theorem step_22 (h : Holds V0 s j) : step_main_v70_22 V0 = (step j s).main_v70_22 := by
  unfold step_main_v70_22 Step.step
  show id (Host.dynamicUpdateSlice (V0 (Proc.devRef .tc main_v70_22)) (broadcastInDim S1x64x4x256 ![1, 2, 3] bcast_S64x4x256_S1x64x4x256_1_2_3 (addf (transpose S64x4x256 [2, 0, 1] (Host.dotGeneral dot_S4x128x256_S64x4x128_S4x256x64_1_2_2_0_0_1 none (V0 (Proc.devRef .tc main_v70_17)) (res_main_while0b_v103 V0)) transposes_S4x256x64_S64x4x256_2_0_1) (transpose S64x4x256 [2, 0, 1] (Host.dotGeneral dot_S4x256x64_S4x64x64_S4x256x64_2_1_1_2_0_0 none (res_main_while0b_v255 V0) (res_main_while0b_v91 V0)) transposes_S4x256x64_S64x4x256_2_0_1))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x4x256_S1x64x4x256) = _
  exact al_279 h
theorem step_23 (h : Holds V0 s j) : step_main_v70_23 V0 = (step j s).main_v70_23 := by
  unfold step_main_v70_23 Step.step
  show id (Host.dynamicUpdateSlice (V0 (Proc.devRef .tc main_v70_23)) (broadcastInDim S1x64x8x4x64 ![1, 2, 3, 4] bcast_S64x8x4x64_S1x64x8x4x64_1_2_3_4 (mulf (res_main_while0b_v195 V0) (broadcastInDim S64x8x4x64 ![0, 1, 2, 3] bcast_S64x8x4x1_S64x8x4x64_0_1_2_3 (res_main_while0b_v122 V0)))) (fun k => (((![res_main_while0b_v78 V0, constantI S_ 32 0#32, constantI S_ 32 0#32, constantI S_ 32 0#32, constantI S_ 32 0#32] : Fin 5 → (⟨S_, .i32⟩ : BufTy).Contents (Elt F))) k (Shape.Idx.first h_S_)).toInt) updateFits_S64x64x8x4x64_S1x64x8x4x64) = _
  exact al_285 h
theorem step_24 (h : Holds V0 s j) : step_main_v70_24 V0 = (step j s).main_v70_24 := by
  unfold step_main_v70_24 Step.step
  show id (Host.dynamicUpdateSlice (V0 (Proc.devRef .tc main_v70_24)) (broadcastInDim S1x64x8x4 ![1, 2, 3] bcast_S64x8x4_S1x64x8x4_1_2_3 (addf (Host.reduceAdd (shapeCast S64x8x4x1 (Host.reduceAdd (mulf (res_main_while0b_v84 V0) (res_main_while0b_v195 V0)) (constant S_ .f32 0x00000000#32) reducesTo_S64x8x4x64_S64x8x4_d3 h_S_) shapeCasts_S64x8x4_S64x8x4x1) (constant S_ .f32 0x00000000#32) reducesTo_S64x8x4x1_S64x8x4_d3 h_S_) (mulf (res_main_while0b_v231 V0) (broadcastInDim S64x8x4 ![0, 1, 2] bcast_S1x8x4_S64x8x4_0_1_2 (res_main_while0b_v106 V0))))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x8x4_S1x64x8x4) = _
  exact al_290 h
theorem step_25 (h : Holds V0 s j) : step_main_v70_25 V0 = (step j s).main_v70_25 := by
  unfold step_main_v70_25 Step.step
  show id (Host.dynamicUpdateSlice (V0 (Proc.devRef .tc main_v70_25)) (broadcastInDim S1x64x8x128 ![1, 2, 3] bcast_S64x8x128_S1x64x8x128_1_2_3 (addf (transpose S64x8x128 [2, 0, 1] (Host.dotGeneral dot_S8x4x64x128_S64x8x4x64_S8x128x64_12_23_3_0_0_1 none (V0 (Proc.devRef .tc main_v70_18)) (res_main_while0b_v149 V0)) transposes_S8x128x64_S64x8x128_2_0_1) (transpose S64x8x128 [1, 0, 2] (Host.dotGeneral dot_S8x64x64_S64x8x128_S8x64x128_1_0_2_2_0_1 none (res_main_while0b_v201 V0) (res_main_while0b_v87 V0)) transposes_S8x64x128_S64x8x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x8x128_S1x64x8x128) = _
  exact al_295 h
theorem step_26 (h : Holds V0 s j) : step_main_v70_26 V0 = (step j s).main_v70_26 := by
  unfold step_main_v70_26 Step.step
  show id (Host.dynamicUpdateSlice (V0 (Proc.devRef .tc main_v70_26)) (broadcastInDim S1x64x8x128 ![1, 2, 3] bcast_S64x8x128_S1x64x8x128_1_2_3 (addf (transpose S64x8x128 [1, 0, 2] (Host.dotGeneral dot_S8x4x64x64_S8x4x64x128_S8x64x128_12_12_3_3_0_0 none (res_main_while0b_v186 V0) (res_main_while0b_v80 V0)) transposes_S8x64x128_S64x8x128_1_0_2) (transpose S64x8x128 [1, 0, 2] (Host.dotGeneral dot_S8x64x64_S64x8x128_S8x64x128_2_0_1_2_0_1 none (res_main_while0b_v201 V0) (res_main_while0b_v86 V0)) transposes_S8x64x128_S64x8x128_1_0_2))) (fun k => (((![res_main_while0b_v78 V0, constantI S_ 32 0#32, constantI S_ 32 0#32, constantI S_ 32 0#32] : Fin 4 → (⟨S_, .i32⟩ : BufTy).Contents (Elt F))) k (Shape.Idx.first h_S_)).toInt) updateFits_S64x64x8x128_S1x64x8x128) = _
  exact al_300 h
theorem step_16 (h : Holds V0 s j) : step_main_v70_16 V0 = constantI S_ 32 (BitVec.ofNat 32 (j + 1)) := by
  unfold step_main_v70_16
  rw [h.n_16]
  funext i
  show BitVec.ofNat 32 j + 1#32 = BitVec.ofNat 32 (j + 1)
  simp only [BitVec.ofNat_add]

theorem out_main_v71_holds (h : Holds V0 s j) : out_main_v71 V0 = Step.R_main_v71 s := by
  unfold out_main_v71 Step.R_main_v71
  rw [h.f_20]
  try rfl

theorem out_main_v72_holds (h : Holds V0 s j) : out_main_v72 V0 = Step.R_main_v72 s := by
  unfold out_main_v72 Step.R_main_v72
  rw [h.f_21]
  try rfl

theorem out_main_v76_holds (h : Holds V0 s j) {x_main_arg10 : (⟨S4096x12288, .bf16⟩ : BufTy).Contents (Elt F)} (h_main_arg10 : V0 (Proc.devRef .tc main_arg10) = x_main_arg10) : out_main_v76 V0 = Step.R_main_v76 s x_main_arg10 := by
  unfold out_main_v76 Step.R_main_v76
  rw [h.f_22, h_main_arg10]
  try rfl

/-- One trip keeps the valuation holding: `step` of the state, the same set-up values, the next number. -/
theorem holds_step (h : Holds V0 s j) : Holds (STEP V0) (step j s) (j + 1) where
  f_17 := (STEP_main_v70_17 V0).trans (step_17 h)
  f_18 := (STEP_main_v70_18 V0).trans (step_18 h)
  f_19 := (STEP_main_v70_19 V0).trans (step_19 h)
  f_20 := (STEP_main_v70_20 V0).trans (step_20 h)
  f_21 := (STEP_main_v70_21 V0).trans (step_21 h)
  f_22 := (STEP_main_v70_22 V0).trans (step_22 h)
  f_23 := (STEP_main_v70_23 V0).trans (step_23 h)
  f_24 := (STEP_main_v70_24 V0).trans (step_24 h)
  f_25 := (STEP_main_v70_25 V0).trans (step_25 h)
  f_26 := (STEP_main_v70_26 V0).trans (step_26 h)
  n_16 := (STEP_main_v70_16 V0).trans (step_16 h)
  k_11 := (STEP_main_v70_11 V0).trans h.k_11
  k_12 := (STEP_main_v70_12 V0).trans h.k_12
  k_13 := (STEP_main_v70_13 V0).trans h.k_13
  k_14 := (STEP_main_v70_14 V0).trans h.k_14
  f_0 := (STEP_main_v70_0 V0).trans h.f_0
  f_1 := (STEP_main_v70_1 V0).trans h.f_1
  f_2 := (STEP_main_v70_2 V0).trans h.f_2
  f_3 := (STEP_main_v70_3 V0).trans h.f_3
  f_4 := (STEP_main_v70_4 V0).trans h.f_4
  f_5 := (STEP_main_v70_5 V0).trans h.f_5
  f_6 := (STEP_main_v70_6 V0).trans h.f_6
  f_7 := (STEP_main_v70_7 V0).trans h.f_7
  f_8 := (STEP_main_v70_8 V0).trans h.f_8
  f_9 := (STEP_main_v70_9 V0).trans h.f_9
  f_10 := (STEP_main_v70_10 V0).trans h.f_10
  f_15 := (STEP_main_v70_15 V0).trans h.f_15

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v71) = Step.R_main_v71 (it c 64)
      ∧ r.2.mem ((c.tc : Thread nD τ).loc main_v72) = Step.R_main_v72 (it c 64)
      ∧ r.2.mem ((c.tc : Thread nD τ).loc main_v76) = Step.R_main_v76 (it c 64) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 64
    ⟨(h c).1.trans (out_main_v71_holds hk), (h c).2.1.trans (out_main_v72_holds hk), (h c).2.2.1.trans (out_main_v76_holds hk (iter_main_arg10 m c 64)), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.StepRun

end
-- ==== Proof.KernelOps.lean ====
/-
  The arithmetic of one grid point, stated once: what a retention head's block and a state-space group's block of the kernel
  compute, as functions of the vectors they load. The kernel's text has four copies of the first and eight of the second,
  cut at different places; Proof/KernelPoint.lean shows that every copy is one of these functions.
-/
module

public import proofs.«01_k».proof.Proof.Gen.KernelIdeal.Skeleton

@[expose] public section

noncomputable section

namespace Cert.KernelIdeal.Value

open Idealize.ShloMosaic Idealize.SL.Sem
open Cert.KernelIdeal Cert.KernelIdeal.Gen

variable {F : FTy → Type} [FloatOps F]

/-! ## A retention head -/

/-- Scores times decay: `(q kᵀ) ∘ D`. -/
def rA (q k : FVec F S64x128 .f32) (dm : FVec F S1x64x64 .f32) : FVec F S64x64 .f32 :=
  mulf (matmul dot_S64x128_S64x128_S64x64_1_1_0_0_n_n none (truncf .bf16 q bitsLt_bf16_f32) (truncf .bf16 k bitsLt_bf16_f32)
    (constant S64x64 .f32 0x00000000#32)) (shapeCast S64x64 dm shapeCasts_S1x64x64_S64x64)

/-- The gradient of the scores: `(dy vᵀ) ∘ D`. -/
def rDp (dy v : FVec F S64x256 .f32) (dm : FVec F S1x64x64 .f32) : FVec F S64x64 .f32 :=
  mulf (matmul dot_S64x256_S64x256_S64x64_1_1_0_0_n_n none (truncf .bf16 dy bitsLt_bf16_f32) (truncf .bf16 v bitsLt_bf16_f32)
    (constant S64x64 .f32 0x00000000#32)) (shapeCast S64x64 dm shapeCasts_S1x64x64_S64x64)

/-- The gradient of the queries. -/
def rDq (k : FVec F S64x128 .f32) (v : FVec F S64x256 .f32) (s : FVec F S1x128x256 .f32) (dm : FVec F S1x64x64 .f32)
    (qd : FVec F S64x128 .f32) (dy : FVec F S64x256 .f32) : FVec F S64x128 .f32 :=
  addf (matmul dot_S64x64_S64x128_S64x128_1_0_0_1_n_n none (truncf .bf16 (rDp dy v dm) bitsLt_bf16_f32)
      (truncf .bf16 k bitsLt_bf16_f32) (constant S64x128 .f32 0x00000000#32))
    (mulf (matmul dot_S64x256_S128x256_S64x128_1_1_0_0_n_n none (truncf .bf16 dy bitsLt_bf16_f32)
      (truncf .bf16 (shapeCast S128x256 s shapeCasts_S1x128x256_S128x256 : FVec F S128x256 .f32) bitsLt_bf16_f32)
      (constant S64x128 .f32 0x00000000#32))
      (shapeCast S64x128 qd shapeCasts_S64x128_S64x128))

/-- The gradient of the keys. -/
def rDk (q : FVec F S64x128 .f32) (v : FVec F S64x256 .f32) (dm : FVec F S1x64x64 .f32) (kd : FVec F S64x128 .f32)
    (dy : FVec F S64x256 .f32) (ds : FVec F S128x256 .f32) : FVec F S64x128 .f32 :=
  addf (matmul dot_S64x64_S64x128_S64x128_0_0_1_1_n_n none (truncf .bf16 (rDp dy v dm) bitsLt_bf16_f32)
      (truncf .bf16 q bitsLt_bf16_f32) (constant S64x128 .f32 0x00000000#32))
    (mulf (matmul dot_S64x256_S128x256_S64x128_1_1_0_0_n_n none (truncf .bf16 v bitsLt_bf16_f32)
      (truncf .bf16 ds bitsLt_bf16_f32) (constant S64x128 .f32 0x00000000#32))
      (shapeCast S64x128 kd shapeCasts_S64x128_S64x128))

/-- The gradient of the values, as the kernel stores it. -/
def rDv (q k : FVec F S64x128 .f32) (dm : FVec F S1x64x64 .f32) (kd : FVec F S64x128 .f32)
    (dy : FVec F S64x256 .f32) (ds : FVec F S128x256 .f32) : FVec F S64x256 .bf16 :=
  truncf .bf16 (addf (matmul dot_S64x64_S64x256_S64x256_0_0_1_1_n_n none (truncf .bf16 (rA q k dm) bitsLt_bf16_f32)
      (truncf .bf16 dy bitsLt_bf16_f32) (constant S64x256 .f32 0x00000000#32))
    (matmul dot_S64x128_S128x256_S64x256_1_0_0_1_n_n none
      (truncf .bf16 (mulf k (shapeCast S64x128 kd shapeCasts_S64x128_S64x128)) bitsLt_bf16_f32)
      (truncf .bf16 ds bitsLt_bf16_f32) (constant S64x256 .f32 0x00000000#32))) bitsLt_bf16_f32

/-- The gradient of the state the chunk starts from. -/
def rDs (q : FVec F S64x128 .f32) (qd : FVec F S64x128 .f32) (cd : FVec F S128x256 .f32)
    (dy : FVec F S64x256 .f32) (ds : FVec F S128x256 .f32) : FVec F S128x256 .f32 :=
  shapeCast S128x256 (addf (mulf (shapeCast S128x256 cd shapeCasts_S128x256_S128x256) ds)
    (matmul dot_S64x128_S64x256_S128x256_0_0_1_1_n_n none
      (truncf .bf16 (mulf q (shapeCast S64x128 qd shapeCasts_S64x128_S64x128)) bitsLt_bf16_f32)
      (truncf .bf16 dy bitsLt_bf16_f32) (constant S128x256 .f32 0x00000000#32))) shapeCasts_S128x256_S128x256

/-! ## A state-space group -/

/-- One step of the doubling prefix sum over the rows. -/
def cstep (s : BitVec 32) (a : FVec F S64x256 .f32) : FVec F S64x256 .f32 :=
  addf a (select (cmpi .sge (iota .tc S64x256 32 [0] iota_S64x256_d0_w32) (broadcast S64x256 s))
    (dynamicRotate 0 s none a rotates_S64x256_d0) (broadcast S64x256 (Scalar.ofBits .f32 0x00000000#32)))

/-- One step of the doubling suffix sum over the rows. -/
def rstep (s : BitVec 32) (a : FVec F S64x256 .f32) : FVec F S64x256 .f32 :=
  addf a (select (cmpi .slt (iota .tc S64x256 32 [0] iota_S64x256_d0_w32) (broadcast S64x256 s))
    (dynamicRotate 0 s none a rotates_S64x256_d0) (broadcast S64x256 (Scalar.ofBits .f32 0x00000000#32)))

/-- A column vector's sum, as a row. -/
def colsum (a : FVec F S64x256 .f32) : FVec F S1x256 .f32 :=
  shapeCast S1x256 (multiReduction .add [0] S256 a 0x00000000#32 reduces_S64x256_S256 (.inl rfl) rfl : FVec F S256 .f32)
    shapeCasts_S256_S1x256

/-- The running sum of `dt a` over the rows. -/
def gCum (dtx : FVec F S64x256 .f32) (ax : FVec F S1x256 .f32) : FVec F S64x256 .f32 :=
  cstep 32#32 (cstep 16#32 (cstep 8#32 (cstep 4#32 (cstep 2#32 (cstep 1#32
    (mulf (shapeCast S64x256 dtx shapeCasts_S64x256_S64x256)
      (broadcastTo S64x256 (shapeCast S1x256 ax shapeCasts_S1x256_S1x256) broadcasts_S1x256_S64x256)))))))

/-- Its last row. -/
def gLast (cum : FVec F S64x256 .f32) : FVec F S1x256 .f32 :=
  extractStridedSlice S1x256 ![63, 0] cum slices_S64x256_o63_0_S1x256

/-- Its transpose, read along the diagonal, as a row, taken away from it. -/
def gDelta (eye cum : FVec F S64x256 .f32) : FVec F S64x256 .f32 :=
  subf cum (broadcastTo S64x256 (colsum (select (cmpf .ogt (shapeCast S64x256 eye shapeCasts_S64x256_S64x256)
    (broadcast S64x256 (Scalar.ofBits .f32 0x3F000000#32))) cum (broadcast S64x256 (Scalar.ofBits .f32 0x00000000#32))))
    broadcasts_S1x256_S64x256)

/-- `exp (-|δ|)`. -/
def gLam (delta : FVec F S64x256 .f32) : FVec F S64x256 .f32 :=
  exp (subf (broadcast S64x256 (Scalar.ofBits .f32 0x00000000#32)) (absf delta))

/-- `dt x`. -/
def gX (xs dtx : FVec F S64x256 .f32) : FVec F S64x256 .f32 :=
  mulf xs (shapeCast S64x256 dtx shapeCasts_S64x256_S64x256)

/-- Four copies of `b`, one under the other. -/
def gB4 (b : FVec F S64x128 .f32) : FVec F S256x128 .f32 :=
  concatenate S256x128 0 [⟨S64x128, b⟩, ⟨S64x128, b⟩, ⟨S64x128, b⟩, ⟨S64x128, b⟩]
    concatenates_S64x128_S64x128_S64x128_S64x128_S256x128_d0

/-- `c bᵀ`, four times side by side. -/
def gCb (b c : FVec F S64x128 .f32) : FVec F S64x256 .f32 :=
  matmul dot_S64x128_S256x128_S64x256_1_1_0_0_n_n none (truncf .bf16 c bitsLt_bf16_f32)
    (truncf .bf16 (gB4 b) bitsLt_bf16_f32) (constant S64x256 .f32 0x00000000#32)

/-- The four heads' `x` as one block-diagonal matrix. -/
def gBd (blk : FVec F S256x256 .f32) (x : FVec F S64x256 .f32) : FVec F S256x256 .f32 :=
  mulf (concatenate S256x256 0 [⟨S64x256, x⟩, ⟨S64x256, x⟩, ⟨S64x256, x⟩, ⟨S64x256, x⟩]
    concatenates_S64x256_S64x256_S64x256_S64x256_S256x256_d0) (shapeCast S256x256 blk shapeCasts_S256x256_S256x256)

/-- `exp (cum_last - cum)`. -/
def gWl (cum : FVec F S64x256 .f32) : FVec F S64x256 .f32 :=
  exp (subf (broadcastTo S64x256 (gLast cum) broadcasts_S1x256_S64x256) cum)

/-- `c h`. -/
def gZ (c : FVec F S64x128 .f32) (h : FVec F S128x256 .f32) : FVec F S64x256 .f32 :=
  matmul dot_S64x128_S128x256_S64x256_1_0_0_1_n_n none (truncf .bf16 c bitsLt_bf16_f32)
    (truncf .bf16 h bitsLt_bf16_f32) (constant S64x256 .f32 0x00000000#32)

/-- `dy` against the block-diagonal `x`: the gradient of the weights. -/
def gDwc (dy : FVec F S64x256 .f32) (bd : FVec F S256x256 .f32) : FVec F S64x256 .f32 :=
  matmul dot_S64x256_S256x256_S64x256_1_1_0_0_n_n none (truncf .bf16 dy bitsLt_bf16_f32)
    (truncf .bf16 bd bitsLt_bf16_f32) (constant S64x256 .f32 0x00000000#32)

/-- The sum of the four row blocks of a matrix of 256 columns. -/
def gFold (m : FVec F S256x256 .f32) : FVec F S64x256 .f32 :=
  addf (addf (addf (extractStridedSlice S64x256 ![0, 0] m slices_S256x256_o0_0_S64x256)
    (extractStridedSlice S64x256 ![64, 0] m slices_S256x256_o64_0_S64x256))
    (extractStridedSlice S64x256 ![128, 0] m slices_S256x256_o128_0_S64x256))
    (extractStridedSlice S64x256 ![192, 0] m slices_S256x256_o192_0_S64x256)

/-- The same of a matrix of 128 columns. -/
def gFold' (m : FVec F S256x128 .f32) : FVec F S64x128 .f32 :=
  addf (addf (addf (extractStridedSlice S64x128 ![0, 0] m slices_S256x128_o0_0_S64x128)
    (extractStridedSlice S64x128 ![64, 0] m slices_S256x128_o64_0_S64x128))
    (extractStridedSlice S64x128 ![128, 0] m slices_S256x128_o128_0_S64x128))
    (extractStridedSlice S64x128 ![192, 0] m slices_S256x128_o192_0_S64x128)

/-- The gradient of `dt x`, from the weights `wc`, the incoming gradient and `dt = b dh`. -/
def gDx (blk : FVec F S256x256 .f32) (wc dy bdh wl : FVec F S64x256 .f32) : FVec F S64x256 .f32 :=
  addf (gFold (mulf (matmul dot_S64x256_S64x256_S256x256_0_0_1_1_n_n none (truncf .bf16 wc bitsLt_bf16_f32)
    (truncf .bf16 dy bitsLt_bf16_f32) (constant S256x256 .f32 0x00000000#32))
    (shapeCast S256x256 blk shapeCasts_S256x256_S256x256))) (mulf bdh wl)

/-- The gradient of `c`. -/
def gDc (b : FVec F S64x128 .f32) (dcb dz : FVec F S64x256 .f32) (h : FVec F S128x256 .f32) : FVec F S64x128 .f32 :=
  addf (matmul dot_S64x256_S256x128_S64x128_1_0_0_1_n_n none (truncf .bf16 dcb bitsLt_bf16_f32)
      (truncf .bf16 (gB4 b) bitsLt_bf16_f32) (constant S64x128 .f32 0x00000000#32))
    (matmul dot_S64x256_S128x256_S64x128_1_1_0_0_n_n none (truncf .bf16 dz bitsLt_bf16_f32)
      (truncf .bf16 h bitsLt_bf16_f32) (constant S64x128 .f32 0x00000000#32))

/-- The gradient of `b`. -/
def gDb (c : FVec F S64x128 .f32) (dcb x wl : FVec F S64x256 .f32) (dh : FVec F S128x256 .f32) : FVec F S64x128 .f32 :=
  addf (gFold' (matmul dot_S64x256_S64x128_S256x128_0_0_1_1_n_n none (truncf .bf16 dcb bitsLt_bf16_f32)
      (truncf .bf16 c bitsLt_bf16_f32) (constant S256x128 .f32 0x00000000#32)))
    (matmul dot_S64x256_S128x256_S64x128_1_1_0_0_n_n none (truncf .bf16 (mulf x wl) bitsLt_bf16_f32)
      (truncf .bf16 dh bitsLt_bf16_f32) (constant S64x128 .f32 0x00000000#32))

/-- The sign of `δ`. -/
def gSign (delta : FVec F S64x256 .f32) : FVec F S64x256 .f32 :=
  select (cmpf .ogt (absf delta) (broadcast S64x256 (Scalar.ofBits .f32 0x00000000#32)))
    (select (cmpf .olt delta (constant S64x256 .f32 0x00000000#32)) (constant S64x256 .f32 0xBF800000#32)
      (constant S64x256 .f32 0x3F800000#32)) delta

/-- The gradient of the weights times their derivative in `δ`. -/
def gG (dwc cb lam delta : FVec F S64x256 .f32) : FVec F S64x256 .f32 :=
  mulf (mulf (mulf dwc cb) lam) (subf (broadcast S64x256 (Scalar.ofBits .f32 0x00000000#32)) (gSign delta))

/-- The sum over the rows of `dh h`, as a row. -/
def gHsum (dh h : FVec F S128x256 .f32) : FVec F S1x256 .f32 :=
  shapeCast S1x256 (multiReduction .add [0] S256 (mulf dh h) 0x00000000#32 reduces_S128x256_S256 (.inl rfl) rfl : FVec F S256 .f32)
    shapeCasts_S256_S1x256

/-- What is added in the last row: the gradient of the last running sum. -/
def gLastrow (dwl : FVec F S64x256 .f32) (dh h : FVec F S128x256 .f32) (ecl : FVec F S1x256 .f32) : FVec F S1x256 .f32 :=
  addf (colsum dwl) (mulf (gHsum dh h) ecl)

/-- The gradient of the running sum, spread over a head's 64 columns. -/
def gU (eye g dy z ecx dwl : FVec F S64x256 .f32) (lastrow : FVec F S1x256 .f32) : FVec F S64x256 .f32 :=
  addf (subf (addf (addf g (mulf (shapeCast S64x256 eye shapeCasts_S64x256_S64x256)
      (broadcastTo S64x256 (subf (broadcast S1x256 (Scalar.ofBits .f32 0x00000000#32)) (colsum g)) broadcasts_S1x256_S64x256)))
      (mulf (mulf dy z) ecx)) dwl)
    (select (cmpi .eq (iota .tc S64x256 32 [0] iota_S64x256_d0_w32) (broadcast S64x256 63#32))
      (broadcastTo S64x256 (shapeCast S1x256 lastrow shapeCasts_S1x256_S1x256) broadcasts_S1x256_S64x256)
      (broadcast S64x256 (Scalar.ofBits .f32 0x00000000#32)))

/-- The suffix sum over the rows. -/
def gRc (u : FVec F S64x256 .f32) : FVec F S64x256 .f32 :=
  rstep 32#32 (rstep 48#32 (rstep 56#32 (rstep 60#32 (rstep 62#32 (rstep 63#32 u)))))

/-- The gradient of the state the chunk starts from. -/
def gDh (c : FVec F S64x128 .f32) (dz : FVec F S64x256 .f32) (dh : FVec F S128x256 .f32) (ecl : FVec F S1x256 .f32) :
    FVec F S128x256 .f32 :=
  addf (matmul dot_S64x128_S64x256_S128x256_0_0_1_1_n_n none (truncf .bf16 c bitsLt_bf16_f32)
    (truncf .bf16 dz bitsLt_bf16_f32) (constant S128x256 .f32 0x00000000#32))
    (mulf dh (broadcastTo S128x256 ecl broadcasts_S1x256_S128x256))

section group
variable (eye : FVec F S64x256 .f32) (blk : FVec F S256x256 .f32) (xs dtx : FVec F S64x256 .f32) (b c : FVec F S64x128 .f32)
  (ax : FVec F S1x256 .f32) (hg : FVec F S1x128x256 .f32) (dy : FVec F S64x256 .f32) (dh : FVec F S128x256 .f32)

/-- The state the chunk starts from. -/
def sH : FVec F S128x256 .f32 := shapeCast S128x256 hg shapeCasts_S1x128x256_S128x256
/-- `δ` of the group. -/
def sDelta : FVec F S64x256 .f32 := gDelta eye (gCum dtx ax)
/-- The gradient of `c bᵀ`, head by head. -/
def sDcb : FVec F S64x256 .f32 := mulf (gDwc dy (gBd blk (gX xs dtx))) (gLam (sDelta eye dtx ax))
/-- The gradient of `c h`. -/
def sDz : FVec F S64x256 .f32 := mulf dy (exp (gCum dtx ax))
/-- The gradient of `dt x`. -/
def sDx : FVec F S64x256 .f32 :=
  gDx blk (mulf (gCb b c) (gLam (sDelta eye dtx ax))) dy (gZ b dh) (gWl (gCum dtx ax))
/-- The gradient of `exp (cum_last - cum)` times it. -/
def sDwl : FVec F S64x256 .f32 := mulf (mulf (gZ b dh) (gX xs dtx)) (gWl (gCum dtx ax))
/-- The gradient of the running sum. -/
def sU : FVec F S64x256 .f32 :=
  gU eye (gG (gDwc dy (gBd blk (gX xs dtx))) (gCb b c) (gLam (sDelta eye dtx ax)) (sDelta eye dtx ax)) dy (gZ c (sH hg))
    (exp (gCum dtx ax)) (sDwl xs dtx b ax dh) (gLastrow (sDwl xs dtx b ax dh) dh (sH hg) (exp (gLast (gCum dtx ax))))
/-- The gradient of `x`, as stored. -/
def sDxs : FVec F S64x256 .f32 :=
  mulf (sDx eye blk dtx b c ax dy dh) (shapeCast S64x256 dtx shapeCasts_S64x256_S64x256)
/-- The gradient of `dt`, spread over a head's 64 columns, as stored. -/
def sGdt : FVec F S64x256 .f32 :=
  addf (mulf (sDx eye blk dtx b c ax dy dh) xs)
    (mulf (gRc (sU eye blk xs dtx b c ax hg dy dh))
      (broadcastTo S64x256 (shapeCast S1x256 ax shapeCasts_S1x256_S1x256) broadcasts_S1x256_S64x256))
/-- The gradient of `b`, as stored. -/
def sDb : FVec F S64x128 .f32 := gDb c (sDcb eye blk xs dtx ax dy) (gX xs dtx) (gWl (gCum dtx ax)) dh
/-- The gradient of `c`, as stored. -/
def sDc : FVec F S64x128 .f32 := gDc b (sDcb eye blk xs dtx ax dy) (sDz dtx ax dy) (sH hg)
/-- What is added to the gradient of `a`, spread over a head's 64 columns. -/
def sDa : FVec F S1x256 .f32 :=
  colsum (mulf (gRc (sU eye blk xs dtx b c ax hg dy dh)) (shapeCast S64x256 dtx shapeCasts_S64x256_S64x256))
/-- The gradient of the state the chunk starts from, as stored. -/
def sDh : FVec F S128x256 .f32 :=
  shapeCast S128x256 (gDh c (sDz dtx ax dy) dh (exp (gLast (gCum dtx ax)))) shapeCasts_S128x256_S128x256
end group

end Cert.KernelIdeal.Value

end

end
-- ==== Proof.KernelBlk.lean ====
/-
  The blocks that a grid point of the kernel reads, cut into heads and groups, and the blocks that it leaves, as the functions of
  Proof/KernelOps.lean of them.
-/
module

public import proofs.«01_k».proof.Proof.KernelOps
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

/-! ## Blocks cut out of, and put together into, larger ones -/

section cut
variable {α : Type} {a b d : ℕ}

theorem inb2 (o0 o1 w0 w1 : ℕ) (h0 : o0 + w0 ≤ a) (h1 : o1 + w1 ≤ b) :
    ∀ i : Fin 2, (![o0, o1] : Fin 2 → ℕ) i + (![w0, w1] : Fin 2 → ℕ) i ≤ (![a, b] : Fin 2 → ℕ) i :=
  Fin.forall_fin_two.2 ⟨h0, h1⟩

/-- The `w0` by `w1` block at row `o0` and column `o1`. -/
def sl2 (o0 o1 w0 w1 : ℕ) (h0 : o0 + w0 ≤ a) (h1 : o1 + w1 ≤ b) (x : (⟨2, ![a, b]⟩ : Shape).Idx → α) :
    (⟨2, ![w0, w1]⟩ : Shape).Idx → α :=
  fun y => x ((Rect.unit (s := ⟨2, ![a, b]⟩) ![o0, o1] ![w0, w1] (inb2 o0 o1 w0 w1 h0 h1)).idx y)

theorem inb3 (o0 o1 o2 w0 w1 w2 : ℕ) (h0 : o0 + w0 ≤ a) (h1 : o1 + w1 ≤ b) (h2 : o2 + w2 ≤ d) :
    ∀ i : Fin 3, (![o0, o1, o2] : Fin 3 → ℕ) i + (![w0, w1, w2] : Fin 3 → ℕ) i ≤ (![a, b, d] : Fin 3 → ℕ) i := by
  intro i; fin_cases i <;> assumption

/-- The block of a cube at an offset. -/
def sl3 (o0 o1 o2 w0 w1 w2 : ℕ) (h0 : o0 + w0 ≤ a) (h1 : o1 + w1 ≤ b) (h2 : o2 + w2 ≤ d)
    (x : (⟨3, ![a, b, d]⟩ : Shape).Idx → α) : (⟨3, ![w0, w1, w2]⟩ : Shape).Idx → α :=
  fun y => x ((Rect.unit (s := ⟨3, ![a, b, d]⟩) ![o0, o1, o2] ![w0, w1, w2] (inb3 o0 o1 o2 w0 w1 w2 h0 h1 h2)).idx y)

/-- `n` blocks of `w` columns side by side. -/
def asmC (a w n : ℕ) (f : Fin n → (⟨2, ![a, w]⟩ : Shape).Idx → α) : (⟨2, ![a, n * w]⟩ : Shape).Idx → α :=
  fun y => f ⟨(y 1 : ℕ) / w, Nat.div_lt_of_lt_mul (lt_of_lt_of_eq (y 1).isLt (Nat.mul_comm n w))⟩
    (ix2 (⟨(y 0 : ℕ), (y 0).isLt⟩ : Fin a) ⟨(y 1 : ℕ) % w, Nat.mod_lt _ (Nat.pos_of_ne_zero fun h => by
      have := (y 1).isLt; subst h; exact absurd this (by simp))⟩)

/-- `n` blocks of `w` rows, one under the other. -/
def asmR (b w n : ℕ) (f : Fin n → (⟨2, ![w, b]⟩ : Shape).Idx → α) : (⟨2, ![n * w, b]⟩ : Shape).Idx → α :=
  fun y => f ⟨(y 0 : ℕ) / w, Nat.div_lt_of_lt_mul (lt_of_lt_of_eq (y 0).isLt (Nat.mul_comm n w))⟩
    (ix2 ⟨(y 0 : ℕ) % w, Nat.mod_lt _ (Nat.pos_of_ne_zero fun h => by
      have := (y 0).isLt; subst h; exact absurd this (by simp))⟩ (⟨(y 1 : ℕ), (y 1).isLt⟩ : Fin b))

theorem asmC_at {w n : ℕ} (f : Fin n → (⟨2, ![a, w]⟩ : Shape).Idx → α) (k : Fin n) (y : (⟨2, ![a, n * w]⟩ : Shape).Idx)
    (x : (⟨2, ![a, w]⟩ : Shape).Idx) (h0 : (y 0 : ℕ) = x 0) (h1 : (y 1 : ℕ) = k * w + x 1) : asmC a w n f y = f k x := by
  have hx : (x 1 : ℕ) < w := (x 1).isLt
  have hw : 0 < w := by omega
  unfold asmC
  have e1 : (⟨(y 1 : ℕ) / w, Nat.div_lt_of_lt_mul (lt_of_lt_of_eq (y 1).isLt (Nat.mul_comm n w))⟩ : Fin n) = k := by
    apply Fin.ext; show (y 1 : ℕ) / w = k
    rw [h1, Nat.mul_comm, Nat.mul_add_div hw, Nat.div_eq_of_lt hx, Nat.add_zero]
  rw [e1]; congr 1
  funext i; revert i; refine Fin.forall_fin_two.2 ⟨Fin.ext h0, Fin.ext ?_⟩
  show (y 1 : ℕ) % w = x 1
  rw [h1, Nat.mul_comm, Nat.mul_add_mod, Nat.mod_eq_of_lt hx]

theorem asmR_at {w n : ℕ} (f : Fin n → (⟨2, ![w, b]⟩ : Shape).Idx → α) (k : Fin n) (y : (⟨2, ![n * w, b]⟩ : Shape).Idx)
    (x : (⟨2, ![w, b]⟩ : Shape).Idx) (h0 : (y 0 : ℕ) = k * w + x 0) (h1 : (y 1 : ℕ) = x 1) : asmR b w n f y = f k x := by
  have hx : (x 0 : ℕ) < w := (x 0).isLt
  have hw : 0 < w := by omega
  unfold asmR
  have e1 : (⟨(y 0 : ℕ) / w, Nat.div_lt_of_lt_mul (lt_of_lt_of_eq (y 0).isLt (Nat.mul_comm n w))⟩ : Fin n) = k := by
    apply Fin.ext; show (y 0 : ℕ) / w = k
    rw [h0, Nat.mul_comm, Nat.mul_add_div hw, Nat.div_eq_of_lt hx, Nat.add_zero]
  rw [e1]; congr 1
  funext i; revert i; refine Fin.forall_fin_two.2 ⟨Fin.ext ?_, Fin.ext h1⟩
  show (y 0 : ℕ) % w = x 0
  rw [h0, Nat.mul_comm, Nat.mul_add_mod, Nat.mod_eq_of_lt hx]

/-- Blocks side by side, read inside block `k`. -/
theorem asmC_emb {w n : ℕ} (f : Fin n → (⟨2, ![a, w]⟩ : Shape).Idx → α) (k : Fin n) (o : ℕ) (inb) (ho : o = k * w)
    (x : (⟨2, ![a, w]⟩ : Shape).Idx) :
    asmC a w n f ((Rect.unit (s := ⟨2, ![a, n * w]⟩) ![0, o] ![a, w] inb).emb x) = f k x := by
  refine asmC_at f k _ x ?_ ?_
  · show 0 + 1 * (x 0 : ℕ) = x 0; omega
  · show o + 1 * (x 1 : ℕ) = k * w + x 1; omega

/-- Blocks under each other, read inside block `k`. -/
theorem asmR_emb {w n : ℕ} (f : Fin n → (⟨2, ![w, b]⟩ : Shape).Idx → α) (k : Fin n) (o : ℕ) (inb) (ho : o = k * w)
    (x : (⟨2, ![w, b]⟩ : Shape).Idx) :
    asmR b w n f ((Rect.unit (s := ⟨2, ![n * w, b]⟩) ![o, 0] ![w, b] inb).emb x) = f k x := by
  refine asmR_at f k _ x ?_ ?_
  · show o + 1 * (x 0 : ℕ) = k * w + x 0; omega
  · show 0 + 1 * (x 1 : ℕ) = x 1; omega
end cut

/-! ## What a point reads -/

/-- The blocks that one point reads, and the two gradients carried to it. -/
structure Blk (F : FTy → Type) where
  q : FVec F S64x512 .f32
  k : FVec F S64x512 .f32
  v : FVec F S64x1024 .f32
  xc : FVec F S64x4096 .f32
  dtx : FVec F S64x2048 .f32
  ax : FVec F S1x2048 .f32
  dm : FVec F S4x64x64 .f32
  qd : FVec F S64x512 .f32
  kd : FVec F S64x512 .f32
  cd : FVec F S512x256 .f32
  eye : FVec F S64x256 .f32
  blk : FVec F S256x256 .f32
  s : FVec F S1x512x256 .f32
  h : FVec F S1x128x2048 .f32
  dyr : FVec F S64x1024 .f32
  dys : FVec F S64x2048 .f32
  ds : FVec F S512x256 .f32
  dh : FVec F S128x2048 .f32
  da : FVec F S1x2048 .f32

namespace Blk
variable (B : Blk F)

/-- Head `i`'s 128 columns. -/
def h128 (x : FVec F S64x512 .f32) (i : Fin 4) : FVec F S64x128 .f32 := sl2 0 (128 * i) 64 128 (by omega) (by omega) x
/-- Head `i`'s 256 columns. -/
def h256 (x : FVec F S64x1024 .f32) (i : Fin 4) : FVec F S64x256 .f32 := sl2 0 (256 * i) 64 256 (by omega) (by omega) x
/-- Head `i`'s 128 rows. -/
def hRow (x : FVec F S512x256 .f32) (i : Fin 4) : FVec F S128x256 .f32 := sl2 (128 * i) 0 128 256 (by omega) (by omega) x
/-- Head `i`'s decay matrix. -/
def hDm (i : Fin 4) : FVec F S1x64x64 .f32 := sl3 i 0 0 1 64 64 (by omega) (by omega) (by omega) B.dm
/-- Head `i`'s state. -/
def hS (i : Fin 4) : FVec F S1x128x256 .f32 := sl3 0 (128 * i) 0 1 128 256 (by omega) (by omega) (by omega) B.s
/-- Group `g`'s 256 columns. -/
def g256 (x : FVec F S64x2048 .f32) (g : Fin 8) : FVec F S64x256 .f32 := sl2 0 (256 * g) 64 256 (by omega) (by omega) x
/-- Group `g`'s 256 columns of one row. -/
def gRow (x : FVec F S1x2048 .f32) (g : Fin 8) : FVec F S1x256 .f32 := sl2 0 (256 * g) 1 256 (by omega) (by omega) x
/-- Group `g`'s 256 columns of a state. -/
def gState (x : FVec F S128x2048 .f32) (g : Fin 8) : FVec F S128x256 .f32 := sl2 0 (256 * g) 128 256 (by omega) (by omega) x
/-- Group `g`'s saved state. -/
def gH (g : Fin 8) : FVec F S1x128x256 .f32 := sl3 0 0 (256 * g) 1 128 256 (by omega) (by omega) (by omega) B.h
/-- Group `g`'s part of the convolved inputs. -/
def gXs (g : Fin 8) : FVec F S64x256 .f32 := sl2 0 (256 * g) 64 256 (by omega) (by omega) B.xc
/-- Group `g`'s `b`. -/
def gB (g : Fin 8) : FVec F S64x128 .f32 := sl2 0 (2048 + 128 * g) 64 128 (by omega) (by omega) B.xc
/-- Group `g`'s `c`. -/
def gC (g : Fin 8) : FVec F S64x128 .f32 := sl2 0 (3072 + 128 * g) 64 128 (by omega) (by omega) B.xc

/-- The block of gradients of the queries. -/
def oDq : FVec F S64x512 .f32 := asmC 64 128 4 fun i =>
  rDq (h128 B.k i) (h256 B.v i) (B.hS i) (B.hDm i) (h128 B.qd i) (h256 B.dyr i)
/-- Of the keys. -/
def oDk : FVec F S64x512 .f32 := asmC 64 128 4 fun i =>
  rDk (h128 B.q i) (h256 B.v i) (B.hDm i) (h128 B.kd i) (h256 B.dyr i) (hRow B.ds i)
/-- Of the values. -/
def oDv : FVec F S64x1024 .bf16 := asmC 64 256 4 fun i =>
  rDv (h128 B.q i) (h128 B.k i) (B.hDm i) (h128 B.kd i) (h256 B.dyr i) (hRow B.ds i)
/-- Of the retention state. -/
def oDs : FVec F S512x256 .f32 := asmR 256 128 4 fun i =>
  rDs (h128 B.q i) (h128 B.qd i) (hRow B.cd i) (h256 B.dyr i) (hRow B.ds i)
/-- Of the convolved inputs: `x`, then `b`, then `c`. -/
def oDxc : FVec F S64x4096 .f32 := fun y =>
  if h : (y 1 : ℕ) < 2048 then
    asmC 64 256 8 (fun g => sDxs B.eye B.blk (g256 B.dtx g) (B.gB g) (B.gC g) (gRow B.ax g) (g256 B.dys g) (gState B.dh g))
      (ix2 (⟨(y 0 : ℕ), (y 0).isLt⟩ : Fin 64) ⟨(y 1 : ℕ), h⟩)
  else if h' : (y 1 : ℕ) < 3072 then
    asmC 64 128 8 (fun g => sDb B.eye B.blk (B.gXs g) (g256 B.dtx g) (B.gC g) (gRow B.ax g) (g256 B.dys g) (gState B.dh g))
      (ix2 (⟨(y 0 : ℕ), (y 0).isLt⟩ : Fin 64) ⟨(y 1 : ℕ) - 2048, by omega⟩)
  else
    asmC 64 128 8 (fun g => sDc B.eye B.blk (B.gXs g) (g256 B.dtx g) (B.gB g) (gRow B.ax g) (B.gH g) (g256 B.dys g))
      (ix2 (⟨(y 0 : ℕ), (y 0).isLt⟩ : Fin 64) ⟨(y 1 : ℕ) - 3072, by have := (y 1).isLt; simp at this; omega⟩)
/-- Of `dt`, spread over a head's 64 columns. -/
def oGdt : FVec F S64x2048 .f32 := asmC 64 256 8 fun g =>
  sGdt B.eye B.blk (B.gXs g) (g256 B.dtx g) (B.gB g) (B.gC g) (gRow B.ax g) (B.gH g) (g256 B.dys g) (gState B.dh g)
/-- Of `a`, spread over a head's 64 columns, added to what the points before left. -/
def oDa : FVec F S1x2048 .f32 := asmC 1 256 8 fun g =>
  addf (shapeCast S1x256 (gRow B.da g) shapeCasts_S1x256_S1x256)
    (sDa B.eye B.blk (B.gXs g) (g256 B.dtx g) (B.gB g) (B.gC g) (gRow B.ax g) (B.gH g) (g256 B.dys g) (gState B.dh g))
/-- Of the state-space state. -/
def oDh : FVec F S128x2048 .f32 := asmC 128 256 8 fun g =>
  sDh (g256 B.dtx g) (B.gC g) (gRow B.ax g) (g256 B.dys g) (gState B.dh g)
end Blk

theorem oDq_piece (B : Blk F) (i : Fin 4) (o : ℕ) (inb) (ho : o = i * 128) (x : S64x128.Idx) :
    B.oDq ((Rect.unit (s := S64x512) ![0, o] ![64, 128] inb).emb x)
      = rDq (Blk.h128 B.k i) (Blk.h256 B.v i) (B.hS i) (B.hDm i) (Blk.h128 B.qd i) (Blk.h256 B.dyr i) x :=
  asmC_emb (n := 4) (w := 128) _ i o inb ho x

theorem oDk_piece (B : Blk F) (i : Fin 4) (o : ℕ) (inb) (ho : o = i * 128) (x : S64x128.Idx) :
    B.oDk ((Rect.unit (s := S64x512) ![0, o] ![64, 128] inb).emb x)
      = rDk (Blk.h128 B.q i) (Blk.h256 B.v i) (B.hDm i) (Blk.h128 B.kd i) (Blk.h256 B.dyr i) (Blk.hRow B.ds i) x :=
  asmC_emb (n := 4) (w := 128) _ i o inb ho x

theorem oDv_piece (B : Blk F) (i : Fin 4) (o : ℕ) (inb) (ho : o = i * 256) (x : S64x256.Idx) :
    B.oDv ((Rect.unit (s := S64x1024) ![0, o] ![64, 256] inb).emb x)
      = rDv (Blk.h128 B.q i) (Blk.h128 B.k i) (B.hDm i) (Blk.h128 B.kd i) (Blk.h256 B.dyr i) (Blk.hRow B.ds i) x :=
  asmC_emb (n := 4) (w := 256) _ i o inb ho x

theorem oDs_piece (B : Blk F) (i : Fin 4) (o : ℕ) (inb) (ho : o = i * 128) (x : S128x256.Idx) :
    B.oDs ((Rect.unit (s := S512x256) ![o, 0] ![128, 256] inb).emb x)
      = rDs (Blk.h128 B.q i) (Blk.h128 B.qd i) (Blk.hRow B.cd i) (Blk.h256 B.dyr i) (Blk.hRow B.ds i) x :=
  asmR_emb (n := 4) (w := 128) _ i o inb ho x

section
variable (q k qd kd : FVec F S64x128 .f32) (v dy : FVec F S64x256 .f32) (s : FVec F S1x128x256 .f32) (dm : FVec F S1x64x64 .f32)
  (ds cd : FVec F S128x256 .f32)
theorem dq0 : k0_pay14 (k0_pay6 qd) (k0_pay11 k v dm dy) (k0_pay12 dy) (k0_pay13 s) = rDq k v s dm qd dy := rfl
theorem dq1 : k0_pay23 k v s dm qd dy = rDq k v s dm qd dy := rfl
theorem dq2 : k0_pay34 k v (k0_pay29 s) (k0_pay30 dm) (k0_pay31 qd) dy = rDq k v s dm qd dy := rfl
theorem dq3 : k0_pay49 k (k0_pay40 s) (k0_pay41 dm) (k0_pay42 qd) dy (k0_pay46 dy) (k0_pay47 v) = rDq k v s dm qd dy := rfl
theorem dk0 : k0_pay15 q v (k0_pay7 kd) ds (k0_pay10 v dm dy) = rDk q v dm kd dy ds := rfl
theorem dk1 : k0_pay24 q v dm kd dy ds = rDk q v dm kd dy ds := rfl
theorem dk2 : k0_pay35 q v (k0_pay30 dm) (k0_pay32 kd) dy ds = rDk q v dm kd dy ds := rfl
theorem dk3 : k0_pay50 q v (k0_pay41 dm) (k0_pay43 kd) ds (k0_pay46 dy) (k0_pay47 v) = rDk q v dm kd dy ds := rfl
theorem dv0 : k0_pay16 k (k0_pay7 kd) dy ds (k0_pay9 q k dm) = rDv q k dm kd dy ds := rfl
theorem dv1 : k0_pay27 k (k0_pay20 kd) ds (k0_pay25 q k dm) (k0_pay26 dy) (constant S64x256 FTy.f32 0#32) = rDv q k dm kd dy ds := rfl
theorem dv2 : k0_pay38 (k0_pay36 q k (k0_pay30 dm) (k0_pay32 kd) dy ds) = rDv q k dm kd dy ds := rfl
theorem dv3 : k0_pay51 k (k0_pay43 kd) dy ds (k0_pay45 q k dm) = rDv q k dm kd dy ds := rfl
theorem ds0 : k0_pay17 q (k0_pay6 qd) (k0_pay8 cd) dy ds = rDs q qd cd dy ds := rfl
theorem ds1 : k0_pay28 q (k0_pay19 qd) (k0_pay21 cd) dy ds = rDs q qd cd dy ds := rfl
theorem ds2 : k0_pay39 (k0_pay37 q (k0_pay31 qd) cd dy ds) = rDs q qd cd dy ds := rfl
theorem ds3 : k0_pay52 q (k0_pay42 qd) (k0_pay44 cd) dy ds = rDs q qd cd dy ds := rfl
end

end Cert.KernelIdeal.Value

end
-- ==== Proof.KernelPoint.lean ====
/-
  One grid point: what it leaves in every output block and in the two carried gradients, as the functions of Proof/KernelOps.lean
  of the blocks it reads and of what the point before left.
-/
module

public import proofs.«01_k».proof.Proof.KernelFrame
public import proofs.«01_k».proof.Proof.KernelBlk
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- What point `t` reads: its blocks of the arrays, and the gradients that the point before left (zeros at the first). -/
def blkAt (c : Dev nD) (t : Fin cfg0.N) : Blk F where
  q := iblk m c 0 t
  k := iblk m c 1 t
  v := iblk m c 2 t
  xc := iblk m c 3 t
  dtx := iblk m c 4 t
  ax := iblk m c 5 t
  dm := iblk m c 6 t
  qd := iblk m c 7 t
  kd := iblk m c 8 t
  cd := iblk m c 9 t
  eye := iblk m c 10 t
  blk := iblk m c 11 t
  s := iblk m c 12 t
  h := iblk m c 13 t
  dyr := iblk m c 14 t
  dys := iblk m c 15 t
  ds := if t.val % 64 = 0 then k0_pay2 else (outsAt0 m c (t.val - 1) (Nat.lt_of_le_of_lt (Nat.sub_le _ _) t.isLt)).2.2.2.2.2.2.1
  dh := if t.val % 64 = 0 then k0_pay3 else (outsAt0 m c (t.val - 1) (Nat.lt_of_le_of_lt (Nat.sub_le _ _) t.isLt)).2.2.2.2.2.2.2
  da := if t.val % 64 = 0 then broadcast S1x2048 (Scalar.ofBits .f32 0x00000000#32) else (outsAt0 m c (t.val - 1) (Nat.lt_of_le_of_lt (Nat.sub_le _ _) t.isLt)).2.2.2.2.2.1

theorem dq_pt (c : Dev nD) (t : Fin cfg0.N) : (outsAt0 m c t.val t.isLt).1 = (blkAt m c t).oDq := by
  funext y
  by_cases h0 : t.val % 64 = 0
  · rw [outsAt0_A m c t h0, leftA]; dsimp only; frame_out
    unfold blkAt
    simp only [if_pos h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    refine View.canon_append_of_piecesOf (Val := Elt F) (e := .f32) (Blk.oDq _) [] (_ :: _ :: _ :: _ :: []) ?_ y ?_
    · refine ⟨fun x => ?_, fun x => ?_, fun x => ?_, fun x => ?_, trivial⟩
      · refine (congrFun (dq3 _ _ _ _ _ _ ) x).trans (Eq.trans ?_ (oDq_piece _ 3 384 inb_S64x512_S64x128_0_384 rfl x).symm)
        rfl
      · refine (congrFun (dq2 _ _ _ _ _ _ ) x).trans (Eq.trans ?_ (oDq_piece _ 2 256 inb_S64x512_S64x128_0_256 rfl x).symm)
        rfl
      · refine (congrFun (dq1 _ _ _ _ _ _ ) x).trans (Eq.trans ?_ (oDq_piece _ 1 128 inb_S64x512_S64x128_0_128 rfl x).symm)
        rfl
      · refine (congrFun (dq0 _ _ _ _ _ _ ) x).trans (Eq.trans ?_ (oDq_piece _ 0 0 inb_S64x512_S64x128_0_0 rfl x).symm)
        rfl
    · exact View.cover_of_tiled _ ![64, 128] (by rfl) y
  · rw [outsAt0_B m c t h0, leftB]; dsimp only; frame_out
    unfold blkAt
    simp only [if_neg h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    generalize (outsAt0 m c (t.val - 1) _).2.2.2.2.2.2.1 = xs
    refine View.canon_append_of_piecesOf (Val := Elt F) (e := .f32) (Blk.oDq _) [] (_ :: _ :: _ :: _ :: []) ?_ y ?_
    · refine ⟨fun x => ?_, fun x => ?_, fun x => ?_, fun x => ?_, trivial⟩
      · refine (congrFun (dq3 _ _ _ _ _ _ ) x).trans (Eq.trans ?_ (oDq_piece _ 3 384 inb_S64x512_S64x128_0_384 rfl x).symm)
        rfl
      · refine (congrFun (dq2 _ _ _ _ _ _ ) x).trans (Eq.trans ?_ (oDq_piece _ 2 256 inb_S64x512_S64x128_0_256 rfl x).symm)
        rfl
      · refine (congrFun (dq1 _ _ _ _ _ _ ) x).trans (Eq.trans ?_ (oDq_piece _ 1 128 inb_S64x512_S64x128_0_128 rfl x).symm)
        rfl
      · refine (congrFun (dq0 _ _ _ _ _ _ ) x).trans (Eq.trans ?_ (oDq_piece _ 0 0 inb_S64x512_S64x128_0_0 rfl x).symm)
        rfl
    · exact View.cover_of_tiled _ ![64, 128] (by rfl) y

theorem dk_pt (c : Dev nD) (t : Fin cfg0.N) : (outsAt0 m c t.val t.isLt).2.1 = (blkAt m c t).oDk := by
  funext y
  by_cases h0 : t.val % 64 = 0
  · rw [outsAt0_A m c t h0, leftA]; dsimp only; frame_open
    simp (disch := decide) only [↓View.readCov_skip, ↓View.readCov_cons_toLoadRect, ↓View.readCov_fill]
    frame_out
    unfold blkAt
    simp only [if_pos h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    refine View.canon_append_of_piecesOf (Val := Elt F) (e := .f32) (Blk.oDk _) [] (_ :: _ :: _ :: _ :: []) ?_ y ?_
    · refine ⟨fun x => ?_, fun x => ?_, fun x => ?_, fun x => ?_, trivial⟩
      · refine (congrFun (dk3 _ _ _ _ _ _ ) x).trans (Eq.trans ?_ (oDk_piece _ 3 384 inb_S64x512_S64x128_0_384 rfl x).symm)
        rfl
      · refine (congrFun (dk2 _ _ _ _ _ _ ) x).trans (Eq.trans ?_ (oDk_piece _ 2 256 inb_S64x512_S64x128_0_256 rfl x).symm)
        rfl
      · refine (congrFun (dk1 _ _ _ _ _ _ ) x).trans (Eq.trans ?_ (oDk_piece _ 1 128 inb_S64x512_S64x128_0_128 rfl x).symm)
        rfl
      · refine (congrFun (dk0 _ _ _ _ _ _ ) x).trans (Eq.trans ?_ (oDk_piece _ 0 0 inb_S64x512_S64x128_0_0 rfl x).symm)
        rfl
    · exact View.cover_of_tiled _ ![64, 128] (by rfl) y
  · rw [outsAt0_B m c t h0, leftB]; dsimp only; frame_out
    simp only [read_unread_whole]
    unfold blkAt
    simp only [if_neg h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    generalize (outsAt0 m c (t.val - 1) _).2.2.2.2.2.2.1 = xs
    refine View.canon_append_of_piecesOf (Val := Elt F) (e := .f32) (Blk.oDk _) [] (_ :: _ :: _ :: _ :: []) ?_ y ?_
    · refine ⟨fun x => ?_, fun x => ?_, fun x => ?_, fun x => ?_, trivial⟩
      · refine (congrFun (dk3 _ _ _ _ _ _ ) x).trans (Eq.trans ?_ (oDk_piece _ 3 384 inb_S64x512_S64x128_0_384 rfl x).symm)
        rfl
      · refine (congrFun (dk2 _ _ _ _ _ _ ) x).trans (Eq.trans ?_ (oDk_piece _ 2 256 inb_S64x512_S64x128_0_256 rfl x).symm)
        rfl
      · refine (congrFun (dk1 _ _ _ _ _ _ ) x).trans (Eq.trans ?_ (oDk_piece _ 1 128 inb_S64x512_S64x128_0_128 rfl x).symm)
        rfl
      · refine (congrFun (dk0 _ _ _ _ _ _ ) x).trans (Eq.trans ?_ (oDk_piece _ 0 0 inb_S64x512_S64x128_0_0 rfl x).symm)
        rfl
    · exact View.cover_of_tiled _ ![64, 128] (by rfl) y

theorem dv_pt (c : Dev nD) (t : Fin cfg0.N) : (outsAt0 m c t.val t.isLt).2.2.1 = (blkAt m c t).oDv := by
  funext y
  by_cases h0 : t.val % 64 = 0
  · rw [outsAt0_A m c t h0, leftA]; dsimp only; frame_open
    simp (disch := decide) only [↓View.readCov_skip, ↓View.readCov_cons_toLoadRect, ↓View.readCov_fill]
    frame_out
    unfold blkAt
    simp only [if_pos h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    refine View.canon_append_of_piecesOf (Val := Elt F) (e := .bf16) (Blk.oDv _) [] (_ :: _ :: _ :: _ :: []) ?_ y ?_
    · refine ⟨fun x => ?_, fun x => ?_, fun x => ?_, fun x => ?_, trivial⟩
      · refine (congrFun (dv3 _ _ _ _ _ _ ) x).trans (Eq.trans ?_ (oDv_piece _ 3 768 inb_S64x1024_S64x256_0_768 rfl x).symm)
        rfl
      · refine (congrFun (dv2 _ _ _ _ _ _ ) x).trans (Eq.trans ?_ (oDv_piece _ 2 512 inb_S64x1024_S64x256_0_512 rfl x).symm)
        rfl
      · refine (congrFun (dv1 _ _ _ _ _ _ ) x).trans (Eq.trans ?_ (oDv_piece _ 1 256 inb_S64x1024_S64x256_0_256 rfl x).symm)
        rfl
      · refine (congrFun (dv0 _ _ _ _ _ _ ) x).trans (Eq.trans ?_ (oDv_piece _ 0 0 inb_S64x1024_S64x256_0_0 rfl x).symm)
        rfl
    · exact View.cover_of_tiled _ ![64, 256] (by rfl) y
  · rw [outsAt0_B m c t h0, leftB]; dsimp only; frame_out
    simp only [read_unread_whole]
    unfold blkAt
    simp only [if_neg h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    generalize (outsAt0 m c (t.val - 1) _).2.2.2.2.2.2.1 = xs
    refine View.canon_append_of_piecesOf (Val := Elt F) (e := .bf16) (Blk.oDv _) [] (_ :: _ :: _ :: _ :: []) ?_ y ?_
    · refine ⟨fun x => ?_, fun x => ?_, fun x => ?_, fun x => ?_, trivial⟩
      · refine (congrFun (dv3 _ _ _ _ _ _ ) x).trans (Eq.trans ?_ (oDv_piece _ 3 768 inb_S64x1024_S64x256_0_768 rfl x).symm)
        rfl
      · refine (congrFun (dv2 _ _ _ _ _ _ ) x).trans (Eq.trans ?_ (oDv_piece _ 2 512 inb_S64x1024_S64x256_0_512 rfl x).symm)
        rfl
      · refine (congrFun (dv1 _ _ _ _ _ _ ) x).trans (Eq.trans ?_ (oDv_piece _ 1 256 inb_S64x1024_S64x256_0_256 rfl x).symm)
        rfl
      · refine (congrFun (dv0 _ _ _ _ _ _ ) x).trans (Eq.trans ?_ (oDv_piece _ 0 0 inb_S64x1024_S64x256_0_0 rfl x).symm)
        rfl
    · exact View.cover_of_tiled _ ![64, 256] (by rfl) y

theorem ds_pt (c : Dev nD) (t : Fin cfg0.N) : (outsAt0 m c t.val t.isLt).2.2.2.2.2.2.1 = (blkAt m c t).oDs := by
  funext y
  by_cases h0 : t.val % 64 = 0
  · rw [outsAt0_A m c t h0, leftA]; dsimp only; frame_open
    simp (disch := decide) only [↓View.readCov_skip, ↓View.readCov_cons_toLoadRect, ↓View.readCov_fill]
    frame_out
    unfold blkAt
    simp only [if_pos h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    refine View.canon_append_of_piecesOf (Val := Elt F) (e := .f32) (Blk.oDs _) [⟨_, _⟩] (_ :: _ :: _ :: _ :: []) ?_ y ?_
    · refine ⟨fun x => ?_, fun x => ?_, fun x => ?_, fun x => ?_, trivial⟩
      · refine (congrFun (ds3 _ _ _ _ _ ) x).trans (Eq.trans ?_ (oDs_piece _ 3 384 inb_S512x256_S128x256_384_0 rfl x).symm)
        rfl
      · refine (congrFun (ds2 _ _ _ _ _ ) x).trans (Eq.trans ?_ (oDs_piece _ 2 256 inb_S512x256_S128x256_256_0 rfl x).symm)
        rfl
      · refine (congrFun (ds1 _ _ _ _ _ ) x).trans (Eq.trans ?_ (oDs_piece _ 1 128 inb_S512x256_S128x256_128_0 rfl x).symm)
        rfl
      · refine (congrFun (ds0 _ _ _ _ _ ) x).trans (Eq.trans ?_ (oDs_piece _ 0 0 inb_S512x256_S128x256_0_0 rfl x).symm)
        rfl
    · exact View.cover_of_tiled _ ![128, 256] (by rfl) y
  · rw [outsAt0_B m c t h0, leftB]; dsimp only; frame_out
    simp only [read_unread_whole]
    unfold blkAt
    simp only [if_neg h0]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    generalize iblk m c 13 t = x13
    generalize iblk m c 14 t = x14
    generalize iblk m c 15 t = x15
    generalize (outsAt0 m c (t.val - 1) _).2.2.2.2.2.2.1 = xs
    refine View.canon_append_of_piecesOf (Val := Elt F) (e := .f32) (Blk.oDs _) [] (_ :: _ :: _ :: _ :: []) ?_ y ?_
    · refine ⟨fun x => ?_, fun x => ?_, fun x => ?_, fun x => ?_, trivial⟩
      · refine (congrFun (ds3 _ _ _ _ _ ) x).trans (Eq.trans ?_ (oDs_piece _ 3 384 inb_S512x256_S128x256_384_0 rfl x).symm)
        rfl
      · refine (congrFun (ds2 _ _ _ _ _ ) x).trans (Eq.trans ?_ (oDs_piece _ 2 256 inb_S512x256_S128x256_256_0 rfl x).symm)
        rfl
      · refine (congrFun (ds1 _ _ _ _ _ ) x).trans (Eq.trans ?_ (oDs_piece _ 1 128 inb_S512x256_S128x256_128_0 rfl x).symm)
        rfl
      · refine (congrFun (ds0 _ _ _ _ _ ) x).trans (Eq.trans ?_ (oDs_piece _ 0 0 inb_S512x256_S128x256_0_0 rfl x).symm)
        rfl
    · exact View.cover_of_tiled _ ![128, 256] (by rfl) y

end Cert.KernelIdeal.Value

end
-- ==== Proof.RetOps.lean ====
/-
  A retention head's gradients as the kernel computes them, read at an index over the extended reals.
-/
module

public import proofs.«01_k».proof.Proof.KernelOps
public import Idealize.ShloMosaic.Lib.Pipeline.ValueKit

@[expose] public section

set_option maxRecDepth 16384

noncomputable section

namespace Cert.KernelIdeal.Value

open Idealize.ShloMosaic
open Cert.KernelIdeal Cert.KernelIdeal.Gen

section
variable (q k : FVec Ideal S64x128 .f32) (v dy : FVec Ideal S64x256 .f32) (s : FVec Ideal S1x128x256 .f32)
  (dm : FVec Ideal S1x64x64 .f32) (qd kd : FVec Ideal S64x128 .f32) (cd ds : FVec Ideal S128x256 .f32)

theorem rA_at (l m : Fin 64) :
    rA q k dm (ix2 l m) = (∑ d : Fin 128, q (ix2 l d) * k (ix2 m d)) * dm (ix3 0 l m) := by
  pointwise [rA]

theorem rDp_at (l m : Fin 64) :
    rDp dy v dm (ix2 l m) = (∑ e : Fin 256, dy (ix2 l e) * v (ix2 m e)) * dm (ix3 0 l m) := by
  pointwise [rDp]

theorem rDq_at (l : Fin 64) (d : Fin 128) :
    rDq k v s dm qd dy (ix2 l d) = (∑ e : Fin 256, dy (ix2 l e) * s (ix3 0 d e)) * qd (ix2 l d)
      + ∑ m : Fin 64, rDp dy v dm (ix2 l m) * k (ix2 m d) := by
  rw [add_comm]
  pointwise [rDq]

theorem rDk_at (l : Fin 64) (d : Fin 128) :
    rDk q v dm kd dy ds (ix2 l d) = (∑ e : Fin 256, ds (ix2 d e) * v (ix2 l e)) * kd (ix2 l d)
      + ∑ m : Fin 64, rDp dy v dm (ix2 m l) * q (ix2 m d) := by
  rw [add_comm]
  pointwise [rDk]
  simp only [mul_comm (ds _) (v _)]

theorem rDv_at (l : Fin 64) (e : Fin 256) :
    rDv q k dm kd dy ds (ix2 l e) = (∑ d : Fin 128, ds (ix2 d e) * (k (ix2 l d) * kd (ix2 l d)))
      + ∑ m : Fin 64, dy (ix2 m e) * rA q k dm (ix2 m l) := by
  rw [add_comm]
  pointwise [rDv]
  simp only [mul_comm (ds _) _, mul_comm (dy _) _]

theorem rDs_at (d : Fin 128) (e : Fin 256) :
    rDs q qd cd dy ds (ix2 d e) = ds (ix2 d e) * cd (ix2 d e)
      + ∑ l : Fin 64, dy (ix2 l e) * (q (ix2 l d) * qd (ix2 l d)) := by
  pointwise [rDs]
  simp only [mul_comm (ds _) _, mul_comm (dy _) _]
end

end Cert.KernelIdeal.Value

end
-- ==== Proof.RetRef.lean ====
/-
  The retention half of one trip of the reference's loop, read at an index.
-/
module

public import proofs.«01_k».proof.Proof.Gen.ReferenceIdeal.Step
public import Idealize.ShloMosaic.Lib.Pipeline.ValueKit
public import Idealize.ShloMosaic.Lib.DynamicIndex
public import Idealize.ShloMosaic.Lib.WordCmp

@[expose] public section

set_option maxRecDepth 16384

noncomputable section

namespace Cert.ReferenceIdeal.Ret

open Idealize.ShloMosaic
open Cert.ReferenceIdeal Cert.ReferenceIdeal.Gen Cert.ReferenceIdeal.Step

/-! ## The slices of one trip -/

/-- The row that trip `j` reads: the trips count down. -/
abbrev row (j : ℕ) : Fin 64 := ⟨63 - j, by omega⟩

theorem b3_int (j : ℕ) (s : State Ideal) (hj : j < 64) : (b3 j s (Shape.Idx.first h_S_)).toInt = ((63 - j : ℕ) : ℤ) := by
  have e : b3 j s (Shape.Idx.first h_S_) = (64#32 - BitVec.ofNat 32 j) - 1#32 := rfl
  rw [e]
  interval_cases j <;> decide

section rows
variable {α : Type} {b c d : ℕ}

theorem fits4 (n : ℕ) (hn : n < 64) : (⟨4, ![64, b, c, d]⟩ : Shape).Slices ![n, 0, 0, 0] ⟨4, ![1, b, c, d]⟩ :=
  ⟨rfl, fun a => by
    fin_cases a
    · show n + 1 ≤ 64; omega
    · show 0 + b ≤ b; omega
    · show 0 + c ≤ c; omega
    · show 0 + d ≤ d; omega⟩

/-- A row of a stack of cubes. -/
theorem slice4_at (x : (⟨4, ![64, b, c, d]⟩ : Shape).Idx → α) (start : Fin 4 → ℤ) (h) (n : ℕ) (hn : n < 64)
    (hs : ∀ a, start a = ((![n, 0, 0, 0] : Fin 4 → ℕ) a : ℤ)) (z : Fin 1) (i : Fin b) (k : Fin c) (l : Fin d) :
    Host.dynamicSlice (s := ⟨4, ![64, b, c, d]⟩) ⟨4, ![1, b, c, d]⟩ x start h (ix4 z i k l) = x (ix4 ⟨n, hn⟩ i k l) := by
  rw [Host.dynamicSlice_eq_extractStridedSlice _ _ _ ![n, 0, 0, 0] h (fits4 n hn) hs]
  obtain rfl : z = 0 := Subsingleton.elim _ _
  unfold extractStridedSlice
  congr 1
  funext a
  refine Fin.ext ?_
  fin_cases a
  · show n + 0 = n; omega
  · show 0 + (i : ℕ) = i; omega
  · show 0 + (k : ℕ) = k; omega
  · show 0 + (l : ℕ) = l; omega

/-- A row put into a stack of cubes. -/
theorem update4_at (x : (⟨4, ![64, b, c, d]⟩ : Shape).Idx → α) (y : (⟨4, ![1, b, c, d]⟩ : Shape).Idx → α) (start : Fin 4 → ℤ) (h) (n : ℕ)
    (hn : n < 64) (hs : ∀ a, start a = ((![n, 0, 0, 0] : Fin 4 → ℕ) a : ℤ)) (z : Fin 64) (i : Fin b) (k : Fin c) (l : Fin d) :
    Host.dynamicUpdateSlice (s := ⟨4, ![64, b, c, d]⟩) (u := ⟨4, ![1, b, c, d]⟩) x y start h (ix4 z i k l)
      = if (z : ℕ) = n then y (ix4 0 i k l) else x (ix4 z i k l) := by
  rw [WordCmp.dynamicUpdateSlice_eq_update _ _ _ h ![n, 0, 0, 0] (fits4 n hn) hs]
  unfold updateSlice
  by_cases hz : (z : ℕ) = n
  · rw [if_pos hz, dif_pos]
    · congr 1
      funext a
      refine Fin.ext ?_
      fin_cases a
      · show (z : ℕ) - n = 0; omega
      · show (i : ℕ) - 0 = i; omega
      · show (k : ℕ) - 0 = k; omega
      · show (l : ℕ) - 0 = l; omega
    · intro a
      fin_cases a
      · show n ≤ (z : ℕ) ∧ (z : ℕ) < n + 1; omega
      · show 0 ≤ (i : ℕ) ∧ (i : ℕ) < 0 + b; omega
      · show 0 ≤ (k : ℕ) ∧ (k : ℕ) < 0 + c; omega
      · show 0 ≤ (l : ℕ) ∧ (l : ℕ) < 0 + d; omega
  · rw [if_neg hz, dif_neg]
    intro hin
    have h0 : n ≤ (z : ℕ) ∧ (z : ℕ) < n + 1 := hin 0
    omega
end rows

theorem start4 (j : ℕ) (s : State Ideal) (hj : j < 64) (a : Fin 4) (z1 z2 z3 : (⟨S_, .i32⟩ : BufTy).Contents (Elt Ideal))
    (h1 : z1 = constantI S_ 32 0#32) (h2 : z2 = constantI S_ 32 0#32) (h3 : z3 = constantI S_ 32 0#32) :
    (((![b3 j s, z1, z2, z3] : Fin 4 → (⟨S_, .i32⟩ : BufTy).Contents (Elt Ideal))) a (Shape.Idx.first h_S_)).toInt
      = ((![63 - j, 0, 0, 0] : Fin 4 → ℕ) a : ℤ) := by
  subst h1 h2 h3
  fin_cases a
  · exact b3_int j s hj
  · rfl
  · rfl
  · rfl

theorem b8_at (j : ℕ) (s : State Ideal) (hj : j < 64) (h : Fin 4) (d : Fin 128) (e : Fin 256) :
    b8 j s (ix3 h d e) = s.main_v70_0 (ix4 (row j) h d e) := by
  pointwise [b8]
  exact slice4_at _ _ _ _ _ (fun a => start4 j s hj a _ _ _ rfl rfl rfl) _ _ _ _

theorem b19_at (j : ℕ) (s : State Ideal) (hj : j < 64) (l : Fin 64) (h : Fin 4) (d : Fin 128) :
    b19 j s (ix3 l h d) = s.main_v70_2 (ix4 (row j) l h d) := by
  pointwise [b19]
  exact slice4_at _ _ _ _ _ (fun a => start4 j s hj a _ _ _ rfl rfl rfl) _ _ _ _

theorem b24_at (j : ℕ) (s : State Ideal) (hj : j < 64) (l : Fin 64) (h : Fin 4) (d : Fin 128) :
    b24 j s (ix3 l h d) = s.main_v70_3 (ix4 (row j) l h d) := by
  pointwise [b24]
  exact slice4_at _ _ _ _ _ (fun a => start4 j s hj a _ _ _ rfl rfl rfl) _ _ _ _

theorem b29_at (j : ℕ) (s : State Ideal) (hj : j < 64) (l : Fin 64) (h : Fin 4) (e : Fin 256) :
    b29 j s (ix3 l h e) = s.main_v70_4 (ix4 (row j) l h e) := by
  pointwise [b29]
  exact slice4_at _ _ _ _ _ (fun a => start4 j s hj a _ _ _ rfl rfl rfl) _ _ _ _

theorem b55_at (j : ℕ) (s : State Ideal) (hj : j < 64) (l : Fin 64) (h : Fin 4) (e : Fin 256) :
    b55 j s (ix3 l h e) = s.main_v70_9 (ix4 (row j) l h e) := by
  pointwise [b55]
  exact slice4_at _ _ _ _ _ (fun a => start4 j s hj a _ _ _ rfl rfl rfl) _ _ _ _

theorem b269_at (j : ℕ) (s : State Ideal) (hj : j < 64) (z l : Fin 64) (h : Fin 4) (d : Fin 128) :
    b269 j s (ix4 z l h d) = if (z : ℕ) = 63 - j then b263 j s (ix3 l h d) else s.main_v70_20 (ix4 z l h d) := by
  refine (update4_at _ _ _ _ (63 - j) (by omega) (fun a => start4 j s hj a _ _ _ rfl rfl rfl) _ _ _ _).trans ?_
  pointwise [b265]

theorem b274_at (j : ℕ) (s : State Ideal) (hj : j < 64) (z l : Fin 64) (h : Fin 4) (d : Fin 128) :
    b274 j s (ix4 z l h d) = if (z : ℕ) = 63 - j then b260 j s (ix3 l h d) else s.main_v70_21 (ix4 z l h d) := by
  refine (update4_at _ _ _ _ (63 - j) (by omega) (fun a => start4 j s hj a _ _ _ rfl rfl rfl) _ _ _ _).trans ?_
  pointwise [b270]

theorem b279_at (j : ℕ) (s : State Ideal) (hj : j < 64) (z l : Fin 64) (h : Fin 4) (e : Fin 256) :
    b279 j s (ix4 z l h e) = if (z : ℕ) = 63 - j then b256 j s (ix3 l h e) else s.main_v70_22 (ix4 z l h e) := by
  refine (update4_at _ _ _ _ (63 - j) (by omega) (fun a => start4 j s hj a _ _ _ rfl rfl rfl) _ _ _ _).trans ?_
  pointwise [b275]

/-! ## The gradients of one trip, of the trip's slices -/

theorem b63_at (j : ℕ) (s : State Ideal) (h : Fin 4) (l m : Fin 64) :
    b63 j s (ix3 h l m) = (∑ d : Fin 128, b19 j s (ix3 l h d) * b24 j s (ix3 m h d)) * K_main_v19 (F := Ideal) (ix3 h l m) := by
  pointwise [b63, b62]

theorem b257_at (j : ℕ) (s : State Ideal) (h : Fin 4) (l m : Fin 64) :
    b257 j s (ix3 h l m) = (∑ e : Fin 256, b55 j s (ix3 l h e) * b29 j s (ix3 m h e)) * K_main_v19 (F := Ideal) (ix3 h l m) := by
  pointwise [b257, b253, b252]

theorem b263_at (j : ℕ) (s : State Ideal) (l : Fin 64) (h : Fin 4) (d : Fin 128) :
    b263 j s (ix3 l h d) = (∑ e : Fin 256, b55 j s (ix3 l h e) * b8 j s (ix3 h d e)) * K_main_v28 (F := Ideal) (ix3 l h 0)
      + ∑ m : Fin 64, b257 j s (ix3 h l m) * b24 j s (ix3 m h d) := by
  pointwise [b263, b251, b246, b245, b244, b250, b262, b261]

theorem b260_at (j : ℕ) (s : State Ideal) (l : Fin 64) (h : Fin 4) (d : Fin 128) :
    b260 j s (ix3 l h d) = (∑ e : Fin 256, s.main_v70_17 (ix3 h d e) * b29 j s (ix3 l h e)) * K_main_v37 (F := Ideal) (ix3 l h 0)
      + ∑ m : Fin 64, b257 j s (ix3 h m l) * b19 j s (ix3 m h d) := by
  pointwise [b260, b241, b239, b238, b240, b259, b258]

theorem b256_at (j : ℕ) (s : State Ideal) (l : Fin 64) (h : Fin 4) (e : Fin 256) :
    b256 j s (ix3 l h e) = (∑ d : Fin 128, s.main_v70_17 (ix3 h d e) * (b24 j s (ix3 l h d) * K_main_v37 (F := Ideal) (ix3 l h 0)))
      + ∑ m : Fin 64, b55 j s (ix3 m h e) * b63 j s (ix3 h m l) := by
  pointwise [b256, b237, b236, b75, b74, b255, b254, b252]

theorem b249_at (j : ℕ) (s : State Ideal) (h : Fin 4) (d : Fin 128) (e : Fin 256) :
    b249 j s (ix3 h d e) = s.main_v70_17 (ix3 h d e) * K_main_v40 (F := Ideal) (ix1 h)
      + ∑ l : Fin 64, b55 j s (ix3 l h e) * (b19 j s (ix3 l h d) * K_main_v28 (F := Ideal) (ix3 l h 0)) := by
  pointwise [b249, b243, b242, b71, b248, b247, b244, b67, b66]

end Cert.ReferenceIdeal.Ret

end
-- ==== Proof.RetState.lean ====
/-
  The reference's loop, trip after trip: what its retention fields hold.
-/
module

public import proofs.«01_k».proof.Proof.RetRef

@[expose] public section

set_option maxRecDepth 16384

noncomputable section

namespace Cert.ReferenceIdeal.Ret

open Idealize.ShloMosaic
open Cert.ReferenceIdeal Cert.ReferenceIdeal.Gen Cert.ReferenceIdeal.Step

section loop
variable (it : ℕ → State Ideal) (hs : ∀ n, it (n + 1) = step n (it n))
include hs

/-! ## What no trip changes -/

theorem it_0 (n : ℕ) : (it n).main_v70_0 = (it 0).main_v70_0 := by
  induction n with
  | zero => rfl
  | succ n ih => rw [hs]; exact ih

theorem it_2 (n : ℕ) : (it n).main_v70_2 = (it 0).main_v70_2 := by
  induction n with
  | zero => rfl
  | succ n ih => rw [hs]; exact ih

theorem it_3 (n : ℕ) : (it n).main_v70_3 = (it 0).main_v70_3 := by
  induction n with
  | zero => rfl
  | succ n ih => rw [hs]; exact ih

theorem it_4 (n : ℕ) : (it n).main_v70_4 = (it 0).main_v70_4 := by
  induction n with
  | zero => rfl
  | succ n ih => rw [hs]; exact ih

theorem it_9 (n : ℕ) : (it n).main_v70_9 = (it 0).main_v70_9 := by
  induction n with
  | zero => rfl
  | succ n ih => rw [hs]; exact ih

/-! ## What the trips add, a row each -/

theorem it_20 (n : ℕ) (hn : n ≤ 64) (z l : Fin 64) (h : Fin 4) (d : Fin 128) (hz : 64 ≤ (z : ℕ) + n) :
    (it n).main_v70_20 (ix4 z l h d) = b263 (63 - z) (it (63 - z)) (ix3 l h d) := by
  induction n with
  | zero => omega
  | succ n ih =>
    rw [hs, step_main_v70_20, b269_at n _ (by omega)]
    by_cases e : (z : ℕ) = 63 - n
    · rw [if_pos e, show 63 - (z : ℕ) = n by omega]
    · rw [if_neg e]; exact ih (by omega) (by omega)

theorem it_21 (n : ℕ) (hn : n ≤ 64) (z l : Fin 64) (h : Fin 4) (d : Fin 128) (hz : 64 ≤ (z : ℕ) + n) :
    (it n).main_v70_21 (ix4 z l h d) = b260 (63 - z) (it (63 - z)) (ix3 l h d) := by
  induction n with
  | zero => omega
  | succ n ih =>
    rw [hs, step_main_v70_21, b274_at n _ (by omega)]
    by_cases e : (z : ℕ) = 63 - n
    · rw [if_pos e, show 63 - (z : ℕ) = n by omega]
    · rw [if_neg e]; exact ih (by omega) (by omega)

theorem it_22 (n : ℕ) (hn : n ≤ 64) (z l : Fin 64) (h : Fin 4) (e : Fin 256) (hz : 64 ≤ (z : ℕ) + n) :
    (it n).main_v70_22 (ix4 z l h e) = b256 (63 - z) (it (63 - z)) (ix3 l h e) := by
  induction n with
  | zero => omega
  | succ n ih =>
    rw [hs, step_main_v70_22, b279_at n _ (by omega)]
    by_cases q : (z : ℕ) = 63 - n
    · rw [if_pos q, show 63 - (z : ℕ) = n by omega]
    · rw [if_neg q]; exact ih (by omega) (by omega)
end loop

/-! ## The state that the loop starts from -/

section start
variable (a0 a1 : (⟨S4096x512, .f32⟩ : BufTy).Contents (Elt Ideal)) (a2 : (⟨S4096x12288, .f32⟩ : BufTy).Contents (Elt Ideal))
  (a3 : (⟨S4096x4096, .f32⟩ : BufTy).Contents (Elt Ideal)) (a4 : (⟨S4096x32, .f32⟩ : BufTy).Contents (Elt Ideal))
  (a5 : (⟨S32, .f32⟩ : BufTy).Contents (Elt Ideal)) (a6 : (⟨S64x512x256, .f32⟩ : BufTy).Contents (Elt Ideal))
  (a7 : (⟨S64x128x2048, .f32⟩ : BufTy).Contents (Elt Ideal)) (a8 : (⟨S4096x1024, .f32⟩ : BufTy).Contents (Elt Ideal))
  (a9 : (⟨S4096x2048, .f32⟩ : BufTy).Contents (Elt Ideal))

/-- A flat number below `64 * 64`. -/
abbrev tok (z l : Fin 64) : Fin 4096 := ⟨z * 64 + l, by omega⟩
/-- A flat number below `4 * 128`. -/
abbrev c128 (h : Fin 4) (d : Fin 128) : Fin 512 := ⟨h * 128 + d, by omega⟩
/-- A flat number below `4 * 256`. -/
abbrev c256 (h : Fin 4) (e : Fin 256) : Fin 1024 := ⟨h * 256 + e, by omega⟩

theorem init_17 (h : Fin 4) (d : Fin 128) (e : Fin 256) :
    (init a0 a1 a2 a3 a4 a5 a6 a7 a8 a9).main_v70_17 (ix3 h d e) = 0 := by
  show K_main_v60 (F := Ideal) (ix3 h d e) = 0
  pointwise [K_main_v60, K_main_cst_4]

theorem init_0 (z : Fin 64) (h : Fin 4) (d : Fin 128) (e : Fin 256) :
    (init a0 a1 a2 a3 a4 a5 a6 a7 a8 a9).main_v70_0 (ix4 z h d e) = a6 (ix3 z (c128 h d) e) := by
  show A_main_v55 a0 a1 a2 a3 a4 a5 a6 a7 a8 a9 (ix4 z h d e) = _
  pointwise [A_main_v55]

theorem init_2 (z l : Fin 64) (h : Fin 4) (d : Fin 128) :
    (init a0 a1 a2 a3 a4 a5 a6 a7 a8 a9).main_v70_2 (ix4 z l h d) = a0 (ix2 (tok z l) (c128 h d)) := by
  show A_main_v47 a0 a1 a2 a3 a4 a5 a6 a7 a8 a9 (ix4 z l h d) = _
  pointwise [A_main_v47]

theorem init_3 (z l : Fin 64) (h : Fin 4) (d : Fin 128) :
    (init a0 a1 a2 a3 a4 a5 a6 a7 a8 a9).main_v70_3 (ix4 z l h d) = a1 (ix2 (tok z l) (c128 h d)) := by
  show A_main_v48 a0 a1 a2 a3 a4 a5 a6 a7 a8 a9 (ix4 z l h d) = _
  pointwise [A_main_v48]

theorem init_4 (z l : Fin 64) (h : Fin 4) (e : Fin 256) :
    (init a0 a1 a2 a3 a4 a5 a6 a7 a8 a9).main_v70_4 (ix4 z l h e)
      = a2 (ix2 (tok z l) ⟨10240 + (h * 256 + e), by omega⟩) := by
  show A_main_v50 a0 a1 a2 a3 a4 a5 a6 a7 a8 a9 (ix4 z l h e) = _
  pointwise [A_main_v50, A_main_v49]

theorem init_9 (z l : Fin 64) (h : Fin 4) (e : Fin 256) :
    (init a0 a1 a2 a3 a4 a5 a6 a7 a8 a9).main_v70_9 (ix4 z l h e) = a8 (ix2 (tok z l) (c256 h e)) := by
  show A_main_v58 a0 a1 a2 a3 a4 a5 a6 a7 a8 a9 (ix4 z l h e) = _
  pointwise [A_main_v58]
end start

/-! ## The results -/

theorem R71_at (s : State Ideal) (z l : Fin 64) (h : Fin 4) (d : Fin 128) :
    R_main_v71 s (ix2 (tok z l) (c128 h d)) = s.main_v70_20 (ix4 z l h d) := by
  pointwise [R_main_v71]
  congr 1
  idx_ext

theorem R72_at (s : State Ideal) (z l : Fin 64) (h : Fin 4) (d : Fin 128) :
    R_main_v72 s (ix2 (tok z l) (c128 h d)) = s.main_v70_21 (ix4 z l h d) := by
  pointwise [R_main_v72]
  congr 1
  idx_ext

end Cert.ReferenceIdeal.Ret

end
-- ==== Proof.RetBlk.lean ====
/-
  A grid point's retention gradients are one trip's of the reference, when the point reads the trip's blocks.
-/
module

public import proofs.«01_k».proof.Proof.KernelBlk
public import proofs.«01_k».proof.Proof.RetOps
public import proofs.«01_k».proof.Proof.RetState

@[expose] public section

set_option maxRecDepth 16384

noncomputable section

namespace Cert.KernelIdeal.Value

open Idealize.ShloMosaic
open Cert.KernelIdeal Cert.KernelIdeal.Gen
open Cert.ReferenceIdeal.Step (State K_main_v19 K_main_v28 K_main_v37 K_main_v40 b8 b19 b24 b29 b55 b63 b256 b257 b260 b263 b249)
open Cert.ReferenceIdeal.Ret

variable (B : Blk Ideal)

theorem h128_at (x : FVec Ideal S64x512 .f32) (i : Fin 4) (l : Fin 64) (d : Fin 128) :
    Blk.h128 x i (ix2 l d) = x (ix2 l (c128 i d)) :=
  congrArg x (by idx_ext)
theorem h256_at (x : FVec Ideal S64x1024 .f32) (i : Fin 4) (l : Fin 64) (e : Fin 256) :
    Blk.h256 x i (ix2 l e) = x (ix2 l (c256 i e)) :=
  congrArg x (by idx_ext)
theorem hRow_at (x : FVec Ideal S512x256 .f32) (i : Fin 4) (d : Fin 128) (e : Fin 256) :
    Blk.hRow x i (ix2 d e) = x (ix2 (c128 i d) e) :=
  congrArg x (by idx_ext)
theorem hDm_at (i : Fin 4) (l n : Fin 64) : B.hDm i (ix3 0 l n) = B.dm (ix3 i l n) :=
  congrArg B.dm (by idx_ext)
theorem hS_at (i : Fin 4) (d : Fin 128) (e : Fin 256) : B.hS i (ix3 0 d e) = B.s (ix3 0 (c128 i d) e) :=
  congrArg B.s (by idx_ext)

/-- The point's blocks are trip `j`'s slices at state `s`. -/
structure Reads (B : Blk Ideal) (j : ℕ) (s : State Ideal) : Prop where
  q : ∀ l h d, B.q (ix2 l (c128 h d)) = b19 j s (ix3 l h d)
  k : ∀ l h d, B.k (ix2 l (c128 h d)) = b24 j s (ix3 l h d)
  v : ∀ l h e, B.v (ix2 l (c256 h e)) = b29 j s (ix3 l h e)
  dy : ∀ l h e, B.dyr (ix2 l (c256 h e)) = b55 j s (ix3 l h e)
  st : ∀ h d e, B.s (ix3 0 (c128 h d) e) = b8 j s (ix3 h d e)
  dm : ∀ h l n, B.dm (ix3 h l n) = K_main_v19 (F := Ideal) (ix3 h l n)
  qd : ∀ l h d, B.qd (ix2 l (c128 h d)) = K_main_v28 (F := Ideal) (ix3 l h 0)
  kd : ∀ l h d, B.kd (ix2 l (c128 h d)) = K_main_v37 (F := Ideal) (ix3 l h 0)
  cd : ∀ h d e, B.cd (ix2 (c128 h d) e) = K_main_v40 (F := Ideal) (ix1 h)
  ds : ∀ h d e, B.ds (ix2 (c128 h d) e) = s.main_v70_17 (ix3 h d e)

variable {B} {j : ℕ} {s : State Ideal} (R : Reads B j s)
include R

theorem rA_eq (h : Fin 4) (l n : Fin 64) :
    rA (Blk.h128 B.q h) (Blk.h128 B.k h) (B.hDm h) (ix2 l n) = b63 j s (ix3 h l n) := by
  rw [rA_at, b63_at]
  simp only [h128_at, hDm_at, R.q, R.k, R.dm]

theorem rDp_eq (h : Fin 4) (l n : Fin 64) :
    rDp (Blk.h256 B.dyr h) (Blk.h256 B.v h) (B.hDm h) (ix2 l n) = b257 j s (ix3 h l n) := by
  rw [rDp_at, b257_at]
  simp only [h256_at, hDm_at, R.dy, R.v, R.dm]

theorem oDq_eq (l : Fin 64) (h : Fin 4) (d : Fin 128) : B.oDq (ix2 l (c128 h d)) = b263 j s (ix3 l h d) := by
  refine (asmC_at _ h _ (ix2 l d) rfl rfl).trans ?_
  rw [rDq_at, b263_at]
  simp only [h128_at, h256_at, hS_at, rDp_eq R, R.k, R.dy, R.st, R.qd]

theorem oDk_eq (l : Fin 64) (h : Fin 4) (d : Fin 128) : B.oDk (ix2 l (c128 h d)) = b260 j s (ix3 l h d) := by
  refine (asmC_at _ h _ (ix2 l d) rfl rfl).trans ?_
  rw [rDk_at, b260_at]
  simp only [h128_at, h256_at, hRow_at, rDp_eq R, R.q, R.v, R.kd, R.ds]

theorem oDv_eq (l : Fin 64) (h : Fin 4) (e : Fin 256) : B.oDv (ix2 l (c256 h e)) = b256 j s (ix3 l h e) := by
  refine (asmC_at _ h _ (ix2 l e) rfl rfl).trans ?_
  rw [rDv_at, b256_at]
  simp only [h128_at, h256_at, hRow_at, rA_eq R, R.k, R.dy, R.kd, R.ds]

theorem oDs_eq (h : Fin 4) (d : Fin 128) (e : Fin 256) : B.oDs (ix2 (c128 h d) e) = b249 j s (ix3 h d e) := by
  refine (asmR_at _ h _ (ix2 d e) rfl rfl).trans ?_
  rw [rDs_at, b249_at]
  simp only [h128_at, h256_at, hRow_at, R.q, R.dy, R.qd, R.cd, R.ds]

end Cert.KernelIdeal.Value

end
-- ==== Proof.RetEntry.lean ====
/-
  What a grid point of the kernel reads: the blocks of the retention half, in terms of the arguments.
-/
module

public import proofs.«01_k».proof.Proof.Gen.KernelIdeal.Frame.Runs
public import proofs.«01_k».proof.Proof.RetState
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

theorem idx_in : ∀ t : Fin cfg0.N,
    (win0_0.index t 0 = 63 - t.val ∧ win0_0.index t 1 = 0) ∧ (win0_1.index t 0 = 63 - t.val ∧ win0_1.index t 1 = 0)
    ∧ (win0_2.index t 0 = 63 - t.val ∧ win0_2.index t 1 = 10) ∧ (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0)
    ∧ (win0_9.index t 0 = 0 ∧ win0_9.index t 1 = 0)
    ∧ (win0_12.index t 0 = 63 - t.val ∧ win0_12.index t 1 = 0 ∧ win0_12.index t 2 = 0)
    ∧ (win0_14.index t 0 = 63 - t.val ∧ win0_14.index t 1 = 0) := by
  decide +kernel

variable (m : (ℓ : Loc nD τ sig) → Buf (Elt Ideal) ℓ) (c : Dev nD)

theorem q_at (t : Fin cfg0.N) (l : Fin 64) (k : Fin 512) :
    iblk m c 0 t (ix2 l k) = m ((c : Thread nD τ).loc main_arg0) (ix2 (⟨(63 - t.val) * 64 + l, by omega⟩ : Fin 4096) k) := by
  blk_ext [iblk, V, idx_in t]

theorem k_at (t : Fin cfg0.N) (l : Fin 64) (k : Fin 512) :
    iblk m c 1 t (ix2 l k) = m ((c : Thread nD τ).loc main_arg1) (ix2 (⟨(63 - t.val) * 64 + l, by omega⟩ : Fin 4096) k) := by
  blk_ext [iblk, V, idx_in t]

theorem v_at (t : Fin cfg0.N) (l : Fin 64) (k : Fin 1024) :
    iblk m c 2 t (ix2 l k) = m ((c : Thread nD τ).loc main_arg2)
      (ix2 (⟨(63 - t.val) * 64 + l, by omega⟩ : Fin 4096) (⟨10240 + k, by omega⟩ : Fin 12288)) := by
  blk_ext [iblk, V, idx_in t]

theorem s_at (t : Fin cfg0.N) (i : Fin 1) (d : Fin 512) (e : Fin 256) :
    iblk m c 12 t (ix3 i d e) = m ((c : Thread nD τ).loc main_arg6) (ix3 (⟨63 - t.val, by omega⟩ : Fin 64) d e) := by
  blk_ext [iblk, V, idx_in t]

theorem dy_at (t : Fin cfg0.N) (l : Fin 64) (k : Fin 1024) :
    iblk m c 14 t (ix2 l k) = m ((c : Thread nD τ).loc main_arg8) (ix2 (⟨(63 - t.val) * 64 + l, by omega⟩ : Fin 4096) k) := by
  blk_ext [iblk, V, idx_in t]

theorem dm_at (t : Fin cfg0.N) (h : Fin 4) (l n : Fin 64) :
    iblk m c 6 t (ix3 h l n) = V m c main_v19 (ix3 h l n) := by
  blk_ext [iblk, idx_in t]

theorem qd_at (t : Fin cfg0.N) (l : Fin 64) (k : Fin 512) : iblk m c 7 t (ix2 l k) = V m c main_v40 (ix2 l k) := by
  blk_ext [iblk, idx_in t]

theorem kd_at (t : Fin cfg0.N) (l : Fin 64) (k : Fin 512) : iblk m c 8 t (ix2 l k) = V m c main_v42 (ix2 l k) := by
  blk_ext [iblk, idx_in t]

theorem cd_at (t : Fin cfg0.N) (d : Fin 512) (e : Fin 256) : iblk m c 9 t (ix2 d e) = V m c main_v49 (ix2 d e) := by
  blk_ext [iblk, idx_in t]

end Cert.KernelIdeal.Value

end
-- ==== Proof.RetConst.lean ====
module

public import proofs.«01_k».proof.Proof.Gen.KernelIdeal.Frame.Runs
public import proofs.«01_k».proof.Proof.RetState
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Step (K_main_v19 K_main_v27 K_main_v36 K_main_v40 K_main_v28 K_main_v37)

variable (m : (ℓ : Loc nD τ sig) → Buf (Elt Ideal) ℓ) (c : Dev nD)

theorem V19 : V m c main_v19 = K_main_v19 (F := Ideal) := by
  entry_read
  rfl

theorem V40' : V m c main_v40 = shapeCast S64x512 (broadcastInDim S64x4x128 ![0, 1] bcast_S64x4_S64x4x128_0_1 (K_main_v27 (F := Ideal))) shapeCasts_S64x4x128_S64x512 := by
  entry_read
  rfl
theorem V42' : V m c main_v42 = shapeCast S64x512 (broadcastInDim S64x4x128 ![0, 1] bcast_S64x4_S64x4x128_0_1 (K_main_v36 (F := Ideal))) shapeCasts_S64x4x128_S64x512 := by
  entry_read
  rfl
theorem V49' : V m c main_v49 = mulf (broadcastInDim S512x256 ![0, 1] bcast_S512x1_S512x256_0_1 (broadcastInDim S512x1 ![0] bcast_S512_S512x1_0 (shapeCast S512 (broadcastInDim S4x128 ![0] bcast_S4_S4x128_0 (K_main_v40 (F := Ideal))) shapeCasts_S4x128_S512))) (broadcastInDim S512x256 ![0, 1] bcast_S1x256_S512x256_0_1 (broadcastInDim S1x256 ![] bcast_S_S1x256 (constant (F := Ideal) S_ .f32 0x3F800000#32))) := by
  entry_read
  rfl
theorem V40 (l : Fin 64) (h : Fin 4) (d : Fin 128) :
    V m c main_v40 (ix2 l (⟨h * 128 + d, by omega⟩ : Fin 512)) = K_main_v28 (F := Ideal) (ix3 l h 0) := by
  rw [V40']
  pointwise [K_main_v28]
theorem V42 (l : Fin 64) (h : Fin 4) (d : Fin 128) :
    V m c main_v42 (ix2 l (⟨h * 128 + d, by omega⟩ : Fin 512)) = K_main_v37 (F := Ideal) (ix3 l h 0) := by
  rw [V42']
  pointwise [K_main_v37]
theorem V49 (h : Fin 4) (d : Fin 128) (e : Fin 256) :
    V m c main_v49 (ix2 (⟨h * 128 + d, by omega⟩ : Fin 512) e) = K_main_v40 (F := Ideal) (ix1 h) := by
  rw [V49']
  pointwise
end Cert.KernelIdeal.Value

end
-- ==== Proof.RetSet.lean ====
/-
  The reference's third result read at an index: 1024 of its columns are the gradient of the values, the others the argument's.
-/
module

public import proofs.«01_k».proof.Proof.RetState
public import Idealize.ShloMosaic.Lib.Routing.OpsPair
public import Idealize.ShloMosaic.Lib.Routing.OpsSet

@[expose] public section

set_option maxRecDepth 16384

noncomputable section

namespace Cert.ReferenceIdeal.Ret

open Idealize.ShloMosaic
open Cert.ReferenceIdeal Cert.ReferenceIdeal.Gen Cert.ReferenceIdeal.Step

/-- Where an update lands: in its own row, 10240 columns further on. -/
theorem lands_block (idx : IVec S1 32) (hidx : ∀ i, (idx i).toInt = 10240) (r' : Fin 4096) (q' : Fin 1024) (r : Fin 4096) (q : Fin 12288) :
    scatter_S4096x12288_S1_S4096x1024_01_n_1_0.resultIdx? (ix2 r' q') idx = some (ix2 r q)
      ↔ (r' : ℕ) = r ∧ 10240 + (q' : ℕ) = q := by
  have w0 : scatter_S4096x12288_S1_S4096x1024_01_n_1_0.window (ix2 r' q') 0 = r'.val := rfl
  have w1 : scatter_S4096x12288_S1_S4096x1024_01_n_1_0.window (ix2 r' q') 1 = q'.val := rfl
  have s0 : scatter_S4096x12288_S1_S4096x1024_01_n_1_0.start (ix2 r' q') idx 0 = 0 := rfl
  have s1 : scatter_S4096x12288_S1_S4096x1024_01_n_1_0.start (ix2 r' q') idx 1 = 10240 := by
    unfold ScatterDims.start
    rw [dif_pos (show (1 : Fin 2) ∈ scatter_S4096x12288_S1_S4096x1024_01_n_1_0.scatterDimsToOperandDims from List.mem_singleton.2 rfl)]
    exact hidx _
  refine (Routing.resultIdx?_ix2 (R := 4096) (C := 12288) _ _ _ _ _).trans ?_
  rw [s0, w0, s1, w1]
  omega

theorem R76_at (s : State Ideal) (a : (⟨S4096x12288, .bf16⟩ : BufTy).Contents (Elt Ideal)) (z l : Fin 64) (h : Fin 4) (e : Fin 256) :
    R_main_v76 s a (ix2 (tok z l) ⟨10240 + (h * 256 + e), by omega⟩) = s.main_v70_22 (ix4 z l h e) := by
  unfold R_main_v76
  have v : (truncf .bf16 (shapeCast S4096x1024 (s.main_v70_22) shapeCasts_S64x64x4x256_S4096x1024) bitsLt_bf16_f32 : FVec Ideal S4096x1024 .bf16)
      (ix2 (tok z l) (c256 h e)) = s.main_v70_22 (ix4 z l h e) := by
    pointwise
    congr 1
    idx_ext
  rw [← v]
  refine Routing.scatter_set_hit _ _ _ _ _ _ (fun k hk => ?_) (ix2 (tok z l) (c256 h e))
    ((lands_block _ (fun _ => rfl) _ _ _ _).2 ⟨rfl, rfl⟩)
  idx_vars k
  have hk' := (lands_block _ (fun _ => rfl) _ _ _ _).1 hk
  have h0 : (k0 : ℕ) = tok z l := hk'.1
  have h1 : 10240 + (k1 : ℕ) = 10240 + ((h : ℕ) * 256 + e) := hk'.2
  exact congrArg _ ((ix2_inj ..).2 ⟨Fin.ext h0, Fin.ext (Nat.add_left_cancel h1)⟩)

theorem R76_else (s : State Ideal) (a : (⟨S4096x12288, .bf16⟩ : BufTy).Contents (Elt Ideal)) (r : Fin 4096) (q : Fin 12288)
    (hq : (q : ℕ) < 10240 ∨ 11264 ≤ (q : ℕ)) : R_main_v76 s a (ix2 r q) = a (ix2 r q) := by
  unfold R_main_v76
  refine Routing.scatter_set_miss _ _ _ _ _ fun k hk => ?_
  idx_vars k
  have hk' := (lands_block _ (fun _ => rfl) _ _ _ _).1 hk
  omega

end Cert.ReferenceIdeal.Ret

end
-- ==== Proof.RetValue.lean ====
/-
  The retention half of the kernel against the reference's loop: grid point `t` reads what trip `t` reads, carries what the trip
  carries, and so leaves the trip's rows; the three result arrays.
-/
module

public import proofs.«01_k».proof.Proof.KernelPoint
public import proofs.«01_k».proof.Proof.RetBlk
public import proofs.«01_k».proof.Proof.RetEntry
public import proofs.«01_k».proof.Proof.RetConst
public import proofs.«01_k».proof.Proof.RetSet

@[expose] public section

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Step (State step init R_main_v71 R_main_v72 R_main_v76 K_main_v19 K_main_v28 K_main_v37 K_main_v40 b8 b19 b24 b29 b55 b263 b260 b256)
open Cert.ReferenceIdeal.Ret
open Idealize.ShloMosaic.Pipeline (Dat)

theorem lt64 (t : Fin cfg0.N) : t.val < 64 := lt_of_lt_of_eq t.isLt (show cfg0.N = 64 from N_0)

theorem split128 (y : (⟨2, ![64, 512]⟩ : Shape).Idx) : ∃ (l : Fin 64) (h : Fin 4) (d : Fin 128), y = ix2 l (c128 h d) := by
  have h0 : (y 0 : ℕ) < 64 := (y 0).isLt
  have h1 : (y 1 : ℕ) < 512 := (y 1).isLt
  refine ⟨⟨y 0, h0⟩, ⟨(y 1 : ℕ) / 128, by omega⟩, ⟨(y 1 : ℕ) % 128, by omega⟩, ?_⟩
  funext i; revert i
  refine Fin.forall_fin_two.2 ⟨Fin.ext rfl, Fin.ext ?_⟩
  show (y 1 : ℕ) = (y 1 : ℕ) / 128 * 128 + (y 1 : ℕ) % 128
  omega

theorem split256 (y : (⟨2, ![64, 1024]⟩ : Shape).Idx) : ∃ (l : Fin 64) (h : Fin 4) (e : Fin 256), y = ix2 l (c256 h e) := by
  have h0 : (y 0 : ℕ) < 64 := (y 0).isLt
  have h1 : (y 1 : ℕ) < 1024 := (y 1).isLt
  refine ⟨⟨y 0, h0⟩, ⟨(y 1 : ℕ) / 256, by omega⟩, ⟨(y 1 : ℕ) % 256, by omega⟩, ?_⟩
  funext i; revert i
  refine Fin.forall_fin_two.2 ⟨Fin.ext rfl, Fin.ext ?_⟩
  show (y 1 : ℕ) = (y 1 : ℕ) / 256 * 256 + (y 1 : ℕ) % 256
  omega

theorem idx_out : ∀ t : Fin cfg0.N,
    (win0_16.index t 0 = 63 - t.val ∧ win0_16.index t 1 = 0) ∧ (win0_17.index t 0 = 63 - t.val ∧ win0_17.index t 1 = 0)
    ∧ (win0_18.index t 0 = 63 - t.val ∧ win0_18.index t 1 = 10) := by
  decide +kernel

section
variable (m : (ℓ : Loc nD τ sig) → Buf (Elt Ideal) ℓ) (c : Dev nD) (t : Fin cfg0.N)
theorem read_dm (h : Fin 4) (l n : Fin 64) : (blkAt m c t).dm (ix3 h l n) = K_main_v19 (F := Ideal) (ix3 h l n) :=
  (dm_at m c t h l n).trans (congrFun (V19 m c) _)
theorem read_qd (l : Fin 64) (h : Fin 4) (d : Fin 128) :
    (blkAt m c t).qd (ix2 l (c128 h d)) = K_main_v28 (F := Ideal) (ix3 l h 0) := (qd_at m c t l _).trans (V40 m c l h d)
theorem read_kd (l : Fin 64) (h : Fin 4) (d : Fin 128) :
    (blkAt m c t).kd (ix2 l (c128 h d)) = K_main_v37 (F := Ideal) (ix3 l h 0) := (kd_at m c t l _).trans (V42 m c l h d)
theorem read_cd (h : Fin 4) (d : Fin 128) (e : Fin 256) :
    (blkAt m c t).cd (ix2 (c128 h d) e) = K_main_v40 (F := Ideal) (ix1 h) := (cd_at m c t _ e).trans (V49 m c h d e)
/-- The first point starts from zeros. -/
theorem ds_first (h : t.val % 64 = 0) : (blkAt m c t).ds = k0_pay2 (F := Ideal) := if_pos h
/-- Every other point starts from what the point before left. -/
theorem ds_next (n : ℕ) (hn : n < cfg0.N) (hn' : n + 1 < cfg0.N) (h : ¬(n + 1) % 64 = 0) :
    (blkAt m c ⟨n + 1, hn'⟩).ds = (blkAt m c ⟨n, hn⟩).oDs := (if_neg h).trans (ds_pt m c ⟨n, hn⟩)
theorem zeros_at (d : Fin 512) (e : Fin 256) : k0_pay2 (F := Ideal) (ix2 d e) = 0 := by
  pointwise [k0_pay2]
end

section
variable (m : (ℓ : Loc nD τ sig) → Buf (Elt Ideal) ℓ) (c : Dev nD)
  (it : ℕ → State Ideal) (hs : ∀ n, it (n + 1) = step n (it n))
  (h0 : it 0 = init (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)))
include hs h0

theorem read_q (t : Fin cfg0.N) (l : Fin 64) (h : Fin 4) (d : Fin 128) :
    (blkAt m c t).q (ix2 l (c128 h d)) = b19 t.val (it t.val) (ix3 l h d) := by
  rw [b19_at _ _ (lt64 t), it_2 it hs, h0, init_2]
  exact q_at m c t l _

theorem read_k (t : Fin cfg0.N) (l : Fin 64) (h : Fin 4) (d : Fin 128) :
    (blkAt m c t).k (ix2 l (c128 h d)) = b24 t.val (it t.val) (ix3 l h d) := by
  rw [b24_at _ _ (lt64 t), it_3 it hs, h0, init_3]
  exact k_at m c t l _

theorem read_v (t : Fin cfg0.N) (l : Fin 64) (h : Fin 4) (e : Fin 256) :
    (blkAt m c t).v (ix2 l (c256 h e)) = b29 t.val (it t.val) (ix3 l h e) := by
  rw [b29_at _ _ (lt64 t), it_4 it hs, h0, init_4]
  exact v_at m c t l _

theorem read_dy (t : Fin cfg0.N) (l : Fin 64) (h : Fin 4) (e : Fin 256) :
    (blkAt m c t).dyr (ix2 l (c256 h e)) = b55 t.val (it t.val) (ix3 l h e) := by
  rw [b55_at _ _ (lt64 t), it_9 it hs, h0, init_9]
  exact dy_at m c t l _

theorem read_s (t : Fin cfg0.N) (h : Fin 4) (d : Fin 128) (e : Fin 256) :
    (blkAt m c t).s (ix3 0 (c128 h d) e) = b8 t.val (it t.val) (ix3 h d e) := by
  rw [b8_at _ _ (lt64 t), it_0 it hs, h0, init_0]
  exact s_at m c t 0 _ e

theorem reads (t : Fin cfg0.N)
    (hd : ∀ h d e, (blkAt m c t).ds (ix2 (c128 h d) e) = (it t.val).main_v70_17 (ix3 h d e)) :
    Reads (blkAt m c t) t.val (it t.val) :=
  ⟨read_q m c it hs h0 t, read_k m c it hs h0 t, read_v m c it hs h0 t, read_dy m c it hs h0 t, read_s m c it hs h0 t,
    read_dm m c t, read_qd m c t, read_kd m c t, read_cd m c t, hd⟩

/-- The gradient of the retention state, carried from point to point as from trip to trip. -/
theorem carried (n : ℕ) (hn : n < cfg0.N) (h : Fin 4) (d : Fin 128) (e : Fin 256) :
    (blkAt m c ⟨n, hn⟩).ds (ix2 (c128 h d) e) = (it n).main_v70_17 (ix3 h d e) := by
  induction n generalizing h d e with
  | zero => rw [h0, init_17, ds_first m c ⟨0, hn⟩ rfl, zeros_at]
  | succ n ih =>
    have h64 : n + 1 < 64 := lt64 ⟨n + 1, hn⟩
    have hn' : n < cfg0.N := Nat.lt_of_succ_lt hn
    rw [ds_next m c n hn' hn (by omega), oDs_eq (reads m c it hs h0 ⟨n, hn'⟩ (ih hn')), hs]
    rfl

theorem reads_all (t : Fin cfg0.N) : Reads (blkAt m c t) t.val (it t.val) :=
  reads m c it hs h0 t (carried m c it hs h0 t.val t.isLt)

omit h0 in
theorem last_20 (n : ℕ) (hn : n < 64) (l : Fin 64) (h : Fin 4) (d : Fin 128) :
    (it 64).main_v70_20 (ix4 (row n) l h d) = b263 n (it n) (ix3 l h d) := by
  have := it_20 it hs 64 le_rfl (row n) l h d (by omega)
  rwa [show 63 - ((row n : Fin 64) : ℕ) = n by show 63 - (63 - n) = n; omega] at this

omit h0 in
theorem last_21 (n : ℕ) (hn : n < 64) (l : Fin 64) (h : Fin 4) (d : Fin 128) :
    (it 64).main_v70_21 (ix4 (row n) l h d) = b260 n (it n) (ix3 l h d) := by
  have := it_21 it hs 64 le_rfl (row n) l h d (by omega)
  rwa [show 63 - ((row n : Fin 64) : ℕ) = n by show 63 - (63 - n) = n; omega] at this

omit h0 in
theorem last_22 (n : ℕ) (hn : n < 64) (l : Fin 64) (h : Fin 4) (e : Fin 256) :
    (it 64).main_v70_22 (ix4 (row n) l h e) = b256 n (it n) (ix3 l h e) := by
  have := it_22 it hs 64 le_rfl (row n) l h e (by omega)
  rwa [show 63 - ((row n : Fin 64) : ℕ) = n by show 63 - (63 - n) = n; omega] at this

/-- The gradients of the queries. -/
theorem arr_dq : (dats m 0 c).arrAt 16 cfg0.N = R_main_v71 (it 64) := by
  refine (dats m 0 c).arrAt_eq_of_covers 16 _ (by decide +kernel) fun t hf y => ?_
  obtain ⟨l, h, d, rfl⟩ := split128 y
  rw [after0_16, dq_pt]
  refine (oDq_eq (reads_all m c it hs h0 t) l h d).trans (Eq.trans ?_ (congrArg (R_main_v71 (it 64))
    (show ix2 (tok (row t) l) (c128 h d) = _ by blk_ext [idx_out t])))
  rw [R71_at, last_20 it hs t.val (lt64 t)]

/-- Of the keys. -/
theorem arr_dk : (dats m 0 c).arrAt 17 cfg0.N = R_main_v72 (it 64) := by
  refine (dats m 0 c).arrAt_eq_of_covers 17 _ (by decide +kernel) fun t hf y => ?_
  obtain ⟨l, h, d, rfl⟩ := split128 y
  rw [after0_17, dk_pt]
  refine (oDk_eq (reads_all m c it hs h0 t) l h d).trans (Eq.trans ?_ (congrArg (R_main_v72 (it 64))
    (show ix2 (tok (row t) l) (c128 h d) = _ by blk_ext [idx_out t])))
  rw [R72_at, last_21 it hs t.val (lt64 t)]

/-- Of the values: columns 10240 to 11263 of the array that the call writes in place. -/
theorem arr_dv' : (dats m 0 c).arrAt 18 cfg0.N
    = fun i => if 10240 ≤ (i 1 : ℕ) ∧ (i 1 : ℕ) < 11264 then
        R_main_v76 (it 64) (m ((c : Thread nD τ).loc main_arg10)) i else (dats m 0 c).A 18 i := by
  refine (dats m 0 c).arrAt_eq_of_coversWhere 18 _ (fun β => β 1 = 10) (by decide +kernel) (fun t hf y => ?_)
    (fun j => by blk_simp [Pipeline.Window.cell_apply]; omega)
  obtain ⟨l, h, e, rfl⟩ := split256 y
  rw [after0_18, dv_pt]
  refine (oDv_eq (reads_all m c it hs h0 t) l h e).trans (Eq.trans ?_ (congrArg (R_main_v76 (it 64) _)
    (show ix2 (tok (row t) l) (⟨10240 + (h * 256 + e), by omega⟩ : Fin 12288) = _ by blk_ext [idx_out t])))
  rw [R76_at, last_22 it hs t.val (lt64 t)]

theorem arr_dv : (dats m 0 c).arrAt 18 cfg0.N = R_main_v76 (it 64) (m ((c : Thread nD τ).loc main_arg10)) := by
  rw [arr_dv' m c it hs h0]
  funext i
  split
  · rfl
  · next hi =>
    have e : (dats m 0 c).A 18 = m ((c : Thread nD τ).loc main_arg10) := by
      show V m c main_v74_2 = _
      entry_read
      rfl
    rw [e]
    have := R76_else (it 64) (m ((c : Thread nD τ).loc main_arg10)) ⟨(i 0 : ℕ), (i 0).isLt⟩ ⟨(i 1 : ℕ), (i 1).isLt⟩ (by
      show (i 1 : ℕ) < 10240 ∨ 11264 ≤ (i 1 : ℕ)
      omega)
    refine Eq.trans ?_ (this.symm.trans (congrArg _ ?_))
    · exact congrArg _ (by idx_ext)
    · idx_ext
end

end Cert.KernelIdeal.Value

end
-- ==== Proof.DwIn.lean ====
/-
  The gradient of the input projection's weights: every block of the result is the sum of two products, each over half of the rows;
  together they are the product over all rows, which is the reference's.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

theorem zeros2 : (![0, 0] : Fin 2 → Nat) = fun _ => 0 := funext fun a => by fin_cases a <;> rfl

section
variable {F : FTy → Type} [FloatOps F]
variable (m : (ℓ : Loc nD τ sig) → Buf (Elt F) ℓ) (c : Dev nD) (t : Fin cfg0.N)

/-- After the first half the accumulator holds that half's product added to zeros. -/
theorem half (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun y => scover0_A_0 _ _ _ _ _ _ _ _ _ _ _ _ _ _ y)]
  unfold kernelRun0_A
  dsimp only
  sl_unfold_words
  rw [View.canon_cons_unit_zero (S := S1024x1024) zeros2, View.readCov_unit_zero (S := S1024x1024) _ zeros2]
  simp only [View.readAt_eq_ld, (hs0_0 t).read_unread, (hs0_1 t).read_unread, View.ld_unit_zero (S := S2048x1024) zeros2]

/-- After the second half the result's block holds both halves' products. -/
theorem both (h0 : ¬t.val % 2 = 0) (h1 : t.val % 2 = 1) :
    (outsAt0 m c t.val t.isLt).1
      = k0_pay2 (outsAt0 m c (t.val - 1) (Nat.lt_of_le_of_lt (Nat.sub_le _ _) t.isLt)).2 (iblk m c 0 t) (iblk m c 1 t) := by
  rw [outsAt0_B m c t h0 h1]
  dsimp only
  generalize (outsAt0 m c (t.val - 1) _).2 = xs
  unfold out0_B_2
  rw [View.read_writes_eq_canon _ _ _ (fun y => cover0_B_2 _ _ _ _ _ _ _ _ _ _ _ _ _ _ _ y)]
  unfold kernelRun0_B
  dsimp only
  sl_unfold_words
  rw [View.canon_cons_unit_zero (S := S1024x1024) zeros2, View.readCov_unit_zero (S := S1024x1024) _ zeros2]
  simp only [View.readAt_eq_ld, (hs0_0 t).read_unread, (hs0_1 t).read_unread, (Memref.isWhole_whole _).read_unread,
    View.ld_unit_zero (S := S2048x1024) zeros2, View.ld_unit_zero (S := S1024x1024) zeros2]

theorem idx_in : ∀ t : Fin cfg0.N, (win0_0.index t 0 = t.val % 2 ∧ win0_0.index t 1 = t.val / 2)
    ∧ (win0_1.index t 0 = t.val % 2 ∧ win0_1.index t 1 = 0) := by
  decide +kernel

theorem lt24 : t.val < 24 := lt_of_lt_of_eq t.isLt (show cfg0.N = 24 from N_0)

theorem left_at (k : Fin 2048) (i : Fin 1024) : iblk m c 0 t (ix2 k i)
    = m ((c : Thread nD τ).loc main_arg0) (ix2 ⟨2048 * (t.val % 2) + k, by omega⟩ ⟨1024 * (t.val / 2) + i, by have := lt24 t; omega⟩) := by
  obtain ⟨⟨e0, e1⟩, -⟩ := idx_in t
  refine congrArg (m ((c : Thread nD τ).loc main_arg0)) (funext fun a => Fin.ext ?_)
  revert a
  refine Fin.forall_fin_two.2 ⟨?_, ?_⟩
  · show win0_0.index t 0 * 2048 + 1 * (k : ℕ) = 2048 * (t.val % 2) + k; rw [e0]; omega
  · show win0_0.index t 1 * 1024 + 1 * (i : ℕ) = 1024 * (t.val / 2) + i; rw [e1]; omega

theorem right_at (k : Fin 2048) (j : Fin 1024) : iblk m c 1 t (ix2 k j)
    = m ((c : Thread nD τ).loc main_arg1) (ix2 ⟨2048 * (t.val % 2) + k, by omega⟩ j) := by
  obtain ⟨-, e0, e1⟩ := idx_in t
  refine congrArg (m ((c : Thread nD τ).loc main_arg1)) (funext fun a => Fin.ext ?_)
  revert a
  refine Fin.forall_fin_two.2 ⟨?_, ?_⟩
  · show win0_1.index t 0 * 2048 + 1 * (k : ℕ) = 2048 * (t.val % 2) + k; rw [e0]; omega
  · show win0_1.index t 1 * 1024 + 1 * (j : ℕ) = j; rw [e1]; omega
end

section
variable (m : (ℓ : Loc nD τ sig) → Buf (Elt Ideal) ℓ) (c : Dev nD)

theorem step_at (a : FVec Ideal S1024x1024 .f32) (x y : FVec Ideal S2048x1024 .bf16) (i j : Fin 1024) :
    k0_pay2 a x y (ix2 i j) = a (ix2 i j) + ∑ k : Fin 2048, x (ix2 k i) * y (ix2 k j) := by
  pointwise [k0_pay2]

theorem start_at (i j : Fin 1024) : (k0_pay1 : FVec Ideal S1024x1024 .f32) (ix2 i j) = 0 := by
  pointwise [k0_pay1]

/-- A row's term of the product. -/
def term (x : FVec Ideal S4096x12288 .bf16) (y : FVec Ideal S4096x1024 .bf16) (i : Fin 12288) (j : Fin 1024) (k : Fin 4096) : Ideal .f32 :=
  x (ix2 k i) * y (ix2 k j)

/-- The product over all rows. -/
def prod (x : FVec Ideal S4096x12288 .bf16) (y : FVec Ideal S4096x1024 .bf16) : FVec Ideal S12288x1024 .f32 :=
  fun i => ∑ k : Fin 4096, term x y (i 0) (i 1) k

theorem halves (f : Fin 4096 → Ideal .f32) :
    (∑ k : Fin 2048, f ⟨k, by omega⟩) + ∑ k : Fin 2048, f ⟨2048 + k, by omega⟩ = ∑ k, f k :=
  (Fin.sum_univ_add (a := 2048) (b := 2048) f).symm

/-- The result. -/
theorem prod_at (i : Fin 12288) (j : Fin 1024) : G2 m c (ix2 i j)
    = prod (m ((c : Thread nD τ).loc main_arg0)) (m ((c : Thread nD τ).loc main_arg1)) (ix2 i j) := by
  have hN : cfg0.N = 24 := N_0
  have hj : (j : ℕ) / 1024 = 0 := by omega
  have hp : pt2Of (ix2 i j) = 2 * (i / 1024) + 1 := by
    show 2 * (1 * ((i : ℕ) / 1024 - 0) + 1 * ((j : ℕ) / 1024 - 0)) + 1 = _
    omega
  have hl : loc2Of (ix2 i j) = ix2 ⟨i % 1024, Nat.mod_lt _ (by decide)⟩ j := by
    funext a; revert a
    refine Fin.forall_fin_two.2 ⟨rfl, Fin.ext ?_⟩
    show (j : ℕ) % 1024 = j
    omega
  have lt : pt2Of (ix2 i j) < cfg0.N := by rw [hp, hN]; omega
  unfold G2
  rw [dif_pos lt, ← outsAt0_sweep m c _ lt, hl]
  generalize pt2Of (ix2 i j) = n at lt hp
  subst hp
  rw [both m c ⟨_, lt⟩ (by show ¬(2 * ((i : ℕ) / 1024) + 1) % 2 = 0; omega) (by show (2 * ((i : ℕ) / 1024) + 1) % 2 = 1; omega)]
  have lt' : 2 * ((i : ℕ) / 1024) + 1 - 1 < cfg0.N := by omega
  rw [half m c ⟨_, lt'⟩ (by show (2 * ((i : ℕ) / 1024) + 1 - 1) % 2 = 0; omega) (by show ¬(2 * ((i : ℕ) / 1024) + 1 - 1) % 2 = 1; omega)]
  rw [step_at, step_at, start_at, zero_add]
  refine Eq.trans ?_ (halves (term (m ((c : Thread nD τ).loc main_arg0)) (m ((c : Thread nD τ).loc main_arg1)) i j))
  congr 1 <;> refine Finset.sum_congr rfl fun k _ => ?_
  · rw [left_at, right_at]
    congr 2 <;> refine (ix2_inj ..).2 ⟨Fin.ext ?_, Fin.ext ?_⟩
    all_goals simp
    all_goals omega
  · rw [left_at, right_at]
    congr 2 <;> refine (ix2_inj ..).2 ⟨Fin.ext ?_, Fin.ext ?_⟩
    all_goals simp
    all_goals omega
end

end Cert.Kernel2Ideal.Value

namespace Cert.Reference2Ideal.Value

open Idealize.ShloMosaic Idealize.ShloMosaic.TcCoe
open Cert.Reference2Ideal Cert.Reference2Ideal.Gen

theorem dot_at (x : FVec Ideal S4096x12288 .bf16) (y : FVec Ideal S4096x1024 .bf16) (i : Fin 12288) (j : Fin 1024) :
    transpose S12288x1024 [1, 0] (transpose S1024x12288 [1, 0] (Host.dotGeneral (F := Ideal)
      dot_S4096x12288_S4096x1024_S12288x1024_0_0_1_1_n_n none (extf .f32 x bitsLt_bf16_f32) (extf .f32 y bitsLt_bf16_f32))
      transposes_S12288x1024_S1024x12288_1_0) transposes_S1024x12288_S12288x1024_1_0 (ix2 i j)
      = Cert.Kernel2Ideal.Value.prod x y (ix2 i j) := by
  pointwise [Cert.Kernel2Ideal.Value.prod, Cert.Kernel2Ideal.Value.term]

end Cert.Reference2Ideal.Value

end
-- ==== Proof.InNorm.lean ====
/-
  The gradient of the norm of one row, over the extended reals: the kernel's formula and the derivative's are equal, whatever the row
  and the gradient are. A row whose squares sum to infinity has the factor zero, and both are zero; else the factor is a positive real,
  and multiplication by it distributes over every sum.
-/
module

public import Idealize.ShloMosaic.Lib.Pointwise
public import Idealize.ShloMosaic.PureOps.Ideal

@[expose] public section

noncomputable section

namespace Cert.InNorm

open Idealize.ShloMosaic

theorem width_eq : Ideal.ofBits .f32 0x44800000#32 = ((1024 : ℝ) : EReal) := by
  simp [Ideal.ofBits, Ideal.ieee, -EReal.coe_mul]; norm_num

theorem eps_pos : ∃ p : ℝ, 0 < p ∧ Ideal.ofBits .f32 0x358637BD#32 = (p : EReal) := by
  refine ⟨8796093 * 2 ^ (-43 : ℤ), by positivity, ?_⟩
  simp [Ideal.ofBits, Ideal.ieee, -EReal.coe_mul]

theorem half_eq : Ideal.ofBits .f32 0xBF000000#32 = ((-(1 / 2) : ℝ) : EReal) := by
  simp [Ideal.ofBits, Ideal.ieee, -EReal.coe_mul]; norm_num

/-- The mean of a row's squares, with the norm's epsilon. -/
def meanSq (x : Fin 1024 → EReal) : EReal :=
  Ideal.div (∑ k, x k * x k) (Ideal.ofBits .f32 0x44800000#32) + Ideal.ofBits .f32 0x358637BD#32

/-- The norm's factor. -/
def factor (x : Fin 1024 → EReal) : EReal := Ideal.rsqrt (meanSq x)

theorem sq_nonneg' (a : EReal) : 0 ≤ a * a := by
  rcases le_total 0 a with h | h
  · exact mul_nonneg h h
  · have := mul_nonneg (EReal.neg_nonneg.2 h) (EReal.neg_nonneg.2 h)
    rwa [neg_mul_neg] at this

/-- The factor is zero, or a positive real whose square is the inverse of the mean square. -/
theorem factor_cases (x : Fin 1024 → EReal) :
    (meanSq x = ⊤ ∧ factor x = 0) ∨ ∃ a r : ℝ, 0 < a ∧ 0 < r ∧ r * r = 1 / a ∧ meanSq x = a ∧ factor x = r := by
  obtain ⟨p, hp, ep⟩ := eps_pos
  have h0 : 0 ≤ ∑ k, x k * x k := Finset.sum_nonneg fun k _ => sq_nonneg' (x k)
  have em : meanSq x = (∑ k, x k * x k) * ((1 / 1024 : ℝ) : EReal) + (p : EReal) := by
    unfold meanSq; rw [width_eq, ep, Ideal.div_coe (by norm_num)]
  revert h0 em
  generalize (∑ k, x k * x k) = s
  intro h0 em
  induction s using EReal.rec with
  | bot => exact absurd h0 (by simp)
  | top =>
    left
    have e : meanSq x = ⊤ := by rw [em, EReal.top_mul_coe_of_pos (by norm_num), EReal.top_add_coe]
    exact ⟨e, by unfold factor; rw [e, Ideal.rsqrt_top]⟩
  | coe v =>
    right
    have hv : 0 ≤ v := EReal.coe_nonneg.1 h0
    have ha : 0 < v * (1 / 1024) + p := by positivity
    have e : meanSq x = ((v * (1 / 1024) + p : ℝ) : EReal) := by rw [em]; push_cast; rfl
    refine ⟨_, (Real.sqrt (v * (1 / 1024) + p))⁻¹, ha, by positivity, ?_, e, ?_⟩
    · rw [← mul_inv, Real.mul_self_sqrt ha.le]; exact (one_div _).symm
    · unfold factor
      rw [e, Ideal.rsqrt_coe, if_neg (not_lt.2 ha.le), if_neg ha.ne']

theorem sum_mul_pos {ι : Type} (s : Finset ι) (f : ι → EReal) (r : ℝ) (hr : 0 < r) :
    (∑ k ∈ s, f k) * (r : EReal) = ∑ k ∈ s, f k * (r : EReal) := by
  classical
  induction s using Finset.induction_on with
  | empty => simp
  | insert a s h ih =>
    rw [Finset.sum_insert h, Finset.sum_insert h, ← ih,
      EReal.right_distrib_of_nonneg_of_ne_top (EReal.coe_nonneg.2 hr.le) (EReal.coe_ne_top r)]

/-- The kernel's formula for a row's gradient at one column. -/
def kernelRow (x g : Fin 1024 → EReal) (d : EReal) (j : Fin 1024) : EReal :=
  d + factor x * (g j - x j * factor x * Ideal.div (∑ k, g k * (x k * factor x)) (Ideal.ofBits .f32 0x44800000#32))

/-- What the derivative of the mean square gives. -/
def slopeRow (x g : Fin 1024 → EReal) : EReal :=
  Ideal.div ((∑ k, x k * g k) * (Ideal.ofBits .f32 0xBF000000#32 * Ideal.div (factor x) (meanSq x)))
    (Ideal.ofBits .f32 0x44800000#32)

/-- The derivative's formula. -/
def referenceRow (x g : Fin 1024 → EReal) (d : EReal) (j : Fin 1024) : EReal :=
  d + (g j * factor x + x j * slopeRow x g + slopeRow x g * x j)

theorem row_eq (x g : Fin 1024 → EReal) (d : EReal) (j : Fin 1024) : kernelRow x g d j = referenceRow x g d j := by
  unfold kernelRow referenceRow slopeRow
  rcases factor_cases x with ⟨em, ef⟩ | ⟨a, r, ha, hr, hra, em, ef⟩
  · rw [em, ef, width_eq, Ideal.div_coe (by norm_num)]
    have h0 : Ideal.div (0 : EReal) ⊤ = 0 := by simp [Ideal.div]
    rw [h0, Ideal.div_coe (by norm_num)]
    simp
  · rw [em, ef, width_eq, Ideal.div_coe (by norm_num), Ideal.div_coe (by norm_num), Ideal.div_coe ha.ne', half_eq]
    congr 1
    have e1 : (∑ k, g k * (x k * (r : EReal))) = (∑ k, x k * g k) * (r : EReal) := by
      rw [sum_mul_pos _ _ r hr]
      exact Finset.sum_congr rfl fun k _ => by rw [← mul_assoc, mul_comm (g k)]
    rw [e1, sub_eq_add_neg,
      EReal.left_distrib_of_nonneg_of_ne_top (EReal.coe_nonneg.2 hr.le) (EReal.coe_ne_top r), mul_comm (r : EReal) (g j), add_assoc]
    congr 1
    generalize (∑ k, x k * g k) = s
    have hk : 0 ≤ r * (1 / a) * (1 / 1024) / 2 := by positivity
    have e2 : x j * (s * (((-(1 / 2) : ℝ) : EReal) * ((r : EReal) * ((1 / a : ℝ) : EReal))) * ((1 / 1024 : ℝ) : EReal))
        = -(x j * s) * ((r * (1 / a) * (1 / 1024) / 2 : ℝ) : EReal) := by
      have : ((-(1 / 2) : ℝ) : EReal) * ((r : EReal) * ((1 / a : ℝ) : EReal)) * ((1 / 1024 : ℝ) : EReal)
          = -((r * (1 / a) * (1 / 1024) / 2 : ℝ) : EReal) := by
        rw [← EReal.coe_mul, ← EReal.coe_mul, ← EReal.coe_mul, ← EReal.coe_neg]
        congr 1; ring
      rw [mul_assoc s, this, mul_neg, mul_neg, ← mul_assoc, neg_mul]
    rw [mul_comm (s * _ * _) (x j), e2,
      ← EReal.left_distrib_of_nonneg (EReal.coe_nonneg.2 hk) (EReal.coe_nonneg.2 hk), ← EReal.coe_add]
    have e3 : r * (1 / a) * (1 / 1024) / 2 + r * (1 / a) * (1 / 1024) / 2 = r * r * r * (1 / 1024) := by
      rw [hra]; ring
    rw [e3, mul_neg, neg_mul]
    congr 1
    push_cast
    ac_rfl

end Cert.InNorm

end
-- ==== Proof.InBwd.lean ====
/-
  The gradients of the input projection's input and of the norm's gain. A block of rows is taken in twelve steps: they add up the gradient
  of the normed rows, and the last one passes it through the norm. The gain's gradient is added up over the four blocks of rows.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import proofs.«01_k».proof.Proof.InNorm

@[expose] public section

set_option maxRecDepth 16384

noncomputable section

namespace Cert.Kernel3Ideal.Value

open Idealize.ShloMosaic Idealize.ShloMosaic.TcCoe Idealize.SL.Sem
open Cert.Kernel3Ideal Cert.Kernel3Ideal.Gen

theorem zeros2 : (![0, 0] : Fin 2 → Nat) = fun _ => 0 := funext fun a => by fin_cases a <;> rfl

section
variable {F : FTy → Type} [FloatOps F]
variable (m : (ℓ : Loc nD τ sig) → Buf (Elt F) ℓ) (c : Dev nD) (t : Fin cfg0.N)

/-- What the point before left. -/
def before : Vec F S1024x1024 .f32 × Vec F S8x1024 .f32 × Vec F S1024x1024 .f32 :=
  outsAt0 m c (t.val - 1) (Nat.lt_of_le_of_lt (Nat.sub_le _ _) t.isLt)

/-- The first of a block's twelve steps starts the sum from zeros. -/
theorem sum_first (h0 : t.val % 12 = 0) :
    (outsAt0 m c t.val t.isLt).2.2 = k0_pay3 k0_pay1 (iblk m c 0 t) (iblk m c 1 t) := by
  have h2 : ¬t.val % 12 = 11 := by omega
  by_cases h1 : t.val % 48 = 0
  · rw [outsAt0_A m c t h0 h1 h2]
    dsimp only
    unfold sout0_A_0
    rw [View.read_writes_eq_canon _ _ _ (fun y => scover0_A_0 _ _ _ _ _ _ _ _ _ _ _ _ _ _ _ _ _ _ _ _ _ _ _ _ _ _ y)]
    unfold kernelRun0_A
    dsimp only
    sl_unfold_words
    rw [View.canon_cons_unit_zero (S := S1024x1024) zeros2, View.readCov_unit_zero (S := S1024x1024) _ zeros2]
    simp only [View.readAt_eq_ld, (hs0_0 t).read_unread, (hs0_1 t).read_unread, View.ld_unit_zero (S := S1024x1024) zeros2]
  · rw [outsAt0_D m c t h0 h1 h2]
    dsimp only
    generalize (outsAt0 m c (t.val - 1) _).2 = xs
    unfold sout0_D_0
    rw [View.read_writes_eq_canon _ _ _ (fun y => scover0_D_0 _ _ _ _ _ _ _ _ _ _ _ _ _ _ _ _ _ _ _ _ _ _ _ _ _ _ y)]
    unfold kernelRun0_D
    dsimp only
    sl_unfold_words
    rw [View.canon_cons_unit_zero (S := S1024x1024) zeros2, View.readCov_unit_zero (S := S1024x1024) _ zeros2]
    simp only [View.readAt_eq_ld, (hs0_0 t).read_unread, (hs0_1 t).read_unread, View.ld_unit_zero (S := S1024x1024) zeros2]

/-- The other steps add to the sum. -/
theorem sum_next (h0 : ¬t.val % 12 = 0) :
    (outsAt0 m c t.val t.isLt).2.2 = k0_pay3 (before m c t).2.2 (iblk m c 0 t) (iblk m c 1 t) := by
  have h1 : ¬t.val % 48 = 0 := by omega
  by_cases h2 : t.val % 12 = 11
  · rw [outsAt0_C m c t h0 h1 h2]
    dsimp only
    unfold before
    generalize outsAt0 m c (t.val - 1) _ = xs
    unfold sout0_C_0
    rw [View.read_writes_eq_canon _ _ _ (fun y => scover0_C_0 _ _ _ _ _ _ _ _ _ _ _ _ _ _ _ _ _ _ _ _ _ _ _ _ _ _ _ _ y)]
    unfold kernelRun0_C
    dsimp only
    sl_unfold_words
    rw [View.canon_cons_unit_zero (S := S1024x1024) zeros2]
    simp only [View.readAt_eq_ld, (hs0_0 t).read_unread, (hs0_1 t).read_unread, (Memref.isWhole_whole _).read_unread,
      View.ld_unit_zero (S := S1024x1024) zeros2]
  · rw [outsAt0_B m c t h0 h1 h2]
    dsimp only
    unfold before
    generalize outsAt0 m c (t.val - 1) _ = xs
    unfold sout0_B_0
    rw [View.read_writes_eq_canon _ _ _ (fun y => scover0_B_0 _ _ _ _ _ _ _ _ _ _ _ _ _ _ _ _ _ _ _ _ _ _ _ _ _ _ _ y)]
    unfold kernelRun0_B
    dsimp only
    sl_unfold_words
    rw [View.canon_cons_unit_zero (S := S1024x1024) zeros2]
    simp only [View.readAt_eq_ld, (hs0_0 t).read_unread, (hs0_1 t).read_unread, (Memref.isWhole_whole _).read_unread,
      View.ld_unit_zero (S := S1024x1024) zeros2]

/-- The gain's gradient starts from zeros. -/
theorem gain_first (h1 : t.val % 48 = 0) : (outsAt0 m c t.val t.isLt).2.1 = k0_pay2 := by
  rw [outsAt0_A m c t (by omega) h1 (by omega)]
  dsimp only
  unfold out0_A_6
  rw [View.read_writes_eq_canon _ _ _ (fun y => cover0_A_6 _ _ _ _ _ _ _ _ _ _ _ _ _ _ _ _ _ _ _ _ _ _ _ _ _ _ y)]
  unfold kernelRun0_A
  dsimp only
  sl_unfold_words
  rw [View.canon_cons_unit_zero (S := S8x1024) zeros2]

/-- All steps but a block's last leave the gain's gradient alone. -/
theorem gain_keep (h1 : ¬t.val % 48 = 0) (h2 : ¬t.val % 12 = 11) :
    (outsAt0 m c t.val t.isLt).2.1 = (before m c t).2.1 := by
  by_cases h0 : t.val % 12 = 0
  · rw [outsAt0_D m c t h0 h1 h2]; rfl
  · rw [outsAt0_B m c t h0 h1 h2]; rfl

/-- A block's last step adds the block's part to the gain's gradient. -/
theorem gain_last (h2 : t.val % 12 = 11) : (outsAt0 m c t.val t.isLt).2.1
    = k0_pay5 (iblk m c 2 t) (k0_pay3 (before m c t).2.2 (iblk m c 0 t) (iblk m c 1 t)) (before m c t).2.1 := by
  rw [outsAt0_C m c t (by omega) (by omega) h2]
  dsimp only
  unfold before
  generalize outsAt0 m c (t.val - 1) _ = xs
  unfold out0_C_6
  rw [View.read_writes_eq_canon _ _ _ (fun y => cover0_C_6 _ _ _ _ _ _ _ _ _ _ _ _ _ _ _ _ _ _ _ _ _ _ _ _ _ _ _ _ y)]
  unfold kernelRun0_C
  dsimp only
  sl_unfold_words
  rw [View.canon_cons_unit_zero (S := S8x1024) zeros2, View.readCov_unit_zero (S := S1024x1024) _ zeros2]
  simp only [View.readAt_eq_ld, (hs0_0 t).read_unread, (hs0_1 t).read_unread, (hs0_2 t).read_unread, (hs0_6 t).read_unread,
    (Memref.isWhole_whole _).read_unread, View.ld_unit_zero (S := S1024x1024) zeros2, View.ld_unit_zero (S := S8x1024) zeros2]

/-- A block's last step writes the block of the input's gradient. -/
theorem rows_last (h2 : t.val % 12 = 11) : (outsAt0 m c t.val t.isLt).1
    = k0_pay6 (iblk m c 2 t) (k0_pay3 (before m c t).2.2 (iblk m c 0 t) (iblk m c 1 t)) (iblk m c 4 t) (iblk m c 3 t) := by
  rw [outsAt0_C m c t (by omega) (by omega) h2]
  dsimp only
  unfold before
  generalize outsAt0 m c (t.val - 1) _ = xs
  unfold out0_C_5
  rw [View.read_writes_eq_canon _ _ _ (fun y => cover0_C_5 _ _ _ _ _ _ _ _ _ _ _ _ _ _ _ _ _ _ _ _ _ _ _ _ _ _ _ _ y)]
  unfold kernelRun0_C
  dsimp only
  sl_unfold_words
  rw [View.canon_cons_unit_zero (S := S1024x1024) zeros2, View.readCov_unit_zero (S := S1024x1024) _ zeros2]
  simp only [View.readAt_eq_ld, (hs0_0 t).read_unread, (hs0_1 t).read_unread, (hs0_2 t).read_unread, (hs0_3 t).read_unread,
    (hs0_4 t).read_unread, (Memref.isWhole_whole _).read_unread, View.ld_unit_zero (S := S1024x1024) zeros2,
    View.ld_unit_zero (S := S1x1024) zeros2]
end

section
variable {F : FTy → Type} [FloatOps F]
variable (m : (ℓ : Loc nD τ sig) → Buf (Elt F) ℓ) (c : Dev nD) (t : Fin cfg0.N)

theorem idx_in : ∀ t : Fin cfg0.N, (win0_0.index t 0 = t.val / 12 ∧ win0_0.index t 1 = t.val % 12)
    ∧ (win0_1.index t 0 = t.val % 12 ∧ win0_1.index t 1 = 0) ∧ (win0_2.index t 0 = t.val / 12 ∧ win0_2.index t 1 = 0)
    ∧ (win0_3.index t 0 = 0 ∧ win0_3.index t 1 = 0) ∧ (win0_4.index t 0 = t.val / 12 ∧ win0_4.index t 1 = 0) := by
  decide +kernel

theorem lt48 : t.val < 48 := lt_of_lt_of_eq t.isLt (show cfg0.N = 48 from N_0)

theorem grad_at (i k : Fin 1024) : iblk m c 0 t (ix2 i k)
    = m ((c : Thread nD τ).loc main_arg0) (ix2 ⟨1024 * (t.val / 12) + i, by have := lt48 t; omega⟩ ⟨1024 * (t.val % 12) + k, by omega⟩) := by
  obtain ⟨⟨e0, e1⟩, -⟩ := idx_in t
  refine congrArg (m ((c : Thread nD τ).loc main_arg0)) (funext fun a => Fin.ext ?_)
  revert a
  refine Fin.forall_fin_two.2 ⟨?_, ?_⟩
  · show win0_0.index t 0 * 1024 + 1 * (i : ℕ) = 1024 * (t.val / 12) + i; rw [e0]; omega
  · show win0_0.index t 1 * 1024 + 1 * (k : ℕ) = 1024 * (t.val % 12) + k; rw [e1]; omega

theorem weight_at (k j : Fin 1024) : iblk m c 1 t (ix2 k j)
    = m ((c : Thread nD τ).loc main_arg1) (ix2 ⟨1024 * (t.val % 12) + k, by omega⟩ j) := by
  obtain ⟨-, ⟨e0, e1⟩, -⟩ := idx_in t
  refine congrArg (m ((c : Thread nD τ).loc main_arg1)) (funext fun a => Fin.ext ?_)
  revert a
  refine Fin.forall_fin_two.2 ⟨?_, ?_⟩
  · show win0_1.index t 0 * 1024 + 1 * (k : ℕ) = 1024 * (t.val % 12) + k; rw [e0]; omega
  · show win0_1.index t 1 * 1024 + 1 * (j : ℕ) = j; rw [e1]; omega

theorem input_at (i j : Fin 1024) : iblk m c 2 t (ix2 i j)
    = m ((c : Thread nD τ).loc main_arg2) (ix2 ⟨1024 * (t.val / 12) + i, by have := lt48 t; omega⟩ j) := by
  obtain ⟨-, -, ⟨e0, e1⟩, -⟩ := idx_in t
  refine congrArg (m ((c : Thread nD τ).loc main_arg2)) (funext fun a => Fin.ext ?_)
  revert a
  refine Fin.forall_fin_two.2 ⟨?_, ?_⟩
  · show win0_2.index t 0 * 1024 + 1 * (i : ℕ) = 1024 * (t.val / 12) + i; rw [e0]; omega
  · show win0_2.index t 1 * 1024 + 1 * (j : ℕ) = j; rw [e1]; omega

theorem scale_at (j : Fin 1024) : iblk m c 3 t (ix2 0 j) = m ((c : Thread nD τ).loc main_arg3) (ix2 0 j) := by
  obtain ⟨-, -, -, ⟨e0, e1⟩, -⟩ := idx_in t
  refine congrArg (m ((c : Thread nD τ).loc main_arg3)) (funext fun a => Fin.ext ?_)
  revert a
  refine Fin.forall_fin_two.2 ⟨?_, ?_⟩
  · show win0_3.index t 0 * 1 + 1 * 0 = 0; rw [e0]
  · show win0_3.index t 1 * 1024 + 1 * (j : ℕ) = j; rw [e1]; omega

theorem rest_at (i j : Fin 1024) : iblk m c 4 t (ix2 i j)
    = m ((c : Thread nD τ).loc main_arg4) (ix2 ⟨1024 * (t.val / 12) + i, by have := lt48 t; omega⟩ j) := by
  obtain ⟨-, -, -, -, e0, e1⟩ := idx_in t
  refine congrArg (m ((c : Thread nD τ).loc main_arg4)) (funext fun a => Fin.ext ?_)
  revert a
  refine Fin.forall_fin_two.2 ⟨?_, ?_⟩
  · show win0_4.index t 0 * 1024 + 1 * (i : ℕ) = 1024 * (t.val / 12) + i; rw [e0]; omega
  · show win0_4.index t 1 * 1024 + 1 * (j : ℕ) = j; rw [e1]; omega
end

open Cert.InNorm

section
theorem step_at (a : FVec Ideal S1024x1024 .f32) (x y : FVec Ideal S1024x1024 .bf16) (i j : Fin 1024) :
    k0_pay3 a x y (ix2 i j) = a (ix2 i j) + ∑ k : Fin 1024, x (ix2 i k) * y (ix2 k j) := by
  pointwise [k0_pay3]

theorem start_at (i j : Fin 1024) : (k0_pay1 : FVec Ideal S1024x1024 .f32) (ix2 i j) = 0 := by
  pointwise [k0_pay1]

theorem zero_at (r : Fin 8) (j : Fin 1024) : (k0_pay2 : FVec Ideal S8x1024 .f32) (ix2 r j) = 0 := by
  pointwise [k0_pay2]

theorem factor_at (x : FVec Ideal S1024x1024 .f32) (i : Fin 1024) :
    (k0_pay4 x : FVec Ideal S1024x1 .f32) (ix2 i 0) = factor fun k => x (ix2 i k) := by
  pointwise [k0_pay4, factor, meanSq]

theorem gain_at (x u : FVec Ideal S1024x1024 .f32) (g : FVec Ideal S8x1024 .f32) (r : Fin 8) (j : Fin 1024) :
    k0_pay5 x u g (ix2 r j) = g (ix2 r j) + ∑ i : Fin 1024, u (ix2 i j) * (x (ix2 i j) * factor fun k => x (ix2 i k)) := by
  pointwise [k0_pay5, k0_pay4, factor, meanSq]

theorem rows_at (x u d : FVec Ideal S1024x1024 .f32) (g : FVec Ideal S1x1024 .f32) (i j : Fin 1024) :
    (k0_pay6 x u d g : FVec Ideal S1024x1024 .f32) (ix2 i j) = kernelRow (fun k => x (ix2 i k)) (fun k => u (ix2 i k) * g (ix2 0 k)) (d (ix2 i j)) j := by
  pointwise [k0_pay6, k0_pay4, kernelRow, factor, meanSq]

/-- A column's term of the gradient of the normed rows, zero past the last column. -/
def term (p : FVec Ideal S4096x12288 .bf16) (w : FVec Ideal S12288x1024 .bf16) (i : Fin 4096) (j : Fin 1024) (k : ℕ) : EReal :=
  if h : k < 12288 then p (ix2 i ⟨k, h⟩) * w (ix2 ⟨k, h⟩ j) else 0

/-- The gradient of the normed rows. -/
def normed (p : FVec Ideal S4096x12288 .bf16) (w : FVec Ideal S12288x1024 .bf16) (i : Fin 4096) (j : Fin 1024) : EReal :=
  ∑ k : Fin 12288, p (ix2 i k) * w (ix2 k j)

theorem normed_eq (p : FVec Ideal S4096x12288 .bf16) (w : FVec Ideal S12288x1024 .bf16) (i : Fin 4096) (j : Fin 1024) :
    ∑ k ∈ Finset.range 12288, term p w i j k = normed p w i j := by
  rw [Finset.sum_range]
  exact Finset.sum_congr rfl fun k _ => dif_pos k.isLt

/-- A row's term of the gain's gradient, zero past the last row. -/
def gainTerm (p : FVec Ideal S4096x12288 .bf16) (w : FVec Ideal S12288x1024 .bf16) (x : FVec Ideal S4096x1024 .f32) (j : Fin 1024)
    (r : ℕ) : EReal :=
  if h : r < 4096 then normed p w ⟨r, h⟩ j * (x (ix2 ⟨r, h⟩ j) * factor fun k => x (ix2 ⟨r, h⟩ k)) else 0

/-- The gain's gradient. -/
def gain (p : FVec Ideal S4096x12288 .bf16) (w : FVec Ideal S12288x1024 .bf16) (x : FVec Ideal S4096x1024 .f32) (j : Fin 1024) : EReal :=
  ∑ r : Fin 4096, normed p w r j * (x (ix2 r j) * factor fun k => x (ix2 r k))

theorem gain_eq (p : FVec Ideal S4096x12288 .bf16) (w : FVec Ideal S12288x1024 .bf16) (x : FVec Ideal S4096x1024 .f32) (j : Fin 1024) :
    ∑ r ∈ Finset.range 4096, gainTerm p w x j r = gain p w x j := by
  rw [Finset.sum_range]
  exact Finset.sum_congr rfl fun r _ => dif_pos r.isLt

/-- The input's gradient, added to what comes beside the norm. -/
def rows (p : FVec Ideal S4096x12288 .bf16) (w : FVec Ideal S12288x1024 .bf16) (x : FVec Ideal S4096x1024 .f32)
    (g : FVec Ideal S1x1024 .f32) (d : FVec Ideal S4096x1024 .f32) (i : Fin 4096) (j : Fin 1024) : EReal :=
  kernelRow (fun k => x (ix2 i k)) (fun k => normed p w i k * g (ix2 0 k)) (d (ix2 i j)) j
end

section
variable (m : (ℓ : Loc nD τ sig) → Buf (Elt Ideal) ℓ) (c : Dev nD)

/-- One step's product is the sum of the step's terms. -/
theorem step_terms (t : Fin cfg0.N) (i j : Fin 1024) (b : ℕ) (k : ℕ) (hb : b < 4) (hk : k < 12) (ht : t.val = 12 * b + k)
    (a : FVec Ideal S1024x1024 .f32) :
    k0_pay3 a (iblk m c 0 t) (iblk m c 1 t) (ix2 i j) = a (ix2 i j) + ∑ n ∈ Finset.range 1024,
      term (m ((c : Thread nD τ).loc main_arg0)) (m ((c : Thread nD τ).loc main_arg1)) ⟨1024 * b + i, by omega⟩ j (1024 * k + n) := by
  rw [step_at, Finset.sum_range]
  congr 1
  refine Finset.sum_congr rfl fun n _ => ?_
  rw [term, dif_pos (by omega), grad_at, weight_at]
  have hd : t.val / 12 = b := by omega
  have hm : t.val % 12 = k := by omega
  congr 2 <;> refine (ix2_inj ..).2 ⟨Fin.ext ?_, Fin.ext ?_⟩
  all_goals simp only [hd, hm]

/-- After step `k` of block `b` the sum has the terms of the first `k + 1` blocks of columns. -/
theorem sum_at (b : ℕ) (hb : b < 4) (i j : Fin 1024) : ∀ (k : ℕ) (hk : k < 12) (h : 12 * b + k < cfg0.N),
    (outsAt0 m c (12 * b + k) h).2.2 (ix2 i j) = ∑ n ∈ Finset.range (1024 * (k + 1)),
      term (m ((c : Thread nD τ).loc main_arg0)) (m ((c : Thread nD τ).loc main_arg1)) ⟨1024 * b + i, by omega⟩ j n := by
  intro k
  induction k with
  | zero =>
    intro hk h
    rw [sum_first m c ⟨_, h⟩ (by show (12 * b + 0) % 12 = 0; omega), step_terms m c _ i j b 0 hb hk rfl, start_at, zero_add]
    simp
  | succ k ih =>
    intro hk h
    rw [sum_next m c ⟨_, h⟩ (by show ¬(12 * b + (k + 1)) % 12 = 0; omega), step_terms m c _ i j b (k + 1) hb hk rfl]
    have e : (before m c ⟨12 * b + (k + 1), h⟩).2.2 (ix2 i j) = _ := ih (by omega) (Nat.lt_of_succ_lt h)
    rw [e, show 1024 * (k + 1 + 1) = 1024 * (k + 1) + 1024 by omega, Finset.sum_range_add]

theorem sum_last (b : ℕ) (hb : b < 4) (i j : Fin 1024) (h : 12 * b + 11 < cfg0.N) :
    k0_pay3 (before m c ⟨12 * b + 11, h⟩).2.2 (iblk m c 0 ⟨12 * b + 11, h⟩) (iblk m c 1 ⟨12 * b + 11, h⟩) (ix2 i j)
      = normed (m ((c : Thread nD τ).loc main_arg0)) (m ((c : Thread nD τ).loc main_arg1)) ⟨1024 * b + i, by omega⟩ j := by
  rw [← sum_next m c ⟨12 * b + 11, h⟩ (by show ¬(12 * b + 11) % 12 = 0; omega), sum_at m c b hb i j 11 (by omega) h]
  exact normed_eq _ _ _ _

/-- After point `n` the gain's gradient has the terms of the rows of the finished blocks. -/
theorem gain_sum (r : Fin 8) (j : Fin 1024) : ∀ (n : ℕ) (h : n < cfg0.N),
    (outsAt0 m c n h).2.1 (ix2 r j) = ∑ k ∈ Finset.range (1024 * ((n + 1) / 12)),
      gainTerm (m ((c : Thread nD τ).loc main_arg0)) (m ((c : Thread nD τ).loc main_arg1)) (m ((c : Thread nD τ).loc main_arg2)) j k := by
  intro n
  induction n with
  | zero =>
    intro h
    rw [gain_first m c ⟨0, h⟩ rfl, zero_at]
    simp
  | succ n ih =>
    intro h
    have hN : n + 1 < 48 := lt_of_lt_of_eq h N_0
    have e : (before m c ⟨n + 1, h⟩).2.1 (ix2 r j) = _ := ih (Nat.lt_of_succ_lt h)
    by_cases h2 : (n + 1) % 12 = 11
    · rw [gain_last m c ⟨n + 1, h⟩ h2, gain_at, e]
      obtain ⟨b, hb, rfl⟩ : ∃ b, b < 4 ∧ n = 12 * b + 10 := ⟨n / 12, by omega, by omega⟩
      rw [show 1024 * ((12 * b + 10 + 1 + 1) / 12) = 1024 * ((12 * b + 10 + 1) / 12) + 1024 by omega, Finset.sum_range_add]
      congr 1
      rw [Finset.sum_range]
      refine Finset.sum_congr rfl fun i _ => ?_
      have hd : (12 * b + 10 + 1) / 12 = b := by omega
      rw [gainTerm, dif_pos (by omega), sum_last m c b hb i j h]
      simp only [input_at, hd]
    · rw [gain_keep m c ⟨n + 1, h⟩ (by show ¬(n + 1) % 48 = 0; omega) h2, e, show (n + 1 + 1) / 12 = (n + 1) / 12 by omega]

/-- The gain's gradient, at the end. -/
theorem gain_res (r : Fin 8) (j : Fin 1024) : G6 m c (ix2 r j)
    = gain (m ((c : Thread nD τ).loc main_arg0)) (m ((c : Thread nD τ).loc main_arg1)) (m ((c : Thread nD τ).loc main_arg2)) j := by
  have hN : cfg0.N = 48 := N_0
  have hp : pt6Of (ix2 r j) = 47 := by
    show 48 * (1 * ((r : ℕ) / 8 - 0) + 1 * ((j : ℕ) / 1024 - 0)) + 47 = _
    omega
  have hl : loc6Of (ix2 r j) = ix2 r j := by
    funext a; revert a
    refine Fin.forall_fin_two.2 ⟨Fin.ext ?_, Fin.ext ?_⟩
    · show (r : ℕ) % 8 = r; omega
    · show (j : ℕ) % 1024 = j; omega
  have lt : pt6Of (ix2 r j) < cfg0.N := by rw [hp, hN]; omega
  unfold G6
  rw [dif_pos lt, ← outsAt0_sweep m c _ lt, hl]
  generalize pt6Of (ix2 r j) = n at lt hp
  subst hp
  rw [gain_sum m c r j 47 lt]
  exact gain_eq _ _ _ _

/-- The input's gradient, at the end. -/
theorem rows_res (i : Fin 4096) (j : Fin 1024) : G5 m c (ix2 i j)
    = rows (m ((c : Thread nD τ).loc main_arg0)) (m ((c : Thread nD τ).loc main_arg1)) (m ((c : Thread nD τ).loc main_arg2))
        (m ((c : Thread nD τ).loc main_arg3)) (m ((c : Thread nD τ).loc main_arg4)) i j := by
  have hN : cfg0.N = 48 := N_0
  have hp : pt5Of (ix2 i j) = 12 * (i / 1024) + 11 := by
    show 12 * (1 * ((i : ℕ) / 1024 - 0) + 1 * ((j : ℕ) / 1024 - 0)) + 11 = _
    omega
  have hl : loc5Of (ix2 i j) = ix2 ⟨i % 1024, Nat.mod_lt _ (by decide)⟩ j := by
    funext a; revert a
    refine Fin.forall_fin_two.2 ⟨rfl, Fin.ext ?_⟩
    show (j : ℕ) % 1024 = j
    omega
  have lt : pt5Of (ix2 i j) < cfg0.N := by rw [hp, hN]; omega
  unfold G5
  rw [dif_pos lt, ← outsAt0_sweep m c _ lt, hl]
  generalize pt5Of (ix2 i j) = n at lt hp
  subst hp
  rw [rows_last m c ⟨_, lt⟩ (by show (12 * ((i : ℕ) / 1024) + 11) % 12 = 11; omega), rows_at]
  have hi : ∀ h, (⟨1024 * ((i : ℕ) / 1024) + (i : ℕ) % 1024, h⟩ : Fin 4096) = i := fun h => Fin.ext (Nat.div_add_mod _ _)
  have hd : (12 * ((i : ℕ) / 1024) + 11) / 12 = i / 1024 := by omega
  unfold rows
  simp only [sum_last m c _ (show (i : ℕ) / 1024 < 4 by omega), input_at, rest_at, scale_at, hd, hi]
end

end Cert.Kernel3Ideal.Value

end
-- ==== Proof.InRef.lean ====
/-
  The reference of the input projection's backward pass: its two gradients, the input's and the gain's, at one place.
-/
module

public import proofs.«01_k».proof.Proof.Gen.Reference3Ideal.Run
public import proofs.«01_k».proof.Proof.InNorm
public import Idealize.ShloMosaic.Lib.Pipeline.ValueKit

@[expose] public section

set_option maxRecDepth 16384

noncomputable section

namespace Cert.Reference3Ideal.Value

open Idealize.ShloMosaic Idealize.ShloMosaic.TcCoe
open Cert.Reference3Ideal Cert.Reference3Ideal.Gen Cert.InNorm

variable (p : FVec Ideal S4096x12288 .bf16) (w : FVec Ideal S12288x1024 .bf16) (x : FVec Ideal S4096x1024 .f32)
  (g : FVec Ideal S1x1024 .f32) (d : FVec Ideal S4096x1024 .f32)

/-- The gradient of the normed rows, as the reference has it. -/
def dotR : FVec Ideal S4096x1024 .f32 :=
  Host.dotGeneral dot_S4096x12288_S1024x12288_S4096x1024_1_1_0_0_n_n none (extf .f32 p bitsLt_bf16_f32)
    (transpose S1024x12288 [1, 0] (extf .f32 w bitsLt_bf16_f32) transposes_S12288x1024_S1024x12288_1_0)

theorem dotR_at (i : Fin 4096) (j : Fin 1024) : dotR p w (ix2 i j) = ∑ k : Fin 12288, p (ix2 i k) * w (ix2 k j) := by
  pointwise [dotR]

/-- The mean squares of the rows. -/
def meanR : FVec Ideal S4096x1 .f32 :=
  addf (Host.divf (broadcastInDim S4096x1 ![0] bcast_S4096_S4096x1_0 (Host.reduceAdd (mulf x x)
    (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

theorem meanR_at (i : Fin 4096) : meanR x (ix2 i 0) = meanSq fun k => x (ix2 i k) := by
  pointwise [meanR, meanSq]

/-- The rows' gradients through the gain. -/
def scaledR (u : FVec Ideal S4096x1024 .f32) : FVec Ideal S4096x1024 .f32 :=
  mulf u (broadcastInDim S4096x1024 ![0, 1] bcast_S1x1024_S4096x1024_0_1 g)

theorem scaledR_at (u : FVec Ideal S4096x1024 .f32) (i : Fin 4096) (j : Fin 1024) :
    scaledR g u (ix2 i j) = u (ix2 i j) * g (ix2 0 j) := by
  pointwise [scaledR]

/-- The derivative through the mean square, one number a row. -/
def slopeR (a : FVec Ideal S4096x1 .f32) (v : FVec Ideal S4096x1024 .f32) : FVec Ideal S4096x1024 .f32 :=
  broadcastInDim S4096x1024 ![0] bcast_S4096_S4096x1024_0 (Host.reduceAdd (Host.divf (mulf (shapeCast _ (Host.reduceAdd (mulf x v)
    (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt a) a)))
    (broadcastInDim S4096x1 ![] bcast_S_S4096x1 (constant S_ .f32 0x44800000#32)))
    (constant S_ .f32 0x00000000#32) reducesTo_S4096x1_S4096_d1 h_S_)

theorem slopeR_at (v : FVec Ideal S4096x1024 .f32) (i : Fin 4096) (j : Fin 1024) :
    slopeR x (meanR x) v (ix2 i j) = slopeRow (fun k => x (ix2 i k)) fun k => v (ix2 i k) := by
  have h := meanR_at x i
  generalize meanR x = a at h
  pointwise [slopeR, slopeRow, factor, meanSq]
  simp [h, slopeRow, factor, meanSq]

/-- The input's gradient, as the reference has it. -/
theorem rows_ref (i : Fin 4096) (j : Fin 1024) :
    addf d (addf (addf (mulf (scaledR g (dotR p w)) (broadcastInDim S4096x1024 ![0, 1] bcast_S4096x1_S4096x1024_0_1
      (Host.rsqrt (meanR x)))) (mulf x (slopeR x (meanR x) (scaledR g (dotR p w)))))
      (mulf (slopeR x (meanR x) (scaledR g (dotR p w))) x)) (ix2 i j)
      = referenceRow (fun k => x (ix2 i k)) (fun k => (∑ n : Fin 12288, p (ix2 i n) * w (ix2 n k)) * g (ix2 0 k)) (d (ix2 i j)) j := by
  have h := meanR_at x i
  have hs := slopeR_at x (scaledR g (dotR p w)) i j
  have hu := fun k => (scaledR_at g (dotR p w) i k).trans (congrArg (· * _) (dotR_at p w i k))
  simp only [hu] at hs
  have hj := hu j
  generalize slopeR x (meanR x) (scaledR g (dotR p w)) = s at hs
  generalize scaledR g (dotR p w) = v at hj
  generalize meanR x = a at h
  pointwise [referenceRow, factor]
  rw [hs, hj, h]

/-- The gain's gradient, as the reference has it. -/
theorem gain_ref (r : Fin 8) (j : Fin 1024) :
    broadcastInDim S8x1024 ![0, 1] bcast_S1x1024_S8x1024_0_1 (shapeCast S1x1024 (Host.reduceAdd (mulf (mulf x (broadcastInDim S4096x1024
      ![0, 1] bcast_S4096x1_S4096x1024_0_1 (Host.rsqrt (meanR x)))) (dotR p w)) (constant S_ .f32 0x00000000#32)
      reducesTo_S4096x1024_S1024_d0 h_S_) shapeCasts_S1024_S1x1024) (ix2 r j)
      = ∑ i : Fin 4096, (∑ n : Fin 12288, p (ix2 i n) * w (ix2 n j)) * (x (ix2 i j) * factor fun k => x (ix2 i k)) := by
  have h := meanR_at x
  have hu := fun i => dotR_at p w i j
  generalize meanR x = a at h
  generalize dotR p w = u at hu
  pointwise [factor]
  refine Finset.sum_congr rfl fun i _ => ?_
  rw [hu, h, mul_comm]

end Cert.Reference3Ideal.Value

end
-- ==== Proof.Mlp.lean ====
/-
  The feed-forward half. A block of rows is taken in four steps, one for each quarter of the hidden columns: the first one leaves the
  normed rows in scratch, each adds its quarter's part of the second product, and the last adds the block's input.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import proofs.«01_k».proof.Proof.InNorm

@[expose] public section

set_option maxRecDepth 16384

noncomputable section

namespace Cert.Kernel4Ideal.Value

open Idealize.ShloMosaic Idealize.ShloMosaic.TcCoe Idealize.SL.Sem
open Cert.Kernel4Ideal Cert.Kernel4Ideal.Gen

theorem zeros2 : (![0, 0] : Fin 2 → Nat) = fun _ => 0 := funext fun a => by fin_cases a <;> rfl
theorem zeros3 : (![0, 0, 0] : Fin 3 → Nat) = fun _ => 0 := funext fun a => by fin_cases a <;> rfl

section
variable {F : FTy → Type} [FloatOps F]
variable (m : (ℓ : Loc nD τ sig) → Buf (Elt F) ℓ) (c : Dev nD) (t : Fin cfg0.N)

/-- What the point before left. -/
def before : Vec F S512x1024 .f32 × Vec F S512x1024 .bf16 × Vec F S512x1024 .f32 :=
  outsAt0 m c (t.val - 1) (Nat.lt_of_le_of_lt (Nat.sub_le _ _) t.isLt)

/-- The first step leaves the normed rows. -/
theorem normed_first (h0 : t.val % 4 = 0) :
    (outsAt0 m c t.val t.isLt).2.1 = k0_pay1 (iblk m c 0 t) (iblk m c 1 t) := by
  rw [outsAt0_A m c t h0 (by omega)]
  dsimp only
  unfold sout0_A_0
  rw [View.read_writes_eq_canon _ _ _ (fun y => scover0_A_0 _ _ _ _ _ _ _ _ _ _ _ _ _ _ _ _ _ _ _ _ _ _ y)]
  unfold kernelRun0_A
  dsimp only
  sl_unfold_words
  rw [View.canon_cons_unit_zero (S := S512x1024) zeros2]
  simp only [View.readAt_eq_ld, (hs0_0 t).read_unread, (hs0_1 t).read_unread, View.ld_unit_zero (S := S512x1024) zeros2,
    View.ld_unit_zero (S := S1x1024) zeros2]

/-- The other steps leave the normed rows alone. -/
theorem normed_keep (h0 : ¬t.val % 4 = 0) : (outsAt0 m c t.val t.isLt).2.1 = (before m c t).2.1 := by
  by_cases h1 : t.val % 4 = 3
  · rw [outsAt0_C m c t h0 h1]; rfl
  · rw [outsAt0_B m c t h0 h1]; rfl

/-- The first step starts the sum from zeros. -/
theorem sum_first (h0 : t.val % 4 = 0) : (outsAt0 m c t.val t.isLt).2.2
    = k0_pay3 (k0_pay1 (iblk m c 0 t) (iblk m c 1 t)) (iblk m c 2 t) k0_pay2 (iblk m c 3 t) := by
  rw [outsAt0_A m c t h0 (by omega)]
  dsimp only
  unfold sout0_A_1
  rw [View.read_writes_eq_canon _ _ _ (fun y => scover0_A_1 _ _ _ _ _ _ _ _ _ _ _ _ _ _ _ _ _ _ _ _ _ _ y)]
  unfold kernelRun0_A
  dsimp only
  sl_unfold_words
  rw [View.canon_cons_unit_zero (S := S512x1024) zeros2]
  simp only [View.readCov_unit_zero (S := S512x1024) _ zeros2, View.readAt_eq_ld, (hs0_0 t).read_unread, (hs0_1 t).read_unread,
    (hs0_2 t).read_unread, (hs0_3 t).read_unread, View.ld_unit_zero (S := S512x1024) zeros2, View.ld_unit_zero (S := S1x1024) zeros2,
    View.ld_unit_zero (S := S1x1024x1024) zeros3, View.ld_unit_zero (S := S1024x1024) zeros2]

/-- The other steps add to the sum. -/
theorem sum_next (h0 : ¬t.val % 4 = 0) : (outsAt0 m c t.val t.isLt).2.2
    = k0_pay3 (before m c t).2.1 (iblk m c 2 t) (before m c t).2.2 (iblk m c 3 t) := by
  by_cases h1 : t.val % 4 = 3
  · rw [outsAt0_C m c t h0 h1]
    dsimp only
    unfold before
    generalize outsAt0 m c (t.val - 1) _ = xs
    unfold sout0_C_1
    rw [View.read_writes_eq_canon _ _ _ (fun y => scover0_C_1 _ _ _ _ _ _ _ _ _ _ _ _ _ _ _ _ _ _ _ _ _ _ _ _ y)]
    unfold kernelRun0_C
    dsimp only
    sl_unfold_words
    rw [View.canon_cons_unit_zero (S := S512x1024) zeros2]
    simp only [View.readAt_eq_ld, (hs0_2 t).read_unread, (hs0_3 t).read_unread, (Memref.isWhole_whole _).read_unread,
      View.ld_unit_zero (S := S512x1024) zeros2, View.ld_unit_zero (S := S1x1024x1024) zeros3, View.ld_unit_zero (S := S1024x1024) zeros2]
  · rw [outsAt0_B m c t h0 h1]
    dsimp only
    unfold before
    generalize outsAt0 m c (t.val - 1) _ = xs
    unfold sout0_B_1
    rw [View.read_writes_eq_canon _ _ _ (fun y => scover0_B_1 _ _ _ _ _ _ _ _ _ _ _ _ _ _ _ _ _ _ _ _ _ _ _ _ y)]
    unfold kernelRun0_B
    dsimp only
    sl_unfold_words
    rw [View.canon_cons_unit_zero (S := S512x1024) zeros2]
    simp only [View.readAt_eq_ld, (hs0_2 t).read_unread, (hs0_3 t).read_unread, (Memref.isWhole_whole _).read_unread,
      View.ld_unit_zero (S := S512x1024) zeros2, View.ld_unit_zero (S := S1x1024x1024) zeros3, View.ld_unit_zero (S := S1024x1024) zeros2]

/-- The last step writes the block. -/
theorem out_last (h1 : t.val % 4 = 3) : (outsAt0 m c t.val t.isLt).1
    = k0_pay4 (iblk m c 0 t) (k0_pay3 (before m c t).2.1 (iblk m c 2 t) (before m c t).2.2 (iblk m c 3 t)) := by
  rw [outsAt0_C m c t (by omega) h1]
  dsimp only
  unfold before
  generalize outsAt0 m c (t.val - 1) _ = xs
  unfold out0_C_4
  rw [View.read_writes_eq_canon _ _ _ (fun y => cover0_C_4 _ _ _ _ _ _ _ _ _ _ _ _ _ _ _ _ _ _ _ _ _ _ _ _ y)]
  unfold kernelRun0_C
  dsimp only
  sl_unfold_words
  rw [View.canon_cons_unit_zero (S := S512x1024) zeros2]
  simp only [View.readCov_unit_zero (S := S512x1024) _ zeros2, View.readAt_eq_ld, (hs0_0 t).read_unread, (hs0_2 t).read_unread,
    (hs0_3 t).read_unread, (Memref.isWhole_whole _).read_unread,
    View.ld_unit_zero (S := S512x1024) zeros2, View.ld_unit_zero (S := S1x1024x1024) zeros3, View.ld_unit_zero (S := S1024x1024) zeros2]

theorem idx_in : ∀ t : Fin cfg0.N, (win0_0.index t 0 = t.val / 4 ∧ win0_0.index t 1 = 0)
    ∧ (win0_1.index t 0 = 0 ∧ win0_1.index t 1 = 0)
    ∧ (win0_2.index t 0 = t.val % 4 ∧ win0_2.index t 1 = 0 ∧ win0_2.index t 2 = 0)
    ∧ (win0_3.index t 0 = t.val % 4 ∧ win0_3.index t 1 = 0) := by
  decide +kernel

theorem lt32 : t.val < 32 := lt_of_lt_of_eq t.isLt (show cfg0.N = 32 from N_0)

theorem input_at (i : Fin 512) (j : Fin 1024) : iblk m c 0 t (ix2 i j)
    = m ((c : Thread nD τ).loc main_arg0) (ix2 ⟨512 * (t.val / 4) + i, by have := lt32 t; omega⟩ j) := by
  obtain ⟨⟨e0, e1⟩, -⟩ := idx_in t
  refine congrArg (m ((c : Thread nD τ).loc main_arg0)) (funext fun a => Fin.ext ?_)
  revert a
  refine Fin.forall_fin_two.2 ⟨?_, ?_⟩
  · show win0_0.index t 0 * 512 + 1 * (i : ℕ) = 512 * (t.val / 4) + i; rw [e0]; omega
  · show win0_0.index t 1 * 1024 + 1 * (j : ℕ) = j; rw [e1]; omega

theorem scale_at (j : Fin 1024) : iblk m c 1 t (ix2 0 j) = m ((c : Thread nD τ).loc main_arg1) (ix2 0 j) := by
  obtain ⟨-, ⟨e0, e1⟩, -⟩ := idx_in t
  refine congrArg (m ((c : Thread nD τ).loc main_arg1)) (funext fun a => Fin.ext ?_)
  revert a
  refine Fin.forall_fin_two.2 ⟨?_, ?_⟩
  · show win0_1.index t 0 * 1 + 1 * 0 = 0; rw [e0]
  · show win0_1.index t 1 * 1024 + 1 * (j : ℕ) = j; rw [e1]; omega

theorem first_at (k f : Fin 1024) : iblk m c 2 t (ix3 0 k f)
    = m ((c : Thread nD τ).loc main_arg2) (ix3 ⟨t.val % 4, by omega⟩ k f) := by
  obtain ⟨-, -, ⟨e0, e1, e2⟩, -⟩ := idx_in t
  refine congrArg (m ((c : Thread nD τ).loc main_arg2)) (funext fun a => Fin.ext ?_)
  fin_cases a
  · show win0_2.index t 0 * 1 + 1 * 0 = t.val % 4; rw [e0]; omega
  · show win0_2.index t 1 * 1024 + 1 * (k : ℕ) = k; rw [e1]; omega
  · show win0_2.index t 2 * 1024 + 1 * (f : ℕ) = f; rw [e2]; omega

theorem second_at (f j : Fin 1024) : iblk m c 3 t (ix2 f j)
    = m ((c : Thread nD τ).loc main_arg3) (ix2 ⟨1024 * (t.val % 4) + f, by omega⟩ j) := by
  obtain ⟨-, -, -, e0, e1⟩ := idx_in t
  refine congrArg (m ((c : Thread nD τ).loc main_arg3)) (funext fun a => Fin.ext ?_)
  revert a
  refine Fin.forall_fin_two.2 ⟨?_, ?_⟩
  · show win0_3.index t 0 * 1024 + 1 * (f : ℕ) = 1024 * (t.val % 4) + f; rw [e0]; omega
  · show win0_3.index t 1 * 1024 + 1 * (j : ℕ) = j; rw [e1]; omega
end

open Cert.InNorm

section
theorem normed_at (x : FVec Ideal S512x1024 .f32) (g : FVec Ideal S1x1024 .f32) (i : Fin 512) (k : Fin 1024) :
    (k0_pay1 x g : FVec Ideal S512x1024 .bf16) (ix2 i k) = x (ix2 i k) * (factor fun k => x (ix2 i k)) * g (ix2 0 k) := by
  pointwise [k0_pay1, factor, meanSq]

theorem start_at (i : Fin 512) (j : Fin 1024) : (k0_pay2 : FVec Ideal S512x1024 .f32) (ix2 i j) = 0 := by
  pointwise [k0_pay2]

/-- The square of the positive part. -/
def relu2 (a : EReal) : EReal := max a 0 * max a 0

theorem step_at (v : FVec Ideal S512x1024 .bf16) (w : FVec Ideal S1x1024x1024 .bf16) (a : FVec Ideal S512x1024 .f32)
    (u : FVec Ideal S1024x1024 .bf16) (i : Fin 512) (j : Fin 1024) : k0_pay3 v w a u (ix2 i j)
      = a (ix2 i j) + ∑ f : Fin 1024, relu2 (∑ k : Fin 1024, v (ix2 i k) * w (ix3 0 k f)) * u (ix2 f j) := by
  pointwise [k0_pay3, relu2]

theorem last_at (x a : FVec Ideal S512x1024 .f32) (i : Fin 512) (j : Fin 1024) :
    (k0_pay4 x a : FVec Ideal S512x1024 .f32) (ix2 i j) = x (ix2 i j) + a (ix2 i j) := by
  pointwise [k0_pay4]

/-- A normed row. -/
def normedRow (x : FVec Ideal S4096x1024 .f32) (g : FVec Ideal S1x1024 .f32) (i : Fin 4096) (k : Fin 1024) : EReal :=
  x (ix2 i k) * (factor fun k => x (ix2 i k)) * g (ix2 0 k)

/-- A hidden column of a row. -/
def hid (x : FVec Ideal S4096x1024 .f32) (g : FVec Ideal S1x1024 .f32) (w : FVec Ideal S4x1024x1024 .bf16) (i : Fin 4096)
    (f : Fin 4096) : EReal :=
  ∑ k : Fin 1024, normedRow x g i k * w (ix3 ⟨f / 1024, by omega⟩ k ⟨f % 1024, by omega⟩)

/-- A hidden column's term, zero past the last column. -/
def term (x : FVec Ideal S4096x1024 .f32) (g : FVec Ideal S1x1024 .f32) (w : FVec Ideal S4x1024x1024 .bf16)
    (u : FVec Ideal S4096x1024 .bf16) (i : Fin 4096) (j : Fin 1024) (f : ℕ) : EReal :=
  if h : f < 4096 then relu2 (hid x g w i ⟨f, h⟩) * u (ix2 ⟨f, h⟩ j) else 0

/-- The half's result. -/
def mlp (x : FVec Ideal S4096x1024 .f32) (g : FVec Ideal S1x1024 .f32) (w : FVec Ideal S4x1024x1024 .bf16)
    (u : FVec Ideal S4096x1024 .bf16) (i : Fin 4096) (j : Fin 1024) : EReal :=
  x (ix2 i j) + ∑ f : Fin 4096, relu2 (hid x g w i f) * u (ix2 f j)

theorem mlp_eq (x : FVec Ideal S4096x1024 .f32) (g : FVec Ideal S1x1024 .f32) (w : FVec Ideal S4x1024x1024 .bf16)
    (u : FVec Ideal S4096x1024 .bf16) (i : Fin 4096) (j : Fin 1024) :
    x (ix2 i j) + ∑ f ∈ Finset.range 4096, term x g w u i j f = mlp x g w u i j := by
  rw [Finset.sum_range]
  exact congrArg _ (Finset.sum_congr rfl fun f _ => dif_pos f.isLt)
end

section
variable (m : (ℓ : Loc nD τ sig) → Buf (Elt Ideal) ℓ) (c : Dev nD)

/-- The scratch holds the block's normed rows at every point. -/
theorem normed_scratch (b : ℕ) (hb : b < 8) (i : Fin 512) (j : Fin 1024) : ∀ (k : ℕ) (hk : k < 4) (h : 4 * b + k < cfg0.N),
    (outsAt0 m c (4 * b + k) h).2.1 (ix2 i j)
      = normedRow (m ((c : Thread nD τ).loc main_arg0)) (m ((c : Thread nD τ).loc main_arg1)) ⟨512 * b + i, by omega⟩ j := by
  intro k
  induction k with
  | zero =>
    intro hk h
    have hd : (4 * b + 0) / 4 = b := by omega
    rw [normed_first m c ⟨_, h⟩ (by show (4 * b + 0) % 4 = 0; omega), normed_at]
    unfold normedRow
    simp only [input_at, scale_at, hd]
  | succ k ih =>
    intro hk h
    rw [normed_keep m c ⟨_, h⟩ (by show ¬(4 * b + (k + 1)) % 4 = 0; omega)]
    exact ih (by omega) (Nat.lt_of_succ_lt h)

/-- One step's product is the sum of the step's terms. -/
theorem step_terms (t : Fin cfg0.N) (i : Fin 512) (j : Fin 1024) (b : ℕ) (k : ℕ) (hb : b < 8) (hk : k < 4) (ht : t.val = 4 * b + k)
    (v : FVec Ideal S512x1024 .bf16) (hv : ∀ n : Fin 1024, v (ix2 i n)
      = normedRow (m ((c : Thread nD τ).loc main_arg0)) (m ((c : Thread nD τ).loc main_arg1)) ⟨512 * b + i, by omega⟩ n) (a : FVec Ideal S512x1024 .f32) :
    k0_pay3 v (iblk m c 2 t) a (iblk m c 3 t) (ix2 i j) = a (ix2 i j) + ∑ n ∈ Finset.range 1024,
      term (m ((c : Thread nD τ).loc main_arg0)) (m ((c : Thread nD τ).loc main_arg1)) (m ((c : Thread nD τ).loc main_arg2))
        (m ((c : Thread nD τ).loc main_arg3)) ⟨512 * b + i, by omega⟩ j (1024 * k + n) := by
  rw [step_at, Finset.sum_range]
  congr 1
  refine Finset.sum_congr rfl fun n _ => ?_
  have hm : t.val % 4 = k := by omega
  have hq : (1024 * k + (n : ℕ)) / 1024 = k := by omega
  have hr : (1024 * k + (n : ℕ)) % 1024 = n := by omega
  rw [term, dif_pos (by omega)]
  unfold hid
  simp only [hv, first_at, second_at, hm, hq, hr, Fin.eta]

/-- After step `k` of block `b` the sum has the terms of the first `k + 1` quarters. -/
theorem sum_at (b : ℕ) (hb : b < 8) (i : Fin 512) (j : Fin 1024) : ∀ (k : ℕ) (hk : k < 4) (h : 4 * b + k < cfg0.N),
    (outsAt0 m c (4 * b + k) h).2.2 (ix2 i j) = ∑ n ∈ Finset.range (1024 * (k + 1)),
      term (m ((c : Thread nD τ).loc main_arg0)) (m ((c : Thread nD τ).loc main_arg1)) (m ((c : Thread nD τ).loc main_arg2))
        (m ((c : Thread nD τ).loc main_arg3)) ⟨512 * b + i, by omega⟩ j n := by
  intro k
  induction k with
  | zero =>
    intro hk h
    rw [sum_first m c ⟨_, h⟩ (by show (4 * b + 0) % 4 = 0; omega), step_terms m c _ i j b 0 hb hk rfl, start_at, zero_add]
    · simp
    · intro n
      rw [← normed_first m c ⟨_, h⟩ (by show (4 * b + 0) % 4 = 0; omega)]
      exact normed_scratch m c b hb i n 0 hk h
  | succ k ih =>
    intro hk h
    rw [sum_next m c ⟨_, h⟩ (by show ¬(4 * b + (k + 1)) % 4 = 0; omega),
      step_terms m c ⟨4 * b + (k + 1), h⟩ i j b (k + 1) hb hk rfl (before m c ⟨4 * b + (k + 1), h⟩).2.1 fun n =>
        normed_scratch m c b hb i n k (by omega) (Nat.lt_of_succ_lt h)]
    have e : (before m c ⟨4 * b + (k + 1), h⟩).2.2 (ix2 i j) = _ := ih (by omega) (Nat.lt_of_succ_lt h)
    rw [e, show 1024 * (k + 1 + 1) = 1024 * (k + 1) + 1024 by omega, Finset.sum_range_add]

/-- The half's result, at the end. -/
theorem mlp_res (i : Fin 4096) (j : Fin 1024) : G4 m c (ix2 i j)
    = mlp (m ((c : Thread nD τ).loc main_arg0)) (m ((c : Thread nD τ).loc main_arg1)) (m ((c : Thread nD τ).loc main_arg2))
        (m ((c : Thread nD τ).loc main_arg3)) i j := by
  have hN : cfg0.N = 32 := N_0
  have hp : pt4Of (ix2 i j) = 4 * (i / 512) + 3 := by
    show 4 * (1 * ((i : ℕ) / 512 - 0) + 1 * ((j : ℕ) / 1024 - 0)) + 3 = _
    omega
  have hl : loc4Of (ix2 i j) = ix2 ⟨i % 512, Nat.mod_lt _ (by decide)⟩ j := by
    funext a; revert a
    refine Fin.forall_fin_two.2 ⟨rfl, Fin.ext ?_⟩
    show (j : ℕ) % 1024 = j
    omega
  have lt : pt4Of (ix2 i j) < cfg0.N := by rw [hp, hN]; omega
  unfold G4
  rw [dif_pos lt, ← outsAt0_sweep m c _ lt, hl]
  generalize pt4Of (ix2 i j) = n at lt hp
  subst hp
  have h1 : (⟨4 * ((i : ℕ) / 512) + 3, lt⟩ : Fin cfg0.N).val % 4 = 3 := by show (4 * ((i : ℕ) / 512) + 3) % 4 = 3; omega
  rw [out_last m c ⟨_, lt⟩ h1, last_at, ← sum_next m c ⟨_, lt⟩ (by omega), ← mlp_eq,
    sum_at m c _ (show (i : ℕ) / 512 < 8 by omega) _ _ 3 (by omega) lt]
  have hi : ∀ h, (⟨512 * ((i : ℕ) / 512) + (i : ℕ) % 512, h⟩ : Fin 4096) = i := fun h => Fin.ext (Nat.div_add_mod _ _)
  have hd : (4 * ((i : ℕ) / 512) + 3) / 4 = i / 512 := by omega
  simp only [input_at, hd, hi]
end

end Cert.Kernel4Ideal.Value

namespace Cert.Reference4Ideal.Value

open Idealize.ShloMosaic Idealize.ShloMosaic.TcCoe
open Cert.Reference4Ideal Cert.Reference4Ideal.Gen Cert.InNorm Cert.Kernel4Ideal.Value

variable (x : FVec Ideal S4096x1024 .f32) (g : FVec Ideal S1x1024 .f32) (w : FVec Ideal S4x1024x1024 .bf16)
  (u : FVec Ideal S4096x1024 .bf16)

/-- The normed rows, as the reference has them. -/
def normedR : FVec Ideal S4096x1024 .f32 :=
  mulf (mulf x (broadcastInDim S4096x1024 ![0, 1] bcast_S4096x1_S4096x1024_0_1 (Host.rsqrt (addf (Host.divf (broadcastInDim S4096x1 ![0]
    bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)

theorem normedR_at (i : Fin 4096) (k : Fin 1024) :
    normedR x g (ix2 i k) = x (ix2 i k) * (factor fun k => x (ix2 i k)) * g (ix2 0 k) := by
  pointwise [normedR, factor, meanSq]

/-- The hidden columns, as the reference has them. -/
def hiddenR (v : FVec Ideal S4096x1024 .f32) : FVec Ideal S4096x4096 .f32 :=
  Host.dotGeneral dot_S4096x1024_S1024x4096_S4096x4096_1_0_0_1_n_n none v
    (shapeCast _ (transpose S1024x4x1024 [1, 0, 2] (extf .f32 w bitsLt_bf16_f32) transposes_S4x1024x1024_S1024x4x1024_1_0_2)
      shapeCasts_S1024x4x1024_S1024x4096)

theorem hiddenR_at (v : FVec Ideal S4096x1024 .f32) (i f : Fin 4096) : hiddenR w v (ix2 i f)
    = ∑ k : Fin 1024, v (ix2 i k) * w (ix3 ⟨f / 1024, by omega⟩ k ⟨f % 1024, by omega⟩) := by
  pointwise [hiddenR]

theorem mlp_ref (i : Fin 4096) (j : Fin 1024) :
    addf x (Host.dotGeneral dot_S4096x4096_S4096x1024_S4096x1024_1_0_0_1_n_n none (mulf
      (maximumf (hiddenR w (normedR x g)) (broadcastInDim S4096x4096 ![] bcast_S_S4096x4096 (constant S_ .f32 0x00000000#32)))
      (maximumf (hiddenR w (normedR x g)) (broadcastInDim S4096x4096 ![] bcast_S_S4096x4096 (constant S_ .f32 0x00000000#32))))
      (extf .f32 u bitsLt_bf16_f32)) (ix2 i j) = mlp x g w u i j := by
  have h : ∀ f, hiddenR w (normedR x g) (ix2 i f) = hid x g w i f := fun f => by
    rw [hiddenR_at]; unfold hid; simp only [normedR_at]; rfl
  generalize hiddenR w (normedR x g) = v at h
  unfold mlp
  simp only [← h]
  pointwise [relu2]

end Cert.Reference4Ideal.Value

end
-- ==== Proof.InProjRun.lean ====
/-
  The input projection forward, run: what a point of the grid does, and what the whole grid leaves.

  At the first point of a block of rows the body norms the rows into its scratch and into the window that saves them; at every point it
  contracts the scratch with a block of weights. What the scratch and the saved window hold is a function of the block of rows alone, so
  the invariant names it without looking at the points before.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-! ## The body -/

theorem first_iff : ∀ t : Fin cfg0.N, k0_cond1 (grid0.coords t) = 1#1 ↔ t.val % 12 = 0 := by decide +kernel

section body
variable (c : Dev nD) (i : grid0.Coords)
  (x : Memref sig .tc .vmem S1024x1024 .f32) (hx : x.IsWhole) (g : Memref sig .tc .vmem S1x1024 .f32) (hg : g.IsWhole)
  (w : Memref sig .tc .vmem S1024x1024 .bf16) (hw : w.IsWhole) (o : Memref sig .tc .vmem S1024x1024 .f32) (ho : o.IsWhole)
  (u : Memref sig .tc .vmem S1024x1024 .bf16) (hu : u.IsWhole) (s : Memref sig .tc .vmem S1024x1024 .bf16) (hs : s.IsWhole)
  (vx : Vec F S1024x1024 .f32) (vg : Vec F S1x1024 .f32) (vw vs vu : Vec F S1024x1024 .bf16)

set_option maxHeartbeats 1000000 in
/-- The body at the first point of a block of rows. -/
theorem body_first (hc : k0_cond1 i = 1#1) (E : Set ℕ) (K : PUnit → sProp 𝕄) :
    iprop(owns (c : Thread nD τ) x fullShare vx ∗ owns (c : Thread nD τ) g fullShare vg ∗ owns (c : Thread nD τ) w fullShare vw
        ∗ (∃ d, owns (c : Thread nD τ) o fullShare d) ∗ (∃ d, owns (c : Thread nD τ) u fullShare d) ∗ (∃ d, owns (c : Thread nD τ) s fullShare d)
        ∗ (iprop(owns (c : Thread nD τ) x fullShare vx ∗ owns (c : Thread nD τ) g fullShare vg ∗ owns (c : Thread nD τ) w fullShare vw
            ∗ owns (c : Thread nD τ) o fullShare (k0_pay3 (k0_pay2 vx vg) vw) ∗ owns (c : Thread nD τ) u fullShare (k0_pay1 vx vg)
            ∗ owns (c : Thread nD τ) s fullShare (k0_pay2 vx vg)) -∗ K ⟨⟩))
      ⊢ wp frame (wpE (defs₀ (F := F)) Variants.none c none) E (cc0_in_proj i x hx g hg w hw o ho u hu s hs) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := hx.eq_unread hf0; obtain rfl := hg.eq_unread hf1; obtain rfl := hw.eq_unread hf2
  sl_exec (disch := sl_exact hc)
  sl_step
  iapply Hk
  isplitl [H0]
  · iexists _; isplitr; · ipureintro; exact hx.read_unread _
    iexact H0
  isplitl [H1]
  · iexists _; isplitr; · ipureintro; exact hg.read_unread _
    iexact H1
  isplitl [H2]
  · iexists _; isplitr; · ipureintro; exact hw.read_unread _
    iexact H2
  isplitl [H3]
  · iexists _; isplitr
    swap; · iexact H3
    ipureintro
    rw [View.read_writes_eq_canon _ _ _ fun y => View.cover_of_tiledL _ S1024x1024.size (by sl_kernel_rfl) y]
    sl_unfold_words
    rw [View.canon_cons_unit_zero (S := S1024x1024) zeros2, View.readCov_unit_zero (S := S1024x1024) _ zeros2]
    simp only [View.readAt_eq_ld, hx.read_unread, hg.read_unread, hw.read_unread, View.ld_unit_zero (S := S1024x1024) zeros2,
      View.ld_unit_zero (S := S1x1024) zeros2]
  isplitl [H4]
  · iexists _; isplitr
    swap; · iexact H4
    ipureintro
    rw [View.read_writes_eq_canon _ _ _ fun y => View.cover_of_tiledL _ S1024x1024.size (by sl_kernel_rfl) y]
    sl_unfold_words
    rw [View.canon_cons_unit_zero (S := S1024x1024) zeros2]
    simp only [View.readAt_eq_ld, hx.read_unread, hg.read_unread, View.ld_unit_zero (S := S1024x1024) zeros2,
      View.ld_unit_zero (S := S1x1024) zeros2]
  iexists _; isplitr
  swap; · iexact H5
  ipureintro
  rw [View.read_writes_eq_canon _ _ _ fun y => View.cover_of_tiledL _ S1024x1024.size (by sl_kernel_rfl) y]
  sl_unfold_words
  rw [View.canon_cons_unit_zero (S := S1024x1024) zeros2]
  simp only [View.readAt_eq_ld, hx.read_unread, hg.read_unread, View.ld_unit_zero (S := S1024x1024) zeros2,
    View.ld_unit_zero (S := S1x1024) zeros2]

set_option maxHeartbeats 1000000 in
/-- The body at any other point. -/
theorem body_later (hc : ¬k0_cond1 i = 1#1) (E : Set ℕ) (K : PUnit → sProp 𝕄) :
    iprop(owns (c : Thread nD τ) x fullShare vx ∗ owns (c : Thread nD τ) g fullShare vg ∗ owns (c : Thread nD τ) w fullShare vw
        ∗ (∃ d, owns (c : Thread nD τ) o fullShare d) ∗ owns (c : Thread nD τ) u fullShare vu ∗ owns (c : Thread nD τ) s fullShare vs
        ∗ (iprop(owns (c : Thread nD τ) x fullShare vx ∗ owns (c : Thread nD τ) g fullShare vg ∗ owns (c : Thread nD τ) w fullShare vw
            ∗ owns (c : Thread nD τ) o fullShare (k0_pay3 vs vw) ∗ owns (c : Thread nD τ) u fullShare vu
            ∗ owns (c : Thread nD τ) s fullShare vs) -∗ K ⟨⟩))
      ⊢ wp frame (wpE (defs₀ (F := F)) Variants.none c none) E (cc0_in_proj i x hx g hg w hw o ho u hu s hs) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := hx.eq_unread hf0; obtain rfl := hg.eq_unread hf1; obtain rfl := hw.eq_unread hf2
  obtain rfl := hu.eq_unread hf4; obtain rfl := hs.eq_unread hf5
  sl_exec (disch := sl_exact hc)
  sl_step
  iapply Hk
  isplitl [H0]
  · iexists _; isplitr; · ipureintro; exact hx.read_unread _
    iexact H0
  isplitl [H1]
  · iexists _; isplitr; · ipureintro; exact hg.read_unread _
    iexact H1
  isplitl [H2]
  · iexists _; isplitr; · ipureintro; exact hw.read_unread _
    iexact H2
  isplitl [H3]
  · iexists _; isplitr
    swap; · iexact H3
    ipureintro
    rw [View.read_writes_eq_canon _ _ _ fun y => View.cover_of_tiledL _ S1024x1024.size (by sl_kernel_rfl) y]
    sl_unfold_words
    rw [View.canon_cons_unit_zero (S := S1024x1024) zeros2]
    simp only [View.readAt_eq_ld, hs.read_unread, hw.read_unread, View.ld_unit_zero (S := S1024x1024) zeros2]
  isplitl [H4]
  · iexists _; isplitr; · ipureintro; exact hu.read_unread _
    iexact H4
  iexists _; isplitr; · ipureintro; exact hs.read_unread _
  iexact H5

end body

/-! ## The windows -/

variable (m : (ℓ : Loc nD τ sig) → Buf (Elt F) ℓ) (ρ : Dev nD → PrngReg)

/-- The buffers of core `c` as the call finds them. -/
abbrev atEntry (c : Dev nD) (b : Ref sig .tc) : Buf (Elt F) ((c : Thread nD τ).loc b) := m ((c : Thread nD τ).loc b)

/-- Window `w`'s block at point `t`. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

abbrev stx (t : Fin cfg0.N) : Memref sig .tc .vmem S1024x1024 .f32 := win0_0.stage (cfg0.slots t 0)
abbrev stg (t : Fin cfg0.N) : Memref sig .tc .vmem S1x1024 .f32 := win0_1.stage (cfg0.slots t 1)
abbrev stw (t : Fin cfg0.N) : Memref sig .tc .vmem S1024x1024 .bf16 := win0_2.stage (cfg0.slots t 2)
abbrev sto (t : Fin cfg0.N) : Memref sig .tc .vmem S1024x1024 .f32 := win0_3.stage (cfg0.slots t 3)
abbrev stu (t : Fin cfg0.N) : Memref sig .tc .vmem S1024x1024 .bf16 := win0_4.stage (cfg0.slots t 4)
/-- The scratch of the normed rows. -/
abbrev scr : Memref sig .tc .vmem S1024x1024 .bf16 := Memref.whole cc0_scratch0

/-- The normed rows of the block of point `t`, as they are saved -/
def saved (c : Dev nD) (t : Fin cfg0.N) : Vec F S1024x1024 .bf16 := k0_pay1 (blockAt m c 0 t) (blockAt m c 1 t)
/-- and as the scratch has them. -/
def normed (c : Dev nD) (t : Fin cfg0.N) : Vec F S1024x1024 .bf16 := k0_pay2 (blockAt m c 0 t) (blockAt m c 1 t)

/-- The point before. -/
abbrev prev (t : Fin cfg0.N) : Fin cfg0.N := ⟨t.val - 1, Nat.lt_of_le_of_lt (Nat.sub_le _ _) t.isLt⟩

theorem rows_same : ∀ t : Fin cfg0.N, ¬t.val % 12 = 0 →
    win0_0.index (prev t) 0 = win0_0.index t 0 ∧ win0_0.index (prev t) 1 = win0_0.index t 1 := by decide +kernel

/-- Within a block of rows the rows' window does not move, -/
theorem block0_same (c : Dev nD) (t : Fin cfg0.N) (h : ¬t.val % 12 = 0) :
    blockAt m c 0 (prev t) = blockAt m c 0 t := by
  refine funext fun j => congrArg (m ((c : Thread nD τ).loc main_arg0)) (funext fun a => Fin.ext ?_)
  obtain ⟨e0, e1⟩ := rows_same t h
  revert a
  refine Fin.forall_fin_two.2 ⟨?_, ?_⟩
  · show win0_0.index (prev t) 0 * 1024 + 1 * (j 0 : ℕ) = win0_0.index t 0 * 1024 + 1 * (j 0 : ℕ); rw [e0]
  · show win0_0.index (prev t) 1 * 1024 + 1 * (j 1 : ℕ) = win0_0.index t 1 * 1024 + 1 * (j 1 : ℕ); rw [e1]

/-- and the gain's never does. -/
theorem block1_same (c : Dev nD) (t : Fin cfg0.N) : blockAt m c 1 (prev t) = blockAt m c 1 t := rfl

theorem saved_same (c : Dev nD) (t : Fin cfg0.N) (h : ¬t.val % 12 = 0) : saved m c (prev t) = saved m c t := by
  unfold saved; rw [block0_same m c t h, block1_same m c t]
theorem normed_same (c : Dev nD) (t : Fin cfg0.N) (h : ¬t.val % 12 = 0) : normed m c (prev t) = normed m c t := by
  unfold normed; rw [block0_same m c t h, block1_same m c t]

/-! ## The invariant and the proof data -/

theorem rest_eq (c : Dev nD) : (Pipeline.ΦA spec0 c : sProp 𝕄)
    = iprop((∃ d, owns (c : Thread nD τ) scr fullShare d) ∗ (∃ r, prngReg c r)) := by
  unfold Pipeline.ΦA; rw [scopedRest0_eq]; simp only [scr, owns_whole]; try rfl

/-- Before the first point the scratch holds anything, after point `n` the normed rows of that point's block. -/
def inv (c : Dev nD) : (n : ℕ) → n ≤ cfg0.N → sProp 𝕄
  | 0, _ => Pipeline.ΦA spec0 c
  | n + 1, hn => iprop(owns (c : Thread nD τ) scr fullShare (normed m c ⟨n, hn⟩) ∗ (∃ r, prngReg c r))

theorem inv_pos (c : Dev nD) (n : ℕ) (h : n ≤ cfg0.N) (hz : n ≠ 0) : inv m c n h
    = iprop(owns (c : Thread nD τ) scr fullShare (normed m c ⟨n - 1, by omega⟩) ∗ (∃ r, prngReg c r)) := by
  cases n with
  | zero => exact absurd rfl hz
  | succ n => rfl

theorem inv_some (c : Dev nD) (n : ℕ) (h : n ≤ cfg0.N) : inv m c n h ⊢ (Pipeline.ΦA spec0 c : sProp 𝕄) := by
  cases n with
  | zero => exact Idealize.SL.BI.Entails.refl _
  | succ n =>
    rw [inv_pos m c _ h (Nat.succ_ne_zero n), rest_eq]
    iintro ⟨Hs, Hr⟩
    isplitl [Hs]
    · iexists _; iexact Hs
    iexact Hr

def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => k0_pay3 (normed m c t) (blockAt m c 2 t)
    | ⟨4, _⟩ => saved m c t
  Φ t := inv m c t.val (Nat.le_of_lt_succ t.isLt)
  q _ := fullShare
  owed _ := 0

theorem A_eq (c : Dev nD) (w : Fin cfg0.W) : (dats m 0 c).A w = atEntry m c (Pipeline.arrRef spec0 w) := by dsimp only [dats]
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = k0_pay3 (normed m c t) (blockAt m c 2 t) := by dsimp only [dats]
theorem after4 (c : Dev nD) (t : Fin cfg0.N) : (dats m 0 c).after 4 t = saved m c t := by dsimp only [dats]
theorem inv_before (c : Dev nD) (t : Fin cfg0.N) : (dats m 0 c).Φ t.castSucc = inv m c t.val (Nat.le_of_lt t.isLt) := by
  dsimp only [dats]; exact Dat.Φ_castSucc (inv m c) t

theorem before_in (c : Dev nD) (t : Fin cfg0.N) :
    (∀ d, (dats m 0 c).before 0 t d = blockAt m c 0 t) ∧ (∀ d, (dats m 0 c).before 1 t d = blockAt m c 1 t)
      ∧ ∀ d, (dats m 0 c).before 2 t d = blockAt m c 2 t := by
  refine ⟨fun d => ?_, fun d => ?_, fun d => ?_⟩
  · exact ((dats m 0 c).before_in_eq_fetched 0 rfl (fun _ => rfl) (fun _ _ _ => rfl)
      (fun t => by rw [after0]; unfold Dat.blockOf blockAt; rw [A_eq]; try rfl) t d).trans
      (by unfold Dat.fetched Dat.blockOf blockAt; rw [A_eq]; try rfl)
  · exact ((dats m 0 c).before_in_eq_fetched 1 rfl (fun _ => rfl) (fun _ _ _ => rfl)
      (fun t => by rw [after1]; unfold Dat.blockOf blockAt; rw [A_eq]; try rfl) t d).trans
      (by unfold Dat.fetched Dat.blockOf blockAt; rw [A_eq]; try rfl)
  · exact ((dats m 0 c).before_in_eq_fetched 2 rfl (fun _ => rfl) (fun _ _ _ => rfl)
      (fun t => by rw [after2]; unfold Dat.blockOf blockAt; rw [A_eq]; try rfl) t d).trans
      (by unfold Dat.fetched Dat.blockOf blockAt; rw [A_eq]; try rfl)

/-- The buffer of the saved rows is untouched only until the first point of a block stores into it. -/
theorem fresh_iff : ∀ n, n ≤ cfg0.N → cfg0.fresh 4 n = decide (n % 12 = 0) :=
  Pipeline.Cfg.fresh_tab cfg0 4 (fun n => decide (n % 12 = 0)) rfl (by decide +kernel)

/-- At a later point it holds the block's normed rows. -/
theorem before_saved (c : Dev nD) (t : Fin cfg0.N) (h : ¬t.val % 12 = 0) (d) : (dats m 0 c).before 4 t d = saved m c t := by
  rw [Dat.before_out_traj (dats m 0 c) 4 rfl (fun _ _ => rfl) (fun t h0 hi hf => by
      have hN := t.isLt
      rw [after4, after4, saved_same m c t]
      rw [fresh_iff t.val (Nat.le_of_lt hN)] at hf
      exact of_decide_eq_false hf) t.val t rfl d,
    fresh_iff t.val (Nat.le_of_lt t.isLt), if_neg (by simpa using h), after4, saved_same m c t h]

theorem live4 : ∀ t : Fin cfg0.N, t.val % 12 = 0 → cfg0.idle 4 (grid0.coords t) = false := by decide +kernel
theorem idle4 : ∀ t : Fin cfg0.N, ¬t.val % 12 = 0 → cfg0.idle 4 (grid0.coords t) = true := by decide +kernel

/-! ## A point of the grid -/

def pre (c : Dev nD) (t : Fin cfg0.N) : sProp 𝕄 :=
  iprop((dats m 0 c).Φ t.castSucc ∗ (dats m 0 c).owesAt () t.castSucc
    ∗ (∃ d, owns (c : Thread nD τ) (stx t) fullShare ((dats m 0 c).before 0 t d))
    ∗ (∃ d, owns (c : Thread nD τ) (stg t) fullShare ((dats m 0 c).before 1 t d))
    ∗ (∃ d, owns (c : Thread nD τ) (stw t) fullShare ((dats m 0 c).before 2 t d))
    ∗ (∃ d, owns (c : Thread nD τ) (sto t) fullShare ((dats m 0 c).before 3 t d))
    ∗ (∃ d, owns (c : Thread nD τ) (stu t) fullShare ((dats m 0 c).before 4 t d)))

def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (stx t) fullShare (blockAt m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (stg t) fullShare (blockAt m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (stw t) fullShare (blockAt m c 2 t) := by
  unfold Dat.leavesExact; rw [show cfg0.idle 2 (cfg0.grid.coords t) = false from rfl, after2]
theorem leaves3 (c : Dev nD) (t : Fin cfg0.N) : (dats m 0 c).leavesExact 3 t
    = owns (c : Thread nD τ) (sto t) fullShare (k0_pay3 (normed m c t) (blockAt m c 2 t)) := by
  unfold Dat.leavesExact; rw [show cfg0.idle 3 (cfg0.grid.coords t) = false from rfl, after3]

/-- Whatever the schedule asks of the saved rows' buffer, to hold the block's normed rows is enough. -/
theorem leaves4 (c : Dev nD) (t : Fin cfg0.N) :
    owns (c : Thread nD τ) (stu t) fullShare (saved m c t) ⊢ ((dats m 0 c).leavesExact 4 t : sProp 𝕄) := by
  unfold Dat.leavesExact
  by_cases h : t.val % 12 = 0
  · rw [show cfg0.idle 4 (cfg0.grid.coords t) = false from live4 t h, after4]
  · rw [show cfg0.idle 4 (cfg0.grid.coords t) = true from idle4 t h]
    cases (cfg0.win 4).flush t
    · dsimp only
      simp only [before_saved m c t h]
      iintro H; iexists fun _ => default; iexact H
    · dsimp only; rw [after4]

set_option maxHeartbeats 3200000 in
theorem point (c : Dev nD) (t : Fin cfg0.N) :
    pre m c t ⊢ wp frame (wpE (defs₀ (F := F)) Variants.none c none) Set.univ (bodyAt0 t) (fun _ => post m c t) := by
  unfold pre post bodyAt0
  obtain ⟨b0, b1, b2⟩ := before_in m c t
  simp only [b0, b1, b2]
  rw [show (dats m 0 c).owesAt () t.succ = (dats m 0 c).owesAt () t.castSucc from rfl]
  rw [show (dats m 0 c).Φ t.succ = iprop(owns (c : Thread nD τ) scr fullShare (normed m c t) ∗ (∃ r, prngReg c r)) from rfl]
  rw [leaves0, leaves1, leaves2, leaves3, inv_before]
  by_cases h : t.val % 12 = 0
  · refine (BIClass.sep_mono (inv_some m c _ _) (Idealize.SL.BI.Entails.refl _)).trans ?_
    rw [rest_eq]
    iintro ⟨⟨Hs, Hr⟩, Ho, ⟨%d0, H0⟩, ⟨%d1, H1⟩, ⟨%d2, H2⟩, ⟨%d3, H3⟩, ⟨%d4, H4⟩⟩
    iapply (body_first c (grid0.coords t) _ _ _ _ _ _ _ _ _ _ _ _ (blockAt m c 0 t) (blockAt m c 1 t) (blockAt m c 2 t)
      ((first_iff t).mpr h) Set.univ _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, H3, H4, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    iapply leaves4 m c t
    iexact H4
  · rw [inv_pos m c _ _ (fun h0 => h (by rw [h0])), normed_same m c t h]
    simp only [before_saved m c t h]
    iintro ⟨⟨Hs, Hr⟩, Ho, ⟨%d0, H0⟩, ⟨%d1, H1⟩, ⟨%d2, H2⟩, ⟨%d3, H3⟩, ⟨%d4, H4⟩⟩
    iapply (body_later c (grid0.coords t) _ _ _ _ _ _ _ _ _ _ _ _ (blockAt m c 0 t) (blockAt m c 1 t) (blockAt m c 2 t)
      (normed m c t) (saved m c t) (fun hc => h ((first_iff t).mp hc)) Set.univ _)
    isplitl [H0]; · iexact H0
    isplitl [H1]; · iexact H1
    isplitl [H2]; · iexact H2
    isplitl [H3]; · iexists _; iexact H3
    isplitl [H4]; · iexact H4
    isplitl [Hs]; · iexact Hs
    iintro ⟨H0, H1, H2, H3, H4, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    iapply leaves4 m c t
    iexact H4

theorem row_of_table (t : Fin cfg0.N) : defs₀ (F := F) .tc cfg0.body (cfg0.bodyArgs t (cfg0.slots t)) = bodyAt0 t := by
  unfold defs₀; rw [Defs.onTc_tc]

theorem every_point (c : Dev nD) : BodyObligation (dats (F := F) m 0 c) (defs₀ (F := F)) Variants.none () Set.univ := fun t => by
  rw [bigSep_W0, bigSep_W0, row_of_table]
  exact triple_restated (point m c t) rfl .rfl fun _ => .rfl

/-! ## The call -/

theorem enters (𝒱₀ : Variants) : Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [show (dats m 0 c).Φ (Fin.last cfg0.N) = inv m c cfg0.N (Nat.le_refl _) from rfl]
  exact inv_some m c _ _

set_option backward.isDefEq.respectTransparency.types false in
/-- The call's run: its arrays end as the write-backs of `dats` leave them, and every counter at zero. -/
theorem run_call : θ_run defs (onTc (τ := τ) (main (F := F))) (s₀ m ρ)
    (fun r => (Pipeline.FramePost cfgs (dats m) 0 (atEntry m)) r ∧ r.2.sem = fun _ => 0) :=
  Pipeline.θ_run_frame_track (Q' := _) cfgs (dats m) (0 : Fin 1) launch0 defs₀ Variants.none m ρ main
    (hbody := fun c => (every_point m c).loose) (hshare := fun c => (dats m 0 c).share_full fun _ => rfl)
    (howed := fun _ _ => rfl) (V := atEntry m) (hmain := enters m Variants.none) (hA := A_eq m) (hin := inv_in m) (hout := inv_out m)

/-- What the run leaves: the arguments as they were, the two results as the write-backs left them. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v0_0) = (dats m 0 c).arrAt 3 cfg0.N
      ∧ r.2.mem ((c.tc : Thread nD τ).loc main_v0_1) = (dats m 0 c).arrAt 4 cfg0.N)
      ∧ r.2.sem = fun _ => 0) :=
  (θ_run defs _ _).mono (fun _ h => ⟨fun c =>
    ⟨⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, (h.1 c).1 3, (h.1 c).1 4⟩, h.2⟩) (run_call m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).1, h.2⟩) (run m ρ)

end Cert.Kernel5Ideal.InProj

end
-- ==== Proof.InProj.lean ====
/-
  The input projection forward, its values: the saved rows are the normed ones, and the result their product with the weights.
-/
module

public import proofs.«01_k».proof.Proof.InProjRun
public import proofs.«01_k».proof.Proof.Gen.Reference5Ideal.Run
public import proofs.«01_k».proof.Proof.InNorm

@[expose] public section

set_option maxRecDepth 16384

noncomputable section

namespace Cert.Kernel5Ideal.InProj

open Cert.Kernel5Ideal Cert.Kernel5Ideal.Gen Cert.InNorm
open Idealize.ShloMosaic Idealize.ShloMosaic.TcCoe Idealize.SL.Sem
open Idealize.ShloMosaic.Pipeline (Dat)

/-- Where the blocks are. -/
theorem places : ∀ t : Fin cfg0.N, (win0_0.index t 0 = t.val / 12 ∧ win0_0.index t 1 = 0)
    ∧ (win0_1.index t 0 = 0 ∧ win0_1.index t 1 = 0)
    ∧ (win0_2.index t 0 = t.val % 12 ∧ win0_2.index t 1 = 0)
    ∧ (win0_3.index t 0 = t.val / 12 ∧ win0_3.index t 1 = t.val % 12)
    ∧ (win0_4.index t 0 = t.val / 12 ∧ win0_4.index t 1 = 0) := by
  decide +kernel

theorem lt48 (t : Fin cfg0.N) : t.val < 48 := lt_of_lt_of_eq t.isLt (show cfg0.N = 48 from N_0)

section
variable {F : FTy → Type} [FloatOps F]
variable (m : (ℓ : Loc nD τ sig) → Buf (Elt F) ℓ) (c : Dev nD) (t : Fin cfg0.N)

theorem rows_at (i k : Fin 1024) : blockAt m c 0 t (ix2 i k)
    = m ((c.tc : Thread nD τ).loc main_arg0) (ix2 ⟨1024 * (t.val / 12) + i, by have := lt48 t; omega⟩ k) := by
  obtain ⟨⟨e0, e1⟩, -⟩ := places t
  refine congrArg (m ((c.tc : Thread nD τ).loc main_arg0)) (funext fun a => Fin.ext ?_)
  revert a
  refine Fin.forall_fin_two.2 ⟨?_, ?_⟩
  · show win0_0.index t 0 * 1024 + 1 * (i : ℕ) = 1024 * (t.val / 12) + i; rw [e0]; omega
  · show win0_0.index t 1 * 1024 + 1 * (k : ℕ) = k; rw [e1]; omega

theorem gain_at (k : Fin 1024) : blockAt m c 1 t (ix2 0 k) = m ((c.tc : Thread nD τ).loc main_arg1) (ix2 0 k) := by
  obtain ⟨-, ⟨e0, e1⟩, -⟩ := places t
  refine congrArg (m ((c.tc : Thread nD τ).loc main_arg1)) (funext fun a => Fin.ext ?_)
  revert a
  refine Fin.forall_fin_two.2 ⟨?_, ?_⟩
  · show win0_1.index t 0 * 1 + 1 * 0 = 0; rw [e0]
  · show win0_1.index t 1 * 1024 + 1 * (k : ℕ) = k; rw [e1]; omega

theorem weight_at (j k : Fin 1024) : blockAt m c 2 t (ix2 j k)
    = m ((c.tc : Thread nD τ).loc main_arg2) (ix2 ⟨1024 * (t.val % 12) + j, by omega⟩ k) := by
  obtain ⟨-, -, ⟨e0, e1⟩, -⟩ := places t
  refine congrArg (m ((c.tc : Thread nD τ).loc main_arg2)) (funext fun a => Fin.ext ?_)
  revert a
  refine Fin.forall_fin_two.2 ⟨?_, ?_⟩
  · show win0_2.index t 0 * 1024 + 1 * (j : ℕ) = 1024 * (t.val % 12) + j; rw [e0]; omega
  · show win0_2.index t 1 * 1024 + 1 * (k : ℕ) = k; rw [e1]; omega
end

theorem norm_at (x : FVec Ideal S1024x1024 .f32) (g : FVec Ideal S1x1024 .f32) (i k : Fin 1024) :
    (k0_pay2 x g : FVec Ideal S1024x1024 .bf16) (ix2 i k) = x (ix2 i k) * (factor fun k => x (ix2 i k)) * g (ix2 0 k) := by
  pointwise [k0_pay2, k0_pay1, factor, meanSq]

theorem save_at (x : FVec Ideal S1024x1024 .f32) (g : FVec Ideal S1x1024 .f32) (i k : Fin 1024) :
    (k0_pay1 x g : FVec Ideal S1024x1024 .bf16) (ix2 i k) = x (ix2 i k) * (factor fun k => x (ix2 i k)) * g (ix2 0 k) := by
  pointwise [k0_pay1, factor, meanSq]

theorem prod_at (v w : FVec Ideal S1024x1024 .bf16) (i j : Fin 1024) :
    (k0_pay3 v w : FVec Ideal S1024x1024 .f32) (ix2 i j) = ∑ k : Fin 1024, v (ix2 i k) * w (ix2 j k) := by
  pointwise [k0_pay3]

/-- A normed row. -/
def normedRow (x : FVec Ideal S4096x1024 .f32) (g : FVec Ideal S1x1024 .f32) (i : Fin 4096) (k : Fin 1024) : EReal :=
  x (ix2 i k) * (factor fun k => x (ix2 i k)) * g (ix2 0 k)

section
variable (m : (ℓ : Loc nD τ sig) → Buf (Elt Ideal) ℓ) (c : Dev nD)

/-- The result: every normed row against every row of weights. -/
def product : Buf (Elt Ideal) ((c.tc : Thread nD τ).loc main_v0_0) := fun i : S4096x12288.Idx => (∑ k : Fin 1024,
  normedRow (m ((c.tc : Thread nD τ).loc main_arg0)) (m ((c.tc : Thread nD τ).loc main_arg1)) (i 0) k
    * m ((c.tc : Thread nD τ).loc main_arg2) (ix2 (i 1) k) : EReal)

/-- The saved rows. -/
def rows : Buf (Elt Ideal) ((c.tc : Thread nD τ).loc main_v0_1) := fun i : S4096x1024.Idx =>
  normedRow (m ((c.tc : Thread nD τ).loc main_arg0)) (m ((c.tc : Thread nD τ).loc main_arg1)) (i 0) (i 1)

theorem product_block (t : Fin cfg0.N) : (dats m 0 c).flushed 3 t = ((cfg0.win 3).blk t).view.read (Elt Ideal) (product m c) := by
  show (cfg0.win 3).cut (grid0.coords t) ((dats m 0 c).after 3 t) = _
  rw [after3]
  have lt := lt48 t
  obtain ⟨-, -, -, ⟨e0, e1⟩, -⟩ := places t
  refine funext fun (y : S1024x1024.Idx) => ?_
  obtain ⟨i, j, rfl⟩ : ∃ i j : Fin 1024, y = ix2 i j := ⟨y 0, y 1, (ix2_eta y).symm⟩
  have h0 : ((cfg0.win 3).blk t).view.emb (ix2 i j) 0 = (⟨1024 * (t.val / 12) + i, by omega⟩ : Fin 4096) := Fin.ext (by
    show win0_3.index t 0 * 1024 + 1 * (i : ℕ) = 1024 * (t.val / 12) + i; rw [e0]; omega)
  have h1 : ((cfg0.win 3).blk t).view.emb (ix2 i j) 1 = (⟨1024 * (t.val % 12) + j, by omega⟩ : Fin 12288) := Fin.ext (by
    show win0_3.index t 1 * 1024 + 1 * (j : ℕ) = 1024 * (t.val % 12) + j; rw [e1]; omega)
  show k0_pay3 (normed m c t) (blockAt m c 2 t) (ix2 i j) = product m c (((cfg0.win 3).blk t).view.emb (ix2 i j))
  unfold product
  dsimp only
  rw [h0, h1]
  refine (prod_at _ _ _ _).trans ?_
  refine Finset.sum_congr rfl fun k _ => ?_
  rw [weight_at]
  refine congrArg (· * _) ?_
  unfold normed
  refine (norm_at _ _ _ _).trans ?_
  unfold normedRow
  simp only [rows_at, gain_at]

theorem rows_block (t : Fin cfg0.N) : (dats m 0 c).flushed 4 t = ((cfg0.win 4).blk t).view.read (Elt Ideal) (rows m c) := by
  show (cfg0.win 4).cut (grid0.coords t) ((dats m 0 c).after 4 t) = _
  rw [after4]
  have lt := lt48 t
  obtain ⟨-, -, -, -, e0, e1⟩ := places t
  refine funext fun (y : S1024x1024.Idx) => ?_
  obtain ⟨i, j, rfl⟩ : ∃ i j : Fin 1024, y = ix2 i j := ⟨y 0, y 1, (ix2_eta y).symm⟩
  have h0 : ((cfg0.win 4).blk t).view.emb (ix2 i j) 0 = (⟨1024 * (t.val / 12) + i, by omega⟩ : Fin 4096) := Fin.ext (by
    show win0_4.index t 0 * 1024 + 1 * (i : ℕ) = 1024 * (t.val / 12) + i; rw [e0]; omega)
  have h1 : ((cfg0.win 4).blk t).view.emb (ix2 i j) 1 = j := Fin.ext (by
    show win0_4.index t 1 * 1024 + 1 * (j : ℕ) = j; rw [e1]; omega)
  show saved m c t (ix2 i j) = rows m c (((cfg0.win 4).blk t).view.emb (ix2 i j))
  unfold rows saved
  dsimp only
  rw [h0, h1]
  refine (save_at _ _ _ _).trans ?_
  unfold normedRow
  simp only [rows_at, gain_at]

/-- The blocks of the result fill it. -/
theorem product_all : (dats m 0 c).arrAt 3 cfg0.N = product m c := by
  refine (dats m 0 c).arrAt_eq_of_cover 3 _ (fun t _ => product_block m c t) fun (i : S4096x12288.Idx) => ?_
  have h0 : (i 0).val < 4096 := (i 0).isLt
  have h1 : (i 1).val < 12288 := (i 1).isLt
  have hN : cfg0.N = 48 := N_0
  refine ⟨⟨12 * ((i 0).val / 1024) + (i 1).val / 1024, by omega⟩, flush0_3 _, ?_⟩
  generalize ht : (⟨12 * ((i 0).val / 1024) + (i 1).val / 1024, _⟩ : Fin cfg0.N) = t
  have hv : t.val = 12 * ((i 0).val / 1024) + (i 1).val / 1024 := by rw [← ht]
  obtain ⟨-, -, -, ⟨e0, e1⟩, -⟩ := places t
  show i ∈ ((View.whole main_v0_0).slice (win0_3.rect t)).set
  rw [View.set_slice_whole, Rect.mem_set_unit]
  refine Fin.forall_fin_two.2 ⟨?_, ?_⟩
  · show win0_3.index t 0 * 1024 ≤ (i 0).val ∧ (i 0).val < win0_3.index t 0 * 1024 + 1024; omega
  · show win0_3.index t 1 * 1024 ≤ (i 1).val ∧ (i 1).val < win0_3.index t 1 * 1024 + 1024; omega

/-- The saved blocks fill the saved rows. -/
theorem rows_all : (dats m 0 c).arrAt 4 cfg0.N = rows m c := by
  refine (dats m 0 c).arrAt_eq_of_cover 4 _ (fun t _ => rows_block m c t) fun (i : S4096x1024.Idx) => ?_
  have h0 : (i 0).val < 4096 := (i 0).isLt
  have h1 : (i 1).val < 1024 := (i 1).isLt
  have hN : cfg0.N = 48 := N_0
  refine ⟨⟨12 * ((i 0).val / 1024) + 11, by omega⟩, (flush0_4 _).2 (by dsimp only; omega), ?_⟩
  generalize ht : (⟨12 * ((i 0).val / 1024) + 11, _⟩ : Fin cfg0.N) = t
  have hv : t.val = 12 * ((i 0).val / 1024) + 11 := by rw [← ht]
  obtain ⟨-, -, -, -, e0, e1⟩ := places t
  show i ∈ ((View.whole main_v0_1).slice (win0_4.rect t)).set
  rw [View.set_slice_whole, Rect.mem_set_unit]
  refine Fin.forall_fin_two.2 ⟨?_, ?_⟩
  · show win0_4.index t 0 * 1024 ≤ (i 0).val ∧ (i 0).val < win0_4.index t 0 * 1024 + 1024; omega
  · show win0_4.index t 1 * 1024 ≤ (i 1).val ∧ (i 1).val < win0_4.index t 1 * 1024 + 1024; omega
end

end Cert.Kernel5Ideal.InProj

namespace Cert.Reference5Ideal.Value

open Idealize.ShloMosaic Idealize.ShloMosaic.TcCoe
open Cert.Reference5Ideal Cert.Reference5Ideal.Gen Cert.InNorm Cert.Kernel5Ideal.InProj

variable (x : FVec Ideal S4096x1024 .f32) (g : FVec Ideal S1x1024 .f32) (w : FVec Ideal S12288x1024 .bf16)

/-- The normed rows, as the reference has them. -/
def normedR : FVec Ideal S4096x1024 .f32 :=
  mulf (mulf x (broadcastInDim S4096x1024 ![0, 1] bcast_S4096x1_S4096x1024_0_1 (Host.rsqrt (addf (Host.divf (broadcastInDim S4096x1 ![0]
    bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)

theorem normedR_at (i : Fin 4096) (k : Fin 1024) : normedR x g (ix2 i k) = normedRow x g i k := by
  unfold normedRow
  pointwise [normedR, factor, meanSq]

theorem saved_ref (i : Fin 4096) (k : Fin 1024) : truncf .bf16 (normedR x g) bitsLt_bf16_f32 (ix2 i k) = normedRow x g i k :=
  normedR_at x g i k

theorem product_ref (i : Fin 4096) (j : Fin 12288) :
    Host.dotGeneral dot_S4096x1024_S1024x12288_S4096x12288_1_0_0_1_n_n none (normedR x g) (transpose S1024x12288 [1, 0]
      (extf .f32 w bitsLt_bf16_f32) transposes_S12288x1024_S1024x12288_1_0) (ix2 i j) = ∑ k : Fin 1024, normedRow x g i k * w (ix2 j k) := by
  simp only [← normedR_at]
  generalize normedR x g = v
  pointwise []

end Cert.Reference5Ideal.Value

end
-- ==== Proof.MlpBwdRun.lean ====
/-
  The backward pass of the MLP, run: what a point of the grid does, and what the whole grid leaves.

  A block of 512 rows takes four points, one for each quarter of the hidden columns. The first norms the rows into a scratch and into the
  window that saves them, rounds the gradient into a second scratch, and zeroes a third, in which every point adds its quarter's part of
  the gradient of the normed rows; the last takes that sum back through the norm, and adds to the gain's gradient. What the first two
  scratches hold is a function of the block of rows alone; the sum and the gain's gradient are defined by recursion on the points.
-/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.TableIdle
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel6Ideal.MlpBwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body -/

theorem start_iff : ∀ t : Fin cfg0.N, k0_cond1 (grid0.coords t) = 1#1 ↔ t.val % 4 = 0 := by decide +kernel
theorem first_iff : ∀ t : Fin cfg0.N, k0_cond2 (grid0.coords t) = 1#1 ↔ t.val = 0 := by decide +kernel
theorem last_iff : ∀ t : Fin cfg0.N, k0_cond3 (grid0.coords t) = 1#1 ↔ t.val % 4 = 3 := by decide +kernel

section body
variable (c : Dev nD) (i : grid0.Coords)
  (x : Memref sig .tc .vmem S512x1024 .f32) (hx : x.IsWhole) (d : Memref sig .tc .vmem S512x1024 .f32) (hd : d.IsWhole)
  (g : Memref sig .tc .vmem S1x1024 .f32) (hg : g.IsWhole) (a : Memref sig .tc .vmem S1x1024x1024 .bf16) (ha : a.IsWhole)
  (b : Memref sig .tc .vmem S1024x1024 .bf16) (hb : b.IsWhole) (o : Memref sig .tc .vmem S512x1024 .f32) (ho : o.IsWhole)
  (n : Memref sig .tc .vmem S512x1024 .bf16) (hn : n.IsWhole) (r : Memref sig .tc .vmem S512x1024 .bf16) (hr : r.IsWhole)
  (e : Memref sig .tc .vmem S512x1024 .bf16) (he : e.IsWhole) (q : Memref sig .tc .vmem S8x1024 .f32) (hq : q.IsWhole)
  (sn : Memref sig .tc .vmem S512x1024 .bf16) (hsn : sn.IsWhole) (sd : Memref sig .tc .vmem S512x1024 .bf16) (hsd : sd.IsWhole)
  (sa : Memref sig .tc .vmem S512x1024 .f32) (hsa : sa.IsWhole)
  (vx vd vo vsa : Vec F S512x1024 .f32) (vg : Vec F S1x1024 .f32) (va : Vec F S1x1024x1024 .bf16) (vb : Vec F S1024x1024 .bf16)
  (vn vsn vsd : Vec F S512x1024 .bf16) (vq : Vec F S8x1024 .f32)

set_option maxHeartbeats 2000000 in
/-- The body at the first point of all. -/
theorem body_first (h1 : k0_cond1 i = 1#1) (h2 : k0_cond2 i = 1#1) (h3 : ¬k0_cond3 i = 1#1) (E : Set ℕ) (K : PUnit → sProp 𝕄) :
    iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ owns (c : Thread nD τ) o fullShare vo ∗
        (∃ d, owns (c : Thread nD τ) n fullShare d) ∗ (∃ d, owns (c : Thread nD τ) r fullShare d) ∗
        (∃ d, owns (c : Thread nD τ) e fullShare d) ∗ (∃ d, owns (c : Thread nD τ) q fullShare d) ∗
        (∃ d, owns (c : Thread nD τ) sn fullShare d) ∗ (∃ d, owns (c : Thread nD τ) sd fullShare d) ∗
        (∃ d, owns (c : Thread nD τ) sa fullShare d)
        ∗ (iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ owns (c : Thread nD τ) o fullShare vo ∗
        owns (c : Thread nD τ) n fullShare (k0_pay5 vx vg) ∗
        owns (c : Thread nD τ) r fullShare (k0_pay10 (k0_pay5 vx vg) va) ∗
        owns (c : Thread nD τ) e fullShare (k0_pay11 (k0_pay5 vx vg) va (k0_pay6 vd) vb) ∗
        owns (c : Thread nD τ) q fullShare k0_pay8 ∗ owns (c : Thread nD τ) sn fullShare (k0_pay5 vx vg) ∗
        owns (c : Thread nD τ) sd fullShare (k0_pay6 vd) ∗
        owns (c : Thread nD τ) sa fullShare (k0_pay1 (k0_pay11 (k0_pay5 vx vg) va (k0_pay6 vd) vb) k0_pay7 va)) -∗ K ⟨⟩))
      ⊢ wp frame (wpE (defs₀ (F := F)) Variants.none c none) E (cc0_mlp_bwd i x hx d hd g hg a ha b hb o ho n hn r hr e he q hq sn hsn sd hsd sa hsa) K := by
  simp only [cc0_mlp_bwd_eq_skeleton]; unfold cc0_mlp_bwd_skel
  simp only [k0_part1_eq_skeleton, k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := hx.eq_unread hf0; obtain rfl := hd.eq_unread hf1; obtain rfl := hg.eq_unread hf2; obtain rfl := ha.eq_unread hf3; obtain rfl := hb.eq_unread hf4
  obtain rfl := ho.eq_unread hf5
  sl_exec (disch := first | sl_exact h1 | sl_exact h2 | sl_exact h3)
  sl_step
  iapply Hk
  isplitl [H0]
  · iexists _; isplitr; · ipureintro; exact hx.read_unread _
    iexact H0
  isplitl [H1]
  · iexists _; isplitr; · ipureintro; exact hd.read_unread _
    iexact H1
  isplitl [H2]
  · iexists _; isplitr; · ipureintro; exact hg.read_unread _
    iexact H2
  isplitl [H3]
  · iexists _; isplitr; · ipureintro; exact ha.read_unread _
    iexact H3
  isplitl [H4]
  · iexists _; isplitr; · ipureintro; exact hb.read_unread _
    iexact H4
  isplitl [H5]
  · iexists _; isplitr; · ipureintro; exact ho.read_unread _
    iexact H5
  isplitl [H6]
  · iexists _; isplitr
    swap; · iexact H6
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H7]
  · iexists _; isplitr
    swap; · iexact H7
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H8]
  · iexists _; isplitr
    swap; · iexact H8
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H9]
  · iexists _; isplitr
    swap; · iexact H9
    ipureintro
    rw [View.read_writes_eq_canon _ _ _ fun y => View.cover_of_tiledL _ S8x1024.size (by sl_kernel_rfl) y]
    sl_unfold_words
    rw [View.canon_cons_unit_zero (S := S8x1024) zeros2]
  isplitl [H10]
  · iexists _; isplitr
    swap; · iexact H10
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H11]
  · iexists _; isplitr
    swap; · iexact H11
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  iexists _; isplitr
  swap; · iexact H12
  ipureintro
  rw [View.read_writes_eq_canon _ _ _ fun y => View.cover_of_tiledL _ S512x1024.size (by sl_kernel_rfl) y]
  sl_unfold_words
  rw [View.canon_cons_unit_zero (S := S512x1024) zeros2]
  simp only [View.readCov_unit_zero (S := S512x1024) _ zeros2, View.readCov_unit_zero (S := S8x1024) _ zeros2, View.readAt_eq_ld,
    hx.read_unread, hd.read_unread, hg.read_unread, ha.read_unread, hb.read_unread, ho.read_unread,
    View.ld_unit_zero (S := S512x1024) zeros2, View.ld_unit_zero (S := S1x1024) zeros2, View.ld_unit_zero (S := S8x1024) zeros2,
    View.ld_unit_zero (S := S1024x1024) zeros2, View.ld_unit_zero (S := S1x1024x1024) zeros3]

set_option maxHeartbeats 2000000 in
/-- The body at the first point of another block of rows. -/
theorem body_start (h1 : k0_cond1 i = 1#1) (h2 : ¬k0_cond2 i = 1#1) (h3 : ¬k0_cond3 i = 1#1) (E : Set ℕ) (K : PUnit → sProp 𝕄) :
    iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ owns (c : Thread nD τ) o fullShare vo ∗
        (∃ d, owns (c : Thread nD τ) n fullShare d) ∗ (∃ d, owns (c : Thread nD τ) r fullShare d) ∗
        (∃ d, owns (c : Thread nD τ) e fullShare d) ∗ owns (c : Thread nD τ) q fullShare vq ∗
        (∃ d, owns (c : Thread nD τ) sn fullShare d) ∗ (∃ d, owns (c : Thread nD τ) sd fullShare d) ∗
        (∃ d, owns (c : Thread nD τ) sa fullShare d)
        ∗ (iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ owns (c : Thread nD τ) o fullShare vo ∗
        owns (c : Thread nD τ) n fullShare (k0_pay5 vx vg) ∗
        owns (c : Thread nD τ) r fullShare (k0_pay10 (k0_pay5 vx vg) va) ∗
        owns (c : Thread nD τ) e fullShare (k0_pay11 (k0_pay5 vx vg) va (k0_pay6 vd) vb) ∗
        owns (c : Thread nD τ) q fullShare vq ∗ owns (c : Thread nD τ) sn fullShare (k0_pay5 vx vg) ∗
        owns (c : Thread nD τ) sd fullShare (k0_pay6 vd) ∗
        owns (c : Thread nD τ) sa fullShare (k0_pay1 (k0_pay11 (k0_pay5 vx vg) va (k0_pay6 vd) vb) k0_pay7 va)) -∗ K ⟨⟩))
      ⊢ wp frame (wpE (defs₀ (F := F)) Variants.none c none) E (cc0_mlp_bwd i x hx d hd g hg a ha b hb o ho n hn r hr e he q hq sn hsn sd hsd sa hsa) K := by
  simp only [cc0_mlp_bwd_eq_skeleton]; unfold cc0_mlp_bwd_skel
  simp only [k0_part1_eq_skeleton, k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, Hk⟩
  obtain rfl := hx.eq_unread hf0; obtain rfl := hd.eq_unread hf1; obtain rfl := hg.eq_unread hf2; obtain rfl := ha.eq_unread hf3; obtain rfl := hb.eq_unread hf4
  obtain rfl := ho.eq_unread hf5; obtain rfl := hq.eq_unread hf9
  sl_exec (disch := first | sl_exact h1 | sl_exact h2 | sl_exact h3)
  sl_step
  iapply Hk
  isplitl [H0]
  · iexists _; isplitr; · ipureintro; exact hx.read_unread _
    iexact H0
  isplitl [H1]
  · iexists _; isplitr; · ipureintro; exact hd.read_unread _
    iexact H1
  isplitl [H2]
  · iexists _; isplitr; · ipureintro; exact hg.read_unread _
    iexact H2
  isplitl [H3]
  · iexists _; isplitr; · ipureintro; exact ha.read_unread _
    iexact H3
  isplitl [H4]
  · iexists _; isplitr; · ipureintro; exact hb.read_unread _
    iexact H4
  isplitl [H5]
  · iexists _; isplitr; · ipureintro; exact ho.read_unread _
    iexact H5
  isplitl [H6]
  · iexists _; isplitr
    swap; · iexact H6
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hq.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H7]
  · iexists _; isplitr
    swap; · iexact H7
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hq.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H8]
  · iexists _; isplitr
    swap; · iexact H8
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hq.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H9]
  · iexists _; isplitr; · ipureintro; exact hq.read_unread _
    iexact H9
  isplitl [H10]
  · iexists _; isplitr
    swap; · iexact H10
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hq.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H11]
  · iexists _; isplitr
    swap; · iexact H11
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hq.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  iexists _; isplitr
  swap; · iexact H12
  ipureintro
  rw [View.read_writes_eq_canon _ _ _ fun y => View.cover_of_tiledL _ S512x1024.size (by sl_kernel_rfl) y]
  sl_unfold_words
  rw [View.canon_cons_unit_zero (S := S512x1024) zeros2]
  simp only [View.readCov_unit_zero (S := S512x1024) _ zeros2, View.readCov_unit_zero (S := S8x1024) _ zeros2, View.readAt_eq_ld,
    hx.read_unread, hd.read_unread, hg.read_unread, ha.read_unread, hb.read_unread, ho.read_unread, hq.read_unread,
    View.ld_unit_zero (S := S512x1024) zeros2, View.ld_unit_zero (S := S1x1024) zeros2, View.ld_unit_zero (S := S8x1024) zeros2,
    View.ld_unit_zero (S := S1024x1024) zeros2, View.ld_unit_zero (S := S1x1024x1024) zeros3]

set_option maxHeartbeats 2000000 in
/-- The body at a point inside a block of rows. -/
theorem body_middle (h1 : ¬k0_cond1 i = 1#1) (h2 : ¬k0_cond2 i = 1#1) (h3 : ¬k0_cond3 i = 1#1) (E : Set ℕ) (K : PUnit → sProp 𝕄) :
    iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ owns (c : Thread nD τ) o fullShare vo ∗
        owns (c : Thread nD τ) n fullShare vn ∗ (∃ d, owns (c : Thread nD τ) r fullShare d) ∗
        (∃ d, owns (c : Thread nD τ) e fullShare d) ∗ owns (c : Thread nD τ) q fullShare vq ∗
        owns (c : Thread nD τ) sn fullShare vsn ∗ owns (c : Thread nD τ) sd fullShare vsd ∗
        owns (c : Thread nD τ) sa fullShare vsa
        ∗ (iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ owns (c : Thread nD τ) o fullShare vo ∗
        owns (c : Thread nD τ) n fullShare vn ∗ owns (c : Thread nD τ) r fullShare (k0_pay10 vsn va) ∗
        owns (c : Thread nD τ) e fullShare (k0_pay11 vsn va vsd vb) ∗ owns (c : Thread nD τ) q fullShare vq ∗
        owns (c : Thread nD τ) sn fullShare vsn ∗ owns (c : Thread nD τ) sd fullShare vsd ∗
        owns (c : Thread nD τ) sa fullShare (k0_pay1 (k0_pay11 vsn va vsd vb) vsa va)) -∗ K ⟨⟩))
      ⊢ wp frame (wpE (defs₀ (F := F)) Variants.none c none) E (cc0_mlp_bwd i x hx d hd g hg a ha b hb o ho n hn r hr e he q hq sn hsn sd hsd sa hsa) K := by
  simp only [cc0_mlp_bwd_eq_skeleton]; unfold cc0_mlp_bwd_skel
  simp only [k0_part1_eq_skeleton, k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  obtain rfl := hx.eq_unread hf0; obtain rfl := hd.eq_unread hf1; obtain rfl := hg.eq_unread hf2; obtain rfl := ha.eq_unread hf3; obtain rfl := hb.eq_unread hf4
  obtain rfl := ho.eq_unread hf5; obtain rfl := hn.eq_unread hf6; obtain rfl := hq.eq_unread hf9; obtain rfl := hsn.eq_unread hf10; obtain rfl := hsd.eq_unread hf11
  obtain rfl := hsa.eq_unread hf12
  sl_exec (disch := first | sl_exact h1 | sl_exact h2 | sl_exact h3)
  sl_step
  iapply Hk
  isplitl [H0]
  · iexists _; isplitr; · ipureintro; exact hx.read_unread _
    iexact H0
  isplitl [H1]
  · iexists _; isplitr; · ipureintro; exact hd.read_unread _
    iexact H1
  isplitl [H2]
  · iexists _; isplitr; · ipureintro; exact hg.read_unread _
    iexact H2
  isplitl [H3]
  · iexists _; isplitr; · ipureintro; exact ha.read_unread _
    iexact H3
  isplitl [H4]
  · iexists _; isplitr; · ipureintro; exact hb.read_unread _
    iexact H4
  isplitl [H5]
  · iexists _; isplitr; · ipureintro; exact ho.read_unread _
    iexact H5
  isplitl [H6]
  · iexists _; isplitr; · ipureintro; exact hn.read_unread _
    iexact H6
  isplitl [H7]
  · iexists _; isplitr
    swap; · iexact H7
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hn.read_unread, hq.read_unread, hsn.read_unread, hsd.read_unread, hsa.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H8]
  · iexists _; isplitr
    swap; · iexact H8
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, ho.read_unread, hn.read_unread, hq.read_unread, hsn.read_unread, hsd.read_unread, hsa.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H9]
  · iexists _; isplitr; · ipureintro; exact hq.read_unread _
    iexact H9
  isplitl [H10]
  · iexists _; isplitr; · ipureintro; exact hsn.read_unread _
    iexact H10
  isplitl [H11]
  · iexists _; isplitr; · ipureintro; exact hsd.read_unread _
    iexact H11
  iexists _; isplitr
  swap; · iexact H12
  ipureintro
  rw [View.read_writes_eq_canon _ _ _ fun y => View.cover_of_tiledL _ S512x1024.size (by sl_kernel_rfl) y]
  sl_unfold_words
  rw [View.canon_cons_unit_zero (S := S512x1024) zeros2]
  simp only [View.readCov_unit_zero (S := S512x1024) _ zeros2, View.readCov_unit_zero (S := S8x1024) _ zeros2, View.readAt_eq_ld,
    hx.read_unread, hd.read_unread, hg.read_unread, ha.read_unread, hb.read_unread, ho.read_unread, hn.read_unread, hq.read_unread, hsn.read_unread, hsd.read_unread, hsa.read_unread,
    View.ld_unit_zero (S := S512x1024) zeros2, View.ld_unit_zero (S := S1x1024) zeros2, View.ld_unit_zero (S := S8x1024) zeros2,
    View.ld_unit_zero (S := S1024x1024) zeros2, View.ld_unit_zero (S := S1x1024x1024) zeros3]

set_option maxHeartbeats 2000000 in
/-- The body at the last point of a block of rows. -/
theorem body_last (h1 : ¬k0_cond1 i = 1#1) (h2 : ¬k0_cond2 i = 1#1) (h3 : k0_cond3 i = 1#1) (E : Set ℕ) (K : PUnit → sProp 𝕄) :
    iprop(owns (c : Thread nD τ) x fullShare vx ∗ owns (c : Thread nD τ) d fullShare vd ∗
        owns (c : Thread nD τ) g fullShare vg ∗ owns (c : Thread nD τ) a fullShare va ∗
        owns (c : Thread nD τ) b fullShare vb ∗ (∃ d, owns (c : Thread nD τ) o fullShare d) ∗
        owns (c : Thread nD τ) n fullShare vn ∗ (∃ d, owns (c : Thread nD τ) r fullShare d) ∗
        (∃ d, owns (c : Thread nD τ) e fullShare d) ∗ owns (c : Thread nD τ) q fullShare vq ∗
        owns (c : Thread nD τ) sn fullShare vsn ∗ owns (c : Thread nD τ) sd fullShare vsd ∗
        owns (c : Thread nD τ) sa fullShare vsa
        ∗ (iprop(owns (c : Thread nD τ) x fullShare vx ∗ owns (c : Thread nD τ) d fullShare vd ∗
        owns (c : Thread nD τ) g fullShare vg ∗ owns (c : Thread nD τ) a fullShare va ∗
        owns (c : Thread nD τ) b fullShare vb ∗
        owns (c : Thread nD τ) o fullShare (k0_pay4 vx (k0_pay1 (k0_pay11 vsn va vsd vb) vsa va) vd vg) ∗
        owns (c : Thread nD τ) n fullShare vn ∗ owns (c : Thread nD τ) r fullShare (k0_pay10 vsn va) ∗
        owns (c : Thread nD τ) e fullShare (k0_pay11 vsn va vsd vb) ∗
        owns (c : Thread nD τ) q fullShare (k0_pay3 vx (k0_pay1 (k0_pay11 vsn va vsd vb) vsa va) vq) ∗
        owns (c : Thread nD τ) sn fullShare vsn ∗ owns (c : Thread nD τ) sd fullShare vsd ∗
        owns (c : Thread nD τ) sa fullShare (k0_pay1 (k0_pay11 vsn va vsd vb) vsa va)) -∗ K ⟨⟩))
      ⊢ wp frame (wpE (defs₀ (F := F)) Variants.none c none) E (cc0_mlp_bwd i x hx d hd g hg a ha b hb o ho n hn r hr e he q hq sn hsn sd hsd sa hsa) K := by
  simp only [cc0_mlp_bwd_eq_skeleton]; unfold cc0_mlp_bwd_skel
  simp only [k0_part1_eq_skeleton, k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  obtain rfl := hx.eq_unread hf0; obtain rfl := hd.eq_unread hf1; obtain rfl := hg.eq_unread hf2; obtain rfl := ha.eq_unread hf3; obtain rfl := hb.eq_unread hf4
  obtain rfl := hn.eq_unread hf6; obtain rfl := hq.eq_unread hf9; obtain rfl := hsn.eq_unread hf10; obtain rfl := hsd.eq_unread hf11; obtain rfl := hsa.eq_unread hf12
  sl_exec (disch := first | sl_exact h1 | sl_exact h2 | sl_exact h3)
  sl_step
  iapply Hk
  isplitl [H0]
  · iexists _; isplitr; · ipureintro; exact hx.read_unread _
    iexact H0
  isplitl [H1]
  · iexists _; isplitr; · ipureintro; exact hd.read_unread _
    iexact H1
  isplitl [H2]
  · iexists _; isplitr; · ipureintro; exact hg.read_unread _
    iexact H2
  isplitl [H3]
  · iexists _; isplitr; · ipureintro; exact ha.read_unread _
    iexact H3
  isplitl [H4]
  · iexists _; isplitr; · ipureintro; exact hb.read_unread _
    iexact H4
  isplitl [H5]
  · iexists _; isplitr
    swap; · iexact H5
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, hn.read_unread, hq.read_unread, hsn.read_unread, hsd.read_unread, hsa.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H6]
  · iexists _; isplitr; · ipureintro; exact hn.read_unread _
    iexact H6
  isplitl [H7]
  · iexists _; isplitr
    swap; · iexact H7
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, hn.read_unread, hq.read_unread, hsn.read_unread, hsd.read_unread, hsa.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H8]
  · iexists _; isplitr
    swap; · iexact H8
    ipureintro
    rw [View.read_writes_eq_canon _ _ _ fun y => View.cover_of_tiledL _ S512x1024.size (by sl_kernel_rfl) y]
    sl_unfold_words
    rw [View.canon_cons_unit_zero (S := S512x1024) zeros2]
    simp only [View.readCov_unit_zero (S := S512x1024) _ zeros2, View.readCov_unit_zero (S := S8x1024) _ zeros2, View.readAt_eq_ld,
      hx.read_unread, hd.read_unread, hg.read_unread, ha.read_unread, hb.read_unread, hn.read_unread, hq.read_unread, hsn.read_unread, hsd.read_unread, hsa.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H9]
  · iexists _; isplitr
    swap; · iexact H9
    ipureintro
    rw [View.read_writes_eq_canon _ _ _ fun y => View.cover_of_tiledL _ S8x1024.size (by sl_kernel_rfl) y]
    sl_unfold_words
    rw [View.canon_cons_unit_zero (S := S8x1024) zeros2]
    simp only [View.readCov_unit_zero (S := S512x1024) _ zeros2, View.readCov_unit_zero (S := S8x1024) _ zeros2, View.readAt_eq_ld,
      hx.read_unread, hd.read_unread, hg.read_unread, ha.read_unread, hb.read_unread, hn.read_unread, hq.read_unread, hsn.read_unread, hsd.read_unread, hsa.read_unread,
      View.ld_unit_zero (S := S512x1024) zeros2, View.ld_unit_zero (S := S1x1024) zeros2, View.ld_unit_zero (S := S8x1024) zeros2,
      View.ld_unit_zero (S := S1024x1024) zeros2, View.ld_unit_zero (S := S1x1024x1024) zeros3]
  isplitl [H10]
  · iexists _; isplitr; · ipureintro; exact hsn.read_unread _
    iexact H10
  isplitl [H11]
  · iexists _; isplitr; · ipureintro; exact hsd.read_unread _
    iexact H11
  iexists _; isplitr
  swap; · iexact H12
  ipureintro
  rw [View.read_writes_eq_canon _ _ _ fun y => View.cover_of_tiledL _ S512x1024.size (by sl_kernel_rfl) y]
  sl_unfold_words
  rw [View.canon_cons_unit_zero (S := S512x1024) zeros2]
  simp only [View.readCov_unit_zero (S := S512x1024) _ zeros2, View.readCov_unit_zero (S := S8x1024) _ zeros2, View.readAt_eq_ld,
    hx.read_unread, hd.read_unread, hg.read_unread, ha.read_unread, hb.read_unread, hn.read_unread, hq.read_unread, hsn.read_unread, hsd.read_unread, hsa.read_unread,
    View.ld_unit_zero (S := S512x1024) zeros2, View.ld_unit_zero (S := S1x1024) zeros2, View.ld_unit_zero (S := S8x1024) zeros2,
    View.ld_unit_zero (S := S1024x1024) zeros2, View.ld_unit_zero (S := S1x1024x1024) zeros3]

end body

/-! ## The windows -/

variable (m : (ℓ : Loc nD τ sig) → Buf (Elt F) ℓ) (ρ : Dev nD → PrngReg)

/-- The buffers of core `c` as the call finds them. -/
abbrev atEntry (c : Dev nD) (b : Ref sig .tc) : Buf (Elt F) ((c : Thread nD τ).loc b) := m ((c : Thread nD τ).loc b)

/-- Window `w`'s block at point `t`. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

abbrev stx (t : Fin cfg0.N) : Memref sig .tc .vmem S512x1024 .f32 := win0_0.stage (cfg0.slots t 0)
abbrev std (t : Fin cfg0.N) : Memref sig .tc .vmem S512x1024 .f32 := win0_1.stage (cfg0.slots t 1)
abbrev stg (t : Fin cfg0.N) : Memref sig .tc .vmem S1x1024 .f32 := win0_2.stage (cfg0.slots t 2)
abbrev sta (t : Fin cfg0.N) : Memref sig .tc .vmem S1x1024x1024 .bf16 := win0_3.stage (cfg0.slots t 3)
abbrev stb (t : Fin cfg0.N) : Memref sig .tc .vmem S1024x1024 .bf16 := win0_4.stage (cfg0.slots t 4)
abbrev sto (t : Fin cfg0.N) : Memref sig .tc .vmem S512x1024 .f32 := win0_5.stage (cfg0.slots t 5)
abbrev stn (t : Fin cfg0.N) : Memref sig .tc .vmem S512x1024 .bf16 := win0_6.stage (cfg0.slots t 6)
abbrev str (t : Fin cfg0.N) : Memref sig .tc .vmem S512x1024 .bf16 := win0_7.stage (cfg0.slots t 7)
abbrev ste (t : Fin cfg0.N) : Memref sig .tc .vmem S512x1024 .bf16 := win0_8.stage (cfg0.slots t 8)
abbrev stq (t : Fin cfg0.N) : Memref sig .tc .vmem S8x1024 .f32 := win0_9.stage (cfg0.slots t 9)
/-- The scratches: the normed rows, the rounded gradient, the sum. -/
abbrev scn : Memref sig .tc .vmem S512x1024 .bf16 := Memref.whole cc0_scratch0
abbrev scd : Memref sig .tc .vmem S512x1024 .bf16 := Memref.whole cc0_scratch1
abbrev sca : Memref sig .tc .vmem S512x1024 .f32 := Memref.whole cc0_scratch2

/-- The normed rows of the block of point `t`. -/
def normed (c : Dev nD) (t : Fin cfg0.N) : Vec F S512x1024 .bf16 := k0_pay5 (blockAt m c 0 t) (blockAt m c 2 t)
/-- The rounded gradient of the block of point `t`. -/
def grad (c : Dev nD) (t : Fin cfg0.N) : Vec F S512x1024 .bf16 := k0_pay6 (blockAt m c 1 t)
/-- The gradient of the hidden columns of point `t`. -/
def hidden (c : Dev nD) (t : Fin cfg0.N) : Vec F S512x1024 .bf16 := k0_pay11 (normed m c t) (blockAt m c 3 t) (grad m c t) (blockAt m c 4 t)

/-- The sum after point `n`. -/
def sumAt (c : Dev nD) : (n : ℕ) → n < cfg0.N → Vec F S512x1024 .f32
  | 0, h => k0_pay1 (hidden m c ⟨0, h⟩) k0_pay7 (blockAt m c 3 ⟨0, h⟩)
  | n + 1, h => k0_pay1 (hidden m c ⟨n + 1, h⟩) (if (n + 1) % 4 = 0 then k0_pay7 else sumAt c n (Nat.lt_of_succ_lt h)) (blockAt m c 3 ⟨n + 1, h⟩)

/-- The gain's gradient after point `n`. -/
def gainAt (c : Dev nD) : (n : ℕ) → n < cfg0.N → Vec F S8x1024 .f32
  | 0, _ => k0_pay8
  | n + 1, h => if (n + 1) % 4 = 3 then k0_pay3 (blockAt m c 0 ⟨n + 1, h⟩) (sumAt m c (n + 1) h) (gainAt c n (Nat.lt_of_succ_lt h))
      else gainAt c n (Nat.lt_of_succ_lt h)

/-- The point before. -/
abbrev prev (t : Fin cfg0.N) : Fin cfg0.N := ⟨t.val - 1, Nat.lt_of_le_of_lt (Nat.sub_le _ _) t.isLt⟩

theorem sum_start (c : Dev nD) (t : Fin cfg0.N) (h : t.val % 4 = 0) :
    sumAt m c t.val t.isLt = k0_pay1 (hidden m c t) k0_pay7 (blockAt m c 3 t) := by
  obtain ⟨n, hn⟩ := t
  cases n with
  | zero => rfl
  | succ n => show k0_pay1 _ (if (n + 1) % 4 = 0 then _ else _) _ = _; rw [if_pos h]

theorem sum_next (c : Dev nD) (t : Fin cfg0.N) (h : ¬t.val % 4 = 0) :
    sumAt m c t.val t.isLt = k0_pay1 (hidden m c t) (sumAt m c (prev t).val (prev t).isLt) (blockAt m c 3 t) := by
  obtain ⟨n, hn⟩ := t
  cases n with
  | zero => exact absurd rfl h
  | succ n => show k0_pay1 _ (if (n + 1) % 4 = 0 then _ else _) _ = _; rw [if_neg h]; rfl

theorem gain_first (c : Dev nD) (t : Fin cfg0.N) (h : t.val = 0) : gainAt m c t.val t.isLt = k0_pay8 := by
  obtain ⟨n, hn⟩ := t
  cases n with
  | zero => rfl
  | succ n => exact absurd h (Nat.succ_ne_zero n)

theorem gain_keep (c : Dev nD) (t : Fin cfg0.N) (h0 : ¬t.val = 0) (h : ¬t.val % 4 = 3) :
    gainAt m c (prev t).val (prev t).isLt = gainAt m c t.val t.isLt := by
  obtain ⟨n, hn⟩ := t
  cases n with
  | zero => exact absurd rfl h0
  | succ n => show _ = if (n + 1) % 4 = 3 then _ else _; rw [if_neg h]; rfl

theorem gain_last (c : Dev nD) (t : Fin cfg0.N) (h : t.val % 4 = 3) : gainAt m c t.val t.isLt
    = k0_pay3 (blockAt m c 0 t) (sumAt m c t.val t.isLt) (gainAt m c (prev t).val (prev t).isLt) := by
  obtain ⟨n, hn⟩ := t
  cases n with
  | zero => exact absurd (show 0 = 3 from h) (by decide)
  | succ n => show (if (n + 1) % 4 = 3 then _ else _) = _; rw [if_pos h]; rfl

theorem rows_same : ∀ t : Fin cfg0.N, ¬t.val % 4 = 0 →
    (win0_0.index (prev t) 0 = win0_0.index t 0 ∧ win0_0.index (prev t) 1 = win0_0.index t 1)
      ∧ win0_1.index (prev t) 0 = win0_1.index t 0 ∧ win0_1.index (prev t) 1 = win0_1.index t 1 := by decide +kernel

/-- Within a block of rows the rows' windows do not move, -/
theorem block0_same (c : Dev nD) (t : Fin cfg0.N) (h : ¬t.val % 4 = 0) : blockAt m c 0 (prev t) = blockAt m c 0 t := by
  refine funext fun j => congrArg (m ((c : Thread nD τ).loc main_arg0)) (funext fun a => Fin.ext ?_)
  obtain ⟨⟨e0, e1⟩, -⟩ := rows_same t h
  revert a
  refine Fin.forall_fin_two.2 ⟨?_, ?_⟩
  · show win0_0.index (prev t) 0 * 512 + 1 * (j 0 : ℕ) = win0_0.index t 0 * 512 + 1 * (j 0 : ℕ); rw [e0]
  · show win0_0.index (prev t) 1 * 1024 + 1 * (j 1 : ℕ) = win0_0.index t 1 * 1024 + 1 * (j 1 : ℕ); rw [e1]

theorem block1_same (c : Dev nD) (t : Fin cfg0.N) (h : ¬t.val % 4 = 0) : blockAt m c 1 (prev t) = blockAt m c 1 t := by
  refine funext fun j => congrArg (m ((c : Thread nD τ).loc main_arg1)) (funext fun a => Fin.ext ?_)
  obtain ⟨-, e0, e1⟩ := rows_same t h
  revert a
  refine Fin.forall_fin_two.2 ⟨?_, ?_⟩
  · show win0_1.index (prev t) 0 * 512 + 1 * (j 0 : ℕ) = win0_1.index t 0 * 512 + 1 * (j 0 : ℕ); rw [e0]
  · show win0_1.index (prev t) 1 * 1024 + 1 * (j 1 : ℕ) = win0_1.index t 1 * 1024 + 1 * (j 1 : ℕ); rw [e1]

/-- and the gain's never does. -/
theorem block2_same (c : Dev nD) (t : Fin cfg0.N) : blockAt m c 2 (prev t) = blockAt m c 2 t := rfl

theorem normed_same (c : Dev nD) (t : Fin cfg0.N) (h : ¬t.val % 4 = 0) : normed m c (prev t) = normed m c t := by
  unfold normed; rw [block0_same m c t h, block2_same m c t]
theorem grad_same (c : Dev nD) (t : Fin cfg0.N) (h : ¬t.val % 4 = 0) : grad m c (prev t) = grad m c t := by
  unfold grad; rw [block1_same m c t h]

/-! ## The invariant and the proof data -/

theorem rest_eq (c : Dev nD) : (Pipeline.ΦA spec0 c : sProp 𝕄)
    = iprop(((∃ d, owns (c : Thread nD τ) scn fullShare d) ∗ (∃ d, owns (c : Thread nD τ) scd fullShare d)
      ∗ (∃ d, owns (c : Thread nD τ) sca fullShare d)) ∗ (∃ r, prngReg c r)) := by
  unfold Pipeline.ΦA; rw [scopedRest0_eq]; simp only [scn, scd, sca, owns_whole]; try rfl

/-- What the scratches hold after point `t`. -/
def holds (c : Dev nD) (t : Fin cfg0.N) : sProp 𝕄 :=
  iprop((owns (c : Thread nD τ) scn fullShare (normed m c t) ∗ owns (c : Thread nD τ) scd fullShare (grad m c t)
    ∗ owns (c : Thread nD τ) sca fullShare (sumAt m c t.val t.isLt)) ∗ (∃ r, prngReg c r))

/-- Before the first point the scratches hold anything. -/
def inv (c : Dev nD) : (n : ℕ) → n ≤ cfg0.N → sProp 𝕄
  | 0, _ => Pipeline.ΦA spec0 c
  | n + 1, hn => holds m c ⟨n, hn⟩

theorem inv_pos (c : Dev nD) (n : ℕ) (h : n ≤ cfg0.N) (hz : n ≠ 0) : inv m c n h = holds m c ⟨n - 1, by omega⟩ := by
  cases n with
  | zero => exact absurd rfl hz
  | succ n => rfl

theorem inv_some (c : Dev nD) (n : ℕ) (h : n ≤ cfg0.N) : inv m c n h ⊢ (Pipeline.ΦA spec0 c : sProp 𝕄) := by
  cases n with
  | zero => exact Idealize.SL.BI.Entails.refl _
  | succ n =>
    rw [inv_pos m c _ h (Nat.succ_ne_zero n), rest_eq]
    unfold holds
    iintro ⟨⟨Hn, Hd, Ha⟩, Hr⟩
    isplitl [Hn Hd Ha]
    · isplitl [Hn]; · iexists _; iexact Hn
      isplitl [Hd]; · iexists _; iexact Hd
      iexists _; iexact Ha
    iexact Hr

def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => k0_pay4 (blockAt m c 0 t) (sumAt m c t.val t.isLt) (blockAt m c 1 t) (blockAt m c 2 t)
    | ⟨6, _⟩ => normed m c t
    | ⟨7, _⟩ => k0_pay10 (normed m c t) (blockAt m c 3 t)
    | ⟨8, _⟩ => hidden m c t
    | ⟨9, _⟩ => gainAt m c t.val t.isLt
  Φ t := inv m c t.val (Nat.le_of_lt_succ t.isLt)
  q _ := fullShare
  owed _ := 0

theorem A_eq (c : Dev nD) (w : Fin cfg0.W) : (dats m 0 c).A w = atEntry m c (Pipeline.arrRef spec0 w) := by dsimp only [dats]
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = k0_pay4 (blockAt m c 0 t) (sumAt m c t.val t.isLt) (blockAt m c 1 t) (blockAt m c 2 t) := by dsimp only [dats]
theorem after6 (c : Dev nD) (t : Fin cfg0.N) : (dats m 0 c).after 6 t = normed m c t := by dsimp only [dats]
theorem after7 (c : Dev nD) (t : Fin cfg0.N) : (dats m 0 c).after 7 t = k0_pay10 (normed m c t) (blockAt m c 3 t) := by dsimp only [dats]
theorem after8 (c : Dev nD) (t : Fin cfg0.N) : (dats m 0 c).after 8 t = hidden m c t := by dsimp only [dats]
theorem after9 (c : Dev nD) (t : Fin cfg0.N) : (dats m 0 c).after 9 t = gainAt m c t.val t.isLt := by dsimp only [dats]
theorem inv_before (c : Dev nD) (t : Fin cfg0.N) : (dats m 0 c).Φ t.castSucc = inv m c t.val (Nat.le_of_lt t.isLt) := by
  dsimp only [dats]; exact Dat.Φ_castSucc (inv m c) t

theorem before0 (c : Dev nD) (t : Fin cfg0.N) (d) : (dats m 0 c).before 0 t d = blockAt m c 0 t :=
  ((dats m 0 c).before_in_eq_fetched 0 rfl (fun _ => rfl) (fun _ _ _ => rfl)
    (fun t => by rw [after0]; unfold Dat.blockOf blockAt; rw [A_eq]; try rfl) t d).trans
    (by unfold Dat.fetched Dat.blockOf blockAt; rw [A_eq]; try rfl)
theorem before1 (c : Dev nD) (t : Fin cfg0.N) (d) : (dats m 0 c).before 1 t d = blockAt m c 1 t :=
  ((dats m 0 c).before_in_eq_fetched 1 rfl (fun _ => rfl) (fun _ _ _ => rfl)
    (fun t => by rw [after1]; unfold Dat.blockOf blockAt; rw [A_eq]; try rfl) t d).trans
    (by unfold Dat.fetched Dat.blockOf blockAt; rw [A_eq]; try rfl)
theorem before2 (c : Dev nD) (t : Fin cfg0.N) (d) : (dats m 0 c).before 2 t d = blockAt m c 2 t :=
  ((dats m 0 c).before_in_eq_fetched 2 rfl (fun _ => rfl) (fun _ _ _ => rfl)
    (fun t => by rw [after2]; unfold Dat.blockOf blockAt; rw [A_eq]; try rfl) t d).trans
    (by unfold Dat.fetched Dat.blockOf blockAt; rw [A_eq]; try rfl)
theorem before3 (c : Dev nD) (t : Fin cfg0.N) (d) : (dats m 0 c).before 3 t d = blockAt m c 3 t :=
  ((dats m 0 c).before_in_eq_fetched 3 rfl (fun _ => rfl) (fun _ _ _ => rfl)
    (fun t => by rw [after3]; unfold Dat.blockOf blockAt; rw [A_eq]; try rfl) t d).trans
    (by unfold Dat.fetched Dat.blockOf blockAt; rw [A_eq]; try rfl)
theorem before4 (c : Dev nD) (t : Fin cfg0.N) (d) : (dats m 0 c).before 4 t d = blockAt m c 4 t :=
  ((dats m 0 c).before_in_eq_fetched 4 rfl (fun _ => rfl) (fun _ _ _ => rfl)
    (fun t => by rw [after4]; unfold Dat.blockOf blockAt; rw [A_eq]; try rfl) t d).trans
    (by unfold Dat.fetched Dat.blockOf blockAt; rw [A_eq]; try rfl)

/-- The buffer of the saved rows is untouched only until the first point of a block stores into it, -/
theorem fresh6 : ∀ n, n ≤ cfg0.N → cfg0.fresh 6 n = decide (n % 4 = 0) :=
  Pipeline.Cfg.fresh_tab cfg0 6 (fun n => decide (n % 4 = 0)) rfl (by decide +kernel)
/-- and that of the gain's gradient until the first point of all does. -/
theorem fresh9 : ∀ n, n < cfg0.N → cfg0.fresh 9 n = decide (n = 0) := fun n hn =>
  (Pipeline.Cfg.fresh_tab cfg0 9 (fun n => decide (n % 32 = 0)) rfl (by decide +kernel) n (Nat.le_of_lt hn)).trans
    (decide_eq_decide.2 (by rw [show cfg0.N = 32 from N_0] at hn; omega))

/-- At a later point the first holds the block's normed rows, -/
theorem before6 (c : Dev nD) (t : Fin cfg0.N) (h : ¬t.val % 4 = 0) (d) : (dats m 0 c).before 6 t d = normed m c t := by
  rw [Dat.before_out_traj (dats m 0 c) 6 rfl (fun _ _ => rfl) (fun t h0 hi hf => by
      have hN := t.isLt
      rw [after6, after6, normed_same m c t]
      rw [fresh6 t.val (Nat.le_of_lt hN)] at hf
      exact of_decide_eq_false hf) t.val t rfl d,
    fresh6 t.val (Nat.le_of_lt t.isLt), if_neg (by simpa using h), after6, normed_same m c t h]

theorem live6 : ∀ t : Fin cfg0.N, t.val % 4 = 0 → cfg0.idle 6 (grid0.coords t) = false := by decide +kernel
theorem idle6 : ∀ t : Fin cfg0.N, ¬t.val % 4 = 0 → cfg0.idle 6 (grid0.coords t) = true := by decide +kernel
theorem live5 : ∀ t : Fin cfg0.N, t.val % 4 = 3 → cfg0.idle 5 (grid0.coords t) = false := by decide +kernel
theorem idle5 : ∀ t : Fin cfg0.N, ¬t.val % 4 = 3 → cfg0.idle 5 (grid0.coords t) = true := by decide +kernel
theorem live9 : ∀ t : Fin cfg0.N, t.val = 0 ∨ t.val % 4 = 3 → cfg0.idle 9 (grid0.coords t) = false := by decide +kernel
theorem idle9 : ∀ t : Fin cfg0.N, ¬t.val = 0 → ¬t.val % 4 = 3 → cfg0.idle 9 (grid0.coords t) = true := by decide +kernel

/-- and the other the gain's gradient so far. -/
theorem before9 (c : Dev nD) (t : Fin cfg0.N) (h : ¬t.val = 0) (d) :
    (dats m 0 c).before 9 t d = gainAt m c (prev t).val (prev t).isLt := by
  rw [Dat.before_out_traj (dats m 0 c) 9 rfl (fun _ _ => rfl) (fun t h0 hi hf => by
      have hN := t.isLt
      rw [after9, after9]
      rw [fresh9 t.val hN] at hf
      refine (gain_keep m c t (of_decide_eq_false hf) fun h3 => ?_).symm
      exact absurd ((live9 t (.inr h3)).symm.trans hi) (by decide)) t.val t rfl d,
    fresh9 t.val t.isLt, if_neg (by simpa using h), after9]

/-! ## A point of the grid -/

def pre (c : Dev nD) (t : Fin cfg0.N) : sProp 𝕄 :=
  iprop((dats m 0 c).Φ t.castSucc ∗ (dats m 0 c).owesAt () t.castSucc
    ∗ (∃ d, owns (c : Thread nD τ) (stx t) fullShare ((dats m 0 c).before 0 t d))
    ∗ (∃ d, owns (c : Thread nD τ) (std t) fullShare ((dats m 0 c).before 1 t d))
    ∗ (∃ d, owns (c : Thread nD τ) (stg t) fullShare ((dats m 0 c).before 2 t d))
    ∗ (∃ d, owns (c : Thread nD τ) (sta t) fullShare ((dats m 0 c).before 3 t d))
    ∗ (∃ d, owns (c : Thread nD τ) (stb t) fullShare ((dats m 0 c).before 4 t d))
    ∗ (∃ d, owns (c : Thread nD τ) (sto t) fullShare ((dats m 0 c).before 5 t d))
    ∗ (∃ d, owns (c : Thread nD τ) (stn t) fullShare ((dats m 0 c).before 6 t d))
    ∗ (∃ d, owns (c : Thread nD τ) (str t) fullShare ((dats m 0 c).before 7 t d))
    ∗ (∃ d, owns (c : Thread nD τ) (ste t) fullShare ((dats m 0 c).before 8 t d))
    ∗ (∃ d, owns (c : Thread nD τ) (stq t) fullShare ((dats m 0 c).before 9 t d)))

def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t
    = owns (c : Thread nD τ) (stx t) fullShare (blockAt m c 0 t) := by
  unfold Dat.leavesExact; rw [show cfg0.idle 0 (cfg0.grid.coords t) = false from rfl, after0]
theorem leaves1 (c : Dev nD) (t : Fin cfg0.N) : (dats m 0 c).leavesExact 1 t
    = owns (c : Thread nD τ) (std t) fullShare (blockAt m c 1 t) := by
  unfold Dat.leavesExact; rw [show cfg0.idle 1 (cfg0.grid.coords t) = false from rfl, after1]
theorem leaves2 (c : Dev nD) (t : Fin cfg0.N) : (dats m 0 c).leavesExact 2 t
    = owns (c : Thread nD τ) (stg t) fullShare (blockAt m c 2 t) := by
  unfold Dat.leavesExact; rw [show cfg0.idle 2 (cfg0.grid.coords t) = false from rfl, after2]
theorem leaves3 (c : Dev nD) (t : Fin cfg0.N) : (dats m 0 c).leavesExact 3 t
    = owns (c : Thread nD τ) (sta t) fullShare (blockAt m c 3 t) := by
  unfold Dat.leavesExact; rw [show cfg0.idle 3 (cfg0.grid.coords t) = false from rfl, after3]
theorem leaves4 (c : Dev nD) (t : Fin cfg0.N) : (dats m 0 c).leavesExact 4 t
    = owns (c : Thread nD τ) (stb t) fullShare (blockAt m c 4 t) := by
  unfold Dat.leavesExact; rw [show cfg0.idle 4 (cfg0.grid.coords t) = false from rfl, after4]
theorem leaves7 (c : Dev nD) (t : Fin cfg0.N) : (dats m 0 c).leavesExact 7 t
    = owns (c : Thread nD τ) (str t) fullShare (k0_pay10 (normed m c t) (blockAt m c 3 t)) := by
  unfold Dat.leavesExact; rw [show cfg0.idle 7 (cfg0.grid.coords t) = false from rfl, after7]
theorem leaves8 (c : Dev nD) (t : Fin cfg0.N) : (dats m 0 c).leavesExact 8 t
    = owns (c : Thread nD τ) (ste t) fullShare (hidden m c t) := by
  unfold Dat.leavesExact; rw [show cfg0.idle 8 (cfg0.grid.coords t) = false from rfl, after8]

/-- The window of the rows' gradient is written at the last point of a block; -/
theorem leaves5 (c : Dev nD) (t : Fin cfg0.N) (h : t.val % 4 = 3) :
    owns (c : Thread nD τ) (sto t) fullShare (k0_pay4 (blockAt m c 0 t) (sumAt m c t.val t.isLt) (blockAt m c 1 t) (blockAt m c 2 t))
      ⊢ ((dats m 0 c).leavesExact 5 t : sProp 𝕄) := by
  unfold Dat.leavesExact; rw [show cfg0.idle 5 (cfg0.grid.coords t) = false from live5 t h, after5]

/-- at the others it is as it was. -/
theorem keeps5 (c : Dev nD) (t : Fin cfg0.N) (h : ¬t.val % 4 = 3) (d) :
    owns (c : Thread nD τ) (sto t) fullShare ((dats m 0 c).before 5 t d) ⊢ ((dats m 0 c).leavesExact 5 t : sProp 𝕄) := by
  unfold Dat.leavesExact
  have hf : (cfg0.win 5).flush t = false := by
    cases e : (cfg0.win 5).flush t
    · rfl
    · exact absurd ((flush0_5 t).mp e) h
  rw [show cfg0.idle 5 (cfg0.grid.coords t) = true from idle5 t h, hf]
  dsimp only
  iintro H; iexists d; iexact H

/-- Whatever the schedule asks of the saved rows' buffer, to hold the block's normed rows is enough. -/
theorem leaves6 (c : Dev nD) (t : Fin cfg0.N) :
    owns (c : Thread nD τ) (stn t) fullShare (normed m c t) ⊢ ((dats m 0 c).leavesExact 6 t : sProp 𝕄) := by
  unfold Dat.leavesExact
  by_cases h : t.val % 4 = 0
  · rw [show cfg0.idle 6 (cfg0.grid.coords t) = false from live6 t h, after6]
  · rw [show cfg0.idle 6 (cfg0.grid.coords t) = true from idle6 t h]
    cases (cfg0.win 6).flush t
    · dsimp only
      simp only [before6 m c t h]
      iintro H; iexists fun _ => default; iexact H
    · dsimp only; rw [after6]

/-- So it is with the gain's gradient. -/
theorem leaves9 (c : Dev nD) (t : Fin cfg0.N) :
    owns (c : Thread nD τ) (stq t) fullShare (gainAt m c t.val t.isLt) ⊢ ((dats m 0 c).leavesExact 9 t : sProp 𝕄) := by
  unfold Dat.leavesExact
  by_cases h : t.val = 0 ∨ t.val % 4 = 3
  · rw [show cfg0.idle 9 (cfg0.grid.coords t) = false from live9 t h, after9]
  · obtain ⟨h0, h3⟩ := not_or.1 h
    rw [show cfg0.idle 9 (cfg0.grid.coords t) = true from idle9 t h0 h3]
    cases (cfg0.win 9).flush t
    · dsimp only
      simp only [before9 m c t h0, gain_keep m c t h0 h3]
      iintro H; iexists fun _ => default; iexact H
    · dsimp only; rw [after9]

/-- What a point that ends in `post` has to leave. -/
def left (c : Dev nD) (t : Fin cfg0.N) (keep : sProp 𝕄) : sProp 𝕄 :=
  iprop((∃ r, prngReg c r) ∗ (dats m 0 c).owesAt () t.castSucc
    ∗ owns (c : Thread nD τ) (stx t) fullShare (blockAt m c 0 t)
    ∗ owns (c : Thread nD τ) (std t) fullShare (blockAt m c 1 t)
    ∗ owns (c : Thread nD τ) (stg t) fullShare (blockAt m c 2 t)
    ∗ owns (c : Thread nD τ) (sta t) fullShare (blockAt m c 3 t)
    ∗ owns (c : Thread nD τ) (stb t) fullShare (blockAt m c 4 t)
    ∗ keep
    ∗ owns (c : Thread nD τ) (stn t) fullShare (normed m c t)
    ∗ owns (c : Thread nD τ) (str t) fullShare (k0_pay10 (normed m c t) (blockAt m c 3 t))
    ∗ owns (c : Thread nD τ) (ste t) fullShare (hidden m c t)
    ∗ owns (c : Thread nD τ) (stq t) fullShare (gainAt m c t.val t.isLt)
    ∗ owns (c : Thread nD τ) scn fullShare (normed m c t) ∗ owns (c : Thread nD τ) scd fullShare (grad m c t)
    ∗ owns (c : Thread nD τ) sca fullShare (sumAt m c t.val t.isLt))

theorem left_post (c : Dev nD) (t : Fin cfg0.N) (keep : sProp 𝕄) (hk : keep ⊢ ((dats m 0 c).leavesExact 5 t : sProp 𝕄)) :
    left m c t keep ⊢ post m c t := by
  unfold left post
  rw [show (dats m 0 c).owesAt () t.succ = (dats m 0 c).owesAt () t.castSucc from rfl,
    show (dats m 0 c).Φ t.succ = holds m c t from rfl, leaves0, leaves1, leaves2, leaves3, leaves4, leaves7, leaves8]
  unfold holds
  iintro ⟨Hr, Ho, H0, H1, H2, H3, H4, H5, H6, H7, H8, H9, Hn, Hd, Ha⟩
  isplitl [Hr Hn Hd Ha]
  · isplitl [Hn Hd Ha]
    · isplitl [Hn]; · iexact Hn
      isplitl [Hd]; · iexact Hd
      iexact Ha
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iapply hk; iexact H5
  isplitl [H6]; · iapply leaves6 m c t; iexact H6
  isplitl [H7]; · iexact H7
  isplitl [H8]; · iexact H8
  iapply leaves9 m c t
  iexact H9

set_option maxHeartbeats 3200000 in
theorem point (c : Dev nD) (t : Fin cfg0.N) :
    pre m c t ⊢ wp frame (wpE (defs₀ (F := F)) Variants.none c none) Set.univ (bodyAt0 t) (fun _ => post m c t) := by
  unfold pre bodyAt0
  simp only [before0, before1, before2, before3, before4]
  rw [inv_before]
  by_cases h : t.val % 4 = 0
  · have h3 : ¬t.val % 4 = 3 := by omega
    refine (BIClass.sep_mono (inv_some m c _ _) (Idealize.SL.BI.Entails.refl _)).trans ?_
    rw [rest_eq]
    by_cases h0 : t.val = 0
    · iintro ⟨⟨⟨Hn, Hd, Ha⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩,
        ⟨%d8, H8⟩, ⟨%d9, H9⟩⟩
      iapply (body_first c (grid0.coords t) _ _ _ _ _ _ _ _ _ _ _ _ _ _ _ _ _ _ _ _ _ _ _ _ _ _ (blockAt m c 0 t) (blockAt m c 1 t) _ (blockAt m c 2 t) (blockAt m c 3 t) (blockAt m c 4 t)
        ((start_iff t).mpr h) ((first_iff t).mpr h0) (fun e => h3 ((last_iff t).mp e)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [Hn]; · iexact Hn
      isplitl [Hd]; · iexact Hd
      isplitl [Ha]; · iexact Ha
      iintro ⟨H0, H1, H2, H3, H4, H5, H6, H7, H8, H9, Hn, Hd, Ha⟩
      iapply (left_post m c t _ (keeps5 m c t h3 d5))
      unfold left hidden
      rw [sum_start m c t h, gain_first m c t h0]
      unfold hidden normed grad
      isplitl [Hr]; · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hn]; · iexact Hn
      isplitl [Hd]; · iexact Hd
      iexact Ha
    · simp only [before9 m c t h0]
      iintro ⟨⟨⟨Hn, Hd, Ha⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩,
        ⟨%d8, H8⟩, ⟨%d9, H9⟩⟩
      iapply (body_start c (grid0.coords t) _ _ _ _ _ _ _ _ _ _ _ _ _ _ _ _ _ _ _ _ _ _ _ _ _ _ (blockAt m c 0 t) (blockAt m c 1 t) _ (blockAt m c 2 t) (blockAt m c 3 t) (blockAt m c 4 t) _
        ((start_iff t).mpr h) (fun e => h0 ((first_iff t).mp e)) (fun e => h3 ((last_iff t).mp e)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [Hn]; · iexact Hn
      isplitl [Hd]; · iexact Hd
      isplitl [Ha]; · iexact Ha
      iintro ⟨H0, H1, H2, H3, H4, H5, H6, H7, H8, H9, Hn, Hd, Ha⟩
      iapply (left_post m c t _ (keeps5 m c t h3 d5))
      unfold left hidden
      rw [sum_start m c t h, ← gain_keep m c t h0 h3]
      unfold hidden normed grad
      isplitl [Hr]; · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hn]; · iexact Hn
      isplitl [Hd]; · iexact Hd
      iexact Ha
  · have h0 : ¬t.val = 0 := by omega
    rw [inv_pos m c _ _ h0]
    unfold holds
    simp only [before6 m c t h, before9 m c t h0]
    rw [show normed m c ⟨t.val - 1, _⟩ = normed m c t from normed_same m c t h, show grad m c ⟨t.val - 1, _⟩ = grad m c t from grad_same m c t h]
    by_cases h3 : t.val % 4 = 3
    · iintro ⟨⟨⟨Hn, Hd, Ha⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩,
        ⟨%d8, H8⟩, ⟨%d9, H9⟩⟩
      iapply (body_last c (grid0.coords t) _ _ _ _ _ _ _ _ _ _ _ _ _ _ _ _ _ _ _ _ _ _ _ _ _ _ (blockAt m c 0 t) (blockAt m c 1 t) (sumAt m c (prev t).val (prev t).isLt) (blockAt m c 2 t) (blockAt m c 3 t) (blockAt m c 4 t)
        (normed m c t) (normed m c t) (grad m c t) (gainAt m c (prev t).val (prev t).isLt)
        (fun e => h ((start_iff t).mp e)) (fun e => h0 ((first_iff t).mp e)) ((last_iff t).mpr h3) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexists _; iexact H8
      isplitl [H9]; · iexact H9
      isplitl [Hn]; · iexact Hn
      isplitl [Hd]; · iexact Hd
      isplitl [Ha]; · iexact Ha
      iintro ⟨H0, H1, H2, H3, H4, H5, H6, H7, H8, H9, Hn, Hd, Ha⟩
      iapply (left_post m c t _ (leaves5 m c t h3))
      unfold left hidden
      rw [gain_last m c t h3, sum_next m c t h]
      unfold hidden
      isplitl [Hr]; · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hn]; · iexact Hn
      isplitl [Hd]; · iexact Hd
      iexact Ha
    · iintro ⟨⟨⟨Hn, Hd, Ha⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩,
        ⟨%d8, H8⟩, ⟨%d9, H9⟩⟩
      iapply (body_middle c (grid0.coords t) _ _ _ _ _ _ _ _ _ _ _ _ _ _ _ _ _ _ _ _ _ _ _ _ _ _ (blockAt m c 0 t) (blockAt m c 1 t) _ (sumAt m c (prev t).val (prev t).isLt) (blockAt m c 2 t) (blockAt m c 3 t) (blockAt m c 4 t)
        (normed m c t) (normed m c t) (grad m c t) (gainAt m c (prev t).val (prev t).isLt)
        (fun e => h ((start_iff t).mp e)) (fun e => h0 ((first_iff t).mp e)) (fun e => h3 ((last_iff t).mp e)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      isplitl [Hn]; · iexact Hn
      isplitl [Hd]; · iexact Hd
      isplitl [Ha]; · iexact Ha
      iintro ⟨H0, H1, H2, H3, H4, H5, H6, H7, H8, H9, Hn, Hd, Ha⟩
      iapply (left_post m c t _ (keeps5 m c t h3 d5))
      unfold left hidden
      rw [← gain_keep m c t h0 h3, sum_next m c t h]
      unfold hidden
      isplitl [Hr]; · iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hn]; · iexact Hn
      isplitl [Hd]; · iexact Hd
      iexact Ha

theorem row_of_table (t : Fin cfg0.N) : defs₀ (F := F) .tc cfg0.body (cfg0.bodyArgs t (cfg0.slots t)) = bodyAt0 t := by
  unfold defs₀; rw [Defs.onTc_tc]

theorem every_point (c : Dev nD) : BodyObligation (dats (F := F) m 0 c) (defs₀ (F := F)) Variants.none () Set.univ := fun t => by
  rw [bigSep_W0, bigSep_W0, row_of_table]
  exact triple_restated (point m c t) rfl .rfl fun _ => .rfl

/-! ## The call -/

theorem enters (𝒱₀ : Variants) : Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [show (dats m 0 c).Φ (Fin.last cfg0.N) = inv m c cfg0.N (Nat.le_refl _) from rfl]
  exact inv_some m c _ _

set_option backward.isDefEq.respectTransparency.types false in
/-- The call's run: its arrays end as the write-backs of `dats` leave them, and every counter at zero. -/
theorem run_call : θ_run defs (onTc (τ := τ) (main (F := F))) (s₀ m ρ)
    (fun r => (Pipeline.FramePost cfgs (dats m) 0 (atEntry m)) r ∧ r.2.sem = fun _ => 0) :=
  Pipeline.θ_run_frame_track (Q' := _) cfgs (dats m) (0 : Fin 1) launch0 defs₀ Variants.none m ρ main
    (hbody := fun c => (every_point m c).loose) (hshare := fun c => (dats m 0 c).share_full fun _ => rfl)
    (howed := fun _ _ => rfl) (V := atEntry m) (hmain := enters m Variants.none) (hA := A_eq m) (hin := inv_in m) (hout := inv_out m)

/-- The arguments as they were. -/
abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- What the run leaves: the arguments as they were, the results as the write-backs left them. -/
theorem run : θ_run defs (onTc (τ := τ) (main (F := F))) ⟨m, fun _ => 0, ρ⟩ (fun r => (∀ c : Dev nD, Kept m r c
      ∧ r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_v0_4) = (dats m 0 c).arrAt 9 cfg0.N)
      ∧ r.2.sem = fun _ => 0) :=
  (θ_run defs _ _).mono (fun _ h => ⟨fun c =>
    ⟨⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩,
      (h.1 c).1 5, (h.1 c).1 6, (h.1 c).1 7, (h.1 c).1 8, (h.1 c).1 9⟩, h.2⟩) (run_call m ρ)

/-- The frame. -/
theorem frame : θ_run defs (onTc (τ := τ) (main (F := F))) ⟨m, fun _ => 0, ρ⟩ (fun r => (∀ c : Dev nD, Kept m r c)
      ∧ r.2.sem = fun _ => 0) :=
  (θ_run defs _ _).mono (fun _ h => ⟨fun c => (h.1 c).1, h.2⟩) (run m ρ)

end Cert.Kernel6Ideal.MlpBwd

end
-- ==== Proof.MlpBwd.lean ====
/-
  The backward pass of the MLP, its values: the normed rows, the hidden columns and their gradients, block by block; the input's gradient,
  whose sum over the hidden columns is taken in four steps; and the gain's gradient, added up over the eight blocks of rows.
-/
module

public import proofs.«01_k».proof.Proof.MlpBwdRun
public import proofs.«01_k».proof.Proof.Gen.Reference6Ideal.Run
public import proofs.«01_k».proof.Proof.InNorm
public import proofs.«01_k».proof.Defs
public import proofs.«01_k».proof.Proof.Gen.Kernel6
public import Idealize.ShloMosaic.Lib.Quiescent

@[expose] public section

set_option maxRecDepth 16384

noncomputable section

namespace Cert.Kernel6Ideal.MlpBwd

open Cert.Kernel6Ideal Cert.Kernel6Ideal.Gen Cert.InNorm
open Idealize.ShloMosaic Idealize.ShloMosaic.TcCoe Idealize.SL.Sem
open Idealize.ShloMosaic.Pipeline (Dat)

/-- Where the blocks are. -/
theorem places : ∀ t : Fin cfg0.N, (win0_0.index t 0 = t.val / 4 ∧ win0_0.index t 1 = 0)
    ∧ (win0_1.index t 0 = t.val / 4 ∧ win0_1.index t 1 = 0) ∧ (win0_2.index t 0 = 0 ∧ win0_2.index t 1 = 0)
    ∧ (win0_3.index t 0 = t.val % 4 ∧ win0_3.index t 1 = 0 ∧ win0_3.index t 2 = 0)
    ∧ win0_4.index t 0 = t.val % 4 ∧ win0_4.index t 1 = 0 := by
  decide +kernel

theorem outs : ∀ t : Fin cfg0.N, (win0_5.index t 0 = t.val / 4 ∧ win0_5.index t 1 = 0)
    ∧ (win0_6.index t 0 = t.val / 4 ∧ win0_6.index t 1 = 0) ∧ (win0_7.index t 0 = t.val / 4 ∧ win0_7.index t 1 = t.val % 4)
    ∧ (win0_8.index t 0 = t.val / 4 ∧ win0_8.index t 1 = t.val % 4) ∧ win0_9.index t 0 = 0 ∧ win0_9.index t 1 = 0 := by
  decide +kernel

theorem lt32 (t : Fin cfg0.N) : t.val < 32 := lt_of_lt_of_eq t.isLt (show cfg0.N = 32 from N_0)

section
variable {F : FTy → Type} [FloatOps F]
variable (m : (ℓ : Loc nD τ sig) → Buf (Elt F) ℓ) (c : Dev nD) (t : Fin cfg0.N)

theorem x_at (i : Fin 512) (k : Fin 1024) : blockAt m c 0 t (ix2 i k)
    = m ((c.tc : Thread nD τ).loc main_arg0) (ix2 ⟨512 * (t.val / 4) + i, by have := lt32 t; omega⟩ k) := by
  obtain ⟨⟨e0, e1⟩, -⟩ := places t
  refine congrArg (m ((c.tc : Thread nD τ).loc main_arg0)) (funext fun a => Fin.ext ?_)
  revert a
  refine Fin.forall_fin_two.2 ⟨?_, ?_⟩
  · show win0_0.index t 0 * 512 + 1 * (i : ℕ) = 512 * (t.val / 4) + i; rw [e0]; omega
  · show win0_0.index t 1 * 1024 + 1 * (k : ℕ) = k; rw [e1]; omega

theorem d_at (i : Fin 512) (k : Fin 1024) : blockAt m c 1 t (ix2 i k)
    = m ((c.tc : Thread nD τ).loc main_arg1) (ix2 ⟨512 * (t.val / 4) + i, by have := lt32 t; omega⟩ k) := by
  obtain ⟨-, ⟨e0, e1⟩, -⟩ := places t
  refine congrArg (m ((c.tc : Thread nD τ).loc main_arg1)) (funext fun a => Fin.ext ?_)
  revert a
  refine Fin.forall_fin_two.2 ⟨?_, ?_⟩
  · show win0_1.index t 0 * 512 + 1 * (i : ℕ) = 512 * (t.val / 4) + i; rw [e0]; omega
  · show win0_1.index t 1 * 1024 + 1 * (k : ℕ) = k; rw [e1]; omega

theorem g_at (k : Fin 1024) : blockAt m c 2 t (ix2 0 k) = m ((c.tc : Thread nD τ).loc main_arg2) (ix2 0 k) := by
  obtain ⟨-, -, ⟨e0, e1⟩, -⟩ := places t
  refine congrArg (m ((c.tc : Thread nD τ).loc main_arg2)) (funext fun a => Fin.ext ?_)
  revert a
  refine Fin.forall_fin_two.2 ⟨?_, ?_⟩
  · show win0_2.index t 0 * 1 + 1 * 0 = 0; rw [e0]
  · show win0_2.index t 1 * 1024 + 1 * (k : ℕ) = k; rw [e1]; omega

theorem w_at (k f : Fin 1024) : blockAt m c 3 t (ix3 0 k f)
    = m ((c.tc : Thread nD τ).loc main_arg3) (ix3 ⟨t.val % 4, by omega⟩ k f) := by
  obtain ⟨-, -, -, ⟨e0, e1, e2⟩, -⟩ := places t
  refine congrArg (m ((c.tc : Thread nD τ).loc main_arg3)) (funext fun a => Fin.ext ?_)
  fin_cases a
  · show win0_3.index t 0 * 1 + 1 * 0 = t.val % 4; rw [e0]; omega
  · show win0_3.index t 1 * 1024 + 1 * (k : ℕ) = k; rw [e1]; omega
  · show win0_3.index t 2 * 1024 + 1 * (f : ℕ) = f; rw [e2]; omega

theorem u_at (f n : Fin 1024) : blockAt m c 4 t (ix2 f n)
    = m ((c.tc : Thread nD τ).loc main_arg4) (ix2 ⟨1024 * (t.val % 4) + f, by omega⟩ n) := by
  obtain ⟨-, -, -, -, e0, e1⟩ := places t
  refine congrArg (m ((c.tc : Thread nD τ).loc main_arg4)) (funext fun a => Fin.ext ?_)
  revert a
  refine Fin.forall_fin_two.2 ⟨?_, ?_⟩
  · show win0_4.index t 0 * 1024 + 1 * (f : ℕ) = 1024 * (t.val % 4) + f; rw [e0]; omega
  · show win0_4.index t 1 * 1024 + 1 * (n : ℕ) = n; rw [e1]; omega
end

/-! ## One step, at one place -/

section
variable (x a d : FVec Ideal S512x1024 .f32) (g : FVec Ideal S1x1024 .f32) (v e : FVec Ideal S512x1024 .bf16)
  (w : FVec Ideal S1x1024x1024 .bf16) (u : FVec Ideal S1024x1024 .bf16) (q : FVec Ideal S8x1024 .f32) (i : Fin 512) (j : Fin 1024)

theorem norm_at : (k0_pay5 x g : FVec Ideal S512x1024 .bf16) (ix2 i j)
    = x (ix2 i j) * (factor fun k => x (ix2 i k)) * g (ix2 0 j) := by
  pointwise [k0_pay5, factor, meanSq]

theorem round_at : (k0_pay6 d : FVec Ideal S512x1024 .bf16) (ix2 i j) = d (ix2 i j) := by
  pointwise [k0_pay6]

theorem start_at : (k0_pay7 : FVec Ideal S512x1024 .f32) (ix2 i j) = 0 := by
  pointwise [k0_pay7]

theorem zero_at (r : Fin 8) : (k0_pay8 : FVec Ideal S8x1024 .f32) (ix2 r j) = 0 := by
  pointwise [k0_pay8]

theorem square_at : (k0_pay10 v w : FVec Ideal S512x1024 .bf16) (ix2 i j)
    = max (∑ k : Fin 1024, v (ix2 i k) * w (ix3 0 k j)) 0 * max (∑ k : Fin 1024, v (ix2 i k) * w (ix3 0 k j)) 0 := by
  pointwise [k0_pay10, k0_pay9]

theorem back_at : (k0_pay11 v w e u : FVec Ideal S512x1024 .bf16) (ix2 i j)
    = (∑ n : Fin 1024, e (ix2 i n) * u (ix2 j n)) * Ideal.ofBits .f32 0x40000000#32
      * max (∑ k : Fin 1024, v (ix2 i k) * w (ix3 0 k j)) 0 := by
  pointwise [k0_pay11, k0_pay9]

theorem step_at : (k0_pay1 e a w : FVec Ideal S512x1024 .f32) (ix2 i j)
    = a (ix2 i j) + ∑ f : Fin 1024, e (ix2 i f) * w (ix3 0 j f) := by
  pointwise [k0_pay1]

theorem gain_at (r : Fin 8) : (k0_pay3 x a q : FVec Ideal S8x1024 .f32) (ix2 r j)
    = q (ix2 r j) + ∑ i : Fin 512, a (ix2 i j) * (x (ix2 i j) * factor fun k => x (ix2 i k)) := by
  pointwise [k0_pay3, k0_pay2, factor, meanSq]

theorem rows_at : (k0_pay4 x a d g : FVec Ideal S512x1024 .f32) (ix2 i j)
    = kernelRow (fun k => x (ix2 i k)) (fun k => a (ix2 i k) * g (ix2 0 k)) (d (ix2 i j)) j := by
  pointwise [k0_pay4, k0_pay2, kernelRow, factor, meanSq]
end

/-! ## The results -/

section
variable (x d : FVec Ideal S4096x1024 .f32) (g : FVec Ideal S1x1024 .f32) (w : FVec Ideal S4x1024x1024 .bf16)
  (u : FVec Ideal S4096x1024 .bf16)

/-- A normed row. -/
def normedRow (i : Fin 4096) (k : Fin 1024) : EReal := x (ix2 i k) * (factor fun k => x (ix2 i k)) * g (ix2 0 k)

/-- The positive part of a hidden column of a row. -/
def hid (i f : Fin 4096) : EReal := max (∑ k : Fin 1024, normedRow x g i k * w (ix3 ⟨f / 1024, by omega⟩ k ⟨f % 1024, by omega⟩)) 0

/-- Its gradient. -/
def back (i f : Fin 4096) : EReal := (∑ n : Fin 1024, d (ix2 i n) * u (ix2 f n)) * Ideal.ofBits .f32 0x40000000#32 * hid x g w i f

/-- A hidden column's term of the normed rows' gradient, zero past the last column. -/
def term (i : Fin 4096) (j : Fin 1024) (f : ℕ) : EReal :=
  if h : f < 4096 then back x d g w u i ⟨f, h⟩ * w (ix3 ⟨f / 1024, by omega⟩ j ⟨f % 1024, by omega⟩) else 0

/-- The normed rows' gradient. -/
def through (i : Fin 4096) (j : Fin 1024) : EReal :=
  ∑ f : Fin 4096, back x d g w u i f * w (ix3 ⟨f / 1024, by omega⟩ j ⟨f % 1024, by omega⟩)

theorem through_eq (i : Fin 4096) (j : Fin 1024) : ∑ f ∈ Finset.range 4096, term x d g w u i j f = through x d g w u i j := by
  rw [Finset.sum_range]
  exact Finset.sum_congr rfl fun f _ => dif_pos f.isLt

/-- A row's term of the gain's gradient, zero past the last row. -/
def gainTerm (j : Fin 1024) (r : ℕ) : EReal :=
  if h : r < 4096 then through x d g w u ⟨r, h⟩ j * (x (ix2 ⟨r, h⟩ j) * factor fun k => x (ix2 ⟨r, h⟩ k)) else 0

/-- The gain's gradient. -/
def gain (j : Fin 1024) : EReal := ∑ r : Fin 4096, through x d g w u r j * (x (ix2 r j) * factor fun k => x (ix2 r k))

theorem gain_eq (j : Fin 1024) : ∑ r ∈ Finset.range 4096, gainTerm x d g w u j r = gain x d g w u j := by
  rw [Finset.sum_range]
  exact Finset.sum_congr rfl fun r _ => dif_pos r.isLt
end

section
variable (m : (ℓ : Loc nD τ sig) → Buf (Elt Ideal) ℓ) (c : Dev nD)

/-- The arguments as arrays. -/
abbrev ax : FVec Ideal S4096x1024 .f32 := m ((c.tc : Thread nD τ).loc main_arg0)
abbrev ad : FVec Ideal S4096x1024 .f32 := m ((c.tc : Thread nD τ).loc main_arg1)
abbrev ag : FVec Ideal S1x1024 .f32 := m ((c.tc : Thread nD τ).loc main_arg2)
abbrev aw : FVec Ideal S4x1024x1024 .bf16 := m ((c.tc : Thread nD τ).loc main_arg3)
abbrev au : FVec Ideal S4096x1024 .bf16 := m ((c.tc : Thread nD τ).loc main_arg4)

/-- The place of row `i` of the block of point `t`, -/
abbrev row (t : Fin cfg0.N) (i : Fin 512) : Fin 4096 := ⟨512 * (t.val / 4) + i, by have := lt32 t; omega⟩
/-- and of its hidden column `f`. -/
abbrev col (t : Fin cfg0.N) (f : Fin 1024) : Fin 4096 := ⟨1024 * (t.val % 4) + f, by omega⟩

theorem normed_val (t : Fin cfg0.N) (i : Fin 512) (k : Fin 1024) :
    normed m c t (ix2 i k) = normedRow (ax m c) (ag m c) (row t i) k := by
  unfold normed
  refine (norm_at _ _ _ _).trans ?_
  unfold normedRow
  simp only [x_at, g_at]

theorem hid_val (t : Fin cfg0.N) (i : Fin 512) (f : Fin 1024) :
    max (∑ k : Fin 1024, normed m c t (ix2 i k) * blockAt m c 3 t (ix3 0 k f)) 0
      = hid (ax m c) (ag m c) (aw m c) (row t i) (col t f) := by
  have hq : (1024 * (t.val % 4) + (f : ℕ)) / 1024 = t.val % 4 := by omega
  have hr : (1024 * (t.val % 4) + (f : ℕ)) % 1024 = f := by omega
  unfold hid
  simp only [normed_val, w_at, hq, hr, Fin.eta]

theorem back_val (t : Fin cfg0.N) (i : Fin 512) (f : Fin 1024) :
    hidden m c t (ix2 i f) = back (ax m c) (ad m c) (ag m c) (aw m c) (au m c) (row t i) (col t f) := by
  unfold hidden
  refine (back_at _ _ _ _ _ _).trans ?_
  rw [hid_val]
  unfold back grad
  refine congrArg (· * _ * _) (Finset.sum_congr rfl fun n _ => ?_)
  rw [u_at]
  refine congrArg (· * _) ((round_at _ _ _).trans ?_)
  rw [d_at]

/-- One step's product is the sum of the step's terms. -/
theorem step_terms (t : Fin cfg0.N) (i : Fin 512) (j : Fin 1024) (a : FVec Ideal S512x1024 .f32) :
    k0_pay1 (hidden m c t) a (blockAt m c 3 t) (ix2 i j) = a (ix2 i j) + ∑ n ∈ Finset.range 1024,
      term (ax m c) (ad m c) (ag m c) (aw m c) (au m c) (row t i) j (1024 * (t.val % 4) + n) := by
  refine (step_at _ _ _ _ _).trans ?_
  rw [Finset.sum_range]
  congr 1
  refine Finset.sum_congr rfl fun f _ => ?_
  have hq : (1024 * (t.val % 4) + (f : ℕ)) / 1024 = t.val % 4 := by omega
  have hr : (1024 * (t.val % 4) + (f : ℕ)) % 1024 = f := by omega
  rw [term, dif_pos (by omega), back_val, w_at]
  simp only [hq, hr, Fin.eta]

/-- After a point the sum has the terms of the hidden columns so far. -/
theorem sum_val (i : Fin 512) (j : Fin 1024) : ∀ (n : ℕ) (h : n < cfg0.N), sumAt m c n h (ix2 i j)
    = ∑ f ∈ Finset.range (1024 * (n % 4 + 1)), term (ax m c) (ad m c) (ag m c) (aw m c) (au m c) (row ⟨n, h⟩ i) j f := by
  intro n
  induction n with
  | zero =>
    intro h
    refine (congrFun (sum_start m c ⟨0, h⟩ rfl) _).trans ((step_terms m c _ i j _).trans ?_)
    rw [start_at, zero_add]
    simp
  | succ n ih =>
    intro h
    by_cases h0 : (n + 1) % 4 = 0
    · refine (congrFun (sum_start m c ⟨n + 1, h⟩ h0) _).trans ((step_terms m c _ i j _).trans ?_)
      rw [start_at, zero_add]
      simp [h0]
    · refine (congrFun (sum_next m c ⟨n + 1, h⟩ h0) _).trans ((step_terms m c _ i j _).trans ?_)
      have e : sumAt m c (prev ⟨n + 1, h⟩).val (prev ⟨n + 1, h⟩).isLt (ix2 i j) = _ := ih (Nat.lt_of_succ_lt h)
      have hr : row ⟨n, Nat.lt_of_succ_lt h⟩ i = row ⟨n + 1, h⟩ i := Fin.ext (by
        show 512 * (n / 4) + (i : ℕ) = 512 * ((n + 1) / 4) + i; omega)
      rw [e, hr, show 1024 * ((n + 1) % 4 + 1) = 1024 * (n % 4 + 1) + 1024 by omega, Finset.sum_range_add]
      refine congrArg _ (Finset.sum_congr rfl fun f _ => ?_)
      rw [show (1024 * ((⟨n + 1, h⟩ : Fin cfg0.N).val % 4) + f) = 1024 * (n % 4 + 1) + f by dsimp only; omega]

theorem sum_last (t : Fin cfg0.N) (h3 : t.val % 4 = 3) (i : Fin 512) (j : Fin 1024) :
    sumAt m c t.val t.isLt (ix2 i j) = through (ax m c) (ad m c) (ag m c) (aw m c) (au m c) (row t i) j := by
  rw [sum_val, h3]
  exact through_eq _ _ _ _ _ _ _

/-- After a point the gain's gradient has the terms of the rows of the finished blocks. -/
theorem gain_val (r : Fin 8) (j : Fin 1024) : ∀ (n : ℕ) (h : n < cfg0.N), gainAt m c n h (ix2 r j)
    = ∑ k ∈ Finset.range (512 * ((n + 1) / 4)), gainTerm (ax m c) (ad m c) (ag m c) (aw m c) (au m c) j k := by
  intro n
  induction n with
  | zero =>
    intro h
    refine (congrFun (gain_first m c ⟨0, h⟩ rfl) _).trans ((zero_at _ _).trans ?_)
    simp
  | succ n ih =>
    intro h
    have hN : n + 1 < 32 := lt_of_lt_of_eq h N_0
    have e : gainAt m c (prev ⟨n + 1, h⟩).val (prev ⟨n + 1, h⟩).isLt (ix2 r j) = _ := ih (Nat.lt_of_succ_lt h)
    by_cases h3 : (n + 1) % 4 = 3
    · refine (congrFun (gain_last m c ⟨n + 1, h⟩ h3) _).trans ((gain_at _ _ _ _ _).trans ?_)
      rw [e, show 512 * ((n + 1 + 1) / 4) = 512 * ((n + 1) / 4) + 512 by omega, Finset.sum_range_add]
      congr 1
      rw [Finset.sum_range]
      refine Finset.sum_congr rfl fun i _ => ?_
      rw [gainTerm, dif_pos (by omega), sum_last m c ⟨n + 1, h⟩ h3]
      simp only [x_at]
    · refine (congrFun (gain_keep m c ⟨n + 1, h⟩ (Nat.succ_ne_zero n) h3).symm _).trans (e.trans ?_)
      rw [show (n + 1 + 1) / 4 = (n + 1) / 4 by omega]

/-! ## The arrays at the end -/

def dxArr : Buf (Elt Ideal) ((c.tc : Thread nD τ).loc main_v0_0) := fun i : S4096x1024.Idx =>
  kernelRow (fun k => ax m c (ix2 (i 0) k))
    (fun k => through (ax m c) (ad m c) (ag m c) (aw m c) (au m c) (i 0) k * ag m c (ix2 0 k)) (ad m c i) (i 1)
def hArr : Buf (Elt Ideal) ((c.tc : Thread nD τ).loc main_v0_1) := fun i : S4096x1024.Idx => normedRow (ax m c) (ag m c) (i 0) (i 1)
def rArr : Buf (Elt Ideal) ((c.tc : Thread nD τ).loc main_v0_2) := fun i : S4096x4096.Idx =>
  (hid (ax m c) (ag m c) (aw m c) (i 0) (i 1) * hid (ax m c) (ag m c) (aw m c) (i 0) (i 1) : EReal)
def daArr : Buf (Elt Ideal) ((c.tc : Thread nD τ).loc main_v0_3) := fun i : S4096x4096.Idx =>
  back (ax m c) (ad m c) (ag m c) (aw m c) (au m c) (i 0) (i 1)
def dgArr : Buf (Elt Ideal) ((c.tc : Thread nD τ).loc main_v0_4) := fun i : S8x1024.Idx =>
  gain (ax m c) (ad m c) (ag m c) (aw m c) (au m c) (i 1)

theorem dx_block (t : Fin cfg0.N) (h3 : t.val % 4 = 3) :
    (dats m 0 c).flushed 5 t = ((cfg0.win 5).blk t).view.read (Elt Ideal) (dxArr m c) := by
  show (cfg0.win 5).cut (grid0.coords t) ((dats m 0 c).after 5 t) = _
  rw [after5]
  obtain ⟨⟨e0, e1⟩, -⟩ := outs t
  refine funext fun (y : S512x1024.Idx) => ?_
  obtain ⟨i, j, rfl⟩ : ∃ (i : Fin 512) (j : Fin 1024), y = ix2 i j := ⟨y 0, y 1, (ix2_eta y).symm⟩
  have he : ((cfg0.win 5).blk t).view.emb (ix2 i j) = ix2 (row t i) j := funext (Fin.forall_fin_two.2 ⟨Fin.ext (by
    show win0_5.index t 0 * 512 + 1 * (i : ℕ) = 512 * (t.val / 4) + i; rw [e0]; omega), Fin.ext (by
    show win0_5.index t 1 * 1024 + 1 * (j : ℕ) = j; rw [e1]; omega)⟩)
  show k0_pay4 (blockAt m c 0 t) (sumAt m c t.val t.isLt) (blockAt m c 1 t) (blockAt m c 2 t) (ix2 i j)
    = dxArr m c (((cfg0.win 5).blk t).view.emb (ix2 i j))
  rw [he]
  refine (rows_at _ _ _ _ _ _).trans ?_
  simp only [x_at, d_at, g_at, sum_last m c t h3]
  rfl

theorem h_block (t : Fin cfg0.N) : (dats m 0 c).flushed 6 t = ((cfg0.win 6).blk t).view.read (Elt Ideal) (hArr m c) := by
  show (cfg0.win 6).cut (grid0.coords t) ((dats m 0 c).after 6 t) = _
  rw [after6]
  obtain ⟨-, ⟨e0, e1⟩, -⟩ := outs t
  refine funext fun (y : S512x1024.Idx) => ?_
  obtain ⟨i, j, rfl⟩ : ∃ (i : Fin 512) (j : Fin 1024), y = ix2 i j := ⟨y 0, y 1, (ix2_eta y).symm⟩
  have he : ((cfg0.win 6).blk t).view.emb (ix2 i j) = ix2 (row t i) j := funext (Fin.forall_fin_two.2 ⟨Fin.ext (by
    show win0_6.index t 0 * 512 + 1 * (i : ℕ) = 512 * (t.val / 4) + i; rw [e0]; omega), Fin.ext (by
    show win0_6.index t 1 * 1024 + 1 * (j : ℕ) = j; rw [e1]; omega)⟩)
  show normed m c t (ix2 i j) = hArr m c (((cfg0.win 6).blk t).view.emb (ix2 i j))
  rw [he]
  exact normed_val m c t i j

theorem r_block (t : Fin cfg0.N) : (dats m 0 c).flushed 7 t = ((cfg0.win 7).blk t).view.read (Elt Ideal) (rArr m c) := by
  show (cfg0.win 7).cut (grid0.coords t) ((dats m 0 c).after 7 t) = _
  rw [after7]
  obtain ⟨-, -, ⟨e0, e1⟩, -⟩ := outs t
  refine funext fun (y : S512x1024.Idx) => ?_
  obtain ⟨i, j, rfl⟩ : ∃ (i : Fin 512) (j : Fin 1024), y = ix2 i j := ⟨y 0, y 1, (ix2_eta y).symm⟩
  have he : ((cfg0.win 7).blk t).view.emb (ix2 i j) = ix2 (row t i) (col t j) := funext (Fin.forall_fin_two.2 ⟨Fin.ext (by
    show win0_7.index t 0 * 512 + 1 * (i : ℕ) = 512 * (t.val / 4) + i; rw [e0]; omega), Fin.ext (by
    show win0_7.index t 1 * 1024 + 1 * (j : ℕ) = 1024 * (t.val % 4) + j; rw [e1]; omega)⟩)
  show k0_pay10 (normed m c t) (blockAt m c 3 t) (ix2 i j) = rArr m c (((cfg0.win 7).blk t).view.emb (ix2 i j))
  rw [he]
  refine (square_at _ _ _ _).trans ?_
  rw [hid_val]
  rfl

theorem da_block (t : Fin cfg0.N) : (dats m 0 c).flushed 8 t = ((cfg0.win 8).blk t).view.read (Elt Ideal) (daArr m c) := by
  show (cfg0.win 8).cut (grid0.coords t) ((dats m 0 c).after 8 t) = _
  rw [after8]
  obtain ⟨-, -, -, ⟨e0, e1⟩, -⟩ := outs t
  refine funext fun (y : S512x1024.Idx) => ?_
  obtain ⟨i, j, rfl⟩ : ∃ (i : Fin 512) (j : Fin 1024), y = ix2 i j := ⟨y 0, y 1, (ix2_eta y).symm⟩
  have he : ((cfg0.win 8).blk t).view.emb (ix2 i j) = ix2 (row t i) (col t j) := funext (Fin.forall_fin_two.2 ⟨Fin.ext (by
    show win0_8.index t 0 * 512 + 1 * (i : ℕ) = 512 * (t.val / 4) + i; rw [e0]; omega), Fin.ext (by
    show win0_8.index t 1 * 1024 + 1 * (j : ℕ) = 1024 * (t.val % 4) + j; rw [e1]; omega)⟩)
  show hidden m c t (ix2 i j) = daArr m c (((cfg0.win 8).blk t).view.emb (ix2 i j))
  rw [he]
  exact back_val m c t i j

theorem dg_block (t : Fin cfg0.N) (h : t.val = 31) :
    (dats m 0 c).flushed 9 t = ((cfg0.win 9).blk t).view.read (Elt Ideal) (dgArr m c) := by
  show (cfg0.win 9).cut (grid0.coords t) ((dats m 0 c).after 9 t) = _
  rw [after9]
  obtain ⟨-, -, -, -, e0, e1⟩ := outs t
  refine funext fun (y : S8x1024.Idx) => ?_
  obtain ⟨i, j, rfl⟩ : ∃ (i : Fin 8) (j : Fin 1024), y = ix2 i j := ⟨y 0, y 1, (ix2_eta y).symm⟩
  have he : ((cfg0.win 9).blk t).view.emb (ix2 i j) = ix2 i j := funext (Fin.forall_fin_two.2 ⟨Fin.ext (by
    show win0_9.index t 0 * 8 + 1 * (i : ℕ) = i; rw [e0]; omega), Fin.ext (by
    show win0_9.index t 1 * 1024 + 1 * (j : ℕ) = j; rw [e1]; omega)⟩)
  show gainAt m c t.val t.isLt (ix2 i j) = dgArr m c (((cfg0.win 9).blk t).view.emb (ix2 i j))
  rw [he, gain_val, h]
  exact gain_eq _ _ _ _ _ _

theorem dx_all : (dats m 0 c).arrAt 5 cfg0.N = dxArr m c := by
  refine (dats m 0 c).arrAt_eq_of_cover 5 _ (fun t ht => dx_block m c t ((flush0_5 t).1 ht)) fun (i : S4096x1024.Idx) => ?_
  have h0 : (i 0).val < 4096 := (i 0).isLt
  have h1 : (i 1).val < 1024 := (i 1).isLt
  have hN : cfg0.N = 32 := N_0
  refine ⟨⟨4 * ((i 0).val / 512) + 3, by omega⟩, (flush0_5 _).2 (by dsimp only; omega), ?_⟩
  generalize ht : (⟨4 * ((i 0).val / 512) + 3, _⟩ : Fin cfg0.N) = t
  have hv : t.val = 4 * ((i 0).val / 512) + 3 := by rw [← ht]
  obtain ⟨⟨e0, e1⟩, -⟩ := outs t
  show i ∈ ((View.whole main_v0_0).slice (win0_5.rect t)).set
  rw [View.set_slice_whole, Rect.mem_set_unit]
  refine Fin.forall_fin_two.2 ⟨?_, ?_⟩
  · show win0_5.index t 0 * 512 ≤ (i 0).val ∧ (i 0).val < win0_5.index t 0 * 512 + 512; omega
  · show win0_5.index t 1 * 1024 ≤ (i 1).val ∧ (i 1).val < win0_5.index t 1 * 1024 + 1024; omega

theorem h_all : (dats m 0 c).arrAt 6 cfg0.N = hArr m c := by
  refine (dats m 0 c).arrAt_eq_of_cover 6 _ (fun t _ => h_block m c t) fun (i : S4096x1024.Idx) => ?_
  have h0 : (i 0).val < 4096 := (i 0).isLt
  have h1 : (i 1).val < 1024 := (i 1).isLt
  have hN : cfg0.N = 32 := N_0
  refine ⟨⟨4 * ((i 0).val / 512) + 3, by omega⟩, (flush0_6 _).2 (by dsimp only; omega), ?_⟩
  generalize ht : (⟨4 * ((i 0).val / 512) + 3, _⟩ : Fin cfg0.N) = t
  have hv : t.val = 4 * ((i 0).val / 512) + 3 := by rw [← ht]
  obtain ⟨-, ⟨e0, e1⟩, -⟩ := outs t
  show i ∈ ((View.whole main_v0_1).slice (win0_6.rect t)).set
  rw [View.set_slice_whole, Rect.mem_set_unit]
  refine Fin.forall_fin_two.2 ⟨?_, ?_⟩
  · show win0_6.index t 0 * 512 ≤ (i 0).val ∧ (i 0).val < win0_6.index t 0 * 512 + 512; omega
  · show win0_6.index t 1 * 1024 ≤ (i 1).val ∧ (i 1).val < win0_6.index t 1 * 1024 + 1024; omega

theorem r_all : (dats m 0 c).arrAt 7 cfg0.N = rArr m c := by
  refine (dats m 0 c).arrAt_eq_of_cover 7 _ (fun t _ => r_block m c t) fun (i : S4096x4096.Idx) => ?_
  have h0 : (i 0).val < 4096 := (i 0).isLt
  have h1 : (i 1).val < 4096 := (i 1).isLt
  have hN : cfg0.N = 32 := N_0
  refine ⟨⟨4 * ((i 0).val / 512) + (i 1).val / 1024, by omega⟩, flush0_7 _, ?_⟩
  generalize ht : (⟨4 * ((i 0).val / 512) + (i 1).val / 1024, _⟩ : Fin cfg0.N) = t
  have hv : t.val = 4 * ((i 0).val / 512) + (i 1).val / 1024 := by rw [← ht]
  obtain ⟨-, -, ⟨e0, e1⟩, -⟩ := outs t
  show i ∈ ((View.whole main_v0_2).slice (win0_7.rect t)).set
  rw [View.set_slice_whole, Rect.mem_set_unit]
  refine Fin.forall_fin_two.2 ⟨?_, ?_⟩
  · show win0_7.index t 0 * 512 ≤ (i 0).val ∧ (i 0).val < win0_7.index t 0 * 512 + 512; omega
  · show win0_7.index t 1 * 1024 ≤ (i 1).val ∧ (i 1).val < win0_7.index t 1 * 1024 + 1024; omega

theorem da_all : (dats m 0 c).arrAt 8 cfg0.N = daArr m c := by
  refine (dats m 0 c).arrAt_eq_of_cover 8 _ (fun t _ => da_block m c t) fun (i : S4096x4096.Idx) => ?_
  have h0 : (i 0).val < 4096 := (i 0).isLt
  have h1 : (i 1).val < 4096 := (i 1).isLt
  have hN : cfg0.N = 32 := N_0
  refine ⟨⟨4 * ((i 0).val / 512) + (i 1).val / 1024, by omega⟩, flush0_8 _, ?_⟩
  generalize ht : (⟨4 * ((i 0).val / 512) + (i 1).val / 1024, _⟩ : Fin cfg0.N) = t
  have hv : t.val = 4 * ((i 0).val / 512) + (i 1).val / 1024 := by rw [← ht]
  obtain ⟨-, -, -, ⟨e0, e1⟩, -⟩ := outs t
  show i ∈ ((View.whole main_v0_3).slice (win0_8.rect t)).set
  rw [View.set_slice_whole, Rect.mem_set_unit]
  refine Fin.forall_fin_two.2 ⟨?_, ?_⟩
  · show win0_8.index t 0 * 512 ≤ (i 0).val ∧ (i 0).val < win0_8.index t 0 * 512 + 512; omega
  · show win0_8.index t 1 * 1024 ≤ (i 1).val ∧ (i 1).val < win0_8.index t 1 * 1024 + 1024; omega

theorem dg_all : (dats m 0 c).arrAt 9 cfg0.N = dgArr m c := by
  have hN : cfg0.N = 32 := N_0
  refine (dats m 0 c).arrAt_eq_of_cover 9 _ (fun t ht => dg_block m c t ?_) fun (i : S8x1024.Idx) => ?_
  · have := (flush0_9 t).1 ht
    have := lt32 t
    omega
  have h0 : (i 0).val < 8 := (i 0).isLt
  have h1 : (i 1).val < 1024 := (i 1).isLt
  refine ⟨⟨31, by omega⟩, (flush0_9 _).2 (by dsimp only), ?_⟩
  generalize (⟨31, _⟩ : Fin cfg0.N) = t
  obtain ⟨-, -, -, -, e0, e1⟩ := outs t
  show i ∈ ((View.whole main_v0_4).slice (win0_9.rect t)).set
  rw [View.set_slice_whole, Rect.mem_set_unit]
  refine Fin.forall_fin_two.2 ⟨?_, ?_⟩
  · show win0_9.index t 0 * 8 ≤ (i 0).val ∧ (i 0).val < win0_9.index t 0 * 8 + 8; omega
  · show win0_9.index t 1 * 1024 ≤ (i 1).val ∧ (i 1).val < win0_9.index t 1 * 1024 + 1024; omega
end

end Cert.Kernel6Ideal.MlpBwd

namespace Cert.Reference6Ideal.Value

open Idealize.ShloMosaic Idealize.ShloMosaic.TcCoe
open Cert.Reference6Ideal Cert.Reference6Ideal.Gen Cert.InNorm Cert.Kernel6Ideal.MlpBwd

variable (x d : FVec Ideal S4096x1024 .f32) (g : FVec Ideal S1x1024 .f32) (w : FVec Ideal S4x1024x1024 .bf16)
  (u : FVec Ideal S4096x1024 .bf16)

/-- The mean squares of the rows. -/
def meanR : FVec Ideal S4096x1 .f32 :=
  addf (Host.divf (broadcastInDim S4096x1 ![0] bcast_S4096_S4096x1_0 (Host.reduceAdd (mulf x x)
    (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

theorem meanR_at (i : Fin 4096) : meanR x (ix2 i 0) = meanSq fun k => x (ix2 i k) := by
  pointwise [meanR, meanSq]

/-- The rows through the gain. -/
def scaledR (v : FVec Ideal S4096x1024 .f32) : FVec Ideal S4096x1024 .f32 :=
  mulf v (broadcastInDim S4096x1024 ![0, 1] bcast_S1x1024_S4096x1024_0_1 g)

theorem scaledR_at (v : FVec Ideal S4096x1024 .f32) (i : Fin 4096) (j : Fin 1024) :
    scaledR g v (ix2 i j) = v (ix2 i j) * g (ix2 0 j) := by
  pointwise [scaledR]

/-- The rows with their factors. -/
def unitR : FVec Ideal S4096x1024 .f32 :=
  mulf x (broadcastInDim S4096x1024 ![0, 1] bcast_S4096x1_S4096x1024_0_1 (Host.rsqrt (meanR x)))

theorem unitR_at (i : Fin 4096) (j : Fin 1024) : unitR x (ix2 i j) = x (ix2 i j) * factor fun k => x (ix2 i k) := by
  have h := meanR_at x i
  unfold unitR
  generalize meanR x = a at h
  pointwise [factor]
  rw [h]

theorem normedR_at (i : Fin 4096) (k : Fin 1024) : scaledR g (unitR x) (ix2 i k) = normedRow x g i k := by
  rw [scaledR_at, unitR_at]; rfl

/-- The first weights, their four blocks side by side. -/
def wideR : FVec Ideal S1024x4096 .f32 :=
  shapeCast _ (transpose S1024x4x1024 [1, 0, 2] (extf .f32 w bitsLt_bf16_f32) transposes_S4x1024x1024_S1024x4x1024_1_0_2)
    shapeCasts_S1024x4x1024_S1024x4096

theorem wideR_at (k : Fin 1024) (f : Fin 4096) : wideR w (ix2 k f) = w (ix3 ⟨f / 1024, by omega⟩ k ⟨f % 1024, by omega⟩) := by
  pointwise [wideR]

/-- The hidden columns, as the reference has them. -/
def hidR (v : FVec Ideal S4096x1024 .f32) (a : FVec Ideal S1024x4096 .f32) : FVec Ideal S4096x4096 .f32 :=
  Host.dotGeneral dot_S4096x1024_S1024x4096_S4096x4096_1_0_0_1_n_n none v a

theorem hidR_at (i f : Fin 4096) : max (hidR (scaledR g (unitR x)) (wideR w) (ix2 i f)) 0 = hid x g w i f := by
  unfold hid
  have hv := normedR_at x g
  have hw := wideR_at w
  generalize scaledR g (unitR x) = v at hv
  generalize wideR w = a at hw
  have e : hidR v a (ix2 i f) = ∑ k : Fin 1024, v (ix2 i k) * a (ix2 k f) := by pointwise [hidR]
  rw [e]
  simp only [hv, hw]

/-- Their positive parts, -/
def posR (a : FVec Ideal S4096x4096 .f32) : FVec Ideal S4096x4096 .f32 :=
  maximumf a (broadcastInDim S4096x4096 ![] bcast_S_S4096x4096 (constant S_ .f32 0x00000000#32))

theorem posR_at (a : FVec Ideal S4096x4096 .f32) (i f : Fin 4096) : posR a (ix2 i f) = max (a (ix2 i f)) 0 := by
  pointwise [posR]

/-- and their gradients. -/
def backR (a : FVec Ideal S4096x4096 .f32) : FVec Ideal S4096x4096 .f32 :=
  select (cmpf .ogt a (broadcastInDim S4096x4096 ![] bcast_S_S4096x4096 (constant S_ .f32 0x00000000#32)))
    (mulf (Host.dotGeneral dot_S4096x1024_S4096x1024_S4096x4096_1_1_0_0_n_n none d (extf .f32 u bitsLt_bf16_f32))
      (mulf (broadcastInDim S4096x4096 ![] bcast_S_S4096x4096 (constant S_ .f32 0x40000000#32)) (posR a)))
    (broadcastInDim S4096x4096 ![] bcast_S_S4096x4096 (constant S_ .f32 0x00000000#32))

theorem backR_at (i f : Fin 4096) : backR d u (hidR (scaledR g (unitR x)) (wideR w)) (ix2 i f) = back x d g w u i f := by
  have h := hidR_at x g w i f
  generalize hidR (scaledR g (unitR x)) (wideR w) = a at h
  unfold back
  rw [← h]
  pointwise [backR, posR]
  split
  · rw [mul_assoc]
  · rename_i hn
    rw [max_eq_right (not_lt.1 hn), mul_zero]

/-- The normed rows' gradient, as the reference has it. -/
def throughR (e : FVec Ideal S4096x4096 .f32) (a : FVec Ideal S1024x4096 .f32) : FVec Ideal S4096x1024 .f32 :=
  Host.dotGeneral dot_S4096x4096_S1024x4096_S4096x1024_1_1_0_0_n_n none e a

theorem throughR_at (i : Fin 4096) (j : Fin 1024) :
    throughR (backR d u (hidR (scaledR g (unitR x)) (wideR w))) (wideR w) (ix2 i j) = through x d g w u i j := by
  have he := backR_at x d g w u
  have hw := wideR_at w
  generalize backR d u (hidR (scaledR g (unitR x)) (wideR w)) = e at he
  generalize wideR w = a at hw
  have h : throughR e a (ix2 i j) = ∑ f : Fin 4096, e (ix2 i f) * a (ix2 j f) := by pointwise [throughR]
  rw [h]
  simp only [he, hw, through]

/-- The rows' slopes. -/
def slopeR (a : FVec Ideal S4096x1 .f32) (v : FVec Ideal S4096x1024 .f32) : FVec Ideal S4096x1024 .f32 :=
  broadcastInDim S4096x1024 ![0] bcast_S4096_S4096x1024_0 (Host.reduceAdd (Host.divf (mulf (shapeCast _ (Host.reduceAdd (mulf x v)
    (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt a) a)))
    (broadcastInDim S4096x1 ![] bcast_S_S4096x1 (constant S_ .f32 0x44800000#32)))
    (constant S_ .f32 0x00000000#32) reducesTo_S4096x1_S4096_d1 h_S_)

theorem slopeR_at (v : FVec Ideal S4096x1024 .f32) (i : Fin 4096) (j : Fin 1024) :
    slopeR x (meanR x) v (ix2 i j) = slopeRow (fun k => x (ix2 i k)) fun k => v (ix2 i k) := by
  have h := meanR_at x i
  generalize meanR x = a at h
  pointwise [slopeR, slopeRow, factor, meanSq]
  simp [h, slopeRow, factor, meanSq]

/-- The input's gradient through the normed rows', as the reference has it, -/
theorem rows_ref (v : FVec Ideal S4096x1024 .f32) (i : Fin 4096) (j : Fin 1024) (b : Fin 1024 → EReal) (hb : ∀ k, v (ix2 i k) = b k) :
    addf d (addf (addf (mulf (scaledR g v) (broadcastInDim S4096x1024 ![0, 1] bcast_S4096x1_S4096x1024_0_1
      (Host.rsqrt (meanR x)))) (mulf x (slopeR x (meanR x) (scaledR g v)))) (mulf (slopeR x (meanR x) (scaledR g v)) x)) (ix2 i j)
      = referenceRow (fun k => x (ix2 i k)) (fun k => b k * g (ix2 0 k)) (d (ix2 i j)) j := by
  have h := meanR_at x i
  have hs := slopeR_at x (scaledR g v) i j
  have hu := fun k => (scaledR_at g v i k).trans (congrArg (· * _) (hb k))
  simp only [hu] at hs
  have hj := hu j
  generalize slopeR x (meanR x) (scaledR g v) = s at hs
  generalize scaledR g v = v at hj
  generalize meanR x = a at h
  pointwise [referenceRow, factor]
  rw [hs, hj, h]

/-- and the gain's. -/
theorem gain_ref (v : FVec Ideal S4096x1024 .f32) (r : Fin 8) (j : Fin 1024) (b : Fin 4096 → EReal) (hb : ∀ i, v (ix2 i j) = b i) :
    broadcastInDim S8x1024 ![0, 1] bcast_S1x1024_S8x1024_0_1 (shapeCast S1x1024 (Host.reduceAdd (mulf (unitR x) v)
      (constant S_ .f32 0x00000000#32) reducesTo_S4096x1024_S1024_d0 h_S_) shapeCasts_S1024_S1x1024) (ix2 r j)
      = ∑ i : Fin 4096, b i * (x (ix2 i j) * factor fun k => x (ix2 i k)) := by
  have h := unitR_at x
  generalize unitR x = a at h
  pointwise []
  refine Finset.sum_congr rfl fun i _ => ?_
  rw [h, hb, mul_comm]

theorem algebraic : Cert.algebraic_Kernel6Ideal_Reference6Ideal (hKernel6Ideal := Cert.Kernel6Ideal.Gen.facts)
    (hReference6Ideal := Cert.Reference6Ideal.Gen.facts) := by
  intro m g m' g' _ hm
  refine ⟨fun c => dxArr m c, fun c => hArr m c, fun c => rArr m c, fun c => daArr m c, fun c => dgArr m c,
    (θ_run Cert.Kernel6Ideal.defs _ _).mono (fun r h c => ?_) (Cert.Kernel6Ideal.MlpBwd.run (F := Ideal) m g), ?_⟩
  · obtain ⟨hk, h0, h1, h2, h3, h4⟩ := h.1 c
    exact ⟨h0.trans (dx_all m c), h1.trans (h_all m c), h2.trans (r_all m c), h3.trans (da_all m c), h4.trans (dg_all m c), hk⟩
  refine (θ_run Cert.Reference6Ideal.defs _ _).mono (fun r h c => ?_) (Cert.Reference6Ideal.Value.run (F := Ideal) m' g')
  obtain ⟨h0, h1, h2, h3, h4, hk⟩ := h c
  obtain ⟨e0, e1, e2, e3, e4⟩ := hm c
  refine ⟨h0.trans ?_, h1.trans ?_, h2.trans ?_, h3.trans ?_, h4.trans ?_, hk⟩
  · unfold res_main_v67
    rw [e0, e1, e2, e3, e4]
    refine funext fun (y : S4096x1024.Idx) => ?_
    rw [← ix2_eta y]
    exact (rows_ref _ _ _ _ _ _ _ fun k => throughR_at _ _ _ _ _ _ _).trans (Cert.InNorm.row_eq ..).symm
  · rw [e0, e2]
    refine funext fun (y : S4096x1024.Idx) => ?_
    rw [← ix2_eta y]
    exact normedR_at _ _ _ _
  · rw [e0, e2, e3]
    refine funext fun (y : S4096x4096.Idx) => ?_
    rw [← ix2_eta y]
    exact congrArg₂ (fun a b : EReal => a * b) ((posR_at _ _ _).trans (hidR_at _ _ _ _ _)) ((posR_at _ _ _).trans (hidR_at _ _ _ _ _))
  · rw [e0, e1, e2, e3, e4]
    refine funext fun (y : S4096x4096.Idx) => ?_
    rw [← ix2_eta y]
    exact backR_at _ _ _ _ _ _ _
  · rw [e0, e1, e2, e3, e4]
    refine funext fun (y : S8x1024.Idx) => ?_
    rw [← ix2_eta y]
    exact gain_ref _ _ _ _ _ fun i => throughR_at _ _ _ _ _ _ _

end Cert.Reference6Ideal.Value

end
-- ==== Proof.DwMlp2.lean ====
/-
  The gradient of the MLP's second weights: the call writes rows 1024 to 2047 of every quarter of the array of gradients, in place.
  Every block of them is the sum of two products, each over half of the rows; the other rows stay as they were.
-/
module

public import proofs.«01_k».proof.Proof.DwIn
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

namespace Cert.Kernel7Ideal.Value

open Idealize.ShloMosaic Idealize.ShloMosaic.TcCoe Idealize.SL.Sem
open Cert.Kernel7Ideal Cert.Kernel7Ideal.Gen
open Cert.Kernel2Ideal.Value (zeros2 halves)

theorem zeros3 : (![0, 0, 0] : Fin 3 → Nat) = fun _ => 0 := funext fun a => by fin_cases a <;> rfl

section
variable {F : FTy → Type} [FloatOps F]
variable (m : (ℓ : Loc nD τ sig) → Buf (Elt F) ℓ) (c : Dev nD) (t : Fin cfg0.N)

/-- After the first half the accumulator holds that half's product added to zeros. -/
theorem half (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun y => scover0_A_0 _ _ _ _ _ _ _ _ _ _ _ _ _ _ y)]
  unfold kernelRun0_A
  dsimp only
  sl_unfold_words
  rw [View.canon_cons_unit_zero (S := S1024x1024) zeros2, View.readCov_unit_zero (S := S1024x1024) _ zeros2]
  simp only [View.readAt_eq_ld, (hs0_0 t).read_unread, (hs0_1 t).read_unread, View.ld_unit_zero (S := S2048x1024) zeros2]

/-- After the second half the result's block holds both halves' products. -/
theorem both (h0 : ¬t.val % 2 = 0) (h1 : t.val % 2 = 1) :
    (outsAt0 m c t.val t.isLt).1
      = k0_pay3 (k0_pay2 (outsAt0 m c (t.val - 1) (Nat.lt_of_le_of_lt (Nat.sub_le _ _) t.isLt)).2 (iblk m c 0 t) (iblk m c 1 t)) := by
  rw [outsAt0_B m c t h0 h1]
  dsimp only
  generalize (outsAt0 m c (t.val - 1) _).2 = xs
  unfold out0_B_2
  rw [View.read_writes_eq_canon _ _ _ (fun y => cover0_B_2 _ _ _ _ _ _ _ _ _ _ _ _ _ _ _ y)]
  unfold kernelRun0_B
  dsimp only
  sl_unfold_words
  rw [View.canon_cons_unit_zero (S := S1x1024x1024) zeros3, View.readCov_unit_zero (S := S1024x1024) _ zeros2]
  simp only [View.readAt_eq_ld, (hs0_0 t).read_unread, (hs0_1 t).read_unread, (Memref.isWhole_whole _).read_unread,
    View.ld_unit_zero (S := S2048x1024) zeros2, View.ld_unit_zero (S := S1024x1024) zeros2]

theorem idx_in : ∀ t : Fin cfg0.N, (win0_0.index t 0 = t.val % 2 ∧ win0_0.index t 1 = t.val / 2)
    ∧ (win0_1.index t 0 = t.val % 2 ∧ win0_1.index t 1 = 0)
    ∧ (win0_2.index t 0 = t.val / 2 ∧ win0_2.index t 1 = 1 ∧ win0_2.index t 2 = 0) := by
  decide +kernel

theorem odd_of_flush : ∀ t : Fin cfg0.N, (cfg0.win 2).flush t = true → t.val % 2 = 1 := by
  decide +kernel

theorem lt8 : t.val < 8 := lt_of_lt_of_eq t.isLt (show cfg0.N = 8 from N_0)

theorem left_at (k : Fin 2048) (i : Fin 1024) : iblk m c 0 t (ix2 k i)
    = m ((c : Thread nD τ).loc main_arg0) (ix2 ⟨2048 * (t.val % 2) + k, by omega⟩ ⟨1024 * (t.val / 2) + i, by have := lt8 t; omega⟩) := by
  obtain ⟨⟨e0, e1⟩, -⟩ := idx_in t
  refine congrArg (m ((c : Thread nD τ).loc main_arg0)) (funext fun a => Fin.ext ?_)
  revert a
  refine Fin.forall_fin_two.2 ⟨?_, ?_⟩
  · show win0_0.index t 0 * 2048 + 1 * (k : ℕ) = 2048 * (t.val % 2) + k; rw [e0]; omega
  · show win0_0.index t 1 * 1024 + 1 * (i : ℕ) = 1024 * (t.val / 2) + i; rw [e1]; omega

theorem right_at (k : Fin 2048) (j : Fin 1024) : iblk m c 1 t (ix2 k j)
    = m ((c : Thread nD τ).loc main_arg1) (ix2 ⟨2048 * (t.val % 2) + k, by omega⟩ j) := by
  obtain ⟨-, ⟨e0, e1⟩, -⟩ := idx_in t
  refine congrArg (m ((c : Thread nD τ).loc main_arg1)) (funext fun a => Fin.ext ?_)
  revert a
  refine Fin.forall_fin_two.2 ⟨?_, ?_⟩
  · show win0_1.index t 0 * 2048 + 1 * (k : ℕ) = 2048 * (t.val % 2) + k; rw [e0]; omega
  · show win0_1.index t 1 * 1024 + 1 * (j : ℕ) = j; rw [e1]; omega
end

section
variable (m : (ℓ : Loc nD τ sig) → Buf (Elt Ideal) ℓ) (c : Dev nD)

theorem step_at (a : FVec Ideal S1024x1024 .f32) (x : FVec Ideal S2048x1024 .bf16) (y : FVec Ideal S2048x1024 .f32) (i j : Fin 1024) :
    k0_pay2 a x y (ix2 i j) = a (ix2 i j) + ∑ k : Fin 2048, x (ix2 k i) * y (ix2 k j) := by
  pointwise [k0_pay2]

theorem start_at (i j : Fin 1024) : (k0_pay1 : FVec Ideal S1024x1024 .f32) (ix2 i j) = 0 := by
  pointwise [k0_pay1]

theorem cast_at (a : FVec Ideal S1024x1024 .f32) (z : Fin 1) (i j : Fin 1024) : k0_pay3 a (ix3 z i j) = a (ix2 i j) := by
  pointwise [k0_pay3]

/-- A row's term of the product. -/
def term (x : FVec Ideal S4096x4096 .bf16) (y : FVec Ideal S4096x1024 .f32) (i : Fin 4096) (j : Fin 1024) (k : Fin 4096) : Ideal .f32 :=
  x (ix2 k i) * y (ix2 k j)

/-- The array of gradients with the product over all rows in its place. -/
def packed (x : FVec Ideal S4096x4096 .bf16) (y : FVec Ideal S4096x1024 .f32) (p : FVec Ideal S4x3584x1024 .f32) : FVec Ideal S4x3584x1024 .f32 :=
  fun i => if 1024 ≤ (i 1 : ℕ) ∧ (i 1 : ℕ) < 2048 then
      ∑ k : Fin 4096, term x y ⟨1024 * (i 0 : ℕ) + (i 1 : ℕ) % 1024, by have : (i 0 : ℕ) < 4 := (i 0).isLt; omega⟩ (i 2) k
    else p i

theorem split3 (y : S1x1024x1024.Idx) : ∃ (z : Fin 1) (i j : Fin 1024), y = ix3 z i j := ⟨y 0, y 1, y 2, (ix3_eta y).symm⟩

/-- What the second of two points leaves at an element of its block. -/
theorem block_at (t : Fin cfg0.N) (h1 : t.val % 2 = 1) (y : S1x1024x1024.Idx) :
    (outsAt0 m c t.val t.isLt).1 y
      = ∑ k : Fin 4096, term (m ((c : Thread nD τ).loc main_arg0)) (m ((c : Thread nD τ).loc main_arg1))
          ⟨1024 * (t.val / 2) + (y 1 : ℕ), by have := lt8 t; have : (y 1 : ℕ) < 1024 := (y 1).isLt; omega⟩ (y 2) k := by
  obtain ⟨z, i, j, rfl⟩ := split3 y
  show _ = ∑ k : Fin 4096, term _ _ ⟨1024 * (t.val / 2) + i, by have := lt8 t; omega⟩ j k
  have lt' : t.val - 1 < cfg0.N := Nat.lt_of_le_of_lt (Nat.sub_le _ _) t.isLt
  rw [both m c t (by omega) h1, cast_at, step_at,
    half m c ⟨t.val - 1, lt'⟩ (by show (t.val - 1) % 2 = 0; omega) (by show ¬(t.val - 1) % 2 = 1; omega), step_at, start_at, zero_add]
  refine Eq.trans ?_ (halves (term (m ((c : Thread nD τ).loc main_arg0)) (m ((c : Thread nD τ).loc main_arg1)) _ j))
  congr 1 <;> refine Finset.sum_congr rfl fun k _ => ?_
  · rw [left_at, right_at]
    congr 2 <;> refine (ix2_inj ..).2 ⟨Fin.ext ?_, Fin.ext ?_⟩
    all_goals simp
    all_goals omega
  · rw [left_at, right_at]
    congr 2 <;> refine (ix2_inj ..).2 ⟨Fin.ext ?_, Fin.ext ?_⟩
    all_goals simp
    all_goals omega

/-- The result. -/
theorem arr_eq : (dats m 0 c).arrAt 2 cfg0.N
    = packed (m ((c : Thread nD τ).loc main_arg0)) (m ((c : Thread nD τ).loc main_arg1)) (m ((c : Thread nD τ).loc main_arg2)) := by
  refine (dats m 0 c).arrAt_eq_of_coversWhere_of_agree 2 _ (fun β => β 1 = 1) (by decide +kernel) (fun t hf y => ?_) (fun j hj => ?_)
  · obtain ⟨-, -, e0, e1, e2⟩ := idx_in t
    rw [after0_2]
    refine (block_at m c t (odd_of_flush t hf) ((cfg0.win 2).xinj (cfg0.grid.coords t) y)).trans ?_
    have b0 : (y 0 : ℕ) < 1 := ((cfg0.win 2).xinj (cfg0.grid.coords t) y 0).isLt
    have b1 : (y 1 : ℕ) < 1024 := ((cfg0.win 2).xinj (cfg0.grid.coords t) y 1).isLt
    have E0 : (((cfg0.win 2).blk t).view.emb y 0 : ℕ) = t.val / 2 := by
      show win0_2.index t 0 * 1 + 1 * (y 0 : ℕ) = _; rw [e0]; omega
    have E1 : (((cfg0.win 2).blk t).view.emb y 1 : ℕ) = 1024 + y 1 := by
      show win0_2.index t 1 * 1024 + 1 * (y 1 : ℕ) = _; rw [e1]; omega
    have E2 : (((cfg0.win 2).blk t).view.emb y 2 : ℕ) = y 2 := by
      show win0_2.index t 2 * 1024 + 1 * (y 2 : ℕ) = _; rw [e2]; omega
    refine Eq.trans ?_ (if_pos (⟨by rw [E1]; omega, by rw [E1]; omega⟩ : _ ∧ _)).symm
    refine Finset.sum_congr rfl fun k _ => congrArg₂ (fun a b => term _ _ a b k) (Fin.ext ?_) (Fin.ext E2.symm)
    show 1024 * (t.val / 2) + (y 1 : ℕ) = 1024 * (((cfg0.win 2).blk t).view.emb y 0 : ℕ) + (((cfg0.win 2).blk t).view.emb y 1 : ℕ) % 1024
    rw [E0, E1]
    omega
  · have e : (dats m 0 c).A 2 = m ((c : Thread nD τ).loc main_arg2) := by
      show V m c main_v0 = _
      entry_read
      rfl
    rw [e]
    blk_simp [Pipeline.Window.cell_apply] at hj
    refine (if_neg fun h => hj ?_).symm
    have h' : 1024 ≤ (j 1 : ℕ) ∧ (j 1 : ℕ) < 2048 := h
    omega
end

end Cert.Kernel7Ideal.Value

namespace Cert.Reference7Ideal.Value

open Idealize.ShloMosaic Idealize.ShloMosaic.TcCoe
open Cert.Reference7Ideal Cert.Reference7Ideal.Gen

theorem out_at (x : FVec Ideal S4096x4096 .bf16) (y : FVec Ideal S4096x1024 .f32) (p : FVec Ideal S4x3584x1024 .f32)
    (b : Fin 4) (r : Fin 3584) (j : Fin 1024) :
    concatenate S4x3584x1024 1 [⟨S4x1024x1024, extractStridedSlice S4x1024x1024 ![0, 0, 0] p slices_S4x3584x1024_S4x1024x1024_0_0_0⟩,
      ⟨S4x1024x1024, shapeCast _ (transpose S4096x1024 [1, 0] (Host.dotGeneral (F := Ideal) dot_S4096x1024_S4096x4096_S1024x4096_0_0_1_1_n_n none
        y (extf .f32 x bitsLt_bf16_f32)) transposes_S1024x4096_S4096x1024_1_0) shapeCasts_S4096x1024_S4x1024x1024⟩,
      ⟨S4x1536x1024, extractStridedSlice S4x1536x1024 ![0, 2048, 0] p slices_S4x3584x1024_S4x1536x1024_0_2048_0⟩]
      concatenates_S4x1024x1024_S4x1024x1024_S4x1536x1024_S4x3584x1024_d1 (ix3 b r j)
      = Cert.Kernel7Ideal.Value.packed x y p (ix3 b r j) := by
  pointwise [Cert.Kernel7Ideal.Value.packed, Cert.Kernel7Ideal.Value.term]
  by_cases h0 : (r : ℕ) < 1024
  · exact (dif_pos h0).trans (if_neg fun h => by omega).symm
  · refine (dif_neg h0).trans ?_
    by_cases h1 : (r : ℕ) - 1024 < 1024
    · refine (dif_pos h1).trans (Eq.trans ?_ (if_pos (⟨by omega, by omega⟩ : _ ∧ _)).symm)
      refine Finset.sum_congr rfl fun k _ => (mul_comm (y (ix2 k j)) _).trans ?_
      refine congrArg (fun a => x (ix2 k a) * y (ix2 k j)) (Fin.ext ?_)
      show (b : ℕ) * 1024 + ((r : ℕ) - 1024) = 1024 * (b : ℕ) + (r : ℕ) % 1024
      omega
    · refine (dif_neg h1).trans (Eq.trans ?_ (if_neg fun h => by omega).symm)
      refine congrArg (fun a => p (ix3 b a j)) (Fin.ext ?_)
      show 2048 + ((r : ℕ) - 1024 - 1024) = r
      omega

end Cert.Reference7Ideal.Value

end
-- ==== Proof.DwMlp1.lean ====
/-
  The gradient of the MLP's first weights: the call writes the first 1024 rows of every quarter of the array of gradients, a quarter
  of the columns in each. Every block is the sum of two products, each over half of the rows.
-/
module

public import proofs.«01_k».proof.Proof.DwMlp2
public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

namespace Cert.Kernel8Ideal.Value

open Idealize.ShloMosaic Idealize.ShloMosaic.TcCoe Idealize.SL.Sem
open Cert.Kernel8Ideal Cert.Kernel8Ideal.Gen
open Cert.Kernel2Ideal.Value (zeros2 halves)
open Cert.Kernel7Ideal.Value (zeros3)

section
variable {F : FTy → Type} [FloatOps F]
variable (m : (ℓ : Loc nD τ sig) → Buf (Elt F) ℓ) (c : Dev nD) (t : Fin cfg0.N)

/-- After the first half the accumulator holds that half's product added to zeros. -/
theorem half (h0 : t.val % 2 = 0) (h1 : ¬t.val % 2 = 1) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun y => scover0_A_0 _ _ _ _ _ _ _ _ _ _ _ _ _ _ y)]
  unfold kernelRun0_A
  dsimp only
  sl_unfold_words
  rw [View.canon_cons_unit_zero (S := S1024x1024) zeros2, View.readCov_unit_zero (S := S1024x1024) _ zeros2]
  simp only [View.readAt_eq_ld, (hs0_0 t).read_unread, (hs0_1 t).read_unread, View.ld_unit_zero (S := S2048x1024) zeros2]

/-- After the second half the result's block holds both halves' products. -/
theorem both (h0 : ¬t.val % 2 = 0) (h1 : t.val % 2 = 1) :
    (outsAt0 m c t.val t.isLt).1
      = k0_pay3 (k0_pay2 (outsAt0 m c (t.val - 1) (Nat.lt_of_le_of_lt (Nat.sub_le _ _) t.isLt)).2 (iblk m c 0 t) (iblk m c 1 t)) := by
  rw [outsAt0_B m c t h0 h1]
  dsimp only
  generalize (outsAt0 m c (t.val - 1) _).2 = xs
  unfold out0_B_2
  rw [View.read_writes_eq_canon _ _ _ (fun y => cover0_B_2 _ _ _ _ _ _ _ _ _ _ _ _ _ _ _ y)]
  unfold kernelRun0_B
  dsimp only
  sl_unfold_words
  rw [View.canon_cons_unit_zero (S := S1x1024x1024) zeros3, View.readCov_unit_zero (S := S1024x1024) _ zeros2]
  simp only [View.readAt_eq_ld, (hs0_0 t).read_unread, (hs0_1 t).read_unread, (Memref.isWhole_whole _).read_unread,
    View.ld_unit_zero (S := S2048x1024) zeros2, View.ld_unit_zero (S := S1024x1024) zeros2]

theorem idx_in : ∀ t : Fin cfg0.N, (win0_0.index t 0 = t.val % 2 ∧ win0_0.index t 1 = 0)
    ∧ (win0_1.index t 0 = t.val % 2 ∧ win0_1.index t 1 = t.val / 2)
    ∧ (win0_2.index t 0 = t.val / 2 ∧ win0_2.index t 1 = 0 ∧ win0_2.index t 2 = 0) := by
  decide +kernel

theorem odd_of_flush : ∀ t : Fin cfg0.N, (cfg0.win 2).flush t = true → t.val % 2 = 1 := by
  decide +kernel

theorem lt8 : t.val < 8 := lt_of_lt_of_eq t.isLt (show cfg0.N = 8 from N_0)

theorem left_at (k : Fin 2048) (i : Fin 1024) : iblk m c 0 t (ix2 k i)
    = m ((c : Thread nD τ).loc main_arg0) (ix2 ⟨2048 * (t.val % 2) + k, by omega⟩ i) := by
  obtain ⟨⟨e0, e1⟩, -⟩ := idx_in t
  refine congrArg (m ((c : Thread nD τ).loc main_arg0)) (funext fun a => Fin.ext ?_)
  revert a
  refine Fin.forall_fin_two.2 ⟨?_, ?_⟩
  · show win0_0.index t 0 * 2048 + 1 * (k : ℕ) = 2048 * (t.val % 2) + k; rw [e0]; omega
  · show win0_0.index t 1 * 1024 + 1 * (i : ℕ) = i; rw [e1]; omega

theorem right_at (k : Fin 2048) (j : Fin 1024) : iblk m c 1 t (ix2 k j)
    = m ((c : Thread nD τ).loc main_arg1) (ix2 ⟨2048 * (t.val % 2) + k, by omega⟩ ⟨1024 * (t.val / 2) + j, by have := lt8 t; omega⟩) := by
  obtain ⟨-, ⟨e0, e1⟩, -⟩ := idx_in t
  refine congrArg (m ((c : Thread nD τ).loc main_arg1)) (funext fun a => Fin.ext ?_)
  revert a
  refine Fin.forall_fin_two.2 ⟨?_, ?_⟩
  · show win0_1.index t 0 * 2048 + 1 * (k : ℕ) = 2048 * (t.val % 2) + k; rw [e0]; omega
  · show win0_1.index t 1 * 1024 + 1 * (j : ℕ) = 1024 * (t.val / 2) + j; rw [e1]; omega
end

section
variable (m : (ℓ : Loc nD τ sig) → Buf (Elt Ideal) ℓ) (c : Dev nD)

theorem step_at (a : FVec Ideal S1024x1024 .f32) (x : FVec Ideal S2048x1024 .bf16) (y : FVec Ideal S2048x1024 .bf16) (i j : Fin 1024) :
    k0_pay2 a x y (ix2 i j) = a (ix2 i j) + ∑ k : Fin 2048, x (ix2 k i) * y (ix2 k j) := by
  pointwise [k0_pay2]

theorem start_at (i j : Fin 1024) : (k0_pay1 : FVec Ideal S1024x1024 .f32) (ix2 i j) = 0 := by
  pointwise [k0_pay1]

theorem cast_at (a : FVec Ideal S1024x1024 .f32) (z : Fin 1) (i j : Fin 1024) : k0_pay3 a (ix3 z i j) = a (ix2 i j) := by
  pointwise [k0_pay3]

/-- A row's term of the product. -/
def term (x : FVec Ideal S4096x1024 .bf16) (y : FVec Ideal S4096x4096 .bf16) (i : Fin 1024) (j : Fin 4096) (k : Fin 4096) : Ideal .f32 :=
  x (ix2 k i) * y (ix2 k j)

/-- The product over all rows, in four blocks of columns. -/
def blocks (x : FVec Ideal S4096x1024 .bf16) (y : FVec Ideal S4096x4096 .bf16) : FVec Ideal S4x1024x1024 .f32 :=
  fun i => ∑ k : Fin 4096, term x y (i 1) ⟨1024 * (i 0 : ℕ) + (i 2 : ℕ), by
    have : (i 0 : ℕ) < 4 := (i 0).isLt; have : (i 2 : ℕ) < 1024 := (i 2).isLt; omega⟩ k

/-- The same in the rows of the array of gradients. -/
def packed (x : FVec Ideal S4096x1024 .bf16) (y : FVec Ideal S4096x4096 .bf16) : FVec Ideal S4x3584x1024 .f32 :=
  fun i => blocks x y (ix3 (i 0) ⟨(i 1 : ℕ) % 1024, Nat.mod_lt _ (by decide)⟩ (i 2))

theorem split3 (y : S1x1024x1024.Idx) : ∃ (z : Fin 1) (i j : Fin 1024), y = ix3 z i j := ⟨y 0, y 1, y 2, (ix3_eta y).symm⟩

/-- What the second of two points leaves at an element of its block. -/
theorem block_at (t : Fin cfg0.N) (h1 : t.val % 2 = 1) (y : S1x1024x1024.Idx) :
    (outsAt0 m c t.val t.isLt).1 y = blocks (m ((c : Thread nD τ).loc main_arg0)) (m ((c : Thread nD τ).loc main_arg1))
      (ix3 ⟨t.val / 2, by have := lt8 t; omega⟩ (y 1) (y 2)) := by
  obtain ⟨z, i, j, rfl⟩ := split3 y
  have lt' : t.val - 1 < cfg0.N := Nat.lt_of_le_of_lt (Nat.sub_le _ _) t.isLt
  rw [both m c t (by omega) h1, cast_at, step_at,
    half m c ⟨t.val - 1, lt'⟩ (by show (t.val - 1) % 2 = 0; omega) (by show ¬(t.val - 1) % 2 = 1; omega), step_at, start_at, zero_add]
  refine Eq.trans ?_ (halves (term (m ((c : Thread nD τ).loc main_arg0)) (m ((c : Thread nD τ).loc main_arg1)) i _))
  congr 1 <;> refine Finset.sum_congr rfl fun k _ => ?_
  · rw [left_at, right_at]
    congr 2 <;> refine (ix2_inj ..).2 ⟨Fin.ext ?_, Fin.ext ?_⟩
    all_goals simp
    all_goals omega
  · rw [left_at, right_at]
    congr 2 <;> refine (ix2_inj ..).2 ⟨Fin.ext ?_, Fin.ext ?_⟩
    all_goals simp
    all_goals omega

/-- The rows that the call writes. -/
theorem arr_eq : (dats m 0 c).arrAt 2 cfg0.N = fun i => if (i 1 : ℕ) < 1024 then
    packed (m ((c : Thread nD τ).loc main_arg0)) (m ((c : Thread nD τ).loc main_arg1)) i else (dats m 0 c).A 2 i := by
  refine (dats m 0 c).arrAt_eq_of_coversWhere 2 _ (fun β => β 1 = 0) (by decide +kernel) (fun t hf y => ?_)
    (fun j => by blk_simp [Pipeline.Window.cell_apply]; omega)
  obtain ⟨-, -, e0, e1, e2⟩ := idx_in t
  rw [after0_2]
  refine (block_at m c t (odd_of_flush t hf) ((cfg0.win 2).xinj (cfg0.grid.coords t) y)).trans ?_
  have b0 : (y 0 : ℕ) < 1 := ((cfg0.win 2).xinj (cfg0.grid.coords t) y 0).isLt
  have b1 : (y 1 : ℕ) < 1024 := ((cfg0.win 2).xinj (cfg0.grid.coords t) y 1).isLt
  refine congrArg (blocks _ _) ((ix3_inj ..).2 ⟨Fin.ext ?_, Fin.ext ?_, Fin.ext ?_⟩)
  · show t.val / 2 = win0_2.index t 0 * 1 + 1 * (y 0 : ℕ); rw [e0]; omega
  · show (y 1 : ℕ) = (win0_2.index t 1 * 1024 + 1 * (y 1 : ℕ)) % 1024; rw [e1]; omega
  · show (y 2 : ℕ) = win0_2.index t 2 * 1024 + 1 * (y 2 : ℕ); rw [e2]; omega

/-- What the slice after the call takes of them. -/
theorem sliced : Pipeline.afterTail₀ cfgs (dats m) 0 (V0 m) [hostOps1] c main_v1
    = blocks (m ((c : Thread nD τ).loc main_arg0)) (m ((c : Thread nD τ).loc main_arg1)) := by
  have e : Pipeline.afterTail₀ cfgs (dats m) 0 (V0 m) [hostOps1] c main_v1
      = extractStridedSlice S4x1024x1024 ![0, 0, 0] ((dats m 0 c).arrAt 2 cfg0.N) slices_S4x3584x1024_S4x1024x1024_0_0_0 := by
    unfold Pipeline.afterTail₀
    show StableHlo.after hostOps1 _ _ = _
    after_results
    exact congrArg (extractStridedSlice S4x1024x1024 ![0, 0, 0] · slices_S4x3584x1024_S4x1024x1024_0_0_0)
      (Pipeline.withArrays_arr spec0 launch0.win.arr_inj c _ _ 2)
  rw [e, arr_eq]
  funext i
  have h1 : (i 1 : ℕ) < 1024 := (i 1).isLt
  refine (if_pos (by show 0 + (i 1 : ℕ) < 1024; omega)).trans ?_
  refine congrArg (blocks _ _) (Eq.trans ((ix3_inj ..).2 ⟨Fin.ext ?_, Fin.ext ?_, Fin.ext ?_⟩) (ix3_eta i))
  · show 0 + (i 0 : ℕ) = i 0; omega
  · show (0 + (i 1 : ℕ)) % 1024 = i 1; omega
  · show 0 + (i 2 : ℕ) = i 2; omega

theorem run (ρ : Dev nD → PrngReg) : θ_run defs (onTc (τ := τ) (main (F := Ideal))) ⟨m, fun _ => 0, ρ⟩ fun r => ∀ c : Dev nD,
    r.2.mem ((c : Thread nD τ).loc main_v1) = blocks (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).2 main_v1 (Pipeline.mem_restRefs_of main_v1 (by decide) (by decide))).trans (sliced m c),
    h.2 c⟩) (θ_run_and (run_main m ρ) (unchanged m ρ))
end

end Cert.Kernel8Ideal.Value

namespace Cert.Reference8Ideal.Value

open Idealize.ShloMosaic Idealize.ShloMosaic.TcCoe
open Cert.Reference8Ideal Cert.Reference8Ideal.Gen

theorem out_at (x : FVec Ideal S4096x1024 .bf16) (y : FVec Ideal S4096x4096 .bf16) (b : Fin 4) (i j : Fin 1024) :
    transpose S4x1024x1024 [1, 0, 2] (shapeCast _ (transpose S1024x4096 [1, 0] (Host.dotGeneral (F := Ideal)
      dot_S4096x4096_S4096x1024_S4096x1024_0_0_1_1_n_n none (extf .f32 y bitsLt_bf16_f32) (extf .f32 x bitsLt_bf16_f32))
      transposes_S4096x1024_S1024x4096_1_0) shapeCasts_S1024x4096_S1024x4x1024) transposes_S1024x4x1024_S4x1024x1024_1_0_2 (ix3 b i j)
      = Cert.Kernel8Ideal.Value.blocks x y (ix3 b i j) := by
  pointwise [Cert.Kernel8Ideal.Value.blocks, Cert.Kernel8Ideal.Value.term]
  refine Finset.sum_congr rfl fun k _ => (mul_comm (y (ix2 k _)) _).trans ?_
  refine congrArg (fun a => x (ix2 k i) * y (ix2 k a)) (Fin.ext ?_)
  show (b : ℕ) * 1024 + (j : ℕ) = 1024 * (b : ℕ) + j
  omega

end Cert.Reference8Ideal.Value

end
-- ==== Proof.lean ====
/-
  The proof of `Cert.Claim`: the three programs run and leave their arguments as they were; the idealized kernel is the kernel with
  its sign bits written as comparisons; and the idealized kernel and the reference end with the same gradients.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.BitsFrame
public import proofs.«01_k».proof.Proof.KernelFrame
public import proofs.«01_k».proof.Proof.ReferenceRun
public import proofs.«01_k».proof.Proof.RetValue
public import proofs.«01_k».proof.Proof.DwIn
public import proofs.«01_k».proof.Proof.InBwd
public import proofs.«01_k».proof.Proof.InRef
public import proofs.«01_k».proof.Proof.Mlp
public import proofs.«01_k».proof.Proof.InProj
public import proofs.«01_k».proof.Proof.Gen.Kernel5
public import proofs.«01_k».proof.Proof.MlpBwd
public import proofs.«01_k».proof.Proof.Gen.Kernel6
public import proofs.«01_k».proof.Proof.Gen.Kernel7
public import proofs.«01_k».proof.Proof.Gen.Kernel7.Frame
public import proofs.«01_k».proof.Proof.DwMlp2
public import proofs.«01_k».proof.Proof.Gen.Kernel8
public import proofs.«01_k».proof.Proof.Gen.Kernel8.Frame
public import proofs.«01_k».proof.Proof.DwMlp1
public import Idealize.ShloMosaic.Adequacy
public import Idealize.ShloMosaic.Init
public import Idealize.ShloMosaic.Lib.Quiescent

@[expose] public section

noncomputable section

namespace Cert.Proof

open Idealize.ShloMosaic Idealize.SL.Sem

theorem frameP : Cert.quiescent_Kernel (hKernel := Cert.Kernel.Gen.facts) := fun m ρ _ => Cert.Kernel.Gen.frame m ρ

theorem framePI : Cert.quiescent_KernelIdeal (hKernelIdeal := Cert.KernelIdeal.Gen.facts) :=
  fun m ρ _ => Cert.KernelIdeal.Gen.frame m ρ

theorem frameRI : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves : Cert.preserves_Kernel_KernelIdeal := IdealRules.sign_bit.statement Cert.KernelIdeal.S64x256 .f32

/-- The states of the reference's loop. -/
def states (s : Cert.ReferenceIdeal.Step.State Ideal) : ℕ → Cert.ReferenceIdeal.Step.State Ideal
  | 0 => s
  | n + 1 => Cert.ReferenceIdeal.Step.step n (states s n)

theorem algebraic : Cert.algebraic_KernelIdeal_ReferenceIdeal (hKernelIdeal := Cert.KernelIdeal.Gen.facts)
    (hReferenceIdeal := Cert.ReferenceIdeal.Gen.facts) := by
  intro m g m' g' _ hm
  have run := Cert.ReferenceIdeal.StepRun.run_iter m' g'
    (fun c => states (Cert.ReferenceIdeal.StepRun.initState m' c)) (fun _ => rfl) (fun _ _ => rfl)
  have h0 : ∀ c, states (Cert.ReferenceIdeal.StepRun.initState m' c) 0
      = Cert.ReferenceIdeal.Step.init (m ((c.tc : Thread _ _).loc Cert.KernelIdeal.main_arg0))
        (m ((c.tc : Thread _ _).loc Cert.KernelIdeal.main_arg1)) (m ((c.tc : Thread _ _).loc Cert.KernelIdeal.main_arg2))
        (m ((c.tc : Thread _ _).loc Cert.KernelIdeal.main_arg3)) (m ((c.tc : Thread _ _).loc Cert.KernelIdeal.main_arg4))
        (m ((c.tc : Thread _ _).loc Cert.KernelIdeal.main_arg5)) (m ((c.tc : Thread _ _).loc Cert.KernelIdeal.main_arg6))
        (m ((c.tc : Thread _ _).loc Cert.KernelIdeal.main_arg7)) (m ((c.tc : Thread _ _).loc Cert.KernelIdeal.main_arg8))
        (m ((c.tc : Thread _ _).loc Cert.KernelIdeal.main_arg9)) := by
    intro c
    obtain ⟨e0, e1, e2, e3, e4, e5, e6, e7, e8, e9, -⟩ := hm c
    unfold states Cert.ReferenceIdeal.StepRun.initState
    rw [e0, e1, e2, e3, e4, e5, e6, e7, e8, e9]
  have a0 := fun c => Cert.KernelIdeal.Value.arr_dq m c (states (Cert.ReferenceIdeal.StepRun.initState m' c)) (fun _ => rfl) (h0 c)
  have a1 := fun c => Cert.KernelIdeal.Value.arr_dk m c (states (Cert.ReferenceIdeal.StepRun.initState m' c)) (fun _ => rfl) (h0 c)
  have a2 := fun c => Cert.KernelIdeal.Value.arr_dv m c (states (Cert.ReferenceIdeal.StepRun.initState m' c)) (fun _ => rfl) (h0 c)
  have e10 := fun c => (hm c).2.2.2.2.2.2.2.2.2.2
  refine ⟨_, _, _, ?_, run⟩
  refine (θ_run Cert.KernelIdeal.defs _ _).mono (fun r h c => ?_)
    (θ_run_and (Cert.KernelIdeal.Gen.run_main m g) (Cert.KernelIdeal.Gen.unchanged m g))
  refine ⟨((h.1 c).1 16).trans (a0 c), ((h.1 c).1 17).trans (a1 c), ?_, h.2 c⟩
  have w := (h.1 c).1 18
  rw [e10 c]
  exact w.trans (a2 c)

/-! ## The gradient of the input projection's weights -/

theorem frameP2 : Cert.quiescent_Kernel2 (hKernel2 := Cert.Kernel2.Gen.facts) := fun m ρ _ => Cert.Kernel2.Gen.frame m ρ

theorem framePI2 : Cert.quiescent_Kernel2Ideal (hKernel2Ideal := Cert.Kernel2Ideal.Gen.facts) :=
  fun m ρ _ => Cert.Kernel2Ideal.Gen.frame m ρ

theorem frameRI2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := by
  intro m g m' g' _ hm
  refine ⟨fun c => Cert.Kernel2Ideal.Value.G2 m c, Cert.Kernel2Ideal.Value.run m g, ?_⟩
  refine (θ_run Cert.Reference2Ideal.defs _ _).mono (fun r h c => ⟨(h c).1.trans ?_, (h c).2⟩)
    (Cert.Reference2Ideal.Value.run (F := Ideal) m' g')
  rw [(hm c).1, (hm c).2]
  exact funext fun i => by
    rw [← ix2_eta i]
    exact (Cert.Reference2Ideal.Value.dot_at _ _ _ _).trans (Cert.Kernel2Ideal.Value.prod_at m c _ _).symm

/-! ## The input projection's input and the norm's gain -/

theorem frameP3 : Cert.quiescent_Kernel3 (hKernel3 := Cert.Kernel3.Gen.facts) := fun m ρ _ => Cert.Kernel3.Gen.frame m ρ

theorem framePI3 : Cert.quiescent_Kernel3Ideal (hKernel3Ideal := Cert.Kernel3Ideal.Gen.facts) :=
  fun m ρ _ => Cert.Kernel3Ideal.Gen.frame m ρ

theorem frameRI3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Kernel3Ideal.Value.G5 m c, fun c => Cert.Kernel3Ideal.Value.G6 m c, Cert.Kernel3Ideal.Value.run m g, ?_⟩
  refine (θ_run Cert.Reference3Ideal.defs _ _).mono (fun r h c => ⟨(h c).1.trans ?_, (h c).2.1.trans ?_, (h c).2.2⟩)
    (Cert.Reference3Ideal.Value.run (F := Ideal) m' g')
  · obtain ⟨e0, e1, e2, e3, e4⟩ := hm c
    unfold Cert.Reference3Ideal.Value.res_main_v39
    rw [e0, e1, e2, e3, e4]
    exact funext fun i => by
      rw [← ix2_eta i]
      refine (Cert.Reference3Ideal.Value.rows_ref _ _ _ _ _ _ _).trans ?_
      exact (Cert.InNorm.row_eq ..).symm.trans (Cert.Kernel3Ideal.Value.rows_res m c _ _).symm
  · obtain ⟨e0, e1, e2, e3, e4⟩ := hm c
    rw [e0, e1, e2]
    exact funext fun i => by
      rw [← ix2_eta i]
      exact (Cert.Reference3Ideal.Value.gain_ref _ _ _ _ _).trans (Cert.Kernel3Ideal.Value.gain_res m c _ _).symm

/-! ## The MLP -/

theorem frameP4 : Cert.quiescent_Kernel4 (hKernel4 := Cert.Kernel4.Gen.facts) := fun m ρ _ => Cert.Kernel4.Gen.frame m ρ

theorem framePI4 : Cert.quiescent_Kernel4Ideal (hKernel4Ideal := Cert.Kernel4Ideal.Gen.facts) :=
  fun m ρ _ => Cert.Kernel4Ideal.Gen.frame m ρ

theorem frameRI4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨fun c => Cert.Kernel4Ideal.Value.G4 m c, Cert.Kernel4Ideal.Value.run m g, ?_⟩
  refine (θ_run Cert.Reference4Ideal.defs _ _).mono (fun r h c => ⟨(h c).1.trans ?_, (h c).2⟩)
    (Cert.Reference4Ideal.Value.run (F := Ideal) m' g')
  obtain ⟨e0, e1, e2, e3⟩ := hm c
  rw [e0, e1, e2, e3]
  exact funext fun i => by
    rw [← ix2_eta i]
    exact (Cert.Reference4Ideal.Value.mlp_ref _ _ _ _ _ _).trans (Cert.Kernel4Ideal.Value.mlp_res m c _ _).symm

/-! ## The input projection -/

attribute [local instance] Cert.Kernel5.Gen.facts Cert.Kernel5Ideal.Gen.facts in
/-- The two kernel programs are one text: their bodies are the same, -/
theorem bodies5 : Kernel5.defs₀ (F := Bits) = Kernel5Ideal.defs₀ (F := Bits) := by
  refine congrArg Defs.onTc (funext fun l => funext fun a => ?_)
  match l, a with
  | 0, (t, s) => rfl
  | ⟨_ + 1, h⟩, _ => exact absurd h (Nat.not_lt.2 (Nat.le_add_left _ _))

attribute [local instance] Cert.Kernel5.Gen.facts Cert.Kernel5Ideal.Gen.facts in
/-- and so are their tables. -/
theorem table5 : Kernel5.defs (F := Bits) = Kernel5Ideal.defs (F := Bits) := congrArg (Pipeline.defs Kernel5Ideal.pcfgs) bodies5

theorem frameP5 : Cert.quiescent_Kernel5 (hKernel5 := Cert.Kernel5.Gen.facts) := fun m ρ _ => by
  rw [table5]
  exact Cert.Kernel5Ideal.InProj.frame (F := Bits) m ρ

theorem framePI5 : Cert.quiescent_Kernel5Ideal (hKernel5Ideal := Cert.Kernel5Ideal.Gen.facts) :=
  fun m ρ _ => Cert.Kernel5Ideal.InProj.frame m ρ

theorem frameRI5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic5 : Cert.algebraic_Kernel5Ideal_Reference5Ideal (hKernel5Ideal := Cert.Kernel5Ideal.Gen.facts)
    (hReference5Ideal := Cert.Reference5Ideal.Gen.facts) := by
  intro m g m' g' _ hm
  refine ⟨fun c => Cert.Kernel5Ideal.InProj.product m c, fun c => Cert.Kernel5Ideal.InProj.rows m c,
    (θ_run Cert.Kernel5Ideal.defs _ _).mono (fun r h c => ⟨(h.1 c).2.1.trans (Cert.Kernel5Ideal.InProj.product_all m c),
      (h.1 c).2.2.trans (Cert.Kernel5Ideal.InProj.rows_all m c), (h.1 c).1⟩) (Cert.Kernel5Ideal.InProj.run m g), ?_⟩
  refine (θ_run Cert.Reference5Ideal.defs _ _).mono (fun r h c => ⟨(h c).1.trans ?_, (h c).2.1.trans ?_, (h c).2.2⟩)
    (Cert.Reference5Ideal.Value.run (F := Ideal) m' g')
  · obtain ⟨e0, e1, e2⟩ := hm c
    rw [e0, e1, e2]
    exact funext fun i => by
      rw [← ix2_eta i]
      exact Cert.Reference5Ideal.Value.product_ref _ _ _ _ _
  · obtain ⟨e0, e1, e2⟩ := hm c
    rw [e0, e1]
    exact funext fun i => by
      rw [← ix2_eta i]
      exact Cert.Reference5Ideal.Value.saved_ref _ _ _ _

/-! ## The MLP's backward pass -/

attribute [local instance] Cert.Kernel6.Gen.facts Cert.Kernel6Ideal.Gen.facts in
/-- The two kernel programs are one text: their bodies are the same, -/
theorem bodies6 : Kernel6.defs₀ (F := Bits) = Kernel6Ideal.defs₀ (F := Bits) := by
  refine congrArg Defs.onTc (funext fun l => funext fun a => ?_)
  match l, a with
  | 0, (t, s) => rfl
  | ⟨_ + 1, h⟩, _ => exact absurd h (Nat.not_lt.2 (Nat.le_add_left _ _))

attribute [local instance] Cert.Kernel6.Gen.facts Cert.Kernel6Ideal.Gen.facts in
/-- and so are their tables. -/
theorem table6 : Kernel6.defs (F := Bits) = Kernel6Ideal.defs (F := Bits) := congrArg (Pipeline.defs Kernel6Ideal.pcfgs) bodies6

theorem frameP6 : Cert.quiescent_Kernel6 (hKernel6 := Cert.Kernel6.Gen.facts) := fun m ρ _ => by
  rw [table6]
  exact Cert.Kernel6Ideal.MlpBwd.frame (F := Bits) m ρ

theorem framePI6 : Cert.quiescent_Kernel6Ideal (hKernel6Ideal := Cert.Kernel6Ideal.Gen.facts) :=
  fun m ρ _ => Cert.Kernel6Ideal.MlpBwd.frame m ρ

theorem frameRI6 : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

theorem algebraic6 : Cert.algebraic_Kernel6Ideal_Reference6Ideal (hKernel6Ideal := Cert.Kernel6Ideal.Gen.facts)
    (hReference6Ideal := Cert.Reference6Ideal.Gen.facts) := Cert.Reference6Ideal.Value.algebraic

/-! ## The gradient of the MLP's second weights -/

theorem frameP7 : Cert.quiescent_Kernel7 (hKernel7 := Cert.Kernel7.Gen.facts) := fun m ρ _ => Cert.Kernel7.Gen.frame m ρ

theorem framePI7 : Cert.quiescent_Kernel7Ideal (hKernel7Ideal := Cert.Kernel7Ideal.Gen.facts) :=
  fun m ρ _ => Cert.Kernel7Ideal.Gen.frame m ρ

theorem frameRI7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal (hKernel7Ideal := Cert.Kernel7Ideal.Gen.facts)
    (hReference7Ideal := Cert.Reference7Ideal.Gen.facts) := by
  intro m g m' g' _ hm
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩)
    (Cert.Reference7Ideal.Value.run (F := Ideal) m' g')
  obtain ⟨e0, e1, e2⟩ := hm c
  rw [e0, e1, e2]
  refine Eq.trans (funext fun i => ?_) (Cert.Kernel7Ideal.Value.arr_eq m c).symm
  rw [← ix3_eta i]
  exact Cert.Reference7Ideal.Value.out_at _ _ _ _ _ _

/-! ## The gradient of its first weights -/

theorem frameP8 : Cert.quiescent_Kernel8 (hKernel8 := Cert.Kernel8.Gen.facts) := fun m ρ _ => Cert.Kernel8.Gen.frame m ρ

theorem framePI8 : Cert.quiescent_Kernel8Ideal (hKernel8Ideal := Cert.Kernel8Ideal.Gen.facts) :=
  fun m ρ _ => Cert.Kernel8Ideal.Gen.frame m ρ

theorem frameRI8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal (hKernel8Ideal := Cert.Kernel8Ideal.Gen.facts)
    (hReference8Ideal := Cert.Reference8Ideal.Gen.facts) := by
  intro m g m' g' _ hm
  refine ⟨fun c => Cert.Kernel8Ideal.Value.blocks (m ((c.tc : Thread _ _).loc Cert.Kernel8Ideal.main_arg0))
    (m ((c.tc : Thread _ _).loc Cert.Kernel8Ideal.main_arg1)), Cert.Kernel8Ideal.Value.run m g, ?_⟩
  refine (θ_run Cert.Reference8Ideal.defs _ _).mono (fun r h c => ⟨(h c).1.trans ?_, (h c).2⟩)
    (Cert.Reference8Ideal.Value.run (F := Ideal) m' g')
  obtain ⟨e0, e1⟩ := hm c
  rw [e0, e1]
  exact funext fun i => by
    rw [← ix3_eta i]
    exact Cert.Reference8Ideal.Value.out_at _ _ _ _ _

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    frameP, framePI, frameRI, frameP2, framePI2, frameRI2, frameP3, framePI3, frameRI3, frameP4, framePI4, frameRI4,
    frameP5, framePI5, frameRI5, frameP6, framePI6, frameRI6, frameP7, framePI7, frameRI7, frameP8, framePI8, frameRI8,
    preserves, algebraic, trivial, algebraic2, trivial, algebraic3, trivial, algebraic4, trivial, algebraic5,
    trivial, algebraic6, trivial, algebraic7, trivial, algebraic8⟩

end Cert.Proof

end
